-- ==== Defs.lean ====
def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_inputs [hPre_finite_inputs : Cert.Pre_finite_inputs.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_inputs.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))).1 = (fun _ => 1#1)
    ∧ (Cert.Pre_finite_inputs.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))).2.1 = (fun _ => 1#1)
    ∧ (Cert.Pre_finite_inputs.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))).2.2 = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_inputs [hPre_finite_inputs : Cert.Pre_finite_inputs.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_inputs.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))).1 = (fun _ => 1#1)
    ∧ (Cert.Pre_finite_inputs.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))).2.1 = (fun _ => 1#1)
    ∧ (Cert.Pre_finite_inputs.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwd4 (m : (ℓ : Loc Cert.AttnBwd4.nD Cert.AttnBwd4.τ Cert.AttnBwd4.sig) → Buf (Elt Bits) ℓ) : Prop :=
  True

def Pre_AttnBwd4Ideal (m : (ℓ : Loc Cert.AttnBwd4Ideal.nD Cert.AttnBwd4Ideal.τ Cert.AttnBwd4Ideal.sig) → Buf (Elt Ideal) ℓ) : Prop :=
  True

def Pre_AttnBwd4RefIdeal (m : (ℓ : Loc Cert.AttnBwd4RefIdeal.nD Cert.AttnBwd4RefIdeal.τ Cert.AttnBwd4RefIdeal.sig) → Buf (Elt Ideal) ℓ) : Prop :=
  True

def Pre_AttnBwd1 (m : (ℓ : Loc Cert.AttnBwd1.nD Cert.AttnBwd1.τ Cert.AttnBwd1.sig) → Buf (Elt Bits) ℓ) : Prop :=
  True

def Pre_AttnBwd1Ideal (m : (ℓ : Loc Cert.AttnBwd1Ideal.nD Cert.AttnBwd1Ideal.τ Cert.AttnBwd1Ideal.sig) → Buf (Elt Ideal) ℓ) : Prop :=
  True

def Pre_AttnBwd1RefIdeal (m : (ℓ : Loc Cert.AttnBwd1RefIdeal.nD Cert.AttnBwd1RefIdeal.τ Cert.AttnBwd1RefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_GWGate (m : (ℓ : Loc Cert.GWGate.nD Cert.GWGate.τ Cert.GWGate.sig) → Buf (Elt Bits) ℓ) : Prop :=
  True

def Pre_GWGateIdeal (m : (ℓ : Loc Cert.GWGateIdeal.nD Cert.GWGateIdeal.τ Cert.GWGateIdeal.sig) → Buf (Elt Ideal) ℓ) : Prop :=
  True

def Pre_GWGateRefIdeal (m : (ℓ : Loc Cert.GWGateRefIdeal.nD Cert.GWGateRefIdeal.τ Cert.GWGateRefIdeal.sig) → Buf (Elt Ideal) ℓ) : Prop :=
  True

def Pre_GWUp (m : (ℓ : Loc Cert.GWUp.nD Cert.GWUp.τ Cert.GWUp.sig) → Buf (Elt Bits) ℓ) : Prop :=
  True

def Pre_GWUpIdeal (m : (ℓ : Loc Cert.GWUpIdeal.nD Cert.GWUpIdeal.τ Cert.GWUpIdeal.sig) → Buf (Elt Ideal) ℓ) : Prop :=
  True

def Pre_GWUpRefIdeal (m : (ℓ : Loc Cert.GWUpRefIdeal.nD Cert.GWUpRefIdeal.τ Cert.GWUpRefIdeal.sig) → Buf (Elt Ideal) ℓ) : Prop :=
  True

def Pre_GWDown (m : (ℓ : Loc Cert.GWDown.nD Cert.GWDown.τ Cert.GWDown.sig) → Buf (Elt Bits) ℓ) : Prop :=
  True

def Pre_GWDownIdeal (m : (ℓ : Loc Cert.GWDownIdeal.nD Cert.GWDownIdeal.τ Cert.GWDownIdeal.sig) → Buf (Elt Ideal) ℓ) : Prop :=
  True

def Pre_GWDownRefIdeal (m : (ℓ : Loc Cert.GWDownRefIdeal.nD Cert.GWDownRefIdeal.τ Cert.GWDownRefIdeal.sig) → Buf (Elt Ideal) ℓ) : Prop :=
  True

def Pre_DN2Gate (m : (ℓ : Loc Cert.DN2Gate.nD Cert.DN2Gate.τ Cert.DN2Gate.sig) → Buf (Elt Bits) ℓ) : Prop :=
  True

def Pre_DN2GateIdeal (m : (ℓ : Loc Cert.DN2GateIdeal.nD Cert.DN2GateIdeal.τ Cert.DN2GateIdeal.sig) → Buf (Elt Ideal) ℓ) : Prop :=
  True

def Pre_DN2GateRefIdeal (m : (ℓ : Loc Cert.DN2GateRefIdeal.nD Cert.DN2GateRefIdeal.τ Cert.DN2GateRefIdeal.sig) → Buf (Elt Ideal) ℓ) : Prop :=
  True

def Pre_DN2Up (m : (ℓ : Loc Cert.DN2Up.nD Cert.DN2Up.τ Cert.DN2Up.sig) → Buf (Elt Bits) ℓ) : Prop :=
  True

def Pre_DN2UpIdeal (m : (ℓ : Loc Cert.DN2UpIdeal.nD Cert.DN2UpIdeal.τ Cert.DN2UpIdeal.sig) → Buf (Elt Ideal) ℓ) : Prop :=
  True

def Pre_DN2UpRefIdeal (m : (ℓ : Loc Cert.DN2UpRefIdeal.nD Cert.DN2UpRefIdeal.τ Cert.DN2UpRefIdeal.sig) → Buf (Elt Ideal) ℓ) : Prop :=
  True

def Pre_GWIn (m : (ℓ : Loc Cert.GWIn.nD Cert.GWIn.τ Cert.GWIn.sig) → Buf (Elt Bits) ℓ) : Prop :=
  True

def Pre_GWInIdeal (m : (ℓ : Loc Cert.GWInIdeal.nD Cert.GWInIdeal.τ Cert.GWInIdeal.sig) → Buf (Elt Ideal) ℓ) : Prop :=
  True

def Pre_GWInRefIdeal (m : (ℓ : Loc Cert.GWInRefIdeal.nD Cert.GWInRefIdeal.τ Cert.GWInRefIdeal.sig) → Buf (Elt Ideal) ℓ) : Prop :=
  True

def Pre_DN1 (m : (ℓ : Loc Cert.DN1.nD Cert.DN1.τ Cert.DN1.sig) → Buf (Elt Bits) ℓ) : Prop :=
  True

def Pre_DN1Ideal (m : (ℓ : Loc Cert.DN1Ideal.nD Cert.DN1Ideal.τ Cert.DN1Ideal.sig) → Buf (Elt Ideal) ℓ) : Prop :=
  True

def Pre_DN1RefIdeal (m : (ℓ : Loc Cert.DN1RefIdeal.nD Cert.DN1RefIdeal.τ Cert.DN1RefIdeal.sig) → Buf (Elt Ideal) ℓ) : Prop :=
  True

def Pre_GWOut (m : (ℓ : Loc Cert.GWOut.nD Cert.GWOut.τ Cert.GWOut.sig) → Buf (Elt Bits) ℓ) : Prop :=
  True

def Pre_GWOutIdeal (m : (ℓ : Loc Cert.GWOutIdeal.nD Cert.GWOutIdeal.τ Cert.GWOutIdeal.sig) → Buf (Elt Ideal) ℓ) : Prop :=
  True

def Pre_GWOutRefIdeal (m : (ℓ : Loc Cert.GWOutRefIdeal.nD Cert.GWOutRefIdeal.τ Cert.GWOutRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidIdeal_pre_finite_inputs [hFfnMidIdeal : Cert.FfnMidIdeal.Facts] [hPre_finite_inputs : Cert.Pre_finite_inputs.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_inputs m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnMidRefIdeal_pre_finite_inputs [hFfnMidRefIdeal : Cert.FfnMidRefIdeal.Facts] [hPre_finite_inputs : Cert.Pre_finite_inputs.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_inputs m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwd4 [hAttnBwd4 : Cert.AttnBwd4.Facts] : Prop :=
  ∀ (m : (ℓ : Loc Cert.AttnBwd4.nD Cert.AttnBwd4.τ Cert.AttnBwd4.sig) → Buf (Elt Bits) ℓ) (g : Dev Cert.AttnBwd4.nD → PrngReg), Pre_AttnBwd4 m →
    θ_run (Cert.AttnBwd4.defs (F := Bits)) (onTc (τ := Cert.AttnBwd4.τ) (Cert.AttnBwd4.main (F := Bits))) ⟨m, fun _ => 0, g⟩ (fun r => (∀ c : Dev Cert.AttnBwd4.nD,
      r.2.mem ((c.tc : Thread Cert.AttnBwd4.nD Cert.AttnBwd4.τ).loc Cert.AttnBwd4.main_arg0) = m ((c.tc : Thread Cert.AttnBwd4.nD Cert.AttnBwd4.τ).loc Cert.AttnBwd4.main_arg0)
      ∧ r.2.mem ((c.tc : Thread Cert.AttnBwd4.nD Cert.AttnBwd4.τ).loc Cert.AttnBwd4.main_arg1) = m ((c.tc : Thread Cert.AttnBwd4.nD Cert.AttnBwd4.τ).loc Cert.AttnBwd4.main_arg1)
      ∧ r.2.mem ((c.tc : Thread Cert.AttnBwd4.nD Cert.AttnBwd4.τ).loc Cert.AttnBwd4.main_arg2) = m ((c.tc : Thread Cert.AttnBwd4.nD Cert.AttnBwd4.τ).loc Cert.AttnBwd4.main_arg2)
      ∧ r.2.mem ((c.tc : Thread Cert.AttnBwd4.nD Cert.AttnBwd4.τ).loc Cert.AttnBwd4.main_arg3) = m ((c.tc : Thread Cert.AttnBwd4.nD Cert.AttnBwd4.τ).loc Cert.AttnBwd4.main_arg3)
      ∧ r.2.mem ((c.tc : Thread Cert.AttnBwd4.nD Cert.AttnBwd4.τ).loc Cert.AttnBwd4.main_arg4) = m ((c.tc : Thread Cert.AttnBwd4.nD Cert.AttnBwd4.τ).loc Cert.AttnBwd4.main_arg4)
      ∧ r.2.mem ((c.tc : Thread Cert.AttnBwd4.nD Cert.AttnBwd4.τ).loc Cert.AttnBwd4.main_arg5) = m ((c.tc : Thread Cert.AttnBwd4.nD Cert.AttnBwd4.τ).loc Cert.AttnBwd4.main_arg5))
      ∧ r.2.sem = fun _ => 0)

def quiescent_AttnBwd4Ideal [hAttnBwd4Ideal : Cert.AttnBwd4Ideal.Facts] : Prop :=
  ∀ (m : (ℓ : Loc Cert.AttnBwd4Ideal.nD Cert.AttnBwd4Ideal.τ Cert.AttnBwd4Ideal.sig) → Buf (Elt Ideal) ℓ) (g : Dev Cert.AttnBwd4Ideal.nD → PrngReg), Pre_AttnBwd4Ideal m →
    θ_run (Cert.AttnBwd4Ideal.defs (F := Ideal)) (onTc (τ := Cert.AttnBwd4Ideal.τ) (Cert.AttnBwd4Ideal.main (F := Ideal))) ⟨m, fun _ => 0, g⟩ (fun r => (∀ c : Dev Cert.AttnBwd4Ideal.nD,
      r.2.mem ((c.tc : Thread Cert.AttnBwd4Ideal.nD Cert.AttnBwd4Ideal.τ).loc Cert.AttnBwd4Ideal.main_arg0) = m ((c.tc : Thread Cert.AttnBwd4Ideal.nD Cert.AttnBwd4Ideal.τ).loc Cert.AttnBwd4Ideal.main_arg0)
      ∧ r.2.mem ((c.tc : Thread Cert.AttnBwd4Ideal.nD Cert.AttnBwd4Ideal.τ).loc Cert.AttnBwd4Ideal.main_arg1) = m ((c.tc : Thread Cert.AttnBwd4Ideal.nD Cert.AttnBwd4Ideal.τ).loc Cert.AttnBwd4Ideal.main_arg1)
      ∧ r.2.mem ((c.tc : Thread Cert.AttnBwd4Ideal.nD Cert.AttnBwd4Ideal.τ).loc Cert.AttnBwd4Ideal.main_arg2) = m ((c.tc : Thread Cert.AttnBwd4Ideal.nD Cert.AttnBwd4Ideal.τ).loc Cert.AttnBwd4Ideal.main_arg2)
      ∧ r.2.mem ((c.tc : Thread Cert.AttnBwd4Ideal.nD Cert.AttnBwd4Ideal.τ).loc Cert.AttnBwd4Ideal.main_arg3) = m ((c.tc : Thread Cert.AttnBwd4Ideal.nD Cert.AttnBwd4Ideal.τ).loc Cert.AttnBwd4Ideal.main_arg3)
      ∧ r.2.mem ((c.tc : Thread Cert.AttnBwd4Ideal.nD Cert.AttnBwd4Ideal.τ).loc Cert.AttnBwd4Ideal.main_arg4) = m ((c.tc : Thread Cert.AttnBwd4Ideal.nD Cert.AttnBwd4Ideal.τ).loc Cert.AttnBwd4Ideal.main_arg4)
      ∧ r.2.mem ((c.tc : Thread Cert.AttnBwd4Ideal.nD Cert.AttnBwd4Ideal.τ).loc Cert.AttnBwd4Ideal.main_arg5) = m ((c.tc : Thread Cert.AttnBwd4Ideal.nD Cert.AttnBwd4Ideal.τ).loc Cert.AttnBwd4Ideal.main_arg5))
      ∧ r.2.sem = fun _ => 0)

def quiescent_AttnBwd4RefIdeal [hAttnBwd4RefIdeal : Cert.AttnBwd4RefIdeal.Facts] : Prop :=
  ∀ (m : (ℓ : Loc Cert.AttnBwd4RefIdeal.nD Cert.AttnBwd4RefIdeal.τ Cert.AttnBwd4RefIdeal.sig) → Buf (Elt Ideal) ℓ) (g : Dev Cert.AttnBwd4RefIdeal.nD → PrngReg), Pre_AttnBwd4RefIdeal m →
    θ_run (Cert.AttnBwd4RefIdeal.defs (F := Ideal)) (onTc (τ := Cert.AttnBwd4RefIdeal.τ) (Cert.AttnBwd4RefIdeal.main (F := Ideal))) ⟨m, fun _ => 0, g⟩ (fun r => (∀ c : Dev Cert.AttnBwd4RefIdeal.nD,
      r.2.mem ((c.tc : Thread Cert.AttnBwd4RefIdeal.nD Cert.AttnBwd4RefIdeal.τ).loc Cert.AttnBwd4RefIdeal.main_arg0) = m ((c.tc : Thread Cert.AttnBwd4RefIdeal.nD Cert.AttnBwd4RefIdeal.τ).loc Cert.AttnBwd4RefIdeal.main_arg0)
      ∧ r.2.mem ((c.tc : Thread Cert.AttnBwd4RefIdeal.nD Cert.AttnBwd4RefIdeal.τ).loc Cert.AttnBwd4RefIdeal.main_arg1) = m ((c.tc : Thread Cert.AttnBwd4RefIdeal.nD Cert.AttnBwd4RefIdeal.τ).loc Cert.AttnBwd4RefIdeal.main_arg1)
      ∧ r.2.mem ((c.tc : Thread Cert.AttnBwd4RefIdeal.nD Cert.AttnBwd4RefIdeal.τ).loc Cert.AttnBwd4RefIdeal.main_arg2) = m ((c.tc : Thread Cert.AttnBwd4RefIdeal.nD Cert.AttnBwd4RefIdeal.τ).loc Cert.AttnBwd4RefIdeal.main_arg2)
      ∧ r.2.mem ((c.tc : Thread Cert.AttnBwd4RefIdeal.nD Cert.AttnBwd4RefIdeal.τ).loc Cert.AttnBwd4RefIdeal.main_arg3) = m ((c.tc : Thread Cert.AttnBwd4RefIdeal.nD Cert.AttnBwd4RefIdeal.τ).loc Cert.AttnBwd4RefIdeal.main_arg3)
      ∧ r.2.mem ((c.tc : Thread Cert.AttnBwd4RefIdeal.nD Cert.AttnBwd4RefIdeal.τ).loc Cert.AttnBwd4RefIdeal.main_arg4) = m ((c.tc : Thread Cert.AttnBwd4RefIdeal.nD Cert.AttnBwd4RefIdeal.τ).loc Cert.AttnBwd4RefIdeal.main_arg4)
      ∧ r.2.mem ((c.tc : Thread Cert.AttnBwd4RefIdeal.nD Cert.AttnBwd4RefIdeal.τ).loc Cert.AttnBwd4RefIdeal.main_arg5) = m ((c.tc : Thread Cert.AttnBwd4RefIdeal.nD Cert.AttnBwd4RefIdeal.τ).loc Cert.AttnBwd4RefIdeal.main_arg5))
      ∧ r.2.sem = fun _ => 0)

def quiescent_AttnBwd1 [hAttnBwd1 : Cert.AttnBwd1.Facts] : Prop :=
  ∀ (m : (ℓ : Loc Cert.AttnBwd1.nD Cert.AttnBwd1.τ Cert.AttnBwd1.sig) → Buf (Elt Bits) ℓ) (g : Dev Cert.AttnBwd1.nD → PrngReg), Pre_AttnBwd1 m →
    θ_run (Cert.AttnBwd1.defs (F := Bits)) (onTc (τ := Cert.AttnBwd1.τ) (Cert.AttnBwd1.main (F := Bits))) ⟨m, fun _ => 0, g⟩ (fun r => (∀ c : Dev Cert.AttnBwd1.nD,
      r.2.mem ((c.tc : Thread Cert.AttnBwd1.nD Cert.AttnBwd1.τ).loc Cert.AttnBwd1.main_arg0) = m ((c.tc : Thread Cert.AttnBwd1.nD Cert.AttnBwd1.τ).loc Cert.AttnBwd1.main_arg0)
      ∧ r.2.mem ((c.tc : Thread Cert.AttnBwd1.nD Cert.AttnBwd1.τ).loc Cert.AttnBwd1.main_arg1) = m ((c.tc : Thread Cert.AttnBwd1.nD Cert.AttnBwd1.τ).loc Cert.AttnBwd1.main_arg1)
      ∧ r.2.mem ((c.tc : Thread Cert.AttnBwd1.nD Cert.AttnBwd1.τ).loc Cert.AttnBwd1.main_arg2) = m ((c.tc : Thread Cert.AttnBwd1.nD Cert.AttnBwd1.τ).loc Cert.AttnBwd1.main_arg2)
      ∧ r.2.mem ((c.tc : Thread Cert.AttnBwd1.nD Cert.AttnBwd1.τ).loc Cert.AttnBwd1.main_arg3) = m ((c.tc : Thread Cert.AttnBwd1.nD Cert.AttnBwd1.τ).loc Cert.AttnBwd1.main_arg3)
      ∧ r.2.mem ((c.tc : Thread Cert.AttnBwd1.nD Cert.AttnBwd1.τ).loc Cert.AttnBwd1.main_arg4) = m ((c.tc : Thread Cert.AttnBwd1.nD Cert.AttnBwd1.τ).loc Cert.AttnBwd1.main_arg4)
      ∧ r.2.mem ((c.tc : Thread Cert.AttnBwd1.nD Cert.AttnBwd1.τ).loc Cert.AttnBwd1.main_arg5) = m ((c.tc : Thread Cert.AttnBwd1.nD Cert.AttnBwd1.τ).loc Cert.AttnBwd1.main_arg5))
      ∧ r.2.sem = fun _ => 0)

def quiescent_AttnBwd1Ideal [hAttnBwd1Ideal : Cert.AttnBwd1Ideal.Facts] : Prop :=
  ∀ (m : (ℓ : Loc Cert.AttnBwd1Ideal.nD Cert.AttnBwd1Ideal.τ Cert.AttnBwd1Ideal.sig) → Buf (Elt Ideal) ℓ) (g : Dev Cert.AttnBwd1Ideal.nD → PrngReg), Pre_AttnBwd1Ideal m →
    θ_run (Cert.AttnBwd1Ideal.defs (F := Ideal)) (onTc (τ := Cert.AttnBwd1Ideal.τ) (Cert.AttnBwd1Ideal.main (F := Ideal))) ⟨m, fun _ => 0, g⟩ (fun r => (∀ c : Dev Cert.AttnBwd1Ideal.nD,
      r.2.mem ((c.tc : Thread Cert.AttnBwd1Ideal.nD Cert.AttnBwd1Ideal.τ).loc Cert.AttnBwd1Ideal.main_arg0) = m ((c.tc : Thread Cert.AttnBwd1Ideal.nD Cert.AttnBwd1Ideal.τ).loc Cert.AttnBwd1Ideal.main_arg0)
      ∧ r.2.mem ((c.tc : Thread Cert.AttnBwd1Ideal.nD Cert.AttnBwd1Ideal.τ).loc Cert.AttnBwd1Ideal.main_arg1) = m ((c.tc : Thread Cert.AttnBwd1Ideal.nD Cert.AttnBwd1Ideal.τ).loc Cert.AttnBwd1Ideal.main_arg1)
      ∧ r.2.mem ((c.tc : Thread Cert.AttnBwd1Ideal.nD Cert.AttnBwd1Ideal.τ).loc Cert.AttnBwd1Ideal.main_arg2) = m ((c.tc : Thread Cert.AttnBwd1Ideal.nD Cert.AttnBwd1Ideal.τ).loc Cert.AttnBwd1Ideal.main_arg2)
      ∧ r.2.mem ((c.tc : Thread Cert.AttnBwd1Ideal.nD Cert.AttnBwd1Ideal.τ).loc Cert.AttnBwd1Ideal.main_arg3) = m ((c.tc : Thread Cert.AttnBwd1Ideal.nD Cert.AttnBwd1Ideal.τ).loc Cert.AttnBwd1Ideal.main_arg3)
      ∧ r.2.mem ((c.tc : Thread Cert.AttnBwd1Ideal.nD Cert.AttnBwd1Ideal.τ).loc Cert.AttnBwd1Ideal.main_arg4) = m ((c.tc : Thread Cert.AttnBwd1Ideal.nD Cert.AttnBwd1Ideal.τ).loc Cert.AttnBwd1Ideal.main_arg4)
      ∧ r.2.mem ((c.tc : Thread Cert.AttnBwd1Ideal.nD Cert.AttnBwd1Ideal.τ).loc Cert.AttnBwd1Ideal.main_arg5) = m ((c.tc : Thread Cert.AttnBwd1Ideal.nD Cert.AttnBwd1Ideal.τ).loc Cert.AttnBwd1Ideal.main_arg5))
      ∧ r.2.sem = fun _ => 0)

def quiescent_AttnBwd1RefIdeal [hAttnBwd1RefIdeal : Cert.AttnBwd1RefIdeal.Facts] : Prop :=
  ∀ (m : (ℓ : Loc Cert.AttnBwd1RefIdeal.nD Cert.AttnBwd1RefIdeal.τ Cert.AttnBwd1RefIdeal.sig) → Buf (Elt Ideal) ℓ) (g : Dev Cert.AttnBwd1RefIdeal.nD → PrngReg), Pre_AttnBwd1RefIdeal m →
    θ_run (Cert.AttnBwd1RefIdeal.defs (F := Ideal)) (onTc (τ := Cert.AttnBwd1RefIdeal.τ) (Cert.AttnBwd1RefIdeal.main (F := Ideal))) ⟨m, fun _ => 0, g⟩ (fun r => (∀ c : Dev Cert.AttnBwd1RefIdeal.nD,
      r.2.mem ((c.tc : Thread Cert.AttnBwd1RefIdeal.nD Cert.AttnBwd1RefIdeal.τ).loc Cert.AttnBwd1RefIdeal.main_arg0) = m ((c.tc : Thread Cert.AttnBwd1RefIdeal.nD Cert.AttnBwd1RefIdeal.τ).loc Cert.AttnBwd1RefIdeal.main_arg0)
      ∧ r.2.mem ((c.tc : Thread Cert.AttnBwd1RefIdeal.nD Cert.AttnBwd1RefIdeal.τ).loc Cert.AttnBwd1RefIdeal.main_arg1) = m ((c.tc : Thread Cert.AttnBwd1RefIdeal.nD Cert.AttnBwd1RefIdeal.τ).loc Cert.AttnBwd1RefIdeal.main_arg1)
      ∧ r.2.mem ((c.tc : Thread Cert.AttnBwd1RefIdeal.nD Cert.AttnBwd1RefIdeal.τ).loc Cert.AttnBwd1RefIdeal.main_arg2) = m ((c.tc : Thread Cert.AttnBwd1RefIdeal.nD Cert.AttnBwd1RefIdeal.τ).loc Cert.AttnBwd1RefIdeal.main_arg2)
      ∧ r.2.mem ((c.tc : Thread Cert.AttnBwd1RefIdeal.nD Cert.AttnBwd1RefIdeal.τ).loc Cert.AttnBwd1RefIdeal.main_arg3) = m ((c.tc : Thread Cert.AttnBwd1RefIdeal.nD Cert.AttnBwd1RefIdeal.τ).loc Cert.AttnBwd1RefIdeal.main_arg3)
      ∧ r.2.mem ((c.tc : Thread Cert.AttnBwd1RefIdeal.nD Cert.AttnBwd1RefIdeal.τ).loc Cert.AttnBwd1RefIdeal.main_arg4) = m ((c.tc : Thread Cert.AttnBwd1RefIdeal.nD Cert.AttnBwd1RefIdeal.τ).loc Cert.AttnBwd1RefIdeal.main_arg4)
      ∧ r.2.mem ((c.tc : Thread Cert.AttnBwd1RefIdeal.nD Cert.AttnBwd1RefIdeal.τ).loc Cert.AttnBwd1RefIdeal.main_arg5) = m ((c.tc : Thread Cert.AttnBwd1RefIdeal.nD Cert.AttnBwd1RefIdeal.τ).loc Cert.AttnBwd1RefIdeal.main_arg5))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_GWGate [hGWGate : Cert.GWGate.Facts] : Prop :=
  ∀ (m : (ℓ : Loc Cert.GWGate.nD Cert.GWGate.τ Cert.GWGate.sig) → Buf (Elt Bits) ℓ) (g : Dev Cert.GWGate.nD → PrngReg), Pre_GWGate m →
    θ_run (Cert.GWGate.defs (F := Bits)) (onTc (τ := Cert.GWGate.τ) (Cert.GWGate.main (F := Bits))) ⟨m, fun _ => 0, g⟩ (fun r => (∀ c : Dev Cert.GWGate.nD,
      r.2.mem ((c.tc : Thread Cert.GWGate.nD Cert.GWGate.τ).loc Cert.GWGate.main_arg0) = m ((c.tc : Thread Cert.GWGate.nD Cert.GWGate.τ).loc Cert.GWGate.main_arg0)
      ∧ r.2.mem ((c.tc : Thread Cert.GWGate.nD Cert.GWGate.τ).loc Cert.GWGate.main_arg1) = m ((c.tc : Thread Cert.GWGate.nD Cert.GWGate.τ).loc Cert.GWGate.main_arg1))
      ∧ r.2.sem = fun _ => 0)

def quiescent_GWGateIdeal [hGWGateIdeal : Cert.GWGateIdeal.Facts] : Prop :=
  ∀ (m : (ℓ : Loc Cert.GWGateIdeal.nD Cert.GWGateIdeal.τ Cert.GWGateIdeal.sig) → Buf (Elt Ideal) ℓ) (g : Dev Cert.GWGateIdeal.nD → PrngReg), Pre_GWGateIdeal m →
    θ_run (Cert.GWGateIdeal.defs (F := Ideal)) (onTc (τ := Cert.GWGateIdeal.τ) (Cert.GWGateIdeal.main (F := Ideal))) ⟨m, fun _ => 0, g⟩ (fun r => (∀ c : Dev Cert.GWGateIdeal.nD,
      r.2.mem ((c.tc : Thread Cert.GWGateIdeal.nD Cert.GWGateIdeal.τ).loc Cert.GWGateIdeal.main_arg0) = m ((c.tc : Thread Cert.GWGateIdeal.nD Cert.GWGateIdeal.τ).loc Cert.GWGateIdeal.main_arg0)
      ∧ r.2.mem ((c.tc : Thread Cert.GWGateIdeal.nD Cert.GWGateIdeal.τ).loc Cert.GWGateIdeal.main_arg1) = m ((c.tc : Thread Cert.GWGateIdeal.nD Cert.GWGateIdeal.τ).loc Cert.GWGateIdeal.main_arg1))
      ∧ r.2.sem = fun _ => 0)

def quiescent_GWGateRefIdeal [hGWGateRefIdeal : Cert.GWGateRefIdeal.Facts] : Prop :=
  ∀ (m : (ℓ : Loc Cert.GWGateRefIdeal.nD Cert.GWGateRefIdeal.τ Cert.GWGateRefIdeal.sig) → Buf (Elt Ideal) ℓ) (g : Dev Cert.GWGateRefIdeal.nD → PrngReg), Pre_GWGateRefIdeal m →
    θ_run (Cert.GWGateRefIdeal.defs (F := Ideal)) (onTc (τ := Cert.GWGateRefIdeal.τ) (Cert.GWGateRefIdeal.main (F := Ideal))) ⟨m, fun _ => 0, g⟩ (fun r => (∀ c : Dev Cert.GWGateRefIdeal.nD,
      r.2.mem ((c.tc : Thread Cert.GWGateRefIdeal.nD Cert.GWGateRefIdeal.τ).loc Cert.GWGateRefIdeal.main_arg0) = m ((c.tc : Thread Cert.GWGateRefIdeal.nD Cert.GWGateRefIdeal.τ).loc Cert.GWGateRefIdeal.main_arg0)
      ∧ r.2.mem ((c.tc : Thread Cert.GWGateRefIdeal.nD Cert.GWGateRefIdeal.τ).loc Cert.GWGateRefIdeal.main_arg1) = m ((c.tc : Thread Cert.GWGateRefIdeal.nD Cert.GWGateRefIdeal.τ).loc Cert.GWGateRefIdeal.main_arg1))
      ∧ r.2.sem = fun _ => 0)

def quiescent_GWUp [hGWUp : Cert.GWUp.Facts] : Prop :=
  ∀ (m : (ℓ : Loc Cert.GWUp.nD Cert.GWUp.τ Cert.GWUp.sig) → Buf (Elt Bits) ℓ) (g : Dev Cert.GWUp.nD → PrngReg), Pre_GWUp m →
    θ_run (Cert.GWUp.defs (F := Bits)) (onTc (τ := Cert.GWUp.τ) (Cert.GWUp.main (F := Bits))) ⟨m, fun _ => 0, g⟩ (fun r => (∀ c : Dev Cert.GWUp.nD,
      r.2.mem ((c.tc : Thread Cert.GWUp.nD Cert.GWUp.τ).loc Cert.GWUp.main_arg0) = m ((c.tc : Thread Cert.GWUp.nD Cert.GWUp.τ).loc Cert.GWUp.main_arg0)
      ∧ r.2.mem ((c.tc : Thread Cert.GWUp.nD Cert.GWUp.τ).loc Cert.GWUp.main_arg1) = m ((c.tc : Thread Cert.GWUp.nD Cert.GWUp.τ).loc Cert.GWUp.main_arg1))
      ∧ r.2.sem = fun _ => 0)

def quiescent_GWUpIdeal [hGWUpIdeal : Cert.GWUpIdeal.Facts] : Prop :=
  ∀ (m : (ℓ : Loc Cert.GWUpIdeal.nD Cert.GWUpIdeal.τ Cert.GWUpIdeal.sig) → Buf (Elt Ideal) ℓ) (g : Dev Cert.GWUpIdeal.nD → PrngReg), Pre_GWUpIdeal m →
    θ_run (Cert.GWUpIdeal.defs (F := Ideal)) (onTc (τ := Cert.GWUpIdeal.τ) (Cert.GWUpIdeal.main (F := Ideal))) ⟨m, fun _ => 0, g⟩ (fun r => (∀ c : Dev Cert.GWUpIdeal.nD,
      r.2.mem ((c.tc : Thread Cert.GWUpIdeal.nD Cert.GWUpIdeal.τ).loc Cert.GWUpIdeal.main_arg0) = m ((c.tc : Thread Cert.GWUpIdeal.nD Cert.GWUpIdeal.τ).loc Cert.GWUpIdeal.main_arg0)
      ∧ r.2.mem ((c.tc : Thread Cert.GWUpIdeal.nD Cert.GWUpIdeal.τ).loc Cert.GWUpIdeal.main_arg1) = m ((c.tc : Thread Cert.GWUpIdeal.nD Cert.GWUpIdeal.τ).loc Cert.GWUpIdeal.main_arg1))
      ∧ r.2.sem = fun _ => 0)

def quiescent_GWUpRefIdeal [hGWUpRefIdeal : Cert.GWUpRefIdeal.Facts] : Prop :=
  ∀ (m : (ℓ : Loc Cert.GWUpRefIdeal.nD Cert.GWUpRefIdeal.τ Cert.GWUpRefIdeal.sig) → Buf (Elt Ideal) ℓ) (g : Dev Cert.GWUpRefIdeal.nD → PrngReg), Pre_GWUpRefIdeal m →
    θ_run (Cert.GWUpRefIdeal.defs (F := Ideal)) (onTc (τ := Cert.GWUpRefIdeal.τ) (Cert.GWUpRefIdeal.main (F := Ideal))) ⟨m, fun _ => 0, g⟩ (fun r => (∀ c : Dev Cert.GWUpRefIdeal.nD,
      r.2.mem ((c.tc : Thread Cert.GWUpRefIdeal.nD Cert.GWUpRefIdeal.τ).loc Cert.GWUpRefIdeal.main_arg0) = m ((c.tc : Thread Cert.GWUpRefIdeal.nD Cert.GWUpRefIdeal.τ).loc Cert.GWUpRefIdeal.main_arg0)
      ∧ r.2.mem ((c.tc : Thread Cert.GWUpRefIdeal.nD Cert.GWUpRefIdeal.τ).loc Cert.GWUpRefIdeal.main_arg1) = m ((c.tc : Thread Cert.GWUpRefIdeal.nD Cert.GWUpRefIdeal.τ).loc Cert.GWUpRefIdeal.main_arg1))
      ∧ r.2.sem = fun _ => 0)

def quiescent_GWDown [hGWDown : Cert.GWDown.Facts] : Prop :=
  ∀ (m : (ℓ : Loc Cert.GWDown.nD Cert.GWDown.τ Cert.GWDown.sig) → Buf (Elt Bits) ℓ) (g : Dev Cert.GWDown.nD → PrngReg), Pre_GWDown m →
    θ_run (Cert.GWDown.defs (F := Bits)) (onTc (τ := Cert.GWDown.τ) (Cert.GWDown.main (F := Bits))) ⟨m, fun _ => 0, g⟩ (fun r => (∀ c : Dev Cert.GWDown.nD,
      r.2.mem ((c.tc : Thread Cert.GWDown.nD Cert.GWDown.τ).loc Cert.GWDown.main_arg0) = m ((c.tc : Thread Cert.GWDown.nD Cert.GWDown.τ).loc Cert.GWDown.main_arg0)
      ∧ r.2.mem ((c.tc : Thread Cert.GWDown.nD Cert.GWDown.τ).loc Cert.GWDown.main_arg1) = m ((c.tc : Thread Cert.GWDown.nD Cert.GWDown.τ).loc Cert.GWDown.main_arg1))
      ∧ r.2.sem = fun _ => 0)

def quiescent_GWDownIdeal [hGWDownIdeal : Cert.GWDownIdeal.Facts] : Prop :=
  ∀ (m : (ℓ : Loc Cert.GWDownIdeal.nD Cert.GWDownIdeal.τ Cert.GWDownIdeal.sig) → Buf (Elt Ideal) ℓ) (g : Dev Cert.GWDownIdeal.nD → PrngReg), Pre_GWDownIdeal m →
    θ_run (Cert.GWDownIdeal.defs (F := Ideal)) (onTc (τ := Cert.GWDownIdeal.τ) (Cert.GWDownIdeal.main (F := Ideal))) ⟨m, fun _ => 0, g⟩ (fun r => (∀ c : Dev Cert.GWDownIdeal.nD,
      r.2.mem ((c.tc : Thread Cert.GWDownIdeal.nD Cert.GWDownIdeal.τ).loc Cert.GWDownIdeal.main_arg0) = m ((c.tc : Thread Cert.GWDownIdeal.nD Cert.GWDownIdeal.τ).loc Cert.GWDownIdeal.main_arg0)
      ∧ r.2.mem ((c.tc : Thread Cert.GWDownIdeal.nD Cert.GWDownIdeal.τ).loc Cert.GWDownIdeal.main_arg1) = m ((c.tc : Thread Cert.GWDownIdeal.nD Cert.GWDownIdeal.τ).loc Cert.GWDownIdeal.main_arg1))
      ∧ r.2.sem = fun _ => 0)

def quiescent_GWDownRefIdeal [hGWDownRefIdeal : Cert.GWDownRefIdeal.Facts] : Prop :=
  ∀ (m : (ℓ : Loc Cert.GWDownRefIdeal.nD Cert.GWDownRefIdeal.τ Cert.GWDownRefIdeal.sig) → Buf (Elt Ideal) ℓ) (g : Dev Cert.GWDownRefIdeal.nD → PrngReg), Pre_GWDownRefIdeal m →
    θ_run (Cert.GWDownRefIdeal.defs (F := Ideal)) (onTc (τ := Cert.GWDownRefIdeal.τ) (Cert.GWDownRefIdeal.main (F := Ideal))) ⟨m, fun _ => 0, g⟩ (fun r => (∀ c : Dev Cert.GWDownRefIdeal.nD,
      r.2.mem ((c.tc : Thread Cert.GWDownRefIdeal.nD Cert.GWDownRefIdeal.τ).loc Cert.GWDownRefIdeal.main_arg0) = m ((c.tc : Thread Cert.GWDownRefIdeal.nD Cert.GWDownRefIdeal.τ).loc Cert.GWDownRefIdeal.main_arg0)
      ∧ r.2.mem ((c.tc : Thread Cert.GWDownRefIdeal.nD Cert.GWDownRefIdeal.τ).loc Cert.GWDownRefIdeal.main_arg1) = m ((c.tc : Thread Cert.GWDownRefIdeal.nD Cert.GWDownRefIdeal.τ).loc Cert.GWDownRefIdeal.main_arg1))
      ∧ r.2.sem = fun _ => 0)

def quiescent_DN2Gate [hDN2Gate : Cert.DN2Gate.Facts] : Prop :=
  ∀ (m : (ℓ : Loc Cert.DN2Gate.nD Cert.DN2Gate.τ Cert.DN2Gate.sig) → Buf (Elt Bits) ℓ) (g : Dev Cert.DN2Gate.nD → PrngReg), Pre_DN2Gate m →
    θ_run (Cert.DN2Gate.defs (F := Bits)) (onTc (τ := Cert.DN2Gate.τ) (Cert.DN2Gate.main (F := Bits))) ⟨m, fun _ => 0, g⟩ (fun r => (∀ c : Dev Cert.DN2Gate.nD,
      r.2.mem ((c.tc : Thread Cert.DN2Gate.nD Cert.DN2Gate.τ).loc Cert.DN2Gate.main_arg0) = m ((c.tc : Thread Cert.DN2Gate.nD Cert.DN2Gate.τ).loc Cert.DN2Gate.main_arg0)
      ∧ r.2.mem ((c.tc : Thread Cert.DN2Gate.nD Cert.DN2Gate.τ).loc Cert.DN2Gate.main_arg1) = m ((c.tc : Thread Cert.DN2Gate.nD Cert.DN2Gate.τ).loc Cert.DN2Gate.main_arg1))
      ∧ r.2.sem = fun _ => 0)

def quiescent_DN2GateIdeal [hDN2GateIdeal : Cert.DN2GateIdeal.Facts] : Prop :=
  ∀ (m : (ℓ : Loc Cert.DN2GateIdeal.nD Cert.DN2GateIdeal.τ Cert.DN2GateIdeal.sig) → Buf (Elt Ideal) ℓ) (g : Dev Cert.DN2GateIdeal.nD → PrngReg), Pre_DN2GateIdeal m →
    θ_run (Cert.DN2GateIdeal.defs (F := Ideal)) (onTc (τ := Cert.DN2GateIdeal.τ) (Cert.DN2GateIdeal.main (F := Ideal))) ⟨m, fun _ => 0, g⟩ (fun r => (∀ c : Dev Cert.DN2GateIdeal.nD,
      r.2.mem ((c.tc : Thread Cert.DN2GateIdeal.nD Cert.DN2GateIdeal.τ).loc Cert.DN2GateIdeal.main_arg0) = m ((c.tc : Thread Cert.DN2GateIdeal.nD Cert.DN2GateIdeal.τ).loc Cert.DN2GateIdeal.main_arg0)
      ∧ r.2.mem ((c.tc : Thread Cert.DN2GateIdeal.nD Cert.DN2GateIdeal.τ).loc Cert.DN2GateIdeal.main_arg1) = m ((c.tc : Thread Cert.DN2GateIdeal.nD Cert.DN2GateIdeal.τ).loc Cert.DN2GateIdeal.main_arg1))
      ∧ r.2.sem = fun _ => 0)

def quiescent_DN2GateRefIdeal [hDN2GateRefIdeal : Cert.DN2GateRefIdeal.Facts] : Prop :=
  ∀ (m : (ℓ : Loc Cert.DN2GateRefIdeal.nD Cert.DN2GateRefIdeal.τ Cert.DN2GateRefIdeal.sig) → Buf (Elt Ideal) ℓ) (g : Dev Cert.DN2GateRefIdeal.nD → PrngReg), Pre_DN2GateRefIdeal m →
    θ_run (Cert.DN2GateRefIdeal.defs (F := Ideal)) (onTc (τ := Cert.DN2GateRefIdeal.τ) (Cert.DN2GateRefIdeal.main (F := Ideal))) ⟨m, fun _ => 0, g⟩ (fun r => (∀ c : Dev Cert.DN2GateRefIdeal.nD,
      r.2.mem ((c.tc : Thread Cert.DN2GateRefIdeal.nD Cert.DN2GateRefIdeal.τ).loc Cert.DN2GateRefIdeal.main_arg0) = m ((c.tc : Thread Cert.DN2GateRefIdeal.nD Cert.DN2GateRefIdeal.τ).loc Cert.DN2GateRefIdeal.main_arg0)
      ∧ r.2.mem ((c.tc : Thread Cert.DN2GateRefIdeal.nD Cert.DN2GateRefIdeal.τ).loc Cert.DN2GateRefIdeal.main_arg1) = m ((c.tc : Thread Cert.DN2GateRefIdeal.nD Cert.DN2GateRefIdeal.τ).loc Cert.DN2GateRefIdeal.main_arg1))
      ∧ r.2.sem = fun _ => 0)

def quiescent_DN2Up [hDN2Up : Cert.DN2Up.Facts] : Prop :=
  ∀ (m : (ℓ : Loc Cert.DN2Up.nD Cert.DN2Up.τ Cert.DN2Up.sig) → Buf (Elt Bits) ℓ) (g : Dev Cert.DN2Up.nD → PrngReg), Pre_DN2Up m →
    θ_run (Cert.DN2Up.defs (F := Bits)) (onTc (τ := Cert.DN2Up.τ) (Cert.DN2Up.main (F := Bits))) ⟨m, fun _ => 0, g⟩ (fun r => (∀ c : Dev Cert.DN2Up.nD,
      r.2.mem ((c.tc : Thread Cert.DN2Up.nD Cert.DN2Up.τ).loc Cert.DN2Up.main_arg0) = m ((c.tc : Thread Cert.DN2Up.nD Cert.DN2Up.τ).loc Cert.DN2Up.main_arg0)
      ∧ r.2.mem ((c.tc : Thread Cert.DN2Up.nD Cert.DN2Up.τ).loc Cert.DN2Up.main_arg1) = m ((c.tc : Thread Cert.DN2Up.nD Cert.DN2Up.τ).loc Cert.DN2Up.main_arg1)
      ∧ r.2.mem ((c.tc : Thread Cert.DN2Up.nD Cert.DN2Up.τ).loc Cert.DN2Up.main_arg2) = m ((c.tc : Thread Cert.DN2Up.nD Cert.DN2Up.τ).loc Cert.DN2Up.main_arg2))
      ∧ r.2.sem = fun _ => 0)

def quiescent_DN2UpIdeal [hDN2UpIdeal : Cert.DN2UpIdeal.Facts] : Prop :=
  ∀ (m : (ℓ : Loc Cert.DN2UpIdeal.nD Cert.DN2UpIdeal.τ Cert.DN2UpIdeal.sig) → Buf (Elt Ideal) ℓ) (g : Dev Cert.DN2UpIdeal.nD → PrngReg), Pre_DN2UpIdeal m →
    θ_run (Cert.DN2UpIdeal.defs (F := Ideal)) (onTc (τ := Cert.DN2UpIdeal.τ) (Cert.DN2UpIdeal.main (F := Ideal))) ⟨m, fun _ => 0, g⟩ (fun r => (∀ c : Dev Cert.DN2UpIdeal.nD,
      r.2.mem ((c.tc : Thread Cert.DN2UpIdeal.nD Cert.DN2UpIdeal.τ).loc Cert.DN2UpIdeal.main_arg0) = m ((c.tc : Thread Cert.DN2UpIdeal.nD Cert.DN2UpIdeal.τ).loc Cert.DN2UpIdeal.main_arg0)
      ∧ r.2.mem ((c.tc : Thread Cert.DN2UpIdeal.nD Cert.DN2UpIdeal.τ).loc Cert.DN2UpIdeal.main_arg1) = m ((c.tc : Thread Cert.DN2UpIdeal.nD Cert.DN2UpIdeal.τ).loc Cert.DN2UpIdeal.main_arg1)
      ∧ r.2.mem ((c.tc : Thread Cert.DN2UpIdeal.nD Cert.DN2UpIdeal.τ).loc Cert.DN2UpIdeal.main_arg2) = m ((c.tc : Thread Cert.DN2UpIdeal.nD Cert.DN2UpIdeal.τ).loc Cert.DN2UpIdeal.main_arg2))
      ∧ r.2.sem = fun _ => 0)

def quiescent_DN2UpRefIdeal [hDN2UpRefIdeal : Cert.DN2UpRefIdeal.Facts] : Prop :=
  ∀ (m : (ℓ : Loc Cert.DN2UpRefIdeal.nD Cert.DN2UpRefIdeal.τ Cert.DN2UpRefIdeal.sig) → Buf (Elt Ideal) ℓ) (g : Dev Cert.DN2UpRefIdeal.nD → PrngReg), Pre_DN2UpRefIdeal m →
    θ_run (Cert.DN2UpRefIdeal.defs (F := Ideal)) (onTc (τ := Cert.DN2UpRefIdeal.τ) (Cert.DN2UpRefIdeal.main (F := Ideal))) ⟨m, fun _ => 0, g⟩ (fun r => (∀ c : Dev Cert.DN2UpRefIdeal.nD,
      r.2.mem ((c.tc : Thread Cert.DN2UpRefIdeal.nD Cert.DN2UpRefIdeal.τ).loc Cert.DN2UpRefIdeal.main_arg0) = m ((c.tc : Thread Cert.DN2UpRefIdeal.nD Cert.DN2UpRefIdeal.τ).loc Cert.DN2UpRefIdeal.main_arg0)
      ∧ r.2.mem ((c.tc : Thread Cert.DN2UpRefIdeal.nD Cert.DN2UpRefIdeal.τ).loc Cert.DN2UpRefIdeal.main_arg1) = m ((c.tc : Thread Cert.DN2UpRefIdeal.nD Cert.DN2UpRefIdeal.τ).loc Cert.DN2UpRefIdeal.main_arg1)
      ∧ r.2.mem ((c.tc : Thread Cert.DN2UpRefIdeal.nD Cert.DN2UpRefIdeal.τ).loc Cert.DN2UpRefIdeal.main_arg2) = m ((c.tc : Thread Cert.DN2UpRefIdeal.nD Cert.DN2UpRefIdeal.τ).loc Cert.DN2UpRefIdeal.main_arg2))
      ∧ r.2.sem = fun _ => 0)

def quiescent_GWIn [hGWIn : Cert.GWIn.Facts] : Prop :=
  ∀ (m : (ℓ : Loc Cert.GWIn.nD Cert.GWIn.τ Cert.GWIn.sig) → Buf (Elt Bits) ℓ) (g : Dev Cert.GWIn.nD → PrngReg), Pre_GWIn m →
    θ_run (Cert.GWIn.defs (F := Bits)) (onTc (τ := Cert.GWIn.τ) (Cert.GWIn.main (F := Bits))) ⟨m, fun _ => 0, g⟩ (fun r => (∀ c : Dev Cert.GWIn.nD,
      r.2.mem ((c.tc : Thread Cert.GWIn.nD Cert.GWIn.τ).loc Cert.GWIn.main_arg0) = m ((c.tc : Thread Cert.GWIn.nD Cert.GWIn.τ).loc Cert.GWIn.main_arg0)
      ∧ r.2.mem ((c.tc : Thread Cert.GWIn.nD Cert.GWIn.τ).loc Cert.GWIn.main_arg1) = m ((c.tc : Thread Cert.GWIn.nD Cert.GWIn.τ).loc Cert.GWIn.main_arg1))
      ∧ r.2.sem = fun _ => 0)

def quiescent_GWInIdeal [hGWInIdeal : Cert.GWInIdeal.Facts] : Prop :=
  ∀ (m : (ℓ : Loc Cert.GWInIdeal.nD Cert.GWInIdeal.τ Cert.GWInIdeal.sig) → Buf (Elt Ideal) ℓ) (g : Dev Cert.GWInIdeal.nD → PrngReg), Pre_GWInIdeal m →
    θ_run (Cert.GWInIdeal.defs (F := Ideal)) (onTc (τ := Cert.GWInIdeal.τ) (Cert.GWInIdeal.main (F := Ideal))) ⟨m, fun _ => 0, g⟩ (fun r => (∀ c : Dev Cert.GWInIdeal.nD,
      r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
      ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ r.2.sem = fun _ => 0)

def quiescent_GWInRefIdeal [hGWInRefIdeal : Cert.GWInRefIdeal.Facts] : Prop :=
  ∀ (m : (ℓ : Loc Cert.GWInRefIdeal.nD Cert.GWInRefIdeal.τ Cert.GWInRefIdeal.sig) → Buf (Elt Ideal) ℓ) (g : Dev Cert.GWInRefIdeal.nD → PrngReg), Pre_GWInRefIdeal m →
    θ_run (Cert.GWInRefIdeal.defs (F := Ideal)) (onTc (τ := Cert.GWInRefIdeal.τ) (Cert.GWInRefIdeal.main (F := Ideal))) ⟨m, fun _ => 0, g⟩ (fun r => (∀ c : Dev Cert.GWInRefIdeal.nD,
      r.2.mem ((c.tc : Thread Cert.GWInRefIdeal.nD Cert.GWInRefIdeal.τ).loc Cert.GWInRefIdeal.main_arg0) = m ((c.tc : Thread Cert.GWInRefIdeal.nD Cert.GWInRefIdeal.τ).loc Cert.GWInRefIdeal.main_arg0)
      ∧ r.2.mem ((c.tc : Thread Cert.GWInRefIdeal.nD Cert.GWInRefIdeal.τ).loc Cert.GWInRefIdeal.main_arg1) = m ((c.tc : Thread Cert.GWInRefIdeal.nD Cert.GWInRefIdeal.τ).loc Cert.GWInRefIdeal.main_arg1))
      ∧ r.2.sem = fun _ => 0)

def quiescent_DN1 [hDN1 : Cert.DN1.Facts] : Prop :=
  ∀ (m : (ℓ : Loc Cert.DN1.nD Cert.DN1.τ Cert.DN1.sig) → Buf (Elt Bits) ℓ) (g : Dev Cert.DN1.nD → PrngReg), Pre_DN1 m →
    θ_run (Cert.DN1.defs (F := Bits)) (onTc (τ := Cert.DN1.τ) (Cert.DN1.main (F := Bits))) ⟨m, fun _ => 0, g⟩ (fun r => (∀ c : Dev Cert.DN1.nD,
      r.2.mem ((c.tc : Thread Cert.DN1.nD Cert.DN1.τ).loc Cert.DN1.main_arg0) = m ((c.tc : Thread Cert.DN1.nD Cert.DN1.τ).loc Cert.DN1.main_arg0)
      ∧ r.2.mem ((c.tc : Thread Cert.DN1.nD Cert.DN1.τ).loc Cert.DN1.main_arg1) = m ((c.tc : Thread Cert.DN1.nD Cert.DN1.τ).loc Cert.DN1.main_arg1))
      ∧ r.2.sem = fun _ => 0)

def quiescent_DN1Ideal [hDN1Ideal : Cert.DN1Ideal.Facts] : Prop :=
  ∀ (m : (ℓ : Loc Cert.DN1Ideal.nD Cert.DN1Ideal.τ Cert.DN1Ideal.sig) → Buf (Elt Ideal) ℓ) (g : Dev Cert.DN1Ideal.nD → PrngReg), Pre_DN1Ideal m →
    θ_run (Cert.DN1Ideal.defs (F := Ideal)) (onTc (τ := Cert.DN1Ideal.τ) (Cert.DN1Ideal.main (F := Ideal))) ⟨m, fun _ => 0, g⟩ (fun r => (∀ c : Dev Cert.DN1Ideal.nD,
      r.2.mem ((c.tc : Thread Cert.DN1Ideal.nD Cert.DN1Ideal.τ).loc Cert.DN1Ideal.main_arg0) = m ((c.tc : Thread Cert.DN1Ideal.nD Cert.DN1Ideal.τ).loc Cert.DN1Ideal.main_arg0)
      ∧ r.2.mem ((c.tc : Thread Cert.DN1Ideal.nD Cert.DN1Ideal.τ).loc Cert.DN1Ideal.main_arg1) = m ((c.tc : Thread Cert.DN1Ideal.nD Cert.DN1Ideal.τ).loc Cert.DN1Ideal.main_arg1))
      ∧ r.2.sem = fun _ => 0)

def quiescent_DN1RefIdeal [hDN1RefIdeal : Cert.DN1RefIdeal.Facts] : Prop :=
  ∀ (m : (ℓ : Loc Cert.DN1RefIdeal.nD Cert.DN1RefIdeal.τ Cert.DN1RefIdeal.sig) → Buf (Elt Ideal) ℓ) (g : Dev Cert.DN1RefIdeal.nD → PrngReg), Pre_DN1RefIdeal m →
    θ_run (Cert.DN1RefIdeal.defs (F := Ideal)) (onTc (τ := Cert.DN1RefIdeal.τ) (Cert.DN1RefIdeal.main (F := Ideal))) ⟨m, fun _ => 0, g⟩ (fun r => (∀ c : Dev Cert.DN1RefIdeal.nD,
      r.2.mem ((c.tc : Thread Cert.DN1RefIdeal.nD Cert.DN1RefIdeal.τ).loc Cert.DN1RefIdeal.main_arg0) = m ((c.tc : Thread Cert.DN1RefIdeal.nD Cert.DN1RefIdeal.τ).loc Cert.DN1RefIdeal.main_arg0)
      ∧ r.2.mem ((c.tc : Thread Cert.DN1RefIdeal.nD Cert.DN1RefIdeal.τ).loc Cert.DN1RefIdeal.main_arg1) = m ((c.tc : Thread Cert.DN1RefIdeal.nD Cert.DN1RefIdeal.τ).loc Cert.DN1RefIdeal.main_arg1))
      ∧ r.2.sem = fun _ => 0)

def quiescent_GWOut [hGWOut : Cert.GWOut.Facts] : Prop :=
  ∀ (m : (ℓ : Loc Cert.GWOut.nD Cert.GWOut.τ Cert.GWOut.sig) → Buf (Elt Bits) ℓ) (g : Dev Cert.GWOut.nD → PrngReg), Pre_GWOut m →
    θ_run (Cert.GWOut.defs (F := Bits)) (onTc (τ := Cert.GWOut.τ) (Cert.GWOut.main (F := Bits))) ⟨m, fun _ => 0, g⟩ (fun r => (∀ c : Dev Cert.GWOut.nD,
      r.2.mem ((c.tc : Thread Cert.GWOut.nD Cert.GWOut.τ).loc Cert.GWOut.main_arg0) = m ((c.tc : Thread Cert.GWOut.nD Cert.GWOut.τ).loc Cert.GWOut.main_arg0)
      ∧ r.2.mem ((c.tc : Thread Cert.GWOut.nD Cert.GWOut.τ).loc Cert.GWOut.main_arg1) = m ((c.tc : Thread Cert.GWOut.nD Cert.GWOut.τ).loc Cert.GWOut.main_arg1))
      ∧ r.2.sem = fun _ => 0)

def quiescent_GWOutIdeal [hGWOutIdeal : Cert.GWOutIdeal.Facts] : Prop :=
  ∀ (m : (ℓ : Loc Cert.GWOutIdeal.nD Cert.GWOutIdeal.τ Cert.GWOutIdeal.sig) → Buf (Elt Ideal) ℓ) (g : Dev Cert.GWOutIdeal.nD → PrngReg), Pre_GWOutIdeal m →
    θ_run (Cert.GWOutIdeal.defs (F := Ideal)) (onTc (τ := Cert.GWOutIdeal.τ) (Cert.GWOutIdeal.main (F := Ideal))) ⟨m, fun _ => 0, g⟩ (fun r => (∀ c : Dev Cert.GWOutIdeal.nD,
      r.2.mem ((c.tc : Thread Cert.GWOutIdeal.nD Cert.GWOutIdeal.τ).loc Cert.GWOutIdeal.main_arg0) = m ((c.tc : Thread Cert.GWOutIdeal.nD Cert.GWOutIdeal.τ).loc Cert.GWOutIdeal.main_arg0)
      ∧ r.2.mem ((c.tc : Thread Cert.GWOutIdeal.nD Cert.GWOutIdeal.τ).loc Cert.GWOutIdeal.main_arg1) = m ((c.tc : Thread Cert.GWOutIdeal.nD Cert.GWOutIdeal.τ).loc Cert.GWOutIdeal.main_arg1))
      ∧ r.2.sem = fun _ => 0)

def quiescent_GWOutRefIdeal [hGWOutRefIdeal : Cert.GWOutRefIdeal.Facts] : Prop :=
  ∀ (m : (ℓ : Loc Cert.GWOutRefIdeal.nD Cert.GWOutRefIdeal.τ Cert.GWOutRefIdeal.sig) → Buf (Elt Ideal) ℓ) (g : Dev Cert.GWOutRefIdeal.nD → PrngReg), Pre_GWOutRefIdeal m →
    θ_run (Cert.GWOutRefIdeal.defs (F := Ideal)) (onTc (τ := Cert.GWOutRefIdeal.τ) (Cert.GWOutRefIdeal.main (F := Ideal))) ⟨m, fun _ => 0, g⟩ (fun r => (∀ c : Dev Cert.GWOutRefIdeal.nD,
      r.2.mem ((c.tc : Thread Cert.GWOutRefIdeal.nD Cert.GWOutRefIdeal.τ).loc Cert.GWOutRefIdeal.main_arg0) = m ((c.tc : Thread Cert.GWOutRefIdeal.nD Cert.GWOutRefIdeal.τ).loc Cert.GWOutRefIdeal.main_arg0)
      ∧ r.2.mem ((c.tc : Thread Cert.GWOutRefIdeal.nD Cert.GWOutRefIdeal.τ).loc Cert.GWOutRefIdeal.main_arg1) = m ((c.tc : Thread Cert.GWOutRefIdeal.nD Cert.GWOutRefIdeal.τ).loc Cert.GWOutRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def preserves_FfnMid_FfnMidIdeal : Prop :=
  True

def algebraic_FfnMidIdeal_FfnMidRefIdeal_pre_finite_inputs [hFfnMidIdeal : Cert.FfnMidIdeal.Facts] [hFfnMidRefIdeal : Cert.FfnMidRefIdeal.Facts] [hPre_finite_inputs : Cert.Pre_finite_inputs.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_inputs m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v43_0)) (v1 : (c : Dev Cert.FfnMidIdeal.nD) → Buf (Elt Ideal) ((c.tc : Thread Cert.FfnMidIdeal.nD Cert.FfnMidIdeal.τ).loc Cert.FfnMidIdeal.main_v43_1)) (v2 : (c : Dev Cert.FfnMidIdeal.nD) → Buf (Elt Ideal) ((c.tc : Thread Cert.FfnMidIdeal.nD Cert.FfnMidIdeal.τ).loc Cert.FfnMidIdeal.main_v43_2)) (v3 : (c : Dev Cert.FfnMidIdeal.nD) → Buf (Elt Ideal) ((c.tc : Thread Cert.FfnMidIdeal.nD Cert.FfnMidIdeal.τ).loc Cert.FfnMidIdeal.main_v43_3)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v43_0) = v0 c
          ∧ r.2.mem ((c.tc : Thread Cert.FfnMidIdeal.nD Cert.FfnMidIdeal.τ).loc Cert.FfnMidIdeal.main_v43_1) = v1 c
          ∧ r.2.mem ((c.tc : Thread Cert.FfnMidIdeal.nD Cert.FfnMidIdeal.τ).loc Cert.FfnMidIdeal.main_v43_2) = v2 c
          ∧ r.2.mem ((c.tc : Thread Cert.FfnMidIdeal.nD Cert.FfnMidIdeal.τ).loc Cert.FfnMidIdeal.main_v43_3) = v3 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v70) = v0 c
          ∧ r.2.mem ((c.tc : Thread Cert.FfnMidRefIdeal.nD Cert.FfnMidRefIdeal.τ).loc Cert.FfnMidRefIdeal.main_v71) = v1 c
          ∧ r.2.mem ((c.tc : Thread Cert.FfnMidRefIdeal.nD Cert.FfnMidRefIdeal.τ).loc Cert.FfnMidRefIdeal.main_v61) = v2 c
          ∧ r.2.mem ((c.tc : Thread Cert.FfnMidRefIdeal.nD Cert.FfnMidRefIdeal.τ).loc Cert.FfnMidRefIdeal.main_v35) = v3 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)) (v3 : (c : Dev Cert.FfnInIdeal.nD) → Buf (Elt Ideal) ((c.tc : Thread Cert.FfnInIdeal.nD Cert.FfnInIdeal.τ).loc Cert.FfnInIdeal.main_v3_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_v3_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_v31) = v1 c
          ∧ r.2.mem ((c.tc : Thread Cert.FfnInRefIdeal.nD Cert.FfnInRefIdeal.τ).loc Cert.FfnInRefIdeal.main_v32) = v2 c
          ∧ r.2.mem ((c.tc : Thread Cert.FfnInRefIdeal.nD Cert.FfnInRefIdeal.τ).loc Cert.FfnInRefIdeal.main_v34) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v39) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AttnBwd_AttnBwdIdeal : Prop :=
  True

def algebraic_AttnBwdIdeal_AttnBwdRefIdeal [hAttnBwdIdeal : Cert.AttnBwdIdeal.Facts] [hAttnBwdRefIdeal : Cert.AttnBwdRefIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v12_0)) (v1 : (c : Dev Cert.AttnBwdIdeal.nD) → Buf (Elt Ideal) ((c.tc : Thread Cert.AttnBwdIdeal.nD Cert.AttnBwdIdeal.τ).loc Cert.AttnBwdIdeal.main_v12_1)) (v2 : (c : Dev Cert.AttnBwdIdeal.nD) → Buf (Elt Ideal) ((c.tc : Thread Cert.AttnBwdIdeal.nD Cert.AttnBwdIdeal.τ).loc Cert.AttnBwdIdeal.main_v12_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v12_0) = v0 c
          ∧ r.2.mem ((c.tc : Thread Cert.AttnBwdIdeal.nD Cert.AttnBwdIdeal.τ).loc Cert.AttnBwdIdeal.main_v12_1) = v1 c
          ∧ r.2.mem ((c.tc : Thread Cert.AttnBwdIdeal.nD Cert.AttnBwdIdeal.τ).loc Cert.AttnBwdIdeal.main_v12_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v56) = v0 c
          ∧ r.2.mem ((c.tc : Thread Cert.AttnBwdRefIdeal.nD Cert.AttnBwdRefIdeal.τ).loc Cert.AttnBwdRefIdeal.main_v58) = v1 c
          ∧ r.2.mem ((c.tc : Thread Cert.AttnBwdRefIdeal.nD Cert.AttnBwdRefIdeal.τ).loc Cert.AttnBwdRefIdeal.main_v60) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_AttnBwd4_AttnBwd4Ideal : Prop :=
  True

def algebraic_AttnBwd4Ideal_AttnBwd4RefIdeal [hAttnBwd4Ideal : Cert.AttnBwd4Ideal.Facts] [hAttnBwd4RefIdeal : Cert.AttnBwd4RefIdeal.Facts] : Prop :=
  ∀ (m : (ℓ : Loc Cert.AttnBwd4Ideal.nD Cert.AttnBwd4Ideal.τ Cert.AttnBwd4Ideal.sig) → Buf (Elt Ideal) ℓ) (g : Dev Cert.AttnBwd4Ideal.nD → PrngReg)
    (m' : (ℓ : Loc Cert.AttnBwd4RefIdeal.nD Cert.AttnBwd4RefIdeal.τ Cert.AttnBwd4RefIdeal.sig) → Buf (Elt Ideal) ℓ) (g' : Dev Cert.AttnBwd4RefIdeal.nD → PrngReg), Pre_AttnBwd4Ideal m →
    (∀ c : Dev Cert.AttnBwd4Ideal.nD,
      m' ((c.tc : Thread Cert.AttnBwd4RefIdeal.nD Cert.AttnBwd4RefIdeal.τ).loc Cert.AttnBwd4RefIdeal.main_arg0) = m ((c.tc : Thread Cert.AttnBwd4Ideal.nD Cert.AttnBwd4Ideal.τ).loc Cert.AttnBwd4Ideal.main_arg0)
      ∧ m' ((c.tc : Thread Cert.AttnBwd4RefIdeal.nD Cert.AttnBwd4RefIdeal.τ).loc Cert.AttnBwd4RefIdeal.main_arg1) = m ((c.tc : Thread Cert.AttnBwd4Ideal.nD Cert.AttnBwd4Ideal.τ).loc Cert.AttnBwd4Ideal.main_arg1)
      ∧ m' ((c.tc : Thread Cert.AttnBwd4RefIdeal.nD Cert.AttnBwd4RefIdeal.τ).loc Cert.AttnBwd4RefIdeal.main_arg2) = m ((c.tc : Thread Cert.AttnBwd4Ideal.nD Cert.AttnBwd4Ideal.τ).loc Cert.AttnBwd4Ideal.main_arg2)
      ∧ m' ((c.tc : Thread Cert.AttnBwd4RefIdeal.nD Cert.AttnBwd4RefIdeal.τ).loc Cert.AttnBwd4RefIdeal.main_arg3) = m ((c.tc : Thread Cert.AttnBwd4Ideal.nD Cert.AttnBwd4Ideal.τ).loc Cert.AttnBwd4Ideal.main_arg3)
      ∧ m' ((c.tc : Thread Cert.AttnBwd4RefIdeal.nD Cert.AttnBwd4RefIdeal.τ).loc Cert.AttnBwd4RefIdeal.main_arg4) = m ((c.tc : Thread Cert.AttnBwd4Ideal.nD Cert.AttnBwd4Ideal.τ).loc Cert.AttnBwd4Ideal.main_arg4)
      ∧ m' ((c.tc : Thread Cert.AttnBwd4RefIdeal.nD Cert.AttnBwd4RefIdeal.τ).loc Cert.AttnBwd4RefIdeal.main_arg5) = m ((c.tc : Thread Cert.AttnBwd4Ideal.nD Cert.AttnBwd4Ideal.τ).loc Cert.AttnBwd4Ideal.main_arg5)) →
    ∃ (v0 : (c : Dev Cert.AttnBwd4Ideal.nD) → Buf (Elt Ideal) ((c.tc : Thread Cert.AttnBwd4Ideal.nD Cert.AttnBwd4Ideal.τ).loc Cert.AttnBwd4Ideal.main_v12_0)) (v1 : (c : Dev Cert.AttnBwd4Ideal.nD) → Buf (Elt Ideal) ((c.tc : Thread Cert.AttnBwd4Ideal.nD Cert.AttnBwd4Ideal.τ).loc Cert.AttnBwd4Ideal.main_v12_1)) (v2 : (c : Dev Cert.AttnBwd4Ideal.nD) → Buf (Elt Ideal) ((c.tc : Thread Cert.AttnBwd4Ideal.nD Cert.AttnBwd4Ideal.τ).loc Cert.AttnBwd4Ideal.main_v12_2)),
      θ_run (Cert.AttnBwd4Ideal.defs (F := Ideal)) (onTc (τ := Cert.AttnBwd4Ideal.τ) (Cert.AttnBwd4Ideal.main (F := Ideal))) ⟨m, fun _ => 0, g⟩ (fun r => ∀ c : Dev Cert.AttnBwd4Ideal.nD,
          r.2.mem ((c.tc : Thread Cert.AttnBwd4Ideal.nD Cert.AttnBwd4Ideal.τ).loc Cert.AttnBwd4Ideal.main_v12_0) = v0 c
          ∧ r.2.mem ((c.tc : Thread Cert.AttnBwd4Ideal.nD Cert.AttnBwd4Ideal.τ).loc Cert.AttnBwd4Ideal.main_v12_1) = v1 c
          ∧ r.2.mem ((c.tc : Thread Cert.AttnBwd4Ideal.nD Cert.AttnBwd4Ideal.τ).loc Cert.AttnBwd4Ideal.main_v12_2) = v2 c
          ∧ r.2.mem ((c.tc : Thread Cert.AttnBwd4Ideal.nD Cert.AttnBwd4Ideal.τ).loc Cert.AttnBwd4Ideal.main_arg0) = m ((c.tc : Thread Cert.AttnBwd4Ideal.nD Cert.AttnBwd4Ideal.τ).loc Cert.AttnBwd4Ideal.main_arg0)
          ∧ r.2.mem ((c.tc : Thread Cert.AttnBwd4Ideal.nD Cert.AttnBwd4Ideal.τ).loc Cert.AttnBwd4Ideal.main_arg1) = m ((c.tc : Thread Cert.AttnBwd4Ideal.nD Cert.AttnBwd4Ideal.τ).loc Cert.AttnBwd4Ideal.main_arg1)
          ∧ r.2.mem ((c.tc : Thread Cert.AttnBwd4Ideal.nD Cert.AttnBwd4Ideal.τ).loc Cert.AttnBwd4Ideal.main_arg2) = m ((c.tc : Thread Cert.AttnBwd4Ideal.nD Cert.AttnBwd4Ideal.τ).loc Cert.AttnBwd4Ideal.main_arg2)
          ∧ r.2.mem ((c.tc : Thread Cert.AttnBwd4Ideal.nD Cert.AttnBwd4Ideal.τ).loc Cert.AttnBwd4Ideal.main_arg3) = m ((c.tc : Thread Cert.AttnBwd4Ideal.nD Cert.AttnBwd4Ideal.τ).loc Cert.AttnBwd4Ideal.main_arg3)
          ∧ r.2.mem ((c.tc : Thread Cert.AttnBwd4Ideal.nD Cert.AttnBwd4Ideal.τ).loc Cert.AttnBwd4Ideal.main_arg4) = m ((c.tc : Thread Cert.AttnBwd4Ideal.nD Cert.AttnBwd4Ideal.τ).loc Cert.AttnBwd4Ideal.main_arg4)
          ∧ r.2.mem ((c.tc : Thread Cert.AttnBwd4Ideal.nD Cert.AttnBwd4Ideal.τ).loc Cert.AttnBwd4Ideal.main_arg5) = m ((c.tc : Thread Cert.AttnBwd4Ideal.nD Cert.AttnBwd4Ideal.τ).loc Cert.AttnBwd4Ideal.main_arg5))
      ∧ θ_run (Cert.AttnBwd4RefIdeal.defs (F := Ideal)) (onTc (τ := Cert.AttnBwd4RefIdeal.τ) (Cert.AttnBwd4RefIdeal.main (F := Ideal))) ⟨m', fun _ => 0, g'⟩ (fun r => ∀ c : Dev Cert.AttnBwd4RefIdeal.nD,
          r.2.mem ((c.tc : Thread Cert.AttnBwd4RefIdeal.nD Cert.AttnBwd4RefIdeal.τ).loc Cert.AttnBwd4RefIdeal.main_v56) = v0 c
          ∧ r.2.mem ((c.tc : Thread Cert.AttnBwd4RefIdeal.nD Cert.AttnBwd4RefIdeal.τ).loc Cert.AttnBwd4RefIdeal.main_v58) = v1 c
          ∧ r.2.mem ((c.tc : Thread Cert.AttnBwd4RefIdeal.nD Cert.AttnBwd4RefIdeal.τ).loc Cert.AttnBwd4RefIdeal.main_v60) = v2 c
          ∧ r.2.mem ((c.tc : Thread Cert.AttnBwd4RefIdeal.nD Cert.AttnBwd4RefIdeal.τ).loc Cert.AttnBwd4RefIdeal.main_arg0) = m' ((c.tc : Thread Cert.AttnBwd4RefIdeal.nD Cert.AttnBwd4RefIdeal.τ).loc Cert.AttnBwd4RefIdeal.main_arg0)
          ∧ r.2.mem ((c.tc : Thread Cert.AttnBwd4RefIdeal.nD Cert.AttnBwd4RefIdeal.τ).loc Cert.AttnBwd4RefIdeal.main_arg1) = m' ((c.tc : Thread Cert.AttnBwd4RefIdeal.nD Cert.AttnBwd4RefIdeal.τ).loc Cert.AttnBwd4RefIdeal.main_arg1)
          ∧ r.2.mem ((c.tc : Thread Cert.AttnBwd4RefIdeal.nD Cert.AttnBwd4RefIdeal.τ).loc Cert.AttnBwd4RefIdeal.main_arg2) = m' ((c.tc : Thread Cert.AttnBwd4RefIdeal.nD Cert.AttnBwd4RefIdeal.τ).loc Cert.AttnBwd4RefIdeal.main_arg2)
          ∧ r.2.mem ((c.tc : Thread Cert.AttnBwd4RefIdeal.nD Cert.AttnBwd4RefIdeal.τ).loc Cert.AttnBwd4RefIdeal.main_arg3) = m' ((c.tc : Thread Cert.AttnBwd4RefIdeal.nD Cert.AttnBwd4RefIdeal.τ).loc Cert.AttnBwd4RefIdeal.main_arg3)
          ∧ r.2.mem ((c.tc : Thread Cert.AttnBwd4RefIdeal.nD Cert.AttnBwd4RefIdeal.τ).loc Cert.AttnBwd4RefIdeal.main_arg4) = m' ((c.tc : Thread Cert.AttnBwd4RefIdeal.nD Cert.AttnBwd4RefIdeal.τ).loc Cert.AttnBwd4RefIdeal.main_arg4)
          ∧ r.2.mem ((c.tc : Thread Cert.AttnBwd4RefIdeal.nD Cert.AttnBwd4RefIdeal.τ).loc Cert.AttnBwd4RefIdeal.main_arg5) = m' ((c.tc : Thread Cert.AttnBwd4RefIdeal.nD Cert.AttnBwd4RefIdeal.τ).loc Cert.AttnBwd4RefIdeal.main_arg5))

def preserves_AttnBwd1_AttnBwd1Ideal : Prop :=
  True

def algebraic_AttnBwd1Ideal_AttnBwd1RefIdeal [hAttnBwd1Ideal : Cert.AttnBwd1Ideal.Facts] [hAttnBwd1RefIdeal : Cert.AttnBwd1RefIdeal.Facts] : Prop :=
  ∀ (m : (ℓ : Loc Cert.AttnBwd1Ideal.nD Cert.AttnBwd1Ideal.τ Cert.AttnBwd1Ideal.sig) → Buf (Elt Ideal) ℓ) (g : Dev Cert.AttnBwd1Ideal.nD → PrngReg)
    (m' : (ℓ : Loc Cert.AttnBwd1RefIdeal.nD Cert.AttnBwd1RefIdeal.τ Cert.AttnBwd1RefIdeal.sig) → Buf (Elt Ideal) ℓ) (g' : Dev Cert.AttnBwd1RefIdeal.nD → PrngReg), Pre_AttnBwd1Ideal m →
    (∀ c : Dev Cert.AttnBwd1Ideal.nD,
      m' ((c.tc : Thread Cert.AttnBwd1RefIdeal.nD Cert.AttnBwd1RefIdeal.τ).loc Cert.AttnBwd1RefIdeal.main_arg0) = m ((c.tc : Thread Cert.AttnBwd1Ideal.nD Cert.AttnBwd1Ideal.τ).loc Cert.AttnBwd1Ideal.main_arg0)
      ∧ m' ((c.tc : Thread Cert.AttnBwd1RefIdeal.nD Cert.AttnBwd1RefIdeal.τ).loc Cert.AttnBwd1RefIdeal.main_arg1) = m ((c.tc : Thread Cert.AttnBwd1Ideal.nD Cert.AttnBwd1Ideal.τ).loc Cert.AttnBwd1Ideal.main_arg1)
      ∧ m' ((c.tc : Thread Cert.AttnBwd1RefIdeal.nD Cert.AttnBwd1RefIdeal.τ).loc Cert.AttnBwd1RefIdeal.main_arg2) = m ((c.tc : Thread Cert.AttnBwd1Ideal.nD Cert.AttnBwd1Ideal.τ).loc Cert.AttnBwd1Ideal.main_arg2)
      ∧ m' ((c.tc : Thread Cert.AttnBwd1RefIdeal.nD Cert.AttnBwd1RefIdeal.τ).loc Cert.AttnBwd1RefIdeal.main_arg3) = m ((c.tc : Thread Cert.AttnBwd1Ideal.nD Cert.AttnBwd1Ideal.τ).loc Cert.AttnBwd1Ideal.main_arg3)
      ∧ m' ((c.tc : Thread Cert.AttnBwd1RefIdeal.nD Cert.AttnBwd1RefIdeal.τ).loc Cert.AttnBwd1RefIdeal.main_arg4) = m ((c.tc : Thread Cert.AttnBwd1Ideal.nD Cert.AttnBwd1Ideal.τ).loc Cert.AttnBwd1Ideal.main_arg4)
      ∧ m' ((c.tc : Thread Cert.AttnBwd1RefIdeal.nD Cert.AttnBwd1RefIdeal.τ).loc Cert.AttnBwd1RefIdeal.main_arg5) = m ((c.tc : Thread Cert.AttnBwd1Ideal.nD Cert.AttnBwd1Ideal.τ).loc Cert.AttnBwd1Ideal.main_arg5)) →
    ∃ (v0 : (c : Dev Cert.AttnBwd1Ideal.nD) → Buf (Elt Ideal) ((c.tc : Thread Cert.AttnBwd1Ideal.nD Cert.AttnBwd1Ideal.τ).loc Cert.AttnBwd1Ideal.main_v10_0)) (v1 : (c : Dev Cert.AttnBwd1Ideal.nD) → Buf (Elt Ideal) ((c.tc : Thread Cert.AttnBwd1Ideal.nD Cert.AttnBwd1Ideal.τ).loc Cert.AttnBwd1Ideal.main_v10_1)) (v2 : (c : Dev Cert.AttnBwd1Ideal.nD) → Buf (Elt Ideal) ((c.tc : Thread Cert.AttnBwd1Ideal.nD Cert.AttnBwd1Ideal.τ).loc Cert.AttnBwd1Ideal.main_v10_2)),
      θ_run (Cert.AttnBwd1Ideal.defs (F := Ideal)) (onTc (τ := Cert.AttnBwd1Ideal.τ) (Cert.AttnBwd1Ideal.main (F := Ideal))) ⟨m, fun _ => 0, g⟩ (fun r => ∀ c : Dev Cert.AttnBwd1Ideal.nD,
          r.2.mem ((c.tc : Thread Cert.AttnBwd1Ideal.nD Cert.AttnBwd1Ideal.τ).loc Cert.AttnBwd1Ideal.main_v10_0) = v0 c
          ∧ r.2.mem ((c.tc : Thread Cert.AttnBwd1Ideal.nD Cert.AttnBwd1Ideal.τ).loc Cert.AttnBwd1Ideal.main_v10_1) = v1 c
          ∧ r.2.mem ((c.tc : Thread Cert.AttnBwd1Ideal.nD Cert.AttnBwd1Ideal.τ).loc Cert.AttnBwd1Ideal.main_v10_2) = v2 c
          ∧ r.2.mem ((c.tc : Thread Cert.AttnBwd1Ideal.nD Cert.AttnBwd1Ideal.τ).loc Cert.AttnBwd1Ideal.main_arg0) = m ((c.tc : Thread Cert.AttnBwd1Ideal.nD Cert.AttnBwd1Ideal.τ).loc Cert.AttnBwd1Ideal.main_arg0)
          ∧ r.2.mem ((c.tc : Thread Cert.AttnBwd1Ideal.nD Cert.AttnBwd1Ideal.τ).loc Cert.AttnBwd1Ideal.main_arg1) = m ((c.tc : Thread Cert.AttnBwd1Ideal.nD Cert.AttnBwd1Ideal.τ).loc Cert.AttnBwd1Ideal.main_arg1)
          ∧ r.2.mem ((c.tc : Thread Cert.AttnBwd1Ideal.nD Cert.AttnBwd1Ideal.τ).loc Cert.AttnBwd1Ideal.main_arg2) = m ((c.tc : Thread Cert.AttnBwd1Ideal.nD Cert.AttnBwd1Ideal.τ).loc Cert.AttnBwd1Ideal.main_arg2)
          ∧ r.2.mem ((c.tc : Thread Cert.AttnBwd1Ideal.nD Cert.AttnBwd1Ideal.τ).loc Cert.AttnBwd1Ideal.main_arg3) = m ((c.tc : Thread Cert.AttnBwd1Ideal.nD Cert.AttnBwd1Ideal.τ).loc Cert.AttnBwd1Ideal.main_arg3)
          ∧ r.2.mem ((c.tc : Thread Cert.AttnBwd1Ideal.nD Cert.AttnBwd1Ideal.τ).loc Cert.AttnBwd1Ideal.main_arg4) = m ((c.tc : Thread Cert.AttnBwd1Ideal.nD Cert.AttnBwd1Ideal.τ).loc Cert.AttnBwd1Ideal.main_arg4)
          ∧ r.2.mem ((c.tc : Thread Cert.AttnBwd1Ideal.nD Cert.AttnBwd1Ideal.τ).loc Cert.AttnBwd1Ideal.main_arg5) = m ((c.tc : Thread Cert.AttnBwd1Ideal.nD Cert.AttnBwd1Ideal.τ).loc Cert.AttnBwd1Ideal.main_arg5))
      ∧ θ_run (Cert.AttnBwd1RefIdeal.defs (F := Ideal)) (onTc (τ := Cert.AttnBwd1RefIdeal.τ) (Cert.AttnBwd1RefIdeal.main (F := Ideal))) ⟨m', fun _ => 0, g'⟩ (fun r => ∀ c : Dev Cert.AttnBwd1RefIdeal.nD,
          r.2.mem ((c.tc : Thread Cert.AttnBwd1RefIdeal.nD Cert.AttnBwd1RefIdeal.τ).loc Cert.AttnBwd1RefIdeal.main_v56) = v0 c
          ∧ r.2.mem ((c.tc : Thread Cert.AttnBwd1RefIdeal.nD Cert.AttnBwd1RefIdeal.τ).loc Cert.AttnBwd1RefIdeal.main_v58) = v1 c
          ∧ r.2.mem ((c.tc : Thread Cert.AttnBwd1RefIdeal.nD Cert.AttnBwd1RefIdeal.τ).loc Cert.AttnBwd1RefIdeal.main_v60) = v2 c
          ∧ r.2.mem ((c.tc : Thread Cert.AttnBwd1RefIdeal.nD Cert.AttnBwd1RefIdeal.τ).loc Cert.AttnBwd1RefIdeal.main_arg0) = m' ((c.tc : Thread Cert.AttnBwd1RefIdeal.nD Cert.AttnBwd1RefIdeal.τ).loc Cert.AttnBwd1RefIdeal.main_arg0)
          ∧ r.2.mem ((c.tc : Thread Cert.AttnBwd1RefIdeal.nD Cert.AttnBwd1RefIdeal.τ).loc Cert.AttnBwd1RefIdeal.main_arg1) = m' ((c.tc : Thread Cert.AttnBwd1RefIdeal.nD Cert.AttnBwd1RefIdeal.τ).loc Cert.AttnBwd1RefIdeal.main_arg1)
          ∧ r.2.mem ((c.tc : Thread Cert.AttnBwd1RefIdeal.nD Cert.AttnBwd1RefIdeal.τ).loc Cert.AttnBwd1RefIdeal.main_arg2) = m' ((c.tc : Thread Cert.AttnBwd1RefIdeal.nD Cert.AttnBwd1RefIdeal.τ).loc Cert.AttnBwd1RefIdeal.main_arg2)
          ∧ r.2.mem ((c.tc : Thread Cert.AttnBwd1RefIdeal.nD Cert.AttnBwd1RefIdeal.τ).loc Cert.AttnBwd1RefIdeal.main_arg3) = m' ((c.tc : Thread Cert.AttnBwd1RefIdeal.nD Cert.AttnBwd1RefIdeal.τ).loc Cert.AttnBwd1RefIdeal.main_arg3)
          ∧ r.2.mem ((c.tc : Thread Cert.AttnBwd1RefIdeal.nD Cert.AttnBwd1RefIdeal.τ).loc Cert.AttnBwd1RefIdeal.main_arg4) = m' ((c.tc : Thread Cert.AttnBwd1RefIdeal.nD Cert.AttnBwd1RefIdeal.τ).loc Cert.AttnBwd1RefIdeal.main_arg4)
          ∧ r.2.mem ((c.tc : Thread Cert.AttnBwd1RefIdeal.nD Cert.AttnBwd1RefIdeal.τ).loc Cert.AttnBwd1RefIdeal.main_arg5) = m' ((c.tc : Thread Cert.AttnBwd1RefIdeal.nD Cert.AttnBwd1RefIdeal.τ).loc Cert.AttnBwd1RefIdeal.main_arg5))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v14) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)) →
    ∃ (v0 : (c : Dev Cert.Norm2Ideal.nD) → Buf (Elt Ideal) ((c.tc : Thread Cert.Norm2Ideal.nD Cert.Norm2Ideal.τ).loc Cert.Norm2Ideal.main_v0)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0) = v0 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v14) = v0 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v37) = v0 c
          ∧ r.2.mem ((c.tc : Thread Cert.Norm1BwdRefIdeal.nD Cert.Norm1BwdRefIdeal.τ).loc Cert.Norm1BwdRefIdeal.main_v38) = v1 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v51) = v0 c
          ∧ r.2.mem ((c.tc : Thread Cert.FinalLossRefIdeal.nD Cert.FinalLossRefIdeal.τ).loc Cert.FinalLossRefIdeal.main_v53) = v1 c
          ∧ r.2.mem ((c.tc : Thread Cert.FinalLossRefIdeal.nD Cert.FinalLossRefIdeal.τ).loc Cert.FinalLossRefIdeal.main_v54) = v2 c
          ∧ r.2.mem ((c.tc : Thread Cert.FinalLossRefIdeal.nD Cert.FinalLossRefIdeal.τ).loc Cert.FinalLossRefIdeal.main_v52) = v3 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_GWGate_GWGateIdeal : Prop :=
  True

def algebraic_GWGateIdeal_GWGateRefIdeal [hGWGateIdeal : Cert.GWGateIdeal.Facts] [hGWGateRefIdeal : Cert.GWGateRefIdeal.Facts] : Prop :=
  ∀ (m : (ℓ : Loc Cert.GWGateIdeal.nD Cert.GWGateIdeal.τ Cert.GWGateIdeal.sig) → Buf (Elt Ideal) ℓ) (g : Dev Cert.GWGateIdeal.nD → PrngReg)
    (m' : (ℓ : Loc Cert.GWGateRefIdeal.nD Cert.GWGateRefIdeal.τ Cert.GWGateRefIdeal.sig) → Buf (Elt Ideal) ℓ) (g' : Dev Cert.GWGateRefIdeal.nD → PrngReg), Pre_GWGateIdeal m →
    (∀ c : Dev Cert.GWGateIdeal.nD,
      m' ((c.tc : Thread Cert.GWGateRefIdeal.nD Cert.GWGateRefIdeal.τ).loc Cert.GWGateRefIdeal.main_arg0) = m ((c.tc : Thread Cert.GWGateIdeal.nD Cert.GWGateIdeal.τ).loc Cert.GWGateIdeal.main_arg0)
      ∧ m' ((c.tc : Thread Cert.GWGateRefIdeal.nD Cert.GWGateRefIdeal.τ).loc Cert.GWGateRefIdeal.main_arg1) = m ((c.tc : Thread Cert.GWGateIdeal.nD Cert.GWGateIdeal.τ).loc Cert.GWGateIdeal.main_arg1)) →
    ∃ (v0 : (c : Dev Cert.GWGateIdeal.nD) → Buf (Elt Ideal) ((c.tc : Thread Cert.GWGateIdeal.nD Cert.GWGateIdeal.τ).loc Cert.GWGateIdeal.main_v2)),
      θ_run (Cert.GWGateIdeal.defs (F := Ideal)) (onTc (τ := Cert.GWGateIdeal.τ) (Cert.GWGateIdeal.main (F := Ideal))) ⟨m, fun _ => 0, g⟩ (fun r => ∀ c : Dev Cert.GWGateIdeal.nD,
          r.2.mem ((c.tc : Thread Cert.GWGateIdeal.nD Cert.GWGateIdeal.τ).loc Cert.GWGateIdeal.main_v2) = v0 c
          ∧ r.2.mem ((c.tc : Thread Cert.GWGateIdeal.nD Cert.GWGateIdeal.τ).loc Cert.GWGateIdeal.main_arg0) = m ((c.tc : Thread Cert.GWGateIdeal.nD Cert.GWGateIdeal.τ).loc Cert.GWGateIdeal.main_arg0)
          ∧ r.2.mem ((c.tc : Thread Cert.GWGateIdeal.nD Cert.GWGateIdeal.τ).loc Cert.GWGateIdeal.main_arg1) = m ((c.tc : Thread Cert.GWGateIdeal.nD Cert.GWGateIdeal.τ).loc Cert.GWGateIdeal.main_arg1))
      ∧ θ_run (Cert.GWGateRefIdeal.defs (F := Ideal)) (onTc (τ := Cert.GWGateRefIdeal.τ) (Cert.GWGateRefIdeal.main (F := Ideal))) ⟨m', fun _ => 0, g'⟩ (fun r => ∀ c : Dev Cert.GWGateRefIdeal.nD,
          r.2.mem ((c.tc : Thread Cert.GWGateRefIdeal.nD Cert.GWGateRefIdeal.τ).loc Cert.GWGateRefIdeal.main_v4) = v0 c
          ∧ r.2.mem ((c.tc : Thread Cert.GWGateRefIdeal.nD Cert.GWGateRefIdeal.τ).loc Cert.GWGateRefIdeal.main_arg0) = m' ((c.tc : Thread Cert.GWGateRefIdeal.nD Cert.GWGateRefIdeal.τ).loc Cert.GWGateRefIdeal.main_arg0)
          ∧ r.2.mem ((c.tc : Thread Cert.GWGateRefIdeal.nD Cert.GWGateRefIdeal.τ).loc Cert.GWGateRefIdeal.main_arg1) = m' ((c.tc : Thread Cert.GWGateRefIdeal.nD Cert.GWGateRefIdeal.τ).loc Cert.GWGateRefIdeal.main_arg1))

def preserves_GWUp_GWUpIdeal : Prop :=
  True

def algebraic_GWUpIdeal_GWUpRefIdeal [hGWUpIdeal : Cert.GWUpIdeal.Facts] [hGWUpRefIdeal : Cert.GWUpRefIdeal.Facts] : Prop :=
  ∀ (m : (ℓ : Loc Cert.GWUpIdeal.nD Cert.GWUpIdeal.τ Cert.GWUpIdeal.sig) → Buf (Elt Ideal) ℓ) (g : Dev Cert.GWUpIdeal.nD → PrngReg)
    (m' : (ℓ : Loc Cert.GWUpRefIdeal.nD Cert.GWUpRefIdeal.τ Cert.GWUpRefIdeal.sig) → Buf (Elt Ideal) ℓ) (g' : Dev Cert.GWUpRefIdeal.nD → PrngReg), Pre_GWUpIdeal m →
    (∀ c : Dev Cert.GWUpIdeal.nD,
      m' ((c.tc : Thread Cert.GWUpRefIdeal.nD Cert.GWUpRefIdeal.τ).loc Cert.GWUpRefIdeal.main_arg0) = m ((c.tc : Thread Cert.GWUpIdeal.nD Cert.GWUpIdeal.τ).loc Cert.GWUpIdeal.main_arg0)
      ∧ m' ((c.tc : Thread Cert.GWUpRefIdeal.nD Cert.GWUpRefIdeal.τ).loc Cert.GWUpRefIdeal.main_arg1) = m ((c.tc : Thread Cert.GWUpIdeal.nD Cert.GWUpIdeal.τ).loc Cert.GWUpIdeal.main_arg1)) →
    ∃ (v0 : (c : Dev Cert.GWUpIdeal.nD) → Buf (Elt Ideal) ((c.tc : Thread Cert.GWUpIdeal.nD Cert.GWUpIdeal.τ).loc Cert.GWUpIdeal.main_v2)),
      θ_run (Cert.GWUpIdeal.defs (F := Ideal)) (onTc (τ := Cert.GWUpIdeal.τ) (Cert.GWUpIdeal.main (F := Ideal))) ⟨m, fun _ => 0, g⟩ (fun r => ∀ c : Dev Cert.GWUpIdeal.nD,
          r.2.mem ((c.tc : Thread Cert.GWUpIdeal.nD Cert.GWUpIdeal.τ).loc Cert.GWUpIdeal.main_v2) = v0 c
          ∧ r.2.mem ((c.tc : Thread Cert.GWUpIdeal.nD Cert.GWUpIdeal.τ).loc Cert.GWUpIdeal.main_arg0) = m ((c.tc : Thread Cert.GWUpIdeal.nD Cert.GWUpIdeal.τ).loc Cert.GWUpIdeal.main_arg0)
          ∧ r.2.mem ((c.tc : Thread Cert.GWUpIdeal.nD Cert.GWUpIdeal.τ).loc Cert.GWUpIdeal.main_arg1) = m ((c.tc : Thread Cert.GWUpIdeal.nD Cert.GWUpIdeal.τ).loc Cert.GWUpIdeal.main_arg1))
      ∧ θ_run (Cert.GWUpRefIdeal.defs (F := Ideal)) (onTc (τ := Cert.GWUpRefIdeal.τ) (Cert.GWUpRefIdeal.main (F := Ideal))) ⟨m', fun _ => 0, g'⟩ (fun r => ∀ c : Dev Cert.GWUpRefIdeal.nD,
          r.2.mem ((c.tc : Thread Cert.GWUpRefIdeal.nD Cert.GWUpRefIdeal.τ).loc Cert.GWUpRefIdeal.main_v4) = v0 c
          ∧ r.2.mem ((c.tc : Thread Cert.GWUpRefIdeal.nD Cert.GWUpRefIdeal.τ).loc Cert.GWUpRefIdeal.main_arg0) = m' ((c.tc : Thread Cert.GWUpRefIdeal.nD Cert.GWUpRefIdeal.τ).loc Cert.GWUpRefIdeal.main_arg0)
          ∧ r.2.mem ((c.tc : Thread Cert.GWUpRefIdeal.nD Cert.GWUpRefIdeal.τ).loc Cert.GWUpRefIdeal.main_arg1) = m' ((c.tc : Thread Cert.GWUpRefIdeal.nD Cert.GWUpRefIdeal.τ).loc Cert.GWUpRefIdeal.main_arg1))

def preserves_GWDown_GWDownIdeal : Prop :=
  True

def algebraic_GWDownIdeal_GWDownRefIdeal [hGWDownIdeal : Cert.GWDownIdeal.Facts] [hGWDownRefIdeal : Cert.GWDownRefIdeal.Facts] : Prop :=
  ∀ (m : (ℓ : Loc Cert.GWDownIdeal.nD Cert.GWDownIdeal.τ Cert.GWDownIdeal.sig) → Buf (Elt Ideal) ℓ) (g : Dev Cert.GWDownIdeal.nD → PrngReg)
    (m' : (ℓ : Loc Cert.GWDownRefIdeal.nD Cert.GWDownRefIdeal.τ Cert.GWDownRefIdeal.sig) → Buf (Elt Ideal) ℓ) (g' : Dev Cert.GWDownRefIdeal.nD → PrngReg), Pre_GWDownIdeal m →
    (∀ c : Dev Cert.GWDownIdeal.nD,
      m' ((c.tc : Thread Cert.GWDownRefIdeal.nD Cert.GWDownRefIdeal.τ).loc Cert.GWDownRefIdeal.main_arg0) = m ((c.tc : Thread Cert.GWDownIdeal.nD Cert.GWDownIdeal.τ).loc Cert.GWDownIdeal.main_arg0)
      ∧ m' ((c.tc : Thread Cert.GWDownRefIdeal.nD Cert.GWDownRefIdeal.τ).loc Cert.GWDownRefIdeal.main_arg1) = m ((c.tc : Thread Cert.GWDownIdeal.nD Cert.GWDownIdeal.τ).loc Cert.GWDownIdeal.main_arg1)) →
    ∃ (v0 : (c : Dev Cert.GWDownIdeal.nD) → Buf (Elt Ideal) ((c.tc : Thread Cert.GWDownIdeal.nD Cert.GWDownIdeal.τ).loc Cert.GWDownIdeal.main_v2)),
      θ_run (Cert.GWDownIdeal.defs (F := Ideal)) (onTc (τ := Cert.GWDownIdeal.τ) (Cert.GWDownIdeal.main (F := Ideal))) ⟨m, fun _ => 0, g⟩ (fun r => ∀ c : Dev Cert.GWDownIdeal.nD,
          r.2.mem ((c.tc : Thread Cert.GWDownIdeal.nD Cert.GWDownIdeal.τ).loc Cert.GWDownIdeal.main_v2) = v0 c
          ∧ r.2.mem ((c.tc : Thread Cert.GWDownIdeal.nD Cert.GWDownIdeal.τ).loc Cert.GWDownIdeal.main_arg0) = m ((c.tc : Thread Cert.GWDownIdeal.nD Cert.GWDownIdeal.τ).loc Cert.GWDownIdeal.main_arg0)
          ∧ r.2.mem ((c.tc : Thread Cert.GWDownIdeal.nD Cert.GWDownIdeal.τ).loc Cert.GWDownIdeal.main_arg1) = m ((c.tc : Thread Cert.GWDownIdeal.nD Cert.GWDownIdeal.τ).loc Cert.GWDownIdeal.main_arg1))
      ∧ θ_run (Cert.GWDownRefIdeal.defs (F := Ideal)) (onTc (τ := Cert.GWDownRefIdeal.τ) (Cert.GWDownRefIdeal.main (F := Ideal))) ⟨m', fun _ => 0, g'⟩ (fun r => ∀ c : Dev Cert.GWDownRefIdeal.nD,
          r.2.mem ((c.tc : Thread Cert.GWDownRefIdeal.nD Cert.GWDownRefIdeal.τ).loc Cert.GWDownRefIdeal.main_v4) = v0 c
          ∧ r.2.mem ((c.tc : Thread Cert.GWDownRefIdeal.nD Cert.GWDownRefIdeal.τ).loc Cert.GWDownRefIdeal.main_arg0) = m' ((c.tc : Thread Cert.GWDownRefIdeal.nD Cert.GWDownRefIdeal.τ).loc Cert.GWDownRefIdeal.main_arg0)
          ∧ r.2.mem ((c.tc : Thread Cert.GWDownRefIdeal.nD Cert.GWDownRefIdeal.τ).loc Cert.GWDownRefIdeal.main_arg1) = m' ((c.tc : Thread Cert.GWDownRefIdeal.nD Cert.GWDownRefIdeal.τ).loc Cert.GWDownRefIdeal.main_arg1))

def preserves_DN2Gate_DN2GateIdeal : Prop :=
  True

def algebraic_DN2GateIdeal_DN2GateRefIdeal [hDN2GateIdeal : Cert.DN2GateIdeal.Facts] [hDN2GateRefIdeal : Cert.DN2GateRefIdeal.Facts] : Prop :=
  ∀ (m : (ℓ : Loc Cert.DN2GateIdeal.nD Cert.DN2GateIdeal.τ Cert.DN2GateIdeal.sig) → Buf (Elt Ideal) ℓ) (g : Dev Cert.DN2GateIdeal.nD → PrngReg)
    (m' : (ℓ : Loc Cert.DN2GateRefIdeal.nD Cert.DN2GateRefIdeal.τ Cert.DN2GateRefIdeal.sig) → Buf (Elt Ideal) ℓ) (g' : Dev Cert.DN2GateRefIdeal.nD → PrngReg), Pre_DN2GateIdeal m →
    (∀ c : Dev Cert.DN2GateIdeal.nD,
      m' ((c.tc : Thread Cert.DN2GateRefIdeal.nD Cert.DN2GateRefIdeal.τ).loc Cert.DN2GateRefIdeal.main_arg0) = m ((c.tc : Thread Cert.DN2GateIdeal.nD Cert.DN2GateIdeal.τ).loc Cert.DN2GateIdeal.main_arg0)
      ∧ m' ((c.tc : Thread Cert.DN2GateRefIdeal.nD Cert.DN2GateRefIdeal.τ).loc Cert.DN2GateRefIdeal.main_arg1) = m ((c.tc : Thread Cert.DN2GateIdeal.nD Cert.DN2GateIdeal.τ).loc Cert.DN2GateIdeal.main_arg1)) →
    ∃ (v0 : (c : Dev Cert.DN2GateIdeal.nD) → Buf (Elt Ideal) ((c.tc : Thread Cert.DN2GateIdeal.nD Cert.DN2GateIdeal.τ).loc Cert.DN2GateIdeal.main_v2)),
      θ_run (Cert.DN2GateIdeal.defs (F := Ideal)) (onTc (τ := Cert.DN2GateIdeal.τ) (Cert.DN2GateIdeal.main (F := Ideal))) ⟨m, fun _ => 0, g⟩ (fun r => ∀ c : Dev Cert.DN2GateIdeal.nD,
          r.2.mem ((c.tc : Thread Cert.DN2GateIdeal.nD Cert.DN2GateIdeal.τ).loc Cert.DN2GateIdeal.main_v2) = v0 c
          ∧ r.2.mem ((c.tc : Thread Cert.DN2GateIdeal.nD Cert.DN2GateIdeal.τ).loc Cert.DN2GateIdeal.main_arg0) = m ((c.tc : Thread Cert.DN2GateIdeal.nD Cert.DN2GateIdeal.τ).loc Cert.DN2GateIdeal.main_arg0)
          ∧ r.2.mem ((c.tc : Thread Cert.DN2GateIdeal.nD Cert.DN2GateIdeal.τ).loc Cert.DN2GateIdeal.main_arg1) = m ((c.tc : Thread Cert.DN2GateIdeal.nD Cert.DN2GateIdeal.τ).loc Cert.DN2GateIdeal.main_arg1))
      ∧ θ_run (Cert.DN2GateRefIdeal.defs (F := Ideal)) (onTc (τ := Cert.DN2GateRefIdeal.τ) (Cert.DN2GateRefIdeal.main (F := Ideal))) ⟨m', fun _ => 0, g'⟩ (fun r => ∀ c : Dev Cert.DN2GateRefIdeal.nD,
          r.2.mem ((c.tc : Thread Cert.DN2GateRefIdeal.nD Cert.DN2GateRefIdeal.τ).loc Cert.DN2GateRefIdeal.main_v2) = v0 c
          ∧ r.2.mem ((c.tc : Thread Cert.DN2GateRefIdeal.nD Cert.DN2GateRefIdeal.τ).loc Cert.DN2GateRefIdeal.main_arg0) = m' ((c.tc : Thread Cert.DN2GateRefIdeal.nD Cert.DN2GateRefIdeal.τ).loc Cert.DN2GateRefIdeal.main_arg0)
          ∧ r.2.mem ((c.tc : Thread Cert.DN2GateRefIdeal.nD Cert.DN2GateRefIdeal.τ).loc Cert.DN2GateRefIdeal.main_arg1) = m' ((c.tc : Thread Cert.DN2GateRefIdeal.nD Cert.DN2GateRefIdeal.τ).loc Cert.DN2GateRefIdeal.main_arg1))

def preserves_DN2Up_DN2UpIdeal : Prop :=
  True

def algebraic_DN2UpIdeal_DN2UpRefIdeal [hDN2UpIdeal : Cert.DN2UpIdeal.Facts] [hDN2UpRefIdeal : Cert.DN2UpRefIdeal.Facts] : Prop :=
  ∀ (m : (ℓ : Loc Cert.DN2UpIdeal.nD Cert.DN2UpIdeal.τ Cert.DN2UpIdeal.sig) → Buf (Elt Ideal) ℓ) (g : Dev Cert.DN2UpIdeal.nD → PrngReg)
    (m' : (ℓ : Loc Cert.DN2UpRefIdeal.nD Cert.DN2UpRefIdeal.τ Cert.DN2UpRefIdeal.sig) → Buf (Elt Ideal) ℓ) (g' : Dev Cert.DN2UpRefIdeal.nD → PrngReg), Pre_DN2UpIdeal m →
    (∀ c : Dev Cert.DN2UpIdeal.nD,
      m' ((c.tc : Thread Cert.DN2UpRefIdeal.nD Cert.DN2UpRefIdeal.τ).loc Cert.DN2UpRefIdeal.main_arg0) = m ((c.tc : Thread Cert.DN2UpIdeal.nD Cert.DN2UpIdeal.τ).loc Cert.DN2UpIdeal.main_arg0)
      ∧ m' ((c.tc : Thread Cert.DN2UpRefIdeal.nD Cert.DN2UpRefIdeal.τ).loc Cert.DN2UpRefIdeal.main_arg1) = m ((c.tc : Thread Cert.DN2UpIdeal.nD Cert.DN2UpIdeal.τ).loc Cert.DN2UpIdeal.main_arg1)
      ∧ m' ((c.tc : Thread Cert.DN2UpRefIdeal.nD Cert.DN2UpRefIdeal.τ).loc Cert.DN2UpRefIdeal.main_arg2) = m ((c.tc : Thread Cert.DN2UpIdeal.nD Cert.DN2UpIdeal.τ).loc Cert.DN2UpIdeal.main_arg2)) →
    ∃ (v0 : (c : Dev Cert.DN2UpIdeal.nD) → Buf (Elt Ideal) ((c.tc : Thread Cert.DN2UpIdeal.nD Cert.DN2UpIdeal.τ).loc Cert.DN2UpIdeal.main_v2)),
      θ_run (Cert.DN2UpIdeal.defs (F := Ideal)) (onTc (τ := Cert.DN2UpIdeal.τ) (Cert.DN2UpIdeal.main (F := Ideal))) ⟨m, fun _ => 0, g⟩ (fun r => ∀ c : Dev Cert.DN2UpIdeal.nD,
          r.2.mem ((c.tc : Thread Cert.DN2UpIdeal.nD Cert.DN2UpIdeal.τ).loc Cert.DN2UpIdeal.main_v2) = v0 c
          ∧ r.2.mem ((c.tc : Thread Cert.DN2UpIdeal.nD Cert.DN2UpIdeal.τ).loc Cert.DN2UpIdeal.main_arg0) = m ((c.tc : Thread Cert.DN2UpIdeal.nD Cert.DN2UpIdeal.τ).loc Cert.DN2UpIdeal.main_arg0)
          ∧ r.2.mem ((c.tc : Thread Cert.DN2UpIdeal.nD Cert.DN2UpIdeal.τ).loc Cert.DN2UpIdeal.main_arg1) = m ((c.tc : Thread Cert.DN2UpIdeal.nD Cert.DN2UpIdeal.τ).loc Cert.DN2UpIdeal.main_arg1)
          ∧ r.2.mem ((c.tc : Thread Cert.DN2UpIdeal.nD Cert.DN2UpIdeal.τ).loc Cert.DN2UpIdeal.main_arg2) = m ((c.tc : Thread Cert.DN2UpIdeal.nD Cert.DN2UpIdeal.τ).loc Cert.DN2UpIdeal.main_arg2))
      ∧ θ_run (Cert.DN2UpRefIdeal.defs (F := Ideal)) (onTc (τ := Cert.DN2UpRefIdeal.τ) (Cert.DN2UpRefIdeal.main (F := Ideal))) ⟨m', fun _ => 0, g'⟩ (fun r => ∀ c : Dev Cert.DN2UpRefIdeal.nD,
          r.2.mem ((c.tc : Thread Cert.DN2UpRefIdeal.nD Cert.DN2UpRefIdeal.τ).loc Cert.DN2UpRefIdeal.main_v3) = v0 c
          ∧ r.2.mem ((c.tc : Thread Cert.DN2UpRefIdeal.nD Cert.DN2UpRefIdeal.τ).loc Cert.DN2UpRefIdeal.main_arg0) = m' ((c.tc : Thread Cert.DN2UpRefIdeal.nD Cert.DN2UpRefIdeal.τ).loc Cert.DN2UpRefIdeal.main_arg0)
          ∧ r.2.mem ((c.tc : Thread Cert.DN2UpRefIdeal.nD Cert.DN2UpRefIdeal.τ).loc Cert.DN2UpRefIdeal.main_arg1) = m' ((c.tc : Thread Cert.DN2UpRefIdeal.nD Cert.DN2UpRefIdeal.τ).loc Cert.DN2UpRefIdeal.main_arg1)
          ∧ r.2.mem ((c.tc : Thread Cert.DN2UpRefIdeal.nD Cert.DN2UpRefIdeal.τ).loc Cert.DN2UpRefIdeal.main_arg2) = m' ((c.tc : Thread Cert.DN2UpRefIdeal.nD Cert.DN2UpRefIdeal.τ).loc Cert.DN2UpRefIdeal.main_arg2))

def preserves_GWIn_GWInIdeal : Prop :=
  True

def algebraic_GWInIdeal_GWInRefIdeal [hGWInIdeal : Cert.GWInIdeal.Facts] [hGWInRefIdeal : Cert.GWInRefIdeal.Facts] : Prop :=
  ∀ (m : (ℓ : Loc Cert.GWInIdeal.nD Cert.GWInIdeal.τ Cert.GWInIdeal.sig) → Buf (Elt Ideal) ℓ) (g : Dev Cert.GWInIdeal.nD → PrngReg)
    (m' : (ℓ : Loc Cert.GWInRefIdeal.nD Cert.GWInRefIdeal.τ Cert.GWInRefIdeal.sig) → Buf (Elt Ideal) ℓ) (g' : Dev Cert.GWInRefIdeal.nD → PrngReg), Pre_GWInIdeal m →
    (∀ c : Dev Cert.GWInIdeal.nD,
      m' ((c.tc : Thread Cert.GWInRefIdeal.nD Cert.GWInRefIdeal.τ).loc Cert.GWInRefIdeal.main_arg0) = m ((c.tc : Thread Cert.GWInIdeal.nD Cert.GWInIdeal.τ).loc Cert.GWInIdeal.main_arg0)
      ∧ m' ((c.tc : Thread Cert.GWInRefIdeal.nD Cert.GWInRefIdeal.τ).loc Cert.GWInRefIdeal.main_arg1) = m ((c.tc : Thread Cert.GWInIdeal.nD Cert.GWInIdeal.τ).loc Cert.GWInIdeal.main_arg1)) →
    ∃ (v0 : (c : Dev Cert.GWInIdeal.nD) → Buf (Elt Ideal) ((c.tc : Thread Cert.GWInIdeal.nD Cert.GWInIdeal.τ).loc Cert.GWInIdeal.main_v2)),
      θ_run (Cert.GWInIdeal.defs (F := Ideal)) (onTc (τ := Cert.GWInIdeal.τ) (Cert.GWInIdeal.main (F := Ideal))) ⟨m, fun _ => 0, g⟩ (fun r => ∀ c : Dev Cert.GWInIdeal.nD,
          r.2.mem ((c.tc : Thread Cert.GWInIdeal.nD Cert.GWInIdeal.τ).loc Cert.GWInIdeal.main_v2) = v0 c
          ∧ r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
          ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ θ_run (Cert.GWInRefIdeal.defs (F := Ideal)) (onTc (τ := Cert.GWInRefIdeal.τ) (Cert.GWInRefIdeal.main (F := Ideal))) ⟨m', fun _ => 0, g'⟩ (fun r => ∀ c : Dev Cert.GWInRefIdeal.nD,
          r.2.mem ((c.tc : Thread Cert.GWInRefIdeal.nD Cert.GWInRefIdeal.τ).loc Cert.GWInRefIdeal.main_v4) = v0 c
          ∧ r.2.mem ((c.tc : Thread Cert.GWInRefIdeal.nD Cert.GWInRefIdeal.τ).loc Cert.GWInRefIdeal.main_arg0) = m' ((c.tc : Thread Cert.GWInRefIdeal.nD Cert.GWInRefIdeal.τ).loc Cert.GWInRefIdeal.main_arg0)
          ∧ r.2.mem ((c.tc : Thread Cert.GWInRefIdeal.nD Cert.GWInRefIdeal.τ).loc Cert.GWInRefIdeal.main_arg1) = m' ((c.tc : Thread Cert.GWInRefIdeal.nD Cert.GWInRefIdeal.τ).loc Cert.GWInRefIdeal.main_arg1))

def preserves_DN1_DN1Ideal : Prop :=
  True

def algebraic_DN1Ideal_DN1RefIdeal [hDN1Ideal : Cert.DN1Ideal.Facts] [hDN1RefIdeal : Cert.DN1RefIdeal.Facts] : Prop :=
  ∀ (m : (ℓ : Loc Cert.DN1Ideal.nD Cert.DN1Ideal.τ Cert.DN1Ideal.sig) → Buf (Elt Ideal) ℓ) (g : Dev Cert.DN1Ideal.nD → PrngReg)
    (m' : (ℓ : Loc Cert.DN1RefIdeal.nD Cert.DN1RefIdeal.τ Cert.DN1RefIdeal.sig) → Buf (Elt Ideal) ℓ) (g' : Dev Cert.DN1RefIdeal.nD → PrngReg), Pre_DN1Ideal m →
    (∀ c : Dev Cert.DN1Ideal.nD,
      m' ((c.tc : Thread Cert.DN1RefIdeal.nD Cert.DN1RefIdeal.τ).loc Cert.DN1RefIdeal.main_arg0) = m ((c.tc : Thread Cert.DN1Ideal.nD Cert.DN1Ideal.τ).loc Cert.DN1Ideal.main_arg0)
      ∧ m' ((c.tc : Thread Cert.DN1RefIdeal.nD Cert.DN1RefIdeal.τ).loc Cert.DN1RefIdeal.main_arg1) = m ((c.tc : Thread Cert.DN1Ideal.nD Cert.DN1Ideal.τ).loc Cert.DN1Ideal.main_arg1)) →
    ∃ (v0 : (c : Dev Cert.DN1Ideal.nD) → Buf (Elt Ideal) ((c.tc : Thread Cert.DN1Ideal.nD Cert.DN1Ideal.τ).loc Cert.DN1Ideal.main_v2)),
      θ_run (Cert.DN1Ideal.defs (F := Ideal)) (onTc (τ := Cert.DN1Ideal.τ) (Cert.DN1Ideal.main (F := Ideal))) ⟨m, fun _ => 0, g⟩ (fun r => ∀ c : Dev Cert.DN1Ideal.nD,
          r.2.mem ((c.tc : Thread Cert.DN1Ideal.nD Cert.DN1Ideal.τ).loc Cert.DN1Ideal.main_v2) = v0 c
          ∧ r.2.mem ((c.tc : Thread Cert.DN1Ideal.nD Cert.DN1Ideal.τ).loc Cert.DN1Ideal.main_arg0) = m ((c.tc : Thread Cert.DN1Ideal.nD Cert.DN1Ideal.τ).loc Cert.DN1Ideal.main_arg0)
          ∧ r.2.mem ((c.tc : Thread Cert.DN1Ideal.nD Cert.DN1Ideal.τ).loc Cert.DN1Ideal.main_arg1) = m ((c.tc : Thread Cert.DN1Ideal.nD Cert.DN1Ideal.τ).loc Cert.DN1Ideal.main_arg1))
      ∧ θ_run (Cert.DN1RefIdeal.defs (F := Ideal)) (onTc (τ := Cert.DN1RefIdeal.τ) (Cert.DN1RefIdeal.main (F := Ideal))) ⟨m', fun _ => 0, g'⟩ (fun r => ∀ c : Dev Cert.DN1RefIdeal.nD,
          r.2.mem ((c.tc : Thread Cert.DN1RefIdeal.nD Cert.DN1RefIdeal.τ).loc Cert.DN1RefIdeal.main_v2) = v0 c
          ∧ r.2.mem ((c.tc : Thread Cert.DN1RefIdeal.nD Cert.DN1RefIdeal.τ).loc Cert.DN1RefIdeal.main_arg0) = m' ((c.tc : Thread Cert.DN1RefIdeal.nD Cert.DN1RefIdeal.τ).loc Cert.DN1RefIdeal.main_arg0)
          ∧ r.2.mem ((c.tc : Thread Cert.DN1RefIdeal.nD Cert.DN1RefIdeal.τ).loc Cert.DN1RefIdeal.main_arg1) = m' ((c.tc : Thread Cert.DN1RefIdeal.nD Cert.DN1RefIdeal.τ).loc Cert.DN1RefIdeal.main_arg1))

def preserves_GWOut_GWOutIdeal : Prop :=
  True

def algebraic_GWOutIdeal_GWOutRefIdeal [hGWOutIdeal : Cert.GWOutIdeal.Facts] [hGWOutRefIdeal : Cert.GWOutRefIdeal.Facts] : Prop :=
  ∀ (m : (ℓ : Loc Cert.GWOutIdeal.nD Cert.GWOutIdeal.τ Cert.GWOutIdeal.sig) → Buf (Elt Ideal) ℓ) (g : Dev Cert.GWOutIdeal.nD → PrngReg)
    (m' : (ℓ : Loc Cert.GWOutRefIdeal.nD Cert.GWOutRefIdeal.τ Cert.GWOutRefIdeal.sig) → Buf (Elt Ideal) ℓ) (g' : Dev Cert.GWOutRefIdeal.nD → PrngReg), Pre_GWOutIdeal m →
    (∀ c : Dev Cert.GWOutIdeal.nD,
      m' ((c.tc : Thread Cert.GWOutRefIdeal.nD Cert.GWOutRefIdeal.τ).loc Cert.GWOutRefIdeal.main_arg0) = m ((c.tc : Thread Cert.GWOutIdeal.nD Cert.GWOutIdeal.τ).loc Cert.GWOutIdeal.main_arg0)
      ∧ m' ((c.tc : Thread Cert.GWOutRefIdeal.nD Cert.GWOutRefIdeal.τ).loc Cert.GWOutRefIdeal.main_arg1) = m ((c.tc : Thread Cert.GWOutIdeal.nD Cert.GWOutIdeal.τ).loc Cert.GWOutIdeal.main_arg1)) →
    ∃ (v0 : (c : Dev Cert.GWOutIdeal.nD) → Buf (Elt Ideal) ((c.tc : Thread Cert.GWOutIdeal.nD Cert.GWOutIdeal.τ).loc Cert.GWOutIdeal.main_v2)),
      θ_run (Cert.GWOutIdeal.defs (F := Ideal)) (onTc (τ := Cert.GWOutIdeal.τ) (Cert.GWOutIdeal.main (F := Ideal))) ⟨m, fun _ => 0, g⟩ (fun r => ∀ c : Dev Cert.GWOutIdeal.nD,
          r.2.mem ((c.tc : Thread Cert.GWOutIdeal.nD Cert.GWOutIdeal.τ).loc Cert.GWOutIdeal.main_v2) = v0 c
          ∧ r.2.mem ((c.tc : Thread Cert.GWOutIdeal.nD Cert.GWOutIdeal.τ).loc Cert.GWOutIdeal.main_arg0) = m ((c.tc : Thread Cert.GWOutIdeal.nD Cert.GWOutIdeal.τ).loc Cert.GWOutIdeal.main_arg0)
          ∧ r.2.mem ((c.tc : Thread Cert.GWOutIdeal.nD Cert.GWOutIdeal.τ).loc Cert.GWOutIdeal.main_arg1) = m ((c.tc : Thread Cert.GWOutIdeal.nD Cert.GWOutIdeal.τ).loc Cert.GWOutIdeal.main_arg1))
      ∧ θ_run (Cert.GWOutRefIdeal.defs (F := Ideal)) (onTc (τ := Cert.GWOutRefIdeal.τ) (Cert.GWOutRefIdeal.main (F := Ideal))) ⟨m', fun _ => 0, g'⟩ (fun r => ∀ c : Dev Cert.GWOutRefIdeal.nD,
          r.2.mem ((c.tc : Thread Cert.GWOutRefIdeal.nD Cert.GWOutRefIdeal.τ).loc Cert.GWOutRefIdeal.main_v4) = v0 c
          ∧ r.2.mem ((c.tc : Thread Cert.GWOutRefIdeal.nD Cert.GWOutRefIdeal.τ).loc Cert.GWOutRefIdeal.main_arg0) = m' ((c.tc : Thread Cert.GWOutRefIdeal.nD Cert.GWOutRefIdeal.τ).loc Cert.GWOutRefIdeal.main_arg0)
          ∧ r.2.mem ((c.tc : Thread Cert.GWOutRefIdeal.nD Cert.GWOutRefIdeal.τ).loc Cert.GWOutRefIdeal.main_arg1) = m' ((c.tc : Thread Cert.GWOutRefIdeal.nD Cert.GWOutRefIdeal.τ).loc Cert.GWOutRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v2)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v2) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v2) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def Claim : Prop :=
  ∃ (hFfnMid : Cert.FfnMid.Facts) (hFfnMidIdeal : Cert.FfnMidIdeal.Facts) (hFfnMidRefIdeal : Cert.FfnMidRefIdeal.Facts) (hFfnIn : Cert.FfnIn.Facts) (hFfnInIdeal : Cert.FfnInIdeal.Facts) (hFfnInRefIdeal : Cert.FfnInRefIdeal.Facts) (hRmsBwd : Cert.RmsBwd.Facts) (hRmsBwdIdeal : Cert.RmsBwdIdeal.Facts) (hRmsBwdRefIdeal : Cert.RmsBwdRefIdeal.Facts) (hAttnBwd : Cert.AttnBwd.Facts) (hAttnBwdIdeal : Cert.AttnBwdIdeal.Facts) (hAttnBwdRefIdeal : Cert.AttnBwdRefIdeal.Facts) (hAttnBwd4 : Cert.AttnBwd4.Facts) (hAttnBwd4Ideal : Cert.AttnBwd4Ideal.Facts) (hAttnBwd4RefIdeal : Cert.AttnBwd4RefIdeal.Facts) (hAttnBwd1 : Cert.AttnBwd1.Facts) (hAttnBwd1Ideal : Cert.AttnBwd1Ideal.Facts) (hAttnBwd1RefIdeal : Cert.AttnBwd1RefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hNorm1Bwd : Cert.Norm1Bwd.Facts) (hNorm1BwdIdeal : Cert.Norm1BwdIdeal.Facts) (hNorm1BwdRefIdeal : Cert.Norm1BwdRefIdeal.Facts) (hFinalLoss : Cert.FinalLoss.Facts) (hFinalLossIdeal : Cert.FinalLossIdeal.Facts) (hFinalLossRefIdeal : Cert.FinalLossRefIdeal.Facts) (hGWGate : Cert.GWGate.Facts) (hGWGateIdeal : Cert.GWGateIdeal.Facts) (hGWGateRefIdeal : Cert.GWGateRefIdeal.Facts) (hGWUp : Cert.GWUp.Facts) (hGWUpIdeal : Cert.GWUpIdeal.Facts) (hGWUpRefIdeal : Cert.GWUpRefIdeal.Facts) (hGWDown : Cert.GWDown.Facts) (hGWDownIdeal : Cert.GWDownIdeal.Facts) (hGWDownRefIdeal : Cert.GWDownRefIdeal.Facts) (hDN2Gate : Cert.DN2Gate.Facts) (hDN2GateIdeal : Cert.DN2GateIdeal.Facts) (hDN2GateRefIdeal : Cert.DN2GateRefIdeal.Facts) (hDN2Up : Cert.DN2Up.Facts) (hDN2UpIdeal : Cert.DN2UpIdeal.Facts) (hDN2UpRefIdeal : Cert.DN2UpRefIdeal.Facts) (hGWIn : Cert.GWIn.Facts) (hGWInIdeal : Cert.GWInIdeal.Facts) (hGWInRefIdeal : Cert.GWInRefIdeal.Facts) (hDN1 : Cert.DN1.Facts) (hDN1Ideal : Cert.DN1Ideal.Facts) (hDN1RefIdeal : Cert.DN1RefIdeal.Facts) (hGWOut : Cert.GWOut.Facts) (hGWOutIdeal : Cert.GWOutIdeal.Facts) (hGWOutRefIdeal : Cert.GWOutRefIdeal.Facts) (hDCat : Cert.DCat.Facts) (hDCatIdeal : Cert.DCatIdeal.Facts) (hDCatRefIdeal : Cert.DCatRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hPre_finite_inputs : Cert.Pre_finite_inputs.Facts),
    quiescent_FfnMid (hFfnMid := hFfnMid)
    ∧ quiescent_FfnMidIdeal (hFfnMidIdeal := hFfnMidIdeal)
    ∧ quiescent_FfnMidIdeal_pre_finite_inputs (hFfnMidIdeal := hFfnMidIdeal) (hPre_finite_inputs := hPre_finite_inputs)
    ∧ quiescent_FfnMidRefIdeal (hFfnMidRefIdeal := hFfnMidRefIdeal)
    ∧ quiescent_FfnMidRefIdeal_pre_finite_inputs (hFfnMidRefIdeal := hFfnMidRefIdeal) (hPre_finite_inputs := hPre_finite_inputs)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ quiescent_AttnBwd4 (hAttnBwd4 := hAttnBwd4)
    ∧ quiescent_AttnBwd4Ideal (hAttnBwd4Ideal := hAttnBwd4Ideal)
    ∧ quiescent_AttnBwd4RefIdeal (hAttnBwd4RefIdeal := hAttnBwd4RefIdeal)
    ∧ quiescent_AttnBwd1 (hAttnBwd1 := hAttnBwd1)
    ∧ quiescent_AttnBwd1Ideal (hAttnBwd1Ideal := hAttnBwd1Ideal)
    ∧ quiescent_AttnBwd1RefIdeal (hAttnBwd1RefIdeal := hAttnBwd1RefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_GWGate (hGWGate := hGWGate)
    ∧ quiescent_GWGateIdeal (hGWGateIdeal := hGWGateIdeal)
    ∧ quiescent_GWGateRefIdeal (hGWGateRefIdeal := hGWGateRefIdeal)
    ∧ quiescent_GWUp (hGWUp := hGWUp)
    ∧ quiescent_GWUpIdeal (hGWUpIdeal := hGWUpIdeal)
    ∧ quiescent_GWUpRefIdeal (hGWUpRefIdeal := hGWUpRefIdeal)
    ∧ quiescent_GWDown (hGWDown := hGWDown)
    ∧ quiescent_GWDownIdeal (hGWDownIdeal := hGWDownIdeal)
    ∧ quiescent_GWDownRefIdeal (hGWDownRefIdeal := hGWDownRefIdeal)
    ∧ quiescent_DN2Gate (hDN2Gate := hDN2Gate)
    ∧ quiescent_DN2GateIdeal (hDN2GateIdeal := hDN2GateIdeal)
    ∧ quiescent_DN2GateRefIdeal (hDN2GateRefIdeal := hDN2GateRefIdeal)
    ∧ quiescent_DN2Up (hDN2Up := hDN2Up)
    ∧ quiescent_DN2UpIdeal (hDN2UpIdeal := hDN2UpIdeal)
    ∧ quiescent_DN2UpRefIdeal (hDN2UpRefIdeal := hDN2UpRefIdeal)
    ∧ quiescent_GWIn (hGWIn := hGWIn)
    ∧ quiescent_GWInIdeal (hGWInIdeal := hGWInIdeal)
    ∧ quiescent_GWInRefIdeal (hGWInRefIdeal := hGWInRefIdeal)
    ∧ quiescent_DN1 (hDN1 := hDN1)
    ∧ quiescent_DN1Ideal (hDN1Ideal := hDN1Ideal)
    ∧ quiescent_DN1RefIdeal (hDN1RefIdeal := hDN1RefIdeal)
    ∧ quiescent_GWOut (hGWOut := hGWOut)
    ∧ quiescent_GWOutIdeal (hGWOutIdeal := hGWOutIdeal)
    ∧ quiescent_GWOutRefIdeal (hGWOutRefIdeal := hGWOutRefIdeal)
    ∧ quiescent_DCat (hDCat := hDCat)
    ∧ quiescent_DCatIdeal (hDCatIdeal := hDCatIdeal)
    ∧ quiescent_DCatRefIdeal (hDCatRefIdeal := hDCatRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_FfnMid_FfnMidIdeal
    ∧ algebraic_FfnMidIdeal_FfnMidRefIdeal_pre_finite_inputs (hFfnMidIdeal := hFfnMidIdeal) (hFfnMidRefIdeal := hFfnMidRefIdeal) (hPre_finite_inputs := hPre_finite_inputs)
    ∧ preserves_FfnIn_FfnInIdeal
    ∧ algebraic_FfnInIdeal_FfnInRefIdeal (hFfnInIdeal := hFfnInIdeal) (hFfnInRefIdeal := hFfnInRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_AttnBwd_AttnBwdIdeal
    ∧ algebraic_AttnBwdIdeal_AttnBwdRefIdeal (hAttnBwdIdeal := hAttnBwdIdeal) (hAttnBwdRefIdeal := hAttnBwdRefIdeal)
    ∧ preserves_AttnBwd4_AttnBwd4Ideal
    ∧ algebraic_AttnBwd4Ideal_AttnBwd4RefIdeal (hAttnBwd4Ideal := hAttnBwd4Ideal) (hAttnBwd4RefIdeal := hAttnBwd4RefIdeal)
    ∧ preserves_AttnBwd1_AttnBwd1Ideal
    ∧ algebraic_AttnBwd1Ideal_AttnBwd1RefIdeal (hAttnBwd1Ideal := hAttnBwd1Ideal) (hAttnBwd1RefIdeal := hAttnBwd1RefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_GWGate_GWGateIdeal
    ∧ algebraic_GWGateIdeal_GWGateRefIdeal (hGWGateIdeal := hGWGateIdeal) (hGWGateRefIdeal := hGWGateRefIdeal)
    ∧ preserves_GWUp_GWUpIdeal
    ∧ algebraic_GWUpIdeal_GWUpRefIdeal (hGWUpIdeal := hGWUpIdeal) (hGWUpRefIdeal := hGWUpRefIdeal)
    ∧ preserves_GWDown_GWDownIdeal
    ∧ algebraic_GWDownIdeal_GWDownRefIdeal (hGWDownIdeal := hGWDownIdeal) (hGWDownRefIdeal := hGWDownRefIdeal)
    ∧ preserves_DN2Gate_DN2GateIdeal
    ∧ algebraic_DN2GateIdeal_DN2GateRefIdeal (hDN2GateIdeal := hDN2GateIdeal) (hDN2GateRefIdeal := hDN2GateRefIdeal)
    ∧ preserves_DN2Up_DN2UpIdeal
    ∧ algebraic_DN2UpIdeal_DN2UpRefIdeal (hDN2UpIdeal := hDN2UpIdeal) (hDN2UpRefIdeal := hDN2UpRefIdeal)
    ∧ preserves_GWIn_GWInIdeal
    ∧ algebraic_GWInIdeal_GWInRefIdeal (hGWInIdeal := hGWInIdeal) (hGWInRefIdeal := hGWInRefIdeal)
    ∧ preserves_DN1_DN1Ideal
    ∧ algebraic_DN1Ideal_DN1RefIdeal (hDN1Ideal := hDN1Ideal) (hDN1RefIdeal := hDN1RefIdeal)
    ∧ preserves_GWOut_GWOutIdeal
    ∧ algebraic_GWOutIdeal_GWOutRefIdeal (hGWOutIdeal := hGWOutIdeal) (hGWOutRefIdeal := hGWOutRefIdeal)
    ∧ preserves_DCat_DCatIdeal
    ∧ algebraic_DCatIdeal_DCatRefIdeal (hDCatIdeal := hDCatIdeal) (hDCatRefIdeal := hDCatRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
-- ==== Pre_finite_inputs.lean ====
abbrev S8192x5632 : Shape := ⟨2, ![8192, 5632]⟩
abbrev S3x5632 : Shape := ⟨2, ![3, 5632]⟩
abbrev S1x5632 : Shape := ⟨2, ![1, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S3x5632 .f32) (main_arg3 : FVec F S1x5632 .f32) (main_arg4 : FVec F S5632x2048 .f32) (main_arg5 : FVec F S8192x2048 .f32) : IVec S8192x5632 1 × IVec S5632x2048 1 × IVec S8192x2048 1 :=
  let main_v0 : FVec F S8192x5632 .f32 := Host.absf main_arg1
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S5632x2048 .f32 := Host.absf main_arg4
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x2048 .f32 := Host.absf main_arg5
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== FfnMid.lean ====
abbrev S8192x5632 : Shape := ⟨2, ![8192, 5632]⟩
abbrev S3x5632 : Shape := ⟨2, ![3, 5632]⟩
abbrev S1x5632 : Shape := ⟨2, ![1, 5632]⟩
abbrev S5632x2048 : Shape := ⟨2, ![5632, 2048]⟩
abbrev S8192x2048 : Shape := ⟨2, ![8192, 2048]⟩
abbrev S_ : Shape := ⟨0, ![]⟩
abbrev S8191x5632 : Shape := ⟨2, ![8191, 5632]⟩
abbrev S5632 : Shape := ⟨1, ![5632]⟩
abbrev S512x2048 : Shape := ⟨2, ![512, 2048]⟩
abbrev S16x512 : Shape := ⟨2, ![16, 512]⟩
abbrev S512x512 : Shape := ⟨2, ![512, 512]⟩
abbrev S3x512 : Shape := ⟨2, ![3, 512]⟩
abbrev S1x512 : Shape := ⟨2, ![1, 512]⟩
abbrev S256x2048 : Shape := ⟨2, ![256, 2048]⟩
abbrev S512x256 : Shape := ⟨2, ![512, 256]⟩
abbrev S16x256 : Shape := ⟨2, ![16, 256]⟩
abbrev S544x256 : Shape := ⟨2, ![544, 256]⟩
abbrev S3x256 : Shape := ⟨2, ![3, 256]⟩
abbrev S1x256 : Shape := ⟨2, ![1, 256]⟩
abbrev S256 : Shape := ⟨1, ![256]⟩

abbrev nBuf : Space → Nat
  | .hbm => 58
  | .vmem => 31
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S5632x2048, .f32⟩
  | .hbm, ⟨5, _⟩ => ⟨S8192x2048, .f32⟩
  | .hbm, ⟨6, _⟩ => ⟨S1x5632, .f32⟩
  | .hbm, ⟨7, _⟩ => ⟨S_, .f32⟩
  | .hbm, ⟨8, _⟩ => ⟨S1x5632, .f32⟩
  | .hbm, ⟨9, _⟩ => ⟨S8191x5632, .f32⟩
  | .hbm, ⟨10, _⟩ => ⟨S8192x5632, .f32⟩
  | .hbm, ⟨11, _⟩ => ⟨S8191x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | .hbm, ⟨42, _⟩ => ⟨S_, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S_, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .bf16⟩
  | .hbm, ⟨52, _⟩ => ⟨S8192x2048, .bf16⟩
  | .hbm, ⟨53, _⟩ => ⟨S5632x2048, .bf16⟩
  | .hbm, ⟨54, _⟩ => ⟨S8192x5632, .bf16⟩
  | .hbm, ⟨55, _⟩ => ⟨S8192x5632, .bf16⟩
  | .hbm, ⟨56, _⟩ => ⟨S3x5632, .f32⟩
  | .hbm, ⟨57, _⟩ => ⟨S1x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S16x512, .f32⟩
  | .local _ .vmem, ⟨5, _⟩ => ⟨S16x512, .f32⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S512x512, .bf16⟩
  | .local _ .vmem, ⟨17, _⟩ => ⟨S512x512, .bf16⟩
  | .local _ .vmem, ⟨18, _⟩ => ⟨S3x512, .f32⟩
  | .local _ .vmem, ⟨19, _⟩ => ⟨S3x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S3x512, .f32⟩
  | .local _ .vmem, ⟨25, _⟩ => ⟨S3x512, .f32⟩
  | .local _ .vmem, ⟨26, _⟩ => ⟨S1x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | .local _ .vmem, ⟨30, _⟩ => ⟨S16x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_v43_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 18], ![false, false]⟩

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c16_i32 : BitVec 32 := 16#32
  let v7 : BitVec 1 := Scalar.cmpi .slt arg1 c16_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c16_i32_4 : BitVec 32 := 16#32
  let v11 : BitVec 1 := Scalar.cmpi .sge arg1 c16_i32_4
  let v12 : BitVec 32 := Scalar.extui v11
  let c0_i32_5 : BitVec 32 := 0#32
  let v13 : BitVec 1 := Scalar.cmpi .ne v12 c0_i32_5
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c32_i32 : BitVec 32 := 32#32
  let v2 : BitVec 32 := Scalar.muli v1 c32_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  ![v4.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.minsi v3 c511_i32
  let c0_i32_0 : BitVec 32 := 0#32
  ![v4.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c32_i32 : BitVec 32 := 32#32
  let v2 : BitVec 32 := Scalar.muli v1 c32_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  ![v4.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.minsi v3 c511_i32
  let c0_i32_0 : BitVec 32 := 0#32
  ![v4.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnMidRefIdeal.lean ====
abbrev S8192x5632 : Shape := ⟨2, ![8192, 5632]⟩
abbrev S3x5632 : Shape := ⟨2, ![3, 5632]⟩
abbrev S1x5632 : Shape := ⟨2, ![1, 5632]⟩
abbrev S5632x2048 : Shape := ⟨2, ![5632, 2048]⟩
abbrev S8192x2048 : Shape := ⟨2, ![8192, 2048]⟩
abbrev S_ : Shape := ⟨0, ![]⟩
abbrev S8191x5632 : Shape := ⟨2, ![8191, 5632]⟩
abbrev S5632 : Shape := ⟨1, ![5632]⟩

abbrev nBuf : Space → Nat
  | .hbm => 108
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S5632x2048, .f32⟩
  | .hbm, ⟨5, _⟩ => ⟨S8192x2048, .f32⟩
  | .hbm, ⟨6, _⟩ => ⟨S1x5632, .f32⟩
  | .hbm, ⟨7, _⟩ => ⟨S_, .f32⟩
  | .hbm, ⟨8, _⟩ => ⟨S1x5632, .f32⟩
  | .hbm, ⟨9, _⟩ => ⟨S8191x5632, .f32⟩
  | .hbm, ⟨10, _⟩ => ⟨S8192x5632, .f32⟩
  | .hbm, ⟨11, _⟩ => ⟨S_, .f32⟩
  | .hbm, ⟨12, _⟩ => ⟨S1x5632, .f32⟩
  | .hbm, ⟨13, _⟩ => ⟨S8191x5632, .f32⟩
  | .hbm, ⟨14, _⟩ => ⟨S8192x5632, .f32⟩
  | .hbm, ⟨15, _⟩ => ⟨S_, .f32⟩
  | .hbm, ⟨16, _⟩ => ⟨S1x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x2048, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S8192x5632, .f32⟩
  | .hbm, ⟨73, _⟩ => ⟨S8192x5632, .f32⟩
  | .hbm, ⟨74, _⟩ => ⟨S8192x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S8192x5632, .f32⟩
  | .hbm, ⟨85, _⟩ => ⟨S8192x5632, .f32⟩
  | .hbm, ⟨86, _⟩ => ⟨S8192x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S8191x5632, .f32⟩
  | .hbm, ⟨97, _⟩ => ⟨S1x5632, .f32⟩
  | .hbm, ⟨98, _⟩ => ⟨S_, .f32⟩
  | .hbm, ⟨99, _⟩ => ⟨S8192x5632, .f32⟩
  | .hbm, ⟨100, _⟩ => ⟨S8192x5632, .f32⟩
  | .hbm, ⟨101, _⟩ => ⟨S1x5632, .f32⟩
  | .hbm, ⟨102, _⟩ => ⟨S8191x5632, .f32⟩
  | .hbm, ⟨103, _⟩ => ⟨S_, .f32⟩
  | .hbm, ⟨104, _⟩ => ⟨S8192x5632, .f32⟩
  | .hbm, ⟨105, _⟩ => ⟨S8192x5632, .f32⟩
  | .hbm, ⟨106, _⟩ => ⟨S8192x5632, .bf16⟩
  | .hbm, ⟨107, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v27_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v27_1 : Ref sig .tc := ⟨.hbm, 47, rfl⟩
abbrev main_v27_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== FfnIn.lean ====
abbrev S8192x2048 : Shape := ⟨2, ![8192, 2048]⟩
abbrev S2048x5632 : Shape := ⟨2, ![2048, 5632]⟩
abbrev S3x5632 : Shape := ⟨2, ![3, 5632]⟩
abbrev S1x5632 : Shape := ⟨2, ![1, 5632]⟩
abbrev S8192x5632 : Shape := ⟨2, ![8192, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S8x512 : Shape := ⟨2, ![8, 512]⟩
abbrev S528x512 : Shape := ⟨2, ![528, 512]⟩

abbrev nBuf : Space → Nat
  | .hbm => 12
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S1x5632, .f32⟩
  | .hbm, ⟨5, _⟩ => ⟨S8192x2048, .bf16⟩
  | .hbm, ⟨6, _⟩ => ⟨S2048x5632, .bf16⟩
  | .hbm, ⟨7, _⟩ => ⟨S2048x5632, .bf16⟩
  | .hbm, ⟨8, _⟩ => ⟨S8192x5632, .f32⟩
  | .hbm, ⟨9, _⟩ => ⟨S8192x5632, .bf16⟩
  | .hbm, ⟨10, _⟩ => ⟨S8192x5632, .bf16⟩
  | .hbm, ⟨11, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .bf16⟩
  | .local _ .vmem, ⟨20, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnInRefIdeal.lean ====
abbrev S8192x2048 : Shape := ⟨2, ![8192, 2048]⟩
abbrev S2048x5632 : Shape := ⟨2, ![2048, 5632]⟩
abbrev S3x5632 : Shape := ⟨2, ![3, 5632]⟩
abbrev S1x5632 : Shape := ⟨2, ![1, 5632]⟩
abbrev S8192x5632 : Shape := ⟨2, ![8192, 5632]⟩
abbrev S_ : Shape := ⟨0, ![]⟩
abbrev S8191x5632 : Shape := ⟨2, ![8191, 5632]⟩
abbrev S5632 : Shape := ⟨1, ![5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S1x5632, .f32⟩
  | .hbm, ⟨5, _⟩ => ⟨S8192x5632, .f32⟩
  | .hbm, ⟨6, _⟩ => ⟨S8192x5632, .f32⟩
  | .hbm, ⟨7, _⟩ => ⟨S1x5632, .f32⟩
  | .hbm, ⟨8, _⟩ => ⟨S_, .f32⟩
  | .hbm, ⟨9, _⟩ => ⟨S1x5632, .f32⟩
  | .hbm, ⟨10, _⟩ => ⟨S8191x5632, .f32⟩
  | .hbm, ⟨11, _⟩ => ⟨S8192x5632, .f32⟩
  | .hbm, ⟨12, _⟩ => ⟨S8191x5632, .f32⟩
  | .hbm, ⟨13, _⟩ => ⟨S8192x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S_, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .bf16⟩
  | .hbm, ⟨54, _⟩ => ⟨S8192x5632, .bf16⟩
  | .hbm, ⟨55, _⟩ => ⟨S8192x5632, .f32⟩
  | .hbm, ⟨56, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_cst_0 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AttnBwd.lean ====
abbrev S8192x8x128 : Shape := ⟨3, ![8192, 8, 128]⟩
abbrev S8192x8 : Shape := ⟨2, ![8192, 8]⟩
abbrev S512x16384 : Shape := ⟨2, ![512, 16384]⟩
abbrev S_ : Shape := ⟨0, ![]⟩
abbrev S8192x128 : Shape := ⟨2, ![8192, 128]⟩
abbrev S512x2048 : Shape := ⟨2, ![512, 2048]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 25
  | .vmem => 42
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192x8x128, .bf16⟩
  | .hbm, ⟨7, _⟩ => ⟨S512x16384, .bf16⟩
  | .hbm, ⟨8, _⟩ => ⟨S8192x8x128, .bf16⟩
  | .hbm, ⟨9, _⟩ => ⟨S512x16384, .bf16⟩
  | .hbm, ⟨10, _⟩ => ⟨S8192x8x128, .bf16⟩
  | .hbm, ⟨11, _⟩ => ⟨S512x16384, .bf16⟩
  | .hbm, ⟨12, _⟩ => ⟨S8192x8x128, .bf16⟩
  | .hbm, ⟨13, _⟩ => ⟨S512x16384, .bf16⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S512x2048, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S512x2048, .f32⟩
  | .hbm, ⟨22, _⟩ => ⟨S512x16384, .bf16⟩
  | .hbm, ⟨23, _⟩ => ⟨S512x16384, .bf16⟩
  | .hbm, ⟨24, _⟩ => ⟨S512x16384, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S512x1024, .bf16⟩
  | .local _ .vmem, ⟨9, _⟩ => ⟨S512x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S512x1024, .bf16⟩
  | .local _ .vmem, ⟨21, _⟩ => ⟨S512x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S512x128, .f32⟩
  | .local _ .vmem, ⟨33, _⟩ => ⟨S512x128, .f32⟩
  | .local _ .vmem, ⟨34, _⟩ => ⟨S64x128, .f32⟩
  | .local _ .vmem, ⟨35, _⟩ => ⟨S64x128, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnBwdIdeal.lean ====
abbrev S8192x8x128 : Shape := ⟨3, ![8192, 8, 128]⟩
abbrev S8192x8 : Shape := ⟨2, ![8192, 8]⟩
abbrev S512x16384 : Shape := ⟨2, ![512, 16384]⟩
abbrev S_ : Shape := ⟨0, ![]⟩
abbrev S8192x128 : Shape := ⟨2, ![8192, 128]⟩
abbrev S512x2048 : Shape := ⟨2, ![512, 2048]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 25
  | .vmem => 42
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192x8x128, .bf16⟩
  | .hbm, ⟨7, _⟩ => ⟨S512x16384, .bf16⟩
  | .hbm, ⟨8, _⟩ => ⟨S8192x8x128, .bf16⟩
  | .hbm, ⟨9, _⟩ => ⟨S512x16384, .bf16⟩
  | .hbm, ⟨10, _⟩ => ⟨S8192x8x128, .bf16⟩
  | .hbm, ⟨11, _⟩ => ⟨S512x16384, .bf16⟩
  | .hbm, ⟨12, _⟩ => ⟨S8192x8x128, .bf16⟩
  | .hbm, ⟨13, _⟩ => ⟨S512x16384, .bf16⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S512x2048, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S512x2048, .f32⟩
  | .hbm, ⟨22, _⟩ => ⟨S512x16384, .bf16⟩
  | .hbm, ⟨23, _⟩ => ⟨S512x16384, .bf16⟩
  | .hbm, ⟨24, _⟩ => ⟨S512x16384, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S512x1024, .bf16⟩
  | .local _ .vmem, ⟨9, _⟩ => ⟨S512x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S512x1024, .bf16⟩
  | .local _ .vmem, ⟨21, _⟩ => ⟨S512x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S512x128, .f32⟩
  | .local _ .vmem, ⟨33, _⟩ => ⟨S512x128, .f32⟩
  | .local _ .vmem, ⟨34, _⟩ => ⟨S64x128, .f32⟩
  | .local _ .vmem, ⟨35, _⟩ => ⟨S64x128, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c7_i32 : BitVec 32 := 7#32
  let v2 : BitVec 32 := Scalar.minsi v1 c7_i32
  let c0_i32 : BitVec 32 := 0#32
  ![v2.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnBwdRefIdeal.lean ====
abbrev S8192x8x128 : Shape := ⟨3, ![8192, 8, 128]⟩
abbrev S8192x8 : Shape := ⟨2, ![8192, 8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x16x8x128 : Shape := ⟨4, ![512, 16, 8, 128]⟩
abbrev S16x512x8x128 : Shape := ⟨4, ![16, 512, 8, 128]⟩
abbrev S512x16x8 : Shape := ⟨3, ![512, 16, 8]⟩
abbrev S16x512x8 : Shape := ⟨3, ![16, 512, 8]⟩
abbrev S16x8x512 : Shape := ⟨3, ![16, 8, 512]⟩
abbrev S16x8x512x512 : Shape := ⟨4, ![16, 8, 512, 512]⟩
abbrev S16x8x512x1 : Shape := ⟨4, ![16, 8, 512, 1]⟩
abbrev S16x8x128x512 : Shape := ⟨4, ![16, 8, 128, 512]⟩
abbrev S16x8x512x128 : Shape := ⟨4, ![16, 8, 512, 128]⟩
abbrev S512x16384 : Shape := ⟨2, ![512, 16384]⟩

abbrev nBuf : Space → Nat
  | .hbm => 79
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S512x16x8x128, .f32⟩
  | .hbm, ⟨17, _⟩ => ⟨S16x512x8x128, .f32⟩
  | .hbm, ⟨18, _⟩ => ⟨S512x16x8, .f32⟩
  | .hbm, ⟨19, _⟩ => ⟨S16x512x8, .f32⟩
  | .hbm, ⟨20, _⟩ => ⟨S16x8x512, .f32⟩
  | .hbm, ⟨21, _⟩ => ⟨S16x8x512, .f32⟩
  | .hbm, ⟨22, _⟩ => ⟨S512x16x8x128, .f32⟩
  | .hbm, ⟨23, _⟩ => ⟨S16x512x8x128, .f32⟩
  | .hbm, ⟨24, _⟩ => ⟨S512x16x8x128, .f32⟩
  | .hbm, ⟨25, _⟩ => ⟨S16x512x8x128, .f32⟩
  | .hbm, ⟨26, _⟩ => ⟨S16x8x512x512, .f32⟩
  | .hbm, ⟨27, _⟩ => ⟨S_, .f32⟩
  | .hbm, ⟨28, _⟩ => ⟨S16x8x512x512, .f32⟩
  | .hbm, ⟨29, _⟩ => ⟨S16x8x512x512, .f32⟩
  | .hbm, ⟨30, _⟩ => ⟨S512x16x8, .f32⟩
  | .hbm, ⟨31, _⟩ => ⟨S16x512x8, .f32⟩
  | .hbm, ⟨32, _⟩ => ⟨S16x8x512, .f32⟩
  | .hbm, ⟨33, _⟩ => ⟨S16x8x512x1, .f32⟩
  | .hbm, ⟨34, _⟩ => ⟨S16x8x512x512, .f32⟩
  | .hbm, ⟨35, _⟩ => ⟨S16x8x512x512, .f32⟩
  | .hbm, ⟨36, _⟩ => ⟨S16x8x512x512, .f32⟩
  | .hbm, ⟨37, _⟩ => ⟨S_, .f32⟩
  | .hbm, ⟨38, _⟩ => ⟨S_, .f32⟩
  | .hbm, ⟨39, _⟩ => ⟨S16x8x512x512, .i1⟩
  | .hbm, ⟨40, _⟩ => ⟨S16x8x512x512, .f32⟩
  | .hbm, ⟨41, _⟩ => ⟨S16x8x512x512, .f32⟩
  | .hbm, ⟨42, _⟩ => ⟨S_, .f32⟩
  | .hbm, ⟨43, _⟩ => ⟨S16x8x512x512, .f32⟩
  | .hbm, ⟨44, _⟩ => ⟨S512x16x8x128, .f32⟩
  | .hbm, ⟨45, _⟩ => ⟨S16x512x8x128, .f32⟩
  | .hbm, ⟨46, _⟩ => ⟨S16x8x128x512, .f32⟩
  | .hbm, ⟨47, _⟩ => ⟨S16x512x8x128, .f32⟩
  | .hbm, ⟨48, _⟩ => ⟨S_, .f32⟩
  | .hbm, ⟨49, _⟩ => ⟨S16x8x512, .f32⟩
  | .hbm, ⟨50, _⟩ => ⟨S16x8x512x512, .f32⟩
  | .hbm, ⟨51, _⟩ => ⟨S16x8x128x512, .f32⟩
  | .hbm, ⟨52, _⟩ => ⟨S16x8x512x512, .f32⟩
  | .hbm, ⟨53, _⟩ => ⟨S16x8x512x512, .f32⟩
  | .hbm, ⟨54, _⟩ => ⟨S16x8x128x512, .f32⟩
  | .hbm, ⟨55, _⟩ => ⟨S16x512x8x128, .f32⟩
  | .hbm, ⟨56, _⟩ => ⟨S512x16x8x128, .f32⟩
  | .hbm, ⟨57, _⟩ => ⟨S8192x8x128, .f32⟩
  | .hbm, ⟨58, _⟩ => ⟨S_, .f32⟩
  | .hbm, ⟨59, _⟩ => ⟨S16x8x512x512, .f32⟩
  | .hbm, ⟨60, _⟩ => ⟨S16x8x512x512, .f32⟩
  | .hbm, ⟨61, _⟩ => ⟨S16x8x512x512, .f32⟩
  | .hbm, ⟨62, _⟩ => ⟨S_, .f32⟩
  | .hbm, ⟨63, _⟩ => ⟨S16x8x512x512, .f32⟩
  | .hbm, ⟨64, _⟩ => ⟨S16x8x512x512, .f32⟩
  | .hbm, ⟨65, _⟩ => ⟨S16x8x512x128, .f32⟩
  | .hbm, ⟨66, _⟩ => ⟨S16x512x8x128, .f32⟩
  | .hbm, ⟨67, _⟩ => ⟨S16x8x512x128, .f32⟩
  | .hbm, ⟨68, _⟩ => ⟨S16x512x8x128, .f32⟩
  | .hbm, ⟨69, _⟩ => ⟨S512x16x8x128, .f32⟩
  | .hbm, ⟨70, _⟩ => ⟨S8192x8x128, .f32⟩
  | .hbm, ⟨71, _⟩ => ⟨S512x16x8x128, .f32⟩
  | .hbm, ⟨72, _⟩ => ⟨S8192x8x128, .f32⟩
  | .hbm, ⟨73, _⟩ => ⟨S512x16384, .f32⟩
  | .hbm, ⟨74, _⟩ => ⟨S512x16384, .bf16⟩
  | .hbm, ⟨75, _⟩ => ⟨S512x16384, .f32⟩
  | .hbm, ⟨76, _⟩ => ⟨S512x16384, .bf16⟩
  | .hbm, ⟨77, _⟩ => ⟨S512x16384, .f32⟩
  | .hbm, ⟨78, _⟩ => ⟨S512x16384, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_v29_1 : Ref sig .tc := ⟨.hbm, 39, rfl⟩
abbrev main_call0_v2 : Ref sig .tc := ⟨.hbm, 40, rfl⟩
abbrev main_v29_0 : Ref sig .tc := ⟨.hbm, 41, rfl⟩
abbrev main_call0_cst : Ref sig .tc := ⟨.hbm, 42, rfl⟩
abbrev main_v29_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== AttnBwd4.lean ====
abbrev S8192x8x128 : Shape := ⟨3, ![8192, 8, 128]⟩
abbrev S8192x8 : Shape := ⟨2, ![8192, 8]⟩
abbrev S2048x4096 : Shape := ⟨2, ![2048, 4096]⟩
abbrev S_ : Shape := ⟨0, ![]⟩
abbrev S8192x128 : Shape := ⟨2, ![8192, 128]⟩
abbrev S2048x512 : Shape := ⟨2, ![2048, 512]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 25
  | .vmem => 42
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192x8x128, .bf16⟩
  | .hbm, ⟨7, _⟩ => ⟨S2048x4096, .bf16⟩
  | .hbm, ⟨8, _⟩ => ⟨S8192x8x128, .bf16⟩
  | .hbm, ⟨9, _⟩ => ⟨S2048x4096, .bf16⟩
  | .hbm, ⟨10, _⟩ => ⟨S8192x8x128, .bf16⟩
  | .hbm, ⟨11, _⟩ => ⟨S2048x4096, .bf16⟩
  | .hbm, ⟨12, _⟩ => ⟨S8192x8x128, .bf16⟩
  | .hbm, ⟨13, _⟩ => ⟨S2048x4096, .bf16⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S2048x512, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S2048x512, .f32⟩
  | .hbm, ⟨22, _⟩ => ⟨S2048x4096, .bf16⟩
  | .hbm, ⟨23, _⟩ => ⟨S2048x4096, .bf16⟩
  | .hbm, ⟨24, _⟩ => ⟨S2048x4096, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S512x1024, .bf16⟩
  | .local _ .vmem, ⟨9, _⟩ => ⟨S512x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S512x1024, .bf16⟩
  | .local _ .vmem, ⟨21, _⟩ => ⟨S512x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S512x128, .f32⟩
  | .local _ .vmem, ⟨33, _⟩ => ⟨S512x128, .f32⟩
  | .local _ .vmem, ⟨34, _⟩ => ⟨S64x128, .f32⟩
  | .local _ .vmem, ⟨35, _⟩ => ⟨S64x128, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnBwd4Ideal.lean ====
abbrev S8192x8x128 : Shape := ⟨3, ![8192, 8, 128]⟩
abbrev S8192x8 : Shape := ⟨2, ![8192, 8]⟩
abbrev S2048x4096 : Shape := ⟨2, ![2048, 4096]⟩
abbrev S_ : Shape := ⟨0, ![]⟩
abbrev S8192x128 : Shape := ⟨2, ![8192, 128]⟩
abbrev S2048x512 : Shape := ⟨2, ![2048, 512]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 25
  | .vmem => 42
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192x8x128, .bf16⟩
  | .hbm, ⟨7, _⟩ => ⟨S2048x4096, .bf16⟩
  | .hbm, ⟨8, _⟩ => ⟨S8192x8x128, .bf16⟩
  | .hbm, ⟨9, _⟩ => ⟨S2048x4096, .bf16⟩
  | .hbm, ⟨10, _⟩ => ⟨S8192x8x128, .bf16⟩
  | .hbm, ⟨11, _⟩ => ⟨S2048x4096, .bf16⟩
  | .hbm, ⟨12, _⟩ => ⟨S8192x8x128, .bf16⟩
  | .hbm, ⟨13, _⟩ => ⟨S2048x4096, .bf16⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S2048x512, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S2048x512, .f32⟩
  | .hbm, ⟨22, _⟩ => ⟨S2048x4096, .bf16⟩
  | .hbm, ⟨23, _⟩ => ⟨S2048x4096, .bf16⟩
  | .hbm, ⟨24, _⟩ => ⟨S2048x4096, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S512x1024, .bf16⟩
  | .local _ .vmem, ⟨9, _⟩ => ⟨S512x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S512x1024, .bf16⟩
  | .local _ .vmem, ⟨21, _⟩ => ⟨S512x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S512x128, .f32⟩
  | .local _ .vmem, ⟨33, _⟩ => ⟨S512x128, .f32⟩
  | .local _ .vmem, ⟨34, _⟩ => ⟨S64x128, .f32⟩
  | .local _ .vmem, ⟨35, _⟩ => ⟨S64x128, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c31_i32 : BitVec 32 := 31#32
  let v2 : BitVec 32 := Scalar.minsi v1 c31_i32
  let c0_i32 : BitVec 32 := 0#32
  ![v2.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnBwd4RefIdeal.lean ====
abbrev S8192x8x128 : Shape := ⟨3, ![8192, 8, 128]⟩
abbrev S8192x8 : Shape := ⟨2, ![8192, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x4x8x128 : Shape := ⟨4, ![2048, 4, 8, 128]⟩
abbrev S4x2048x8x128 : Shape := ⟨4, ![4, 2048, 8, 128]⟩
abbrev S2048x4x8 : Shape := ⟨3, ![2048, 4, 8]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x128x2048 : Shape := ⟨4, ![4, 8, 128, 2048]⟩
abbrev S4x8x2048x128 : Shape := ⟨4, ![4, 8, 2048, 128]⟩
abbrev S2048x4096 : Shape := ⟨2, ![2048, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S2048, .i32⟩
  | .hbm, ⟨7, _⟩ => ⟨S2048x1, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i1⟩
  | .hbm, ⟨16, _⟩ => ⟨S2048x4x8x128, .f32⟩
  | .hbm, ⟨17, _⟩ => ⟨S4x2048x8x128, .f32⟩
  | .hbm, ⟨18, _⟩ => ⟨S2048x4x8, .f32⟩
  | .hbm, ⟨19, _⟩ => ⟨S4x2048x8, .f32⟩
  | .hbm, ⟨20, _⟩ => ⟨S4x8x2048, .f32⟩
  | .hbm, ⟨21, _⟩ => ⟨S4x8x2048, .f32⟩
  | .hbm, ⟨22, _⟩ => ⟨S2048x4x8x128, .f32⟩
  | .hbm, ⟨23, _⟩ => ⟨S4x2048x8x128, .f32⟩
  | .hbm, ⟨24, _⟩ => ⟨S2048x4x8x128, .f32⟩
  | .hbm, ⟨25, _⟩ => ⟨S4x2048x8x128, .f32⟩
  | .hbm, ⟨26, _⟩ => ⟨S4x8x2048x2048, .f32⟩
  | .hbm, ⟨27, _⟩ => ⟨S_, .f32⟩
  | .hbm, ⟨28, _⟩ => ⟨S4x8x2048x2048, .f32⟩
  | .hbm, ⟨29, _⟩ => ⟨S4x8x2048x2048, .f32⟩
  | .hbm, ⟨30, _⟩ => ⟨S2048x4x8, .f32⟩
  | .hbm, ⟨31, _⟩ => ⟨S4x2048x8, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S_, .f32⟩
  | .hbm, ⟨39, _⟩ => ⟨S4x8x2048x2048, .i1⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048x2048, .f32⟩
  | .hbm, ⟨44, _⟩ => ⟨S2048x4x8x128, .f32⟩
  | .hbm, ⟨45, _⟩ => ⟨S4x2048x8x128, .f32⟩
  | .hbm, ⟨46, _⟩ => ⟨S4x8x128x2048, .f32⟩
  | .hbm, ⟨47, _⟩ => ⟨S4x2048x8x128, .f32⟩
  | .hbm, ⟨48, _⟩ => ⟨S_, .f32⟩
  | .hbm, ⟨49, _⟩ => ⟨S4x8x2048, .f32⟩
  | .hbm, ⟨50, _⟩ => ⟨S4x8x2048x2048, .f32⟩
  | .hbm, ⟨51, _⟩ => ⟨S4x8x128x2048, .f32⟩
  | .hbm, ⟨52, _⟩ => ⟨S4x8x2048x2048, .f32⟩
  | .hbm, ⟨53, _⟩ => ⟨S4x8x2048x2048, .f32⟩
  | .hbm, ⟨54, _⟩ => ⟨S4x8x128x2048, .f32⟩
  | .hbm, ⟨55, _⟩ => ⟨S4x2048x8x128, .f32⟩
  | .hbm, ⟨56, _⟩ => ⟨S2048x4x8x128, .f32⟩
  | .hbm, ⟨57, _⟩ => ⟨S8192x8x128, .f32⟩
  | .hbm, ⟨58, _⟩ => ⟨S_, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S_, .f32⟩
  | .hbm, ⟨63, _⟩ => ⟨S4x8x2048x2048, .f32⟩
  | .hbm, ⟨64, _⟩ => ⟨S4x8x2048x2048, .f32⟩
  | .hbm, ⟨65, _⟩ => ⟨S4x8x2048x128, .f32⟩
  | .hbm, ⟨66, _⟩ => ⟨S4x2048x8x128, .f32⟩
  | .hbm, ⟨67, _⟩ => ⟨S4x8x2048x128, .f32⟩
  | .hbm, ⟨68, _⟩ => ⟨S4x2048x8x128, .f32⟩
  | .hbm, ⟨69, _⟩ => ⟨S2048x4x8x128, .f32⟩
  | .hbm, ⟨70, _⟩ => ⟨S8192x8x128, .f32⟩
  | .hbm, ⟨71, _⟩ => ⟨S2048x4x8x128, .f32⟩
  | .hbm, ⟨72, _⟩ => ⟨S8192x8x128, .f32⟩
  | .hbm, ⟨73, _⟩ => ⟨S2048x4096, .f32⟩
  | .hbm, ⟨74, _⟩ => ⟨S2048x4096, .bf16⟩
  | .hbm, ⟨75, _⟩ => ⟨S2048x4096, .f32⟩
  | .hbm, ⟨76, _⟩ => ⟨S2048x4096, .bf16⟩
  | .hbm, ⟨77, _⟩ => ⟨S2048x4096, .f32⟩
  | .hbm, ⟨78, _⟩ => ⟨S2048x4096, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_v29_1 : Ref sig .tc := ⟨.hbm, 39, rfl⟩
abbrev main_call0_v2 : Ref sig .tc := ⟨.hbm, 40, rfl⟩
abbrev main_v29_0 : Ref sig .tc := ⟨.hbm, 41, rfl⟩
abbrev main_call0_cst : Ref sig .tc := ⟨.hbm, 42, rfl⟩
abbrev main_v29_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== AttnBwd1.lean ====
abbrev S8192x8x128 : Shape := ⟨3, ![8192, 8, 128]⟩
abbrev S8192x8 : Shape := ⟨2, ![8192, 8]⟩
abbrev S8192x1024 : Shape := ⟨2, ![8192, 1024]⟩
abbrev S_ : Shape := ⟨0, ![]⟩
abbrev S8192x128 : Shape := ⟨2, ![8192, 128]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 23
  | .vmem => 42
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192x8x128, .bf16⟩
  | .hbm, ⟨7, _⟩ => ⟨S8192x1024, .bf16⟩
  | .hbm, ⟨8, _⟩ => ⟨S8192x8x128, .bf16⟩
  | .hbm, ⟨9, _⟩ => ⟨S8192x1024, .bf16⟩
  | .hbm, ⟨10, _⟩ => ⟨S8192x8x128, .bf16⟩
  | .hbm, ⟨11, _⟩ => ⟨S8192x1024, .bf16⟩
  | .hbm, ⟨12, _⟩ => ⟨S8192x8x128, .bf16⟩
  | .hbm, ⟨13, _⟩ => ⟨S8192x1024, .bf16⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S512x1024, .bf16⟩
  | .local _ .vmem, ⟨9, _⟩ => ⟨S512x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S512x1024, .bf16⟩
  | .local _ .vmem, ⟨15, _⟩ => ⟨S512x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S512x1024, .bf16⟩
  | .local _ .vmem, ⟨21, _⟩ => ⟨S512x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S512x128, .f32⟩
  | .local _ .vmem, ⟨27, _⟩ => ⟨S512x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S512x128, .f32⟩
  | .local _ .vmem, ⟨33, _⟩ => ⟨S512x128, .f32⟩
  | .local _ .vmem, ⟨34, _⟩ => ⟨S64x128, .f32⟩
  | .local _ .vmem, ⟨35, _⟩ => ⟨S64x128, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnBwd1RefIdeal.lean ====
abbrev S8192x8x128 : Shape := ⟨3, ![8192, 8, 128]⟩
abbrev S8192x8 : Shape := ⟨2, ![8192, 8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x1x8x128 : Shape := ⟨4, ![8192, 1, 8, 128]⟩
abbrev S1x8192x8x128 : Shape := ⟨4, ![1, 8192, 8, 128]⟩
abbrev S8192x1x8 : Shape := ⟨3, ![8192, 1, 8]⟩
abbrev S1x8192x8 : Shape := ⟨3, ![1, 8192, 8]⟩
abbrev S1x8x8192 : Shape := ⟨3, ![1, 8, 8192]⟩
abbrev S1x8x8192x8192 : Shape := ⟨4, ![1, 8, 8192, 8192]⟩
abbrev S1x8x8192x1 : Shape := ⟨4, ![1, 8, 8192, 1]⟩
abbrev S1x8x128x8192 : Shape := ⟨4, ![1, 8, 128, 8192]⟩
abbrev S1x8x8192x128 : Shape := ⟨4, ![1, 8, 8192, 128]⟩
abbrev S8192x1024 : Shape := ⟨2, ![8192, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x8x128, .f32⟩
  | .hbm, ⟨4, _⟩ => ⟨S8192x8, .f32⟩
  | .hbm, ⟨5, _⟩ => ⟨S8192x8, .f32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S8192x1x8x128, .f32⟩
  | .hbm, ⟨17, _⟩ => ⟨S1x8192x8x128, .f32⟩
  | .hbm, ⟨18, _⟩ => ⟨S8192x1x8, .f32⟩
  | .hbm, ⟨19, _⟩ => ⟨S1x8192x8, .f32⟩
  | .hbm, ⟨20, _⟩ => ⟨S1x8x8192, .f32⟩
  | .hbm, ⟨21, _⟩ => ⟨S1x8x8192, .f32⟩
  | .hbm, ⟨22, _⟩ => ⟨S8192x1x8x128, .f32⟩
  | .hbm, ⟨23, _⟩ => ⟨S1x8192x8x128, .f32⟩
  | .hbm, ⟨24, _⟩ => ⟨S8192x1x8x128, .f32⟩
  | .hbm, ⟨25, _⟩ => ⟨S1x8192x8x128, .f32⟩
  | .hbm, ⟨26, _⟩ => ⟨S1x8x8192x8192, .f32⟩
  | .hbm, ⟨27, _⟩ => ⟨S_, .f32⟩
  | .hbm, ⟨28, _⟩ => ⟨S1x8x8192x8192, .f32⟩
  | .hbm, ⟨29, _⟩ => ⟨S1x8x8192x8192, .f32⟩
  | .hbm, ⟨30, _⟩ => ⟨S8192x1x8, .f32⟩
  | .hbm, ⟨31, _⟩ => ⟨S1x8192x8, .f32⟩
  | .hbm, ⟨32, _⟩ => ⟨S1x8x8192, .f32⟩
  | .hbm, ⟨33, _⟩ => ⟨S1x8x8192x1, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S_, .f32⟩
  | .hbm, ⟨39, _⟩ => ⟨S1x8x8192x8192, .i1⟩
  | .hbm, ⟨40, _⟩ => ⟨S1x8x8192x8192, .f32⟩
  | .hbm, ⟨41, _⟩ => ⟨S1x8x8192x8192, .f32⟩
  | .hbm, ⟨42, _⟩ => ⟨S_, .f32⟩
  | .hbm, ⟨43, _⟩ => ⟨S1x8x8192x8192, .f32⟩
  | .hbm, ⟨44, _⟩ => ⟨S8192x1x8x128, .f32⟩
  | .hbm, ⟨45, _⟩ => ⟨S1x8192x8x128, .f32⟩
  | .hbm, ⟨46, _⟩ => ⟨S1x8x128x8192, .f32⟩
  | .hbm, ⟨47, _⟩ => ⟨S1x8192x8x128, .f32⟩
  | .hbm, ⟨48, _⟩ => ⟨S_, .f32⟩
  | .hbm, ⟨49, _⟩ => ⟨S1x8x8192, .f32⟩
  | .hbm, ⟨50, _⟩ => ⟨S1x8x8192x8192, .f32⟩
  | .hbm, ⟨51, _⟩ => ⟨S1x8x128x8192, .f32⟩
  | .hbm, ⟨52, _⟩ => ⟨S1x8x8192x8192, .f32⟩
  | .hbm, ⟨53, _⟩ => ⟨S1x8x8192x8192, .f32⟩
  | .hbm, ⟨54, _⟩ => ⟨S1x8x128x8192, .f32⟩
  | .hbm, ⟨55, _⟩ => ⟨S1x8192x8x128, .f32⟩
  | .hbm, ⟨56, _⟩ => ⟨S8192x1x8x128, .f32⟩
  | .hbm, ⟨57, _⟩ => ⟨S8192x8x128, .f32⟩
  | .hbm, ⟨58, _⟩ => ⟨S_, .f32⟩
  | .hbm, ⟨59, _⟩ => ⟨S1x8x8192x8192, .f32⟩
  | .hbm, ⟨60, _⟩ => ⟨S1x8x8192x8192, .f32⟩
  | .hbm, ⟨61, _⟩ => ⟨S1x8x8192x8192, .f32⟩
  | .hbm, ⟨62, _⟩ => ⟨S_, .f32⟩
  | .hbm, ⟨63, _⟩ => ⟨S1x8x8192x8192, .f32⟩
  | .hbm, ⟨64, _⟩ => ⟨S1x8x8192x8192, .f32⟩
  | .hbm, ⟨65, _⟩ => ⟨S1x8x8192x128, .f32⟩
  | .hbm, ⟨66, _⟩ => ⟨S1x8192x8x128, .f32⟩
  | .hbm, ⟨67, _⟩ => ⟨S1x8x8192x128, .f32⟩
  | .hbm, ⟨68, _⟩ => ⟨S1x8192x8x128, .f32⟩
  | .hbm, ⟨69, _⟩ => ⟨S8192x1x8x128, .f32⟩
  | .hbm, ⟨70, _⟩ => ⟨S8192x8x128, .f32⟩
  | .hbm, ⟨71, _⟩ => ⟨S8192x1x8x128, .f32⟩
  | .hbm, ⟨72, _⟩ => ⟨S8192x8x128, .f32⟩
  | .hbm, ⟨73, _⟩ => ⟨S8192x1024, .f32⟩
  | .hbm, ⟨74, _⟩ => ⟨S8192x1024, .bf16⟩
  | .hbm, ⟨75, _⟩ => ⟨S8192x1024, .f32⟩
  | .hbm, ⟨76, _⟩ => ⟨S8192x1024, .bf16⟩
  | .hbm, ⟨77, _⟩ => ⟨S8192x1024, .f32⟩
  | .hbm, ⟨78, _⟩ => ⟨S8192x1024, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_v29_1 : Ref sig .tc := ⟨.hbm, 39, rfl⟩
abbrev main_call0_v2 : Ref sig .tc := ⟨.hbm, 40, rfl⟩
abbrev main_v29_0 : Ref sig .tc := ⟨.hbm, 41, rfl⟩
abbrev main_call0_cst : Ref sig .tc := ⟨.hbm, 42, rfl⟩
abbrev main_v29_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Norm1.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1RefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Norm2.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm2RefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Norm1Bwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm1BwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FinalLoss.lean ====
abbrev S8192x2048 : Shape := ⟨2, ![8192, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S8x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalLossRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S8192x2048, .bf16⟩
  | .hbm, ⟨74, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== GWGate.lean ====
abbrev S8192x2048 : Shape := ⟨2, ![8192, 2048]⟩
abbrev S8192x5632 : Shape := ⟨2, ![8192, 5632]⟩
abbrev S2048x5632 : Shape := ⟨2, ![2048, 5632]⟩
abbrev S2048x2048 : Shape := ⟨2, ![2048, 2048]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWGateRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GWUp.lean ====
abbrev S8192x2048 : Shape := ⟨2, ![8192, 2048]⟩
abbrev S8192x5632 : Shape := ⟨2, ![8192, 5632]⟩
abbrev S2048x5632 : Shape := ⟨2, ![2048, 5632]⟩
abbrev S2048x2048 : Shape := ⟨2, ![2048, 2048]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWUpRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GWDown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DN2Gate.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2048x5632, .f32⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DN2GateRefIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2048x5632, .f32⟩
  | .hbm, ⟨2, _⟩ => ⟨S_, .f32⟩
  | .hbm, ⟨3, _⟩ => ⟨S8192x2048, .f32⟩
  | .hbm, ⟨4, _⟩ => ⟨S8192x5632, .f32⟩
  | .hbm, ⟨5, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DN2Up.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S2048x5632, .f32⟩
  | .hbm, ⟨2, _⟩ => ⟨S8192x2048, .f32⟩
  | .hbm, ⟨3, _⟩ => ⟨S8192x5632, .bf16⟩
  | .hbm, ⟨4, _⟩ => ⟨S2048x5632, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DN2UpRefIdeal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2048x5632, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x5632, .f32⟩
  | .hbm, ⟨6, _⟩ => ⟨S8192x2048, .f32⟩
  | .hbm, ⟨7, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GWIn.lean ====
abbrev S8192x2048 : Shape := ⟨2, ![8192, 2048]⟩
abbrev S8192x6400 : Shape := ⟨2, ![8192, 6400]⟩
abbrev S2048x6400 : Shape := ⟨2, ![2048, 6400]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6400, .f32⟩
  | .hbm, ⟨2, _⟩ => ⟨S8192x2048, .bf16⟩
  | .hbm, ⟨3, _⟩ => ⟨S8192x6400, .bf16⟩
  | .hbm, ⟨4, _⟩ => ⟨S2048x6400, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWInRefIdeal.lean ====
abbrev S8192x2048 : Shape := ⟨2, ![8192, 2048]⟩
abbrev S8192x6400 : Shape := ⟨2, ![8192, 6400]⟩
abbrev S_ : Shape := ⟨0, ![]⟩
abbrev S2048x6400 : Shape := ⟨2, ![2048, 6400]⟩
abbrev S6400x2048 : Shape := ⟨2, ![6400, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6400, .f32⟩
  | .hbm, ⟨2, _⟩ => ⟨S_, .f32⟩
  | .hbm, ⟨3, _⟩ => ⟨S2048x6400, .f32⟩
  | .hbm, ⟨4, _⟩ => ⟨S8192x6400, .f32⟩
  | .hbm, ⟨5, _⟩ => ⟨S6400x2048, .f32⟩
  | .hbm, ⟨6, _⟩ => ⟨S2048x6400, .f32⟩
  | .hbm, ⟨7, _⟩ => ⟨S2048x6400, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DN1.lean ====
abbrev S8192x6400 : Shape := ⟨2, ![8192, 6400]⟩
abbrev S2048x6400 : Shape := ⟨2, ![2048, 6400]⟩
abbrev S8192x2048 : Shape := ⟨2, ![8192, 2048]⟩
abbrev S1024x1280 : Shape := ⟨2, ![1024, 1280]⟩
abbrev S2048x1280 : Shape := ⟨2, ![2048, 1280]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x6400, .f32⟩
  | .hbm, ⟨1, _⟩ => ⟨S2048x6400, .f32⟩
  | .hbm, ⟨2, _⟩ => ⟨S8192x6400, .bf16⟩
  | .hbm, ⟨3, _⟩ => ⟨S2048x6400, .bf16⟩
  | .hbm, ⟨4, _⟩ => ⟨S8192x2048, .f32⟩
  | .local _ .vmem, ⟨0, _⟩ => ⟨S1024x1280, .bf16⟩
  | .local _ .vmem, ⟨1, _⟩ => ⟨S1024x1280, .bf16⟩
  | .local _ .vmem, ⟨2, _⟩ => ⟨S2048x1280, .bf16⟩
  | .local _ .vmem, ⟨3, _⟩ => ⟨S2048x1280, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v8 : BitVec 1 := Scalar.cmpi .eq arg2 c4_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DN1RefIdeal.lean ====
abbrev S8192x6400 : Shape := ⟨2, ![8192, 6400]⟩
abbrev S2048x6400 : Shape := ⟨2, ![2048, 6400]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S2048x6400, .f32⟩
  | .hbm, ⟨2, _⟩ => ⟨S_, .f32⟩
  | .hbm, ⟨3, _⟩ => ⟨S8192x2048, .f32⟩
  | .hbm, ⟨4, _⟩ => ⟨S8192x6400, .f32⟩
  | .hbm, ⟨5, _⟩ => ⟨S8192x2048, .f32⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GWOut.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCat.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCatRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S8192x2048 : Shape := ⟨2, ![8192, 2048]⟩
abbrev S2048x6400 : Shape := ⟨2, ![2048, 6400]⟩
abbrev S8192x6400 : Shape := ⟨2, ![8192, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6400, .f32⟩
  | .hbm, ⟨2, _⟩ => ⟨S8192x2048, .bf16⟩
  | .hbm, ⟨3, _⟩ => ⟨S2048x6400, .bf16⟩
  | .hbm, ⟨4, _⟩ => ⟨S8192x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x2048 : Shape := ⟨2, ![8192, 2048]⟩
abbrev S2048x6400 : Shape := ⟨2, ![2048, 6400]⟩
abbrev S8192x6400 : Shape := ⟨2, ![8192, 6400]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6400, .f32⟩
  | .hbm, ⟨2, _⟩ => ⟨S8192x6400, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.FfnMidOuts.lean ====
/- What the buffers of `ffn_mid_bwd` hold after each grid point, case by case. Of the 18 points of a column of tiles the first (A) clears
   the sums and multiplies, the second (B) multiplies, the next fourteen (C) multiply and finish the tile two before, and the last two (D)
   only finish. -/
module

public import proofs.«01_k».proof.Proof.Gen.FfnMidIdeal.Frame.RunD
public import Idealize.ShloMosaic.Lib.Claim

@[expose] public section

set_option maxRecDepth 16384

noncomputable section

namespace Cert.FfnMidIdeal.Run

open Cert.FfnMidIdeal Cert.FfnMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S16x512 .f32) (harg4 : arg4.IsWhole) (arg5 : Memref sig .tc .vmem S512x512 .f32) (harg5 : arg5.IsWhole) (arg6 : Memref sig .tc .vmem S16x512 .f32) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S512x512 .bf16) (harg10 : arg10.IsWhole) (arg11 : Memref sig .tc .vmem S3x512 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S3x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S16x512 .f32) (harg18 : arg18.IsWhole) (hc0 : cond0_0 i) (hc1 : cond0_1 i) (hc2 : ¬cond0_2 i) (hc3 : ¬cond0_3 i) (x0 : Vec F S512x2048 .bf16) (x1 : Vec F S512x2048 .bf16) (x2 : Vec F S16x512 .f32) (x3 : Vec F S512x512 .f32) (x4 : Vec F S16x512 .f32) (x5 : Vec F S16x512 .bf16) (x6 : Vec F S512x512 .bf16) (x7 : Vec F S16x512 .bf16) (x8 : Vec F S512x512 .bf16) (x9 : Vec F S3x512 .f32)

def out0_A_10 : Vec F S512x512 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).1)

def out0_A_11 : Vec F S512x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.1)

theorem cover0_A_12 (y : S3x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.1 S3x512.size (by sl_kernel_rfl) y

def out0_A_12 : Vec F S3x512 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.1)

theorem cover0_A_13 (y : S1x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.1 S1x512.size (by sl_kernel_rfl) y

def out0_A_13 : Vec F S1x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.1)

theorem scover0_A_0 (y : S512x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.1 (by sl_whole_mem) y

def sout0_A_0 : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.1)

theorem scover0_A_1 (y : S512x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.1 S512x512.size (by sl_kernel_rfl) y

def sout0_A_1 : Vec F S512x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.1)

theorem scover0_A_2 (y : S16x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.2.1 S16x512.size (by sl_kernel_rfl) y

def sout0_A_2 : Vec F S16x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9).2.2.2.2.2.2.1)

end

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S16x512 .f32) (harg4 : arg4.IsWhole) (arg5 : Memref sig .tc .vmem S512x512 .f32) (harg5 : arg5.IsWhole) (arg6 : Memref sig .tc .vmem S16x512 .f32) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S512x512 .bf16) (harg10 : arg10.IsWhole) (arg11 : Memref sig .tc .vmem S3x512 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S3x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S16x512 .f32) (harg18 : arg18.IsWhole) (hc0 : ¬cond0_0 i) (hc1 : cond0_1 i) (hc2 : ¬cond0_2 i) (hc3 : ¬cond0_3 i) (x0 : Vec F S512x2048 .bf16) (x1 : Vec F S512x2048 .bf16) (x2 : Vec F S16x512 .f32) (x3 : Vec F S512x512 .f32) (x4 : Vec F S16x512 .f32) (x5 : Vec F S16x512 .bf16) (x6 : Vec F S512x512 .bf16) (x7 : Vec F S16x512 .bf16) (x8 : Vec F S512x512 .bf16) (x9 : Vec F S3x512 .f32) (xs0 : Vec F S512x512 .f32) (xs1 : Vec F S512x512 .f32)

def out0_B_10 : Vec F S512x512 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).1)

def out0_B_11 : Vec F S512x512 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.1)

theorem scover0_B_0 (y : S512x512.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.1 S512x256.size (by sl_kernel_rfl) y

def sout0_B_0 : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.1)

theorem scover0_B_1 (y : S512x512.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.1 S512x512.size (by sl_kernel_rfl) y

def sout0_B_1 : Vec F S512x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.1)

theorem scover0_B_2 (y : S16x512.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.2.1 S16x512.size (by sl_kernel_rfl) y

def sout0_B_2 : Vec F S16x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1).2.2.2.2.2.2.1)

end

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S16x512 .f32) (harg4 : arg4.IsWhole) (arg5 : Memref sig .tc .vmem S512x512 .f32) (harg5 : arg5.IsWhole) (arg6 : Memref sig .tc .vmem S16x512 .f32) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S512x512 .bf16) (harg10 : arg10.IsWhole) (arg11 : Memref sig .tc .vmem S3x512 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S3x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S16x512 .f32) (harg18 : arg18.IsWhole) (hc0 : ¬cond0_0 i) (hc1 : ¬cond0_1 i) (hc2 : cond0_2 i) (hc3 : ¬cond0_3 i) (x0 : Vec F S512x2048 .bf16) (x1 : Vec F S512x2048 .bf16) (x2 : Vec F S16x512 .f32) (x3 : Vec F S512x512 .f32) (x4 : Vec F S16x512 .f32) (x5 : Vec F S16x512 .bf16) (x6 : Vec F S512x512 .bf16) (x7 : Vec F S16x512 .bf16) (x8 : Vec F S512x512 .bf16) (x9 : Vec F S3x512 .f32) (xo12 : Vec F S3x512 .f32) (xo13 : Vec F S1x512 .f32) (xs0 : Vec F S512x512 .f32) (xs1 : Vec F S512x512 .f32) (xs2 : Vec F S16x512 .f32)

theorem cover0_C_10 (y : S512x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1 S512x256.size (by sl_kernel_rfl) y

def out0_C_10 : Vec F S512x512 .bf16 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1)

theorem cover0_C_11 (y : S512x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1 S512x256.size (by sl_kernel_rfl) y

def out0_C_11 : Vec F S512x512 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1)

theorem cover0_C_12 (y : S3x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1 S1x256.size (by sl_kernel_rfl) y

def out0_C_12 : Vec F S3x512 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1)

theorem cover0_C_13 (y : S1x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1 S1x256.size (by sl_kernel_rfl) y

def out0_C_13 : Vec F S1x512 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1)

theorem scover0_C_0 (y : S512x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.1 S512x256.size (by sl_kernel_rfl) y

def sout0_C_0 : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.1)

theorem scover0_C_1 (y : S512x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1 S512x512.size (by sl_kernel_rfl) y

def sout0_C_1 : Vec F S512x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1)

theorem scover0_C_2 (y : S16x512.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1 S16x512.size (by sl_kernel_rfl) y

def sout0_C_2 : Vec F S16x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1)

end

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S16x512 .f32) (harg4 : arg4.IsWhole) (arg5 : Memref sig .tc .vmem S512x512 .f32) (harg5 : arg5.IsWhole) (arg6 : Memref sig .tc .vmem S16x512 .f32) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S512x512 .bf16) (harg10 : arg10.IsWhole) (arg11 : Memref sig .tc .vmem S3x512 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S3x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S16x512 .f32) (harg18 : arg18.IsWhole) (hc0 : ¬cond0_0 i) (hc1 : ¬cond0_1 i) (hc2 : ¬cond0_2 i) (hc3 : cond0_3 i) (x0 : Vec F S512x2048 .bf16) (x1 : Vec F S512x2048 .bf16) (x2 : Vec F S16x512 .f32) (x3 : Vec F S512x512 .f32) (x4 : Vec F S16x512 .f32) (x5 : Vec F S16x512 .bf16) (x6 : Vec F S512x512 .bf16) (x7 : Vec F S16x512 .bf16) (x8 : Vec F S512x512 .bf16) (x9 : Vec F S3x512 .f32) (xo12 : Vec F S3x512 .f32) (xo13 : Vec F S1x512 .f32) (xs0 : Vec F S512x512 .f32) (xs1 : Vec F S512x512 .f32) (xs2 : Vec F S16x512 .f32)

theorem cover0_D_10 (y : S512x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1 S512x256.size (by sl_kernel_rfl) y

def out0_D_10 : Vec F S512x512 .bf16 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).1)

theorem cover0_D_11 (y : S512x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1 S512x256.size (by sl_kernel_rfl) y

def out0_D_11 : Vec F S512x512 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.1)

theorem cover0_D_12 (y : S3x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1 S1x256.size (by sl_kernel_rfl) y

def out0_D_12 : Vec F S3x512 .f32 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.1)

theorem cover0_D_13 (y : S1x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1 S1x256.size (by sl_kernel_rfl) y

def out0_D_13 : Vec F S1x512 .f32 :=
  VO0_13.read (Elt F) (VO0_13.writes (Elt F) VO0_13.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.1)

theorem scover0_D_1 (y : S512x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1 S512x512.size (by sl_kernel_rfl) y

def sout0_D_1 : Vec F S512x512 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.1)

theorem scover0_D_2 (y : S16x512.Idx) : ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1 S16x512.size (by sl_kernel_rfl) y

def sout0_D_2 : Vec F S16x512 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xo12 xo13 xs0 xs1 xs2).2.2.2.2.2.2.1)

end

/-- The tiles of the four results, then the products of the last two tiles and the end rows of the one before them. -/
abbrev Tiles (F : FTy → Type) := Vec F S512x512 .bf16 × Vec F S512x512 .bf16 × Vec F S3x512 .f32 × Vec F S1x512 .f32 × Vec F S512x512 .f32 × Vec F S512x512 .f32 × Vec F S16x512 .f32

variable (m : (ℓ : Loc nD τ sig) → Buf (Elt F) ℓ)
section
variable (c : Dev nD) (t : Fin cfg0.N)

/-- What a point of case A leaves. -/
def tilesA (h0 : t.val % 18 = 0) (h1 : t.val % 18 ≤ 1) (h2 : ¬(2 ≤ t.val % 18 ∧ t.val % 18 ≤ 15)) (h3 : ¬16 ≤ t.val % 18) : Tiles F :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t))

/-- What a point of case B leaves, over what the point before left. -/
def tilesB (h0 : ¬t.val % 18 = 0) (h1 : t.val % 18 ≤ 1) (h2 : ¬(2 ≤ t.val % 18 ∧ t.val % 18 ≤ 15)) (h3 : ¬16 ≤ t.val % 18) (p : Tiles F) : Tiles F :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1, p.2.2.1, p.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1)

/-- What a point of case C leaves, over what the point before left. -/
def tilesC (h0 : ¬t.val % 18 = 0) (h1 : ¬t.val % 18 ≤ 1) (h2 : (2 ≤ t.val % 18 ∧ t.val % 18 ≤ 15)) (h3 : ¬16 ≤ t.val % 18) (p : Tiles F) : Tiles F :=
  (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2)

/-- What a point of case D leaves, over what the point before left. -/
def tilesD (h0 : ¬t.val % 18 = 0) (h1 : ¬t.val % 18 ≤ 1) (h2 : ¬(2 ≤ t.val % 18 ∧ t.val % 18 ≤ 15)) (h3 : 16 ≤ t.val % 18) (p : Tiles F) : Tiles F :=
  (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, p.2.2.2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2.1 p.2.2.2.2.2.2)

end

/-- One point, over what the point before left. -/
def step (c : Dev nD) (n : ℕ) (hn : n + 1 < cfg0.N) (p : Tiles F) : Tiles F :=
  if h0 : (n + 1) % 18 = 0 then tilesA m c ⟨n + 1, hn⟩ h0 (by show (n + 1) % 18 ≤ 1; omega) (by show ¬(2 ≤ (n + 1) % 18 ∧ (n + 1) % 18 ≤ 15); omega) (by show ¬16 ≤ (n + 1) % 18; omega)
  else if h1 : (n + 1) % 18 ≤ 1 then
    tilesB m c ⟨n + 1, hn⟩ h0 h1 (by show ¬(2 ≤ (n + 1) % 18 ∧ (n + 1) % 18 ≤ 15); omega) (by show ¬16 ≤ (n + 1) % 18; omega) p
  else if h2 : (2 ≤ (n + 1) % 18 ∧ (n + 1) % 18 ≤ 15) then tilesC m c ⟨n + 1, hn⟩ h0 h1 h2 (by show ¬16 ≤ (n + 1) % 18; omega) p
  else tilesD m c ⟨n + 1, hn⟩ h0 h1 h2 (by show 16 ≤ (n + 1) % 18; omega) p

/-- What the buffers hold after point `n`. -/
def outsAt0 (c : Dev nD) : (n : ℕ) → n < cfg0.N → Tiles F
  | 0, hn => tilesA m c ⟨0, hn⟩ (Nat.zero_mod 18) (Nat.zero_le 1) (fun h => absurd h.1 (Nat.not_succ_le_zero 1)) (Nat.not_succ_le_zero 15)
  | n + 1, hn => step m c n hn (outsAt0 c n (Nat.lt_of_succ_lt hn))

theorem outsAt0_zero (c : Dev nD) (hn : 0 < cfg0.N) :
    outsAt0 m c 0 hn = tilesA m c ⟨0, hn⟩ (Nat.zero_mod 18) (Nat.zero_le 1) (fun h => absurd h.1 (Nat.not_succ_le_zero 1)) (Nat.not_succ_le_zero 15) := rfl

theorem outsAt0_succ (c : Dev nD) (n : ℕ) (hn : n + 1 < cfg0.N) :
    outsAt0 m c (n + 1) hn = step m c n hn (outsAt0 m c n (Nat.lt_of_succ_lt hn)) := rfl

theorem outsAt0_A (c : Dev nD) (t : Fin cfg0.N) (h0 : t.val % 18 = 0) (h1 : t.val % 18 ≤ 1) (h2 : ¬(2 ≤ t.val % 18 ∧ t.val % 18 ≤ 15)) (h3 : ¬16 ≤ t.val % 18) :
    outsAt0 m c t.val t.isLt = tilesA m c t h0 h1 h2 h3 := by
  obtain ⟨n, hn⟩ := t
  cases n with
  | zero => exact outsAt0_zero m c hn
  | succ n =>
    show outsAt0 m c (n + 1) hn = tilesA m c ⟨n + 1, hn⟩ h0 h1 h2 h3
    rw [outsAt0_succ]; unfold step
    rw [dif_pos h0]

theorem outsAt0_B (c : Dev nD) (t : Fin cfg0.N) (h0 : ¬t.val % 18 = 0) (h1 : t.val % 18 ≤ 1) (h2 : ¬(2 ≤ t.val % 18 ∧ t.val % 18 ≤ 15)) (h3 : ¬16 ≤ t.val % 18) :
    outsAt0 m c t.val t.isLt = tilesB m c t h0 h1 h2 h3 (outsAt0 m c (t.val - 1) (Nat.lt_of_le_of_lt (Nat.sub_le _ _) t.isLt)) := by
  obtain ⟨n, hn⟩ := t
  cases n with
  | zero => exact absurd (Nat.zero_mod _) h0
  | succ n =>
    show outsAt0 m c (n + 1) hn = tilesB m c ⟨n + 1, hn⟩ h0 h1 h2 h3 (outsAt0 m c n (Nat.lt_of_succ_lt hn))
    rw [outsAt0_succ]; unfold step
    rw [dif_neg h0, dif_pos h1]

theorem outsAt0_C (c : Dev nD) (t : Fin cfg0.N) (h0 : ¬t.val % 18 = 0) (h1 : ¬t.val % 18 ≤ 1) (h2 : (2 ≤ t.val % 18 ∧ t.val % 18 ≤ 15)) (h3 : ¬16 ≤ t.val % 18) :
    outsAt0 m c t.val t.isLt = tilesC m c t h0 h1 h2 h3 (outsAt0 m c (t.val - 1) (Nat.lt_of_le_of_lt (Nat.sub_le _ _) t.isLt)) := by
  obtain ⟨n, hn⟩ := t
  cases n with
  | zero => exact absurd (Nat.zero_mod _) h0
  | succ n =>
    show outsAt0 m c (n + 1) hn = tilesC m c ⟨n + 1, hn⟩ h0 h1 h2 h3 (outsAt0 m c n (Nat.lt_of_succ_lt hn))
    rw [outsAt0_succ]; unfold step
    rw [dif_neg h0, dif_neg h1, dif_pos h2]

theorem outsAt0_D (c : Dev nD) (t : Fin cfg0.N) (h0 : ¬t.val % 18 = 0) (h1 : ¬t.val % 18 ≤ 1) (h2 : ¬(2 ≤ t.val % 18 ∧ t.val % 18 ≤ 15)) (h3 : 16 ≤ t.val % 18) :
    outsAt0 m c t.val t.isLt = tilesD m c t h0 h1 h2 h3 (outsAt0 m c (t.val - 1) (Nat.lt_of_le_of_lt (Nat.sub_le _ _) t.isLt)) := by
  obtain ⟨n, hn⟩ := t
  cases n with
  | zero => exact absurd (Nat.zero_mod _) h0
  | succ n =>
    show outsAt0 m c (n + 1) hn = tilesD m c ⟨n + 1, hn⟩ h0 h1 h2 h3 (outsAt0 m c n (Nat.lt_of_succ_lt hn))
    rw [outsAt0_succ]; unfold step
    rw [dif_neg h0, dif_neg h1, dif_neg h2]

end Cert.FfnMidIdeal.Run

end
-- ==== Proof.FfnMidRef.lean ====
/- `ffn_mid_bwd`'s reference at an index: every result in terms of the convolution, its sigmoid and the product `ct · w_downᵀ`. -/
module

public import proofs.«01_k».proof.Proof.Gen.FfnMidRefIdeal.Read
public import Idealize.ShloMosaic.Lib.Pipeline.ValueKit

@[expose] public section

set_option maxRecDepth 16384

noncomputable section

open Idealize.ShloMosaic Idealize.ShloMosaic.TcCoe Idealize.SL.Sem

namespace Cert.FfnMidRefIdeal.Value

open Cert.FfnMidRefIdeal Cert.FfnMidRefIdeal.Gen Cert.FfnMidRefIdeal.Read

variable (X U : FVec Ideal S8192x5632 .f32) (W : FVec Ideal S3x5632 .f32) (B : FVec Ideal S1x5632 .f32)
  (P : FVec Ideal S5632x2048 .f32) (Y : FVec Ideal S8192x2048 .f32)

/-- The slope of `silu(conv) · up` in `conv`. -/
def slope (i : S8192x5632.Idx) : EReal :=
  U i * (val_main_v27_2 (F := Ideal) X W B i * (1 + val_main_v26 (F := Ideal) X W B i * (1 - val_main_v27_2 (F := Ideal) X W B i)))

/-- The cotangent of the gated activation. -/
def prod (i : S8192x5632.Idx) : EReal := ∑ k : Fin 2048, Y (ix2 (i 0) k) * P (ix2 (i 1) k)

/-- The cotangent of the convolution's result. -/
def grad (i : S8192x5632.Idx) : EReal := prod P Y i * slope X U W B i

/-- Row `n - 16` of column `j`, and zero outside the array: the array with a halo of 16 rows at either end. -/
def padded (f : S8192x5632.Idx → EReal) (j : Fin 5632) (n : ℕ) : EReal :=
  if h : 16 ≤ n ∧ n < 8208 then f (ix2 ⟨n - 16, by omega⟩ j) else 0

theorem padded_in (f : S8192x5632.Idx → EReal) (s : Fin 8192) (j : Fin 5632) : padded f j (s.val + 16) = f (ix2 s j) := by
  unfold padded
  rw [dif_pos ⟨by omega, by omega⟩]
  congr 2

theorem prod_eq (i) : val_main_v30 (F := Ideal) P Y i = prod P Y i := by
  unfold val_main_v30
  pointwise []
  rfl

theorem du_eq (i) : val_main_v71 (F := Ideal) X W B P Y i = prod P Y i * val_main_v27_0 (F := Ideal) X W B i := by
  unfold val_main_v71 val_main_v31
  rw [← prod_eq]
  generalize val_main_v27_0 (F := Ideal) X W B = a
  generalize val_main_v30 (F := Ideal) P Y = b
  pointwise []
  exact mul_comm _ _

theorem gb_eq (G : FVec Ideal S8192x5632 .f32) (h : val_main_v33 (F := Ideal) X U W B P Y = G) (i) :
    val_main_v35 (F := Ideal) X U W B P Y i = ∑ s : Fin 8192, G (ix2 s (i 1)) := by
  unfold val_main_v35 val_main_v34
  rw [h]
  pointwise [val_main_cst_2]

theorem before_eq (s : Fin 8192) (j : Fin 5632) : val_main_v3 (F := Ideal) X (ix2 s j) = padded X j (s.val + 15) := by
  unfold val_main_v3 val_main_v2 val_main_v1 val_main_cst padded
  pointwise []
  by_cases h : s.val < 1
  · rw [dif_pos h, dif_neg (by omega)]
  · rw [dif_neg h, dif_pos (by omega)]
    blk_ext

theorem after_eq (s : Fin 8192) (j : Fin 5632) : val_main_v6 (F := Ideal) X (ix2 s j) = padded X j (s.val + 17) := by
  unfold val_main_v6 val_main_v5 val_main_v1 val_main_cst padded
  pointwise []
  by_cases h : s.val < 8191
  · rw [dif_pos h, dif_pos (by omega)]
    blk_ext
  · rw [dif_neg h, dif_neg (by omega)]

theorem gw_eq (G : FVec Ideal S8192x5632 .f32) (h : val_main_v33 (F := Ideal) X U W B P Y = G) (i) :
    val_main_v61 (F := Ideal) X U W B P Y i = ∑ s : Fin 8192, G (ix2 s (i 1)) * padded X (i 1) (s.val + 15 + i 0) := by
  unfold val_main_v61 val_main_v60 val_main_v59 val_main_v58 val_main_v57 val_main_v56 val_main_v55 val_main_v52 val_main_v51 val_main_v50 val_main_v49 val_main_v48 val_main_v47 val_main_v46 val_main_v43 val_main_v42 val_main_v41 val_main_v40 val_main_v39 val_main_v38
  rw [h]
  have ha := before_eq X
  have hb := after_eq X
  revert ha hb
  generalize val_main_v3 (F := Ideal) X = a
  generalize val_main_v6 (F := Ideal) X = b
  intro ha hb
  pointwise [val_main_cst_3, val_main_cst_4, val_main_cst_5, val_main_cst_6, val_main_cst_7, val_main_cst_8, val_main_cst_9, val_main_cst_10, val_main_cst_11]
  simp only [Finset.univ_unique, Finset.sum_singleton]
  idx_vars i
  have hX := fun s : Fin 8192 => padded_in X s i1
  fin_vals i0 with h0
  · simp [ha, h0]
  · simp [← hX, h0]
  · simp [hb, h0]

theorem dg_eq (G : FVec Ideal S8192x5632 .f32) (h : val_main_v33 (F := Ideal) X U W B P Y = G) (i0 : Fin 8192) (i1 : Fin 5632) :
    val_main_v70 (F := Ideal) X U W B P Y (ix2 i0 i1)
      = W (ix2 0 i1) * padded G i1 (i0 + 17) + W (ix2 1 i1) * G (ix2 i0 i1) + W (ix2 2 i1) * padded G i1 (i0 + 15) := by
  unfold val_main_v70 val_main_v69 val_main_v68 val_main_v67 val_main_v65 val_main_v64 val_main_v62 val_main_v54 val_main_v53 val_main_v45 val_main_v44 val_main_v37 val_main_v36 val_main_v21 val_main_v20 val_main_v19 val_main_v15 val_main_v14 val_main_v13 val_main_v10 val_main_v9 val_main_v8
  rw [h]
  unfold padded
  pointwise [val_main_cst_12, val_main_cst_13]
  rw [add_comm, ← add_assoc]
  refine congrArg₂ (· + ·) (congrArg₂ (· + ·) ?_ rfl) ?_
  · by_cases h : i0.val < 8191
    · rw [dif_pos h, dif_pos (by omega)]
      exact congrArg (fun s => W (ix2 0 i1) * G (ix2 s i1)) (Fin.ext (by show 1 + i0.val = i0.val + 17 - 16; omega))
    · rw [dif_neg h, dif_neg (by omega), mul_zero]
  · by_cases h : 1 ≤ i0.val
    · rw [dif_pos ⟨h, by omega⟩, dif_pos ⟨h, by omega⟩]
      exact congrArg (fun s => W (ix2 2 i1) * G (ix2 s i1)) (Fin.ext (by show i0.val - 1 = i0.val + 15 - 16; omega))
    · rw [dif_neg (by omega), dif_neg (by omega), mul_zero]

theorem bridge (d u : ℝ) (c : EReal) :
    (d * u * Ideal.logistic c + c * (d * u) * (Ideal.logistic c * (1 - Ideal.logistic c)) : EReal)
      = d * (u * (Ideal.logistic c * (1 + c * (1 - Ideal.logistic c)))) := by
  induction c using EReal.rec with
  | bot => simp
  | top =>
    have h : (1 - 1 : EReal) = 0 := EReal.sub_self (EReal.coe_ne_top 1) (EReal.coe_ne_bot 1)
    simp [h]
  | coe r =>
    rw [Ideal.logistic_coe]
    norm_cast
    ring

theorem prod_real (hP : ∀ i, ∃ r : ℝ, P i = r) (hY : ∀ i, ∃ r : ℝ, Y i = r) (i) : ∃ r : ℝ, prod P Y i = r := by
  refine Finset.sum_induction _ (fun x : EReal => ∃ r : ℝ, x = r) ?_ ⟨0, rfl⟩ fun k _ => ?_
  · rintro _ _ ⟨a, rfl⟩ ⟨b, rfl⟩
    exact ⟨a + b, rfl⟩
  · obtain ⟨a, ha⟩ := hP (ix2 (i 1) k)
    obtain ⟨b, hb⟩ := hY (ix2 (i 0) k)
    exact ⟨b * a, by rw [ha, hb]; rfl⟩

theorem grad_eq (hU : ∀ i, ∃ r : ℝ, U i = r) (hP : ∀ i, ∃ r : ℝ, P i = r) (hY : ∀ i, ∃ r : ℝ, Y i = r) (i) :
    val_main_v33 (F := Ideal) X U W B P Y i = grad X U W B P Y i := by
  unfold val_main_v33 val_main_call1_v1 val_main_call1_v2 val_main_call1_v0 val_main_v32 val_main_v27_1 val_main_call0_v7 val_main_call0_v6 val_main_call0_cst_1
  obtain ⟨d, hd⟩ := prod_real P Y hP hY i
  obtain ⟨u, hu⟩ := hU i
  unfold grad slope
  rw [hd, hu]
  rw [← prod_eq] at hd
  unfold val_main_v27_2 val_main_call0_v3 val_main_call0_v4 val_main_call0_v1 val_main_call0_v0 val_main_call0_v2 val_main_call0_cst_0 val_main_call0_cst
  revert hd
  generalize val_main_v26 (F := Ideal) X W B = a
  generalize val_main_v30 (F := Ideal) P Y = b
  intro hd
  pointwise []
  rw [hd, hu]
  exact bridge d u (a i)

end Cert.FfnMidRefIdeal.Value

end
-- ==== Proof.FfnMidBody.lean ====
/- The payloads of `ffn_mid_bwd`'s body at an index. The body handles a tile's 512 columns as two chunks of 256, and is printed once
   for the points that also multiply and once for the two that do not: four texts of the same arithmetic, read here once. -/
module

public import proofs.«01_k».proof.Proof.Gen.FfnMidIdeal.Skeleton
public import proofs.«01_k».proof.Proof.FfnMidRef
public import Idealize.ShloMosaic.Lib.Pipeline.ValueKit

@[expose] public section

set_option maxRecDepth 16384

noncomputable section

open Idealize.ShloMosaic Idealize.ShloMosaic.TcCoe Idealize.SL.Sem

namespace Cert.FfnMidIdeal.Value

open Cert.FfnMidIdeal Cert.FfnMidIdeal.Gen
open Cert.FfnMidRefIdeal.Value (padded)

/-! ## The four texts are one -/

section
variable {F : FTy → Type} [FloatOps F] (a : BitVec 32) (p n : Vec F S16x256 .f32) (x : Vec F S512x256 .f32)
  (e g : FVec F S544x256 .f32) (w : Vec F S3x256 .f32) (p' n' : Vec F S16x256 .bf16) (x' : Vec F S512x256 .bf16) (acc : Vec F S1x256 .f32)
  (l : Vec F S512x2048 .bf16) (r : Vec F S256x2048 .bf16)

theorem t8 : k0_pay8 l r = shapeCast S512x256 (k0_pay17 l r) shapeCasts_S512x256_S512x256 := rfl
theorem t9 : k0_pay9 l r = shapeCast S512x256 (k0_pay17 l r) shapeCasts_S512x256_S512x256 := rfl
theorem t31 : k0_pay31 (k0_pay30 l) r = k0_pay17 l r := rfl
theorem t32 : k0_pay32 a p n x = k0_pay18 a p n x := rfl
theorem t33 : k0_pay33 a p n x = k0_pay19 a p n x := rfl
theorem t34 : k0_pay34 a p n x = k0_pay20 a p n x := rfl
theorem t35 : k0_pay35 a p n x = k0_pay21 a p n x := rfl
theorem t37 : k0_pay37 (k0_pay36 x x') = k0_pay22 x x' := rfl
theorem t38 : k0_pay38 a e p' n' x' = k0_pay23 a e p' n' x' := rfl
theorem t39 : k0_pay39 a e w p' n' x' = k0_pay24 a e w p' n' x' := rfl
theorem t42 : k0_pay42 g (k0_pay40 a e p' n' x') (k0_pay41 acc) = k0_pay26 g (k0_pay23 a e p' n' x') acc := rfl
theorem t43 : k0_pay43 g (k0_pay40 a e p' n' x') acc = k0_pay26 g (k0_pay23 a e p' n' x') acc := rfl
theorem t44 : k0_pay44 g (k0_pay40 a e p' n' x') acc = k0_pay26 g (k0_pay23 a e p' n' x') acc := rfl
theorem t45 : k0_pay45 (k0_pay40 a e p' n' x') acc = k0_pay29 (k0_pay23 a e p' n' x') acc := rfl
theorem t27 : k0_pay27 g e acc = k0_pay26 g e acc := rfl
theorem t28 : k0_pay28 g e acc = k0_pay26 g e acc := rfl
theorem t47 : k0_pay47 a p n x = k0_pay18 a p n x := rfl
theorem t48 : k0_pay48 a p n x = k0_pay19 a p n x := rfl
theorem t49 : k0_pay49 a p n x = k0_pay20 a p n x := rfl
theorem t50 : k0_pay50 a p n x = k0_pay21 a p n x := rfl
theorem t51 : k0_pay51 x x' = k0_pay22 x x' := rfl
theorem t52 : k0_pay52 a e p' n' x' = k0_pay23 a e p' n' x' := rfl
theorem t53 : k0_pay53 a e w p' n' x' = k0_pay24 a e w p' n' x' := rfl
theorem t57 : k0_pay57 (k0_pay55 acc) (k0_pay56 a e g p' n' x') = k0_pay26 g (k0_pay23 a e p' n' x') acc := rfl
theorem t58 : k0_pay58 g (k0_pay54 a e p' n' x') acc = k0_pay26 g (k0_pay23 a e p' n' x') acc := rfl
theorem t59 : k0_pay59 g (k0_pay54 a e p' n' x') acc = k0_pay26 g (k0_pay23 a e p' n' x') acc := rfl
theorem t60 : k0_pay60 (k0_pay54 a e p' n' x') acc = k0_pay29 (k0_pay23 a e p' n' x') acc := rfl
theorem t63 : k0_pay63 (k0_pay61 a p) (Scalar.cmpi .eq a 17#32) n k0_pay62 x = k0_pay18 a p n x := rfl
theorem t64 : k0_pay64 a p n x = k0_pay19 a p n x := rfl
theorem t65 : k0_pay65 a p n x = k0_pay20 a p n x := rfl
theorem t66 : k0_pay66 a p n x = k0_pay21 a p n x := rfl
theorem t67 : k0_pay67 x x' = k0_pay22 x x' := rfl
theorem t69 : k0_pay69 e (Scalar.cmpi .eq (Scalar.subi a 2#32) 15#32) (k0_pay68 a p') n' x' = k0_pay23 a e p' n' x' := rfl
theorem t70 : k0_pay70 e w (Scalar.cmpi .eq (Scalar.subi a 2#32) 15#32) (k0_pay68 a p') n' x' = k0_pay24 a e w p' n' x' := rfl
theorem t72 : k0_pay72 e g (Scalar.cmpi .eq (Scalar.subi a 2#32) 15#32) (k0_pay68 a p') n' x' acc = k0_pay26 g (k0_pay23 a e p' n' x') acc := rfl
theorem t73 : k0_pay73 e g (Scalar.cmpi .eq (Scalar.subi a 2#32) 15#32) (k0_pay68 a p') n' x' acc = k0_pay26 g (k0_pay23 a e p' n' x') acc := rfl
theorem t13 : k0_pay13 g (k0_pay71 e (Scalar.cmpi .eq (Scalar.subi a 2#32) 15#32) (k0_pay68 a p') n' x') acc = k0_pay26 g (k0_pay23 a e p' n' x') acc := rfl
theorem t14 : k0_pay14 (k0_pay71 e (Scalar.cmpi .eq (Scalar.subi a 2#32) 15#32) (k0_pay68 a p') n' x') acc = k0_pay29 (k0_pay23 a e p' n' x') acc := rfl
end

/-! ## The arithmetic at an index -/

variable (a : BitVec 32) (p n : Vec Ideal S16x256 .f32) (x : Vec Ideal S512x256 .f32)
  (e g : FVec Ideal S544x256 .f32) (w : Vec Ideal S3x256 .f32) (p' n' : Vec Ideal S16x256 .bf16) (x' : Vec Ideal S512x256 .bf16)
  (acc : Vec Ideal S1x256 .f32) (l : Vec Ideal S512x2048 .bf16) (r : Vec Ideal S256x2048 .bf16) (j : Fin 256)

theorem product (k : Fin 512) : k0_pay17 (F := Ideal) l r (ix2 k j) = ∑ d : Fin 2048, l (ix2 k d) * r (ix2 j d) := by
  pointwise [k0_pay17]

theorem du_at (k : Fin 512) : k0_pay22 (F := Ideal) x x' (ix2 k j) = x (ix2 k j) * x' (ix2 k j) := by
  pointwise [k0_pay22]

theorem gw_at (t : Fin 1) : k0_pay26 (F := Ideal) g e acc (ix2 t j)
    = acc (ix2 t j) + ∑ k : Fin 512, e (ix2 ⟨16 + k, by omega⟩ j) * g (ix2 ⟨16 + k, by omega⟩ j) := by
  pointwise [k0_pay26, k0_pay25]

theorem gb_at (t : Fin 1) : k0_pay29 (F := Ideal) e acc (ix2 t j) = acc (ix2 t j) + ∑ k : Fin 512, e (ix2 ⟨16 + k, by omega⟩ j) := by
  pointwise [k0_pay29, k0_pay25]

/-! ## A tile with its halo

Point `q + 2` of a column's run finishes tile `q`: the 512 rows from `512 · q`, which are rows `16 …` of an extended array of 544. -/

theorem sel_first {α : Type} (q : ℕ) (hq : q < 16) (y z : α) :
    Scalar.select (Scalar.cmpi .eq (BitVec.ofNat 32 (q + 2)) 2#32) y z = if q = 0 then y else z := by
  interval_cases q <;> rfl

theorem sel_last {α : Type} (q : ℕ) (hq : q < 16) (y z : α) :
    Scalar.select (Scalar.cmpi .eq (BitVec.ofNat 32 (q + 2)) 17#32) y z = if q = 15 then y else z := by
  interval_cases q <;> rfl

theorem sel_first' {α : Type} (q : ℕ) (hq : q < 16) (y z : α) :
    Scalar.select (Scalar.cmpi .eq (Scalar.subi (BitVec.ofNat 32 (q + 2)) 2#32) 0#32) y z = if q = 0 then y else z := by
  interval_cases q <;> rfl

theorem sel_last' {α : Type} (q : ℕ) (hq : q < 16) (y z : α) :
    Scalar.select (Scalar.cmpi .eq (Scalar.subi (BitVec.ofNat 32 (q + 2)) 2#32) 15#32) y z = if q = 15 then y else z := by
  interval_cases q <;> rfl

abbrev Arr := Cert.FfnMidRefIdeal.S8192x5632.Idx → EReal

/-- Column `j` of an extended array is rows `512 · q …` of the padded column `c` of `f`. -/
def Ext (f : Arr) (c : Fin 5632) (q : ℕ) (v : FVec Ideal S544x256 .f32) (j : Fin 256) : Prop :=
  ∀ k : Fin 544, v (ix2 k j) = padded f c (512 * q + k)

variable {a p n x e g w p' n' x' acc l r j}
variable {f s G X : Arr} {c : Fin 5632} {q : ℕ}

theorem padded_low (f : Arr) (c : Fin 5632) {k : ℕ} (h : k < 16) : padded f c k = 0 := by
  unfold Cert.FfnMidRefIdeal.Value.padded; rw [dif_neg (by omega)]

theorem padded_high (f : Arr) (c : Fin 5632) {k : ℕ} (h : 8208 ≤ k) : padded f c k = 0 := by
  unfold Cert.FfnMidRefIdeal.Value.padded; rw [dif_neg (by omega)]

theorem padded_mul (f s : Arr) (c : Fin 5632) (k : ℕ) : padded f c k * padded s c k = padded (fun i => f i * s i) c k := by
  unfold Cert.FfnMidRefIdeal.Value.padded
  by_cases h : 16 ≤ k ∧ k < 8208
  · rw [dif_pos h, dif_pos h, dif_pos h]
  · rw [dif_neg h, dif_neg h, dif_neg h, mul_zero]

/-- The three pieces of an extended array, the halo replaced by zeros at the ends. -/
theorem pieces (hq : q < 16) (P N : Fin 16 → EReal) (Z : Fin 512 → EReal)
    (hp : q ≠ 0 → ∀ k : Fin 16, P k = padded f c (512 * q + k)) (hx : ∀ k : Fin 512, Z k = padded f c (512 * q + (16 + k)))
    (hn : q ≠ 15 → ∀ k : Fin 16, N k = padded f c (512 * q + (528 + k))) (k : Fin 544) :
    (if h : k.val < 16 then (if q = 0 then 0 else P ⟨k.val, h⟩)
      else if h2 : k.val - 16 < 512 then Z ⟨k.val - 16, h2⟩ else (if q = 15 then 0 else N ⟨k.val - 16 - 512, by omega⟩))
      = padded f c (512 * q + k) := by
  by_cases h : k.val < 16
  · rw [dif_pos h]
    by_cases h0 : q = 0
    · rw [if_pos h0, padded_low _ _ (by omega)]
    · rw [if_neg h0, hp h0]
  · rw [dif_neg h]
    by_cases h2 : k.val - 16 < 512
    · rw [dif_pos h2, hx]
      exact congrArg (padded f c) (by show 512 * q + (16 + (k.val - 16)) = 512 * q + k.val; omega)
    · rw [dif_neg h2]
      by_cases h0 : q = 15
      · rw [if_pos h0, padded_high _ _ (by omega)]
      · rw [if_neg h0, hn h0]
        exact congrArg (padded f c) (by show 512 * q + (528 + (k.val - 16 - 512)) = 512 * q + k.val; omega)

theorem ext18 (hq : q < 16) (hp : q ≠ 0 → ∀ k : Fin 16, p (ix2 k j) = padded f c (512 * q + k))
    (hx : ∀ k : Fin 512, x (ix2 k j) = padded f c (512 * q + (16 + k)))
    (hn : q ≠ 15 → ∀ k : Fin 16, n (ix2 k j) = padded f c (512 * q + (528 + k))) :
    Ext f c q (k0_pay18 (F := Ideal) (BitVec.ofNat 32 (q + 2)) p n x) j := by
  intro k
  pointwise [k0_pay18]
  simp only [sel_first q hq, sel_last q hq]
  exact pieces hq (fun k => p (ix2 k j)) (fun k => n (ix2 k j)) (fun k => x (ix2 k j)) hp hx hn k

theorem ext19 (hq : q < 16) (hp : q ≠ 0 → ∀ k : Fin 16, p (ix2 k j) = padded f c (512 * q + k))
    (hx : ∀ k : Fin 512, x (ix2 k j) = padded f c (512 * q + (16 + k)))
    (hn : q ≠ 15 → ∀ k : Fin 16, n (ix2 k j) = padded f c (512 * q + (528 + k))) :
    Ext f c q (k0_pay19 (F := Ideal) (BitVec.ofNat 32 (q + 2)) p n x) j := by
  intro k
  pointwise [k0_pay19]
  simp only [sel_first' q hq, sel_last' q hq]
  exact pieces hq (fun k => p (ix2 k j)) (fun k => n (ix2 k j)) (fun k => x (ix2 k j)) hp hx hn k

/-- The cotangent of the convolution's result, over the extended tile. -/
theorem ext23 (hq : q < 16) (he : Ext f c q e j) (hp : q ≠ 0 → ∀ k : Fin 16, p' (ix2 k j) = padded s c (512 * q + k))
    (hx : ∀ k : Fin 512, x' (ix2 k j) = padded s c (512 * q + (16 + k)))
    (hn : q ≠ 15 → ∀ k : Fin 16, n' (ix2 k j) = padded s c (512 * q + (528 + k))) :
    Ext (fun i => f i * s i) c q (k0_pay23 (F := Ideal) (BitVec.ofNat 32 (q + 2)) e p' n' x') j := by
  intro k
  pointwise [k0_pay23]
  simp only [sel_first' q hq, sel_last' q hq]
  exact (congrArg₂ (· * ·) (he k) (pieces hq (fun k => p' (ix2 k j)) (fun k => n' (ix2 k j)) (fun k => x' (ix2 k j)) hp hx hn k)).trans
    (padded_mul f s c _)

theorem dg_at (h : Ext G c q (k0_pay23 (F := Ideal) a e p' n' x') j) (k : Fin 512) :
    k0_pay24 (F := Ideal) a e w p' n' x' (ix2 k j) = w (ix2 0 j) * padded G c (512 * q + k + 17)
      + w (ix2 1 j) * padded G c (512 * q + k + 16) + w (ix2 2 j) * padded G c (512 * q + k + 15) := by
  revert h
  unfold k0_pay24
  generalize k0_pay23 (F := Ideal) a e p' n' x' = d
  intro h
  pointwise []
  rw [h, h, h]
  refine congrArg₂ (· + ·) (congrArg₂ (· + ·) ?_ ?_) ?_
  · exact congrArg (w (ix2 0 j) * padded G c ·) (by show 512 * q + (16 + k.val + 544 - 543) % 544 = _; omega)
  · exact congrArg (w (ix2 1 j) * padded G c ·) (by show 512 * q + (16 + k.val) = _; omega)
  · exact congrArg (w (ix2 2 j) * padded G c ·) (by show 512 * q + (16 + k.val + 544 - 1) % 544 = _; omega)

theorem mid_at (h : Ext G c q e j) (k : Fin 512) : e (ix2 ⟨16 + k, by omega⟩ j) = padded G c (512 * q + k + 16) := by
  rw [h]
  exact congrArg (padded G c) (by show 512 * q + (16 + k.val) = _; omega)

theorem row0_at (h : Ext X c q (k0_pay19 (F := Ideal) a p n x) j) (k : Fin 512) :
    k0_pay20 (F := Ideal) a p n x (ix2 ⟨16 + k, by omega⟩ j) = padded X c (512 * q + k + 15) := by
  revert h
  unfold k0_pay20
  generalize k0_pay19 (F := Ideal) a p n x = d
  intro h
  pointwise []
  rw [h]
  exact congrArg (padded X c) (by show 512 * q + (16 + k.val + 544 - 1) % 544 = _; omega)

theorem row2_at (h : Ext X c q (k0_pay19 (F := Ideal) a p n x) j) (k : Fin 512) :
    k0_pay21 (F := Ideal) a p n x (ix2 ⟨16 + k, by omega⟩ j) = padded X c (512 * q + k + 17) := by
  revert h
  unfold k0_pay21
  generalize k0_pay19 (F := Ideal) a p n x = d
  intro h
  pointwise []
  rw [h]
  exact congrArg (padded X c) (by show 512 * q + (16 + k.val + 544 - 543) % 544 = _; omega)

/-- What tile `q` adds to row `i` of the gradient of the convolution's weights, and to its bias. -/
def gwPart (G X : Arr) (c : Fin 5632) (i q : ℕ) : EReal := ∑ k : Fin 512, padded G c (512 * q + k + 16) * padded X c (512 * q + k + 15 + i)
def gbPart (G : Arr) (c : Fin 5632) (q : ℕ) : EReal := ∑ k : Fin 512, padded G c (512 * q + k + 16)

theorem gw0 (hG : Ext G c q e j) (hX : Ext X c q (k0_pay19 (F := Ideal) a p n x) j) (t : Fin 1) :
    k0_pay26 (F := Ideal) (k0_pay20 (F := Ideal) a p n x) e acc (ix2 t j) = acc (ix2 t j) + gwPart G X c 0 q := by
  rw [gw_at]
  exact congrArg (_ + ·) (Finset.sum_congr rfl fun k _ => by rw [mid_at hG, row0_at hX])

theorem gw1 (hG : Ext G c q e j) (hX : Ext X c q (k0_pay19 (F := Ideal) a p n x) j) (t : Fin 1) :
    k0_pay26 (F := Ideal) (k0_pay19 (F := Ideal) a p n x) e acc (ix2 t j) = acc (ix2 t j) + gwPart G X c 1 q := by
  rw [gw_at]
  exact congrArg (_ + ·) (Finset.sum_congr rfl fun k _ => by rw [mid_at hG, mid_at hX])

theorem gw2 (hG : Ext G c q e j) (hX : Ext X c q (k0_pay19 (F := Ideal) a p n x) j) (t : Fin 1) :
    k0_pay26 (F := Ideal) (k0_pay21 (F := Ideal) a p n x) e acc (ix2 t j) = acc (ix2 t j) + gwPart G X c 2 q := by
  rw [gw_at]
  exact congrArg (_ + ·) (Finset.sum_congr rfl fun k _ => by rw [mid_at hG, row2_at hX])

theorem gb (hG : Ext G c q e j) (t : Fin 1) : k0_pay29 (F := Ideal) e acc (ix2 t j) = acc (ix2 t j) + gbPart G c q := by
  rw [gb_at]
  exact congrArg (_ + ·) (Finset.sum_congr rfl fun k _ => mid_at hG k)

end Cert.FfnMidIdeal.Value

end
-- ==== Proof.FfnMidTile.lean ====
/- Finishing a tile of `ffn_mid_bwd`: from the product's rows of the tile and its neighbours and the blocks the point reads, what each
   half of the tile's columns gives of the four results. -/
module

public import proofs.«01_k».proof.Proof.FfnMidBody

@[expose] public section

set_option maxRecDepth 16384

noncomputable section

open Idealize.ShloMosaic Idealize.ShloMosaic.TcCoe Idealize.SL.Sem

namespace Cert.FfnMidIdeal.Value

open Cert.FfnMidIdeal Cert.FfnMidIdeal.Gen
open Cert.FfnMidRefIdeal.Value (padded)

/-- Row `n` of the convolution's transpose, at a column. -/
def dgAt (W : S3x5632.Idx → EReal) (G : Arr) (c : Fin 5632) (n : ℕ) : EReal :=
  W (ix2 0 c) * padded G c (n + 17) + W (ix2 1 c) * padded G c (n + 16) + W (ix2 2 c) * padded G c (n + 15)

/-- What is at hand when tile `q` is finished: of the product `f` the tile's rows, the 16 before and the 16 after; the same of the gate
    `X` and of the slope `s`; the tile of `z`; the convolution's weights `W`. Column `j` of a block is the arrays' column `col j`. -/
structure Finishing (q : ℕ) (col : Fin 512 → Fin 5632) (f s X z : Arr) (W : S3x5632.Idx → EReal)
    (tl : Vec Ideal S16x512 .f32) (fr nr : Vec Ideal S512x512 .f32) (gp : Vec Ideal S16x512 .f32) (gc : Vec Ideal S512x512 .f32)
    (gn : Vec Ideal S16x512 .f32) (sp : Vec Ideal S16x512 .bf16) (sc : Vec Ideal S512x512 .bf16) (sn : Vec Ideal S16x512 .bf16)
    (zc : Vec Ideal S512x512 .bf16) (w : Vec Ideal S3x512 .f32) : Prop where
  htl : q ≠ 0 → ∀ (k : Fin 16) (j : Fin 512), tl (ix2 k j) = padded f (col j) (512 * q + k)
  hfr : ∀ (k : Fin 512) (j : Fin 512), fr (ix2 k j) = padded f (col j) (512 * q + (16 + k))
  hnr : q ≠ 15 → ∀ (k : Fin 16) (j : Fin 512), nr (ix2 ⟨k, by omega⟩ j) = padded f (col j) (512 * q + (528 + k))
  hgp : q ≠ 0 → ∀ (k : Fin 16) (j : Fin 512), gp (ix2 k j) = padded X (col j) (512 * q + k)
  hgc : ∀ (k : Fin 512) (j : Fin 512), gc (ix2 k j) = padded X (col j) (512 * q + (16 + k))
  hgn : q ≠ 15 → ∀ (k : Fin 16) (j : Fin 512), gn (ix2 k j) = padded X (col j) (512 * q + (528 + k))
  hsp : q ≠ 0 → ∀ (k : Fin 16) (j : Fin 512), sp (ix2 k j) = padded s (col j) (512 * q + k)
  hsc : ∀ (k : Fin 512) (j : Fin 512), sc (ix2 k j) = padded s (col j) (512 * q + (16 + k))
  hsn : q ≠ 15 → ∀ (k : Fin 16) (j : Fin 512), sn (ix2 k j) = padded s (col j) (512 * q + (528 + k))
  hzc : ∀ (k : Fin 512) (j : Fin 512), zc (ix2 k j) = padded z (col j) (512 * q + (16 + k))
  hw : ∀ (i : Fin 3) (j : Fin 512), w (ix2 i j) = W (ix2 i (col j))

section
variable {e : EltTy} {o : ℕ}

/-- A half of a block's columns. -/
theorem half_at {n N : ℕ} {i : ℕ} (v : (⟨2, ![N, 512]⟩ : Shape).Idx → Elt Ideal e) (hb) (ho : o + 256 ≤ 512) (hi : i + n ≤ N) (k : Fin n) (j : Fin 256) :
    View.ld v (Rect.unit ![i, o] ![n, 256] hb) (ix2 k j) = v (ix2 ⟨i + k, by omega⟩ ⟨o + j, by omega⟩) := by
  refine View.ld_unit_apply_of v _ _ hb (ix2 k j) (ix2 ⟨i + k, by omega⟩ ⟨o + j, by omega⟩) fun a => ?_
  match a with
  | ⟨0, _⟩ => rfl
  | ⟨1, _⟩ => rfl
end

variable {q : ℕ} {col : Fin 512 → Fin 5632} {f s X z : Arr} {W : S3x5632.Idx → EReal}
    {tl : Vec Ideal S16x512 .f32} {fr nr : Vec Ideal S512x512 .f32} {gp : Vec Ideal S16x512 .f32} {gc : Vec Ideal S512x512 .f32}
    {gn : Vec Ideal S16x512 .f32} {sp : Vec Ideal S16x512 .bf16} {sc : Vec Ideal S512x512 .bf16} {sn : Vec Ideal S16x512 .bf16}
    {zc : Vec Ideal S512x512 .bf16} {w : Vec Ideal S3x512 .f32}
variable (H : Finishing q col f s X z W tl fr nr gp gc gn sp sc sn zc w) (hq : q < 16) {o : ℕ} (ho : o + 256 ≤ 512)
  (h16 : ∀ a, (![0, o] : Fin 2 → ℕ) a + (![16, 256] : Fin 2 → ℕ) a ≤ S16x512.size a)
  (h512 : ∀ a, (![0, o] : Fin 2 → ℕ) a + (![512, 256] : Fin 2 → ℕ) a ≤ S512x512.size a)
  (hnear : ∀ a, (![0, o] : Fin 2 → ℕ) a + (![16, 256] : Fin 2 → ℕ) a ≤ S512x512.size a)
  (h3 : ∀ a, (![0, o] : Fin 2 → ℕ) a + (![3, 256] : Fin 2 → ℕ) a ≤ S3x512.size a)
include H hq ho

/-- The first halo, tile and second halo of a half: `L16 v` and `L512 v` are a half's loads. -/
theorem half_prod (j : Fin 256) : Ext f (col ⟨o + j, by omega⟩) q (k0_pay18 (F := Ideal) (BitVec.ofNat 32 (q + 2))
    (View.ld tl (Rect.unit ![0, o] ![16, 256] h16)) (View.ld nr (Rect.unit ![0, o] ![16, 256] hnear))
    (View.ld fr (Rect.unit ![0, o] ![512, 256] h512))) j := by
  refine ext18 hq (fun h k => ?_) (fun k => ?_) (fun h k => ?_)
  · rw [half_at tl h16 ho (by omega)]
    simpa using H.htl h k _
  · rw [half_at fr h512 ho (by omega)]
    simpa using H.hfr k _
  · rw [half_at nr hnear ho (by omega)]
    simpa using H.hnr h k _

theorem half_gate (j : Fin 256) : Ext X (col ⟨o + j, by omega⟩) q (k0_pay19 (F := Ideal) (BitVec.ofNat 32 (q + 2))
    (View.ld gp (Rect.unit ![0, o] ![16, 256] h16)) (View.ld gn (Rect.unit ![0, o] ![16, 256] h16))
    (View.ld gc (Rect.unit ![0, o] ![512, 256] h512))) j := by
  refine ext19 hq (fun h k => ?_) (fun k => ?_) (fun h k => ?_)
  · rw [half_at gp h16 ho (by omega)]
    simpa using H.hgp h k _
  · rw [half_at gc h512 ho (by omega)]
    simpa using H.hgc k _
  · rw [half_at gn h16 ho (by omega)]
    simpa using H.hgn h k _

/-- The cotangent of the convolution's result over the extended tile. -/
theorem half_grad (j : Fin 256) : Ext (fun i => f i * s i) (col ⟨o + j, by omega⟩) q (k0_pay23 (F := Ideal) (BitVec.ofNat 32 (q + 2))
    (k0_pay18 (F := Ideal) (BitVec.ofNat 32 (q + 2))
      (View.ld tl (Rect.unit ![0, o] ![16, 256] h16)) (View.ld nr (Rect.unit ![0, o] ![16, 256] hnear))
      (View.ld fr (Rect.unit ![0, o] ![512, 256] h512)))
    (View.ld sp (Rect.unit ![0, o] ![16, 256] h16)) (View.ld sn (Rect.unit ![0, o] ![16, 256] h16))
    (View.ld sc (Rect.unit ![0, o] ![512, 256] h512))) j := by
  refine ext23 hq (half_prod H hq ho h16 h512 hnear j) (fun h k => ?_) (fun k => ?_) (fun h k => ?_)
  · rw [half_at sp h16 ho (by omega)]
    simpa using H.hsp h k _
  · rw [half_at sc h512 ho (by omega)]
    simpa using H.hsc k _
  · rw [half_at sn h16 ho (by omega)]
    simpa using H.hsn h k _

/-- The gradient of the gate. -/
theorem half_dg (k : Fin 512) (j : Fin 256) : k0_pay24 (F := Ideal) (BitVec.ofNat 32 (q + 2))
    (k0_pay18 (F := Ideal) (BitVec.ofNat 32 (q + 2))
      (View.ld tl (Rect.unit ![0, o] ![16, 256] h16)) (View.ld nr (Rect.unit ![0, o] ![16, 256] hnear))
      (View.ld fr (Rect.unit ![0, o] ![512, 256] h512)))
    (View.ld w (Rect.unit ![0, o] ![3, 256] h3))
    (View.ld sp (Rect.unit ![0, o] ![16, 256] h16)) (View.ld sn (Rect.unit ![0, o] ![16, 256] h16))
    (View.ld sc (Rect.unit ![0, o] ![512, 256] h512)) (ix2 k j)
    = dgAt W (fun i => f i * s i) (col ⟨o + j, by omega⟩) (512 * q + k) := by
  have hw (i : Fin 3) : View.ld w (Rect.unit ![0, o] ![3, 256] h3) (ix2 i j) = W (ix2 i (col ⟨o + j, by omega⟩)) := by
    rw [half_at w h3 ho (by omega)]
    simpa using H.hw i _
  rw [dg_at (half_grad H hq ho h16 h512 hnear j) k, hw, hw, hw]
  rfl

/-- The gradient of the other factor. -/
theorem half_du (k : Fin 512) (j : Fin 256) : k0_pay22 (F := Ideal) (View.ld fr (Rect.unit ![0, o] ![512, 256] h512))
    (View.ld zc (Rect.unit ![0, o] ![512, 256] h512)) (ix2 k j)
    = padded (fun i => f i * z i) (col ⟨o + j, by omega⟩) (512 * q + k + 16) := by
  rw [du_at, half_at fr h512 ho (by omega), half_at zc h512 ho (by omega), ← padded_mul]
  refine congrArg₂ (· * ·) ?_ ?_
  · simpa [Nat.add_assoc, Nat.add_comm, Nat.add_left_comm] using H.hfr k ⟨o + j, by omega⟩
  · simpa [Nat.add_assoc, Nat.add_comm, Nat.add_left_comm] using H.hzc k ⟨o + j, by omega⟩

end Cert.FfnMidIdeal.Value

end
-- ==== Proof.FfnMidPoint.lean ====
/- What each point of `ffn_mid_bwd` leaves, over what the point before left. -/
module

public import proofs.«01_k».proof.Proof.FfnMidOuts
public import proofs.«01_k».proof.Proof.FfnMidTile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnMidIdeal.Value

open Cert.FfnMidIdeal Cert.FfnMidIdeal.Gen Cert.FfnMidIdeal.Run
open Cert.FfnMidRefIdeal.Value (padded)

variable (m : (ℓ : Loc nD τ sig) → Buf (Elt Ideal) ℓ) (c : Dev nD) (t : Fin cfg0.N) (p : Tiles Ideal)

/-- A row of a block, of which a half is stored. -/
theorem row_of {n r : ℕ} (hr : r < n) {y : (⟨2, ![n, 512]⟩ : Shape).Idx} {x : S1x256.Idx} {o : ℕ} (ho : o + 256 ≤ 512) (h0 : (y 0 : ℕ) = r)
    (h1 : (y 1 : ℕ) = o + (x 1 : ℕ)) : ∃ j : Fin 256, x = ix2 0 j ∧ y = ix2 ⟨r, hr⟩ ⟨o + j, Nat.lt_of_lt_of_le (Nat.add_lt_add_left j.isLt o) ho⟩ := by
  refine ⟨x 1, ?_, ?_⟩
  · funext a; match a with
    | ⟨0, _⟩ => exact Subsingleton.elim (α := Fin 1) _ _
    | ⟨1, _⟩ => rfl
  · funext a; match a with
    | ⟨0, _⟩ => exact Fin.ext h0
    | ⟨1, _⟩ => exact Fin.ext h1

/-- What is at hand at point `t`, after `p`, to finish tile `q`. -/
abbrev AtHand (q : ℕ) (col : Fin 512 → Fin 5632) (f s X z : Arr) (W : S3x5632.Idx → EReal) : Prop :=
  Finishing q col f s X z W p.2.2.2.2.2.2 p.2.2.2.2.2.1 p.2.2.2.2.1 (iblk m c 2 t) (iblk m c 3 t) (iblk m c 4 t)
    (iblk m c 5 t) (iblk m c 6 t) (iblk m c 7 t) (iblk m c 8 t) (iblk m c 9 t)

variable {m c t p} {q : ℕ} {col : Fin 512 → Fin 5632} {f s X z : Arr} {W : S3x5632.Idx → EReal}

theorem left_of {y : S512x512.Idx} {x : S512x256.Idx} {o : ℕ} (ho : o + 256 ≤ 512) (h0 : (y 0 : ℕ) = (x 0 : ℕ)) (h1 : (y 1 : ℕ) = o + (x 1 : ℕ)) :
    ∃ (k : Fin 512) (j : Fin 256), x = ix2 k j ∧ y = ix2 k ⟨o + j, Nat.lt_of_lt_of_le (Nat.add_lt_add_left j.isLt o) ho⟩ := by
  refine ⟨x 0, x 1, ?_, ?_⟩
  · funext a; match a with
    | ⟨0, _⟩ => rfl
    | ⟨1, _⟩ => rfl
  · funext a; match a with
    | ⟨0, _⟩ => exact Fin.ext h0
    | ⟨1, _⟩ => exact Fin.ext h1

/-- The product of two blocks' rows. -/
def prodAt (l r : Vec Ideal S512x2048 .bf16) (y : S512x512.Idx) : EReal := ∑ d : Fin 2048, l (ix2 (y 0 : Fin 512) d) * r (ix2 (y 1 : Fin 512) d)

theorem half_product (l r : Vec Ideal S512x2048 .bf16) {o : ℕ} (ho : o + 256 ≤ 512) (hb) (k : Fin 512) (j : Fin 256) :
    k0_pay17 (F := Ideal) l (View.ld r (Rect.unit ![o, 0] ![256, 2048] hb)) (ix2 k j) = prodAt l r (ix2 k ⟨o + j, by omega⟩) := by
  rw [product]
  refine Finset.sum_congr rfl fun d _ => congrArg (l (ix2 k d) * ·) ?_
  exact View.ld_unit_apply_of r _ _ hb (ix2 j d) (ix2 ⟨o + j, by omega⟩ d) fun a => match a with
    | ⟨0, _⟩ => rfl
    | ⟨1, _⟩ => (Nat.zero_add _).symm

theorem dg_C (h0 h1 h2 h3) (H : AtHand m c t p q col f s X z W) (hq : q < 16) (ha : (grid0.coords t 1).val = q + 2) (y) :
    (tilesC m c t h0 h1 h2 h3 p).1 y = dgAt W (fun i => f i * s i) (col (y 1)) (512 * q + (y 0 : Fin 512)) := by
  unfold tilesC
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨k, j, rfl, rfl⟩ := left_of (y := y) (x := x) (o := 256) (by decide) h0 (by omega)
    exact half_dg H hq (by omega) _ _ _ _ k j
  · obtain ⟨k, j, rfl, rfl⟩ := left_of (y := y) (x := x) (o := 0) (by decide) h0 (by omega)
    exact half_dg H hq (by omega) _ _ _ _ k j

theorem du_C (h0 h1 h2 h3) (H : AtHand m c t p q col f s X z W) (hq : q < 16) (ha : (grid0.coords t 1).val = q + 2) (y) :
    (tilesC m c t h0 h1 h2 h3 p).2.1 y = padded (fun i => f i * z i) (col (y 1)) (512 * q + (y 0 : Fin 512) + 16) := by
  unfold tilesC
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨k, j, rfl, rfl⟩ := left_of (y := y) (x := x) (o := 256) (by decide) h0 (by omega)
    exact half_du H hq (by omega) _ k j
  · obtain ⟨k, j, rfl, rfl⟩ := left_of (y := y) (x := x) (o := 0) (by decide) h0 (by omega)
    exact half_du H hq (by omega) _ k j

theorem gw_C (h0 h1 h2 h3) (H : AtHand m c t p q col f s X z W) (hq : q < 16) (ha : (grid0.coords t 1).val = q + 2) (y) :
    (tilesC m c t h0 h1 h2 h3 p).2.2.1 y = p.2.2.1 y + gwPart (fun i => f i * s i) X (col (y 1)) (y 0 : Fin 3) q := by
  unfold tilesC
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨j, rfl, rfl⟩ := row_of (y := y) (x := x) (n := 3) (r := 2) (o := 256) (by decide) (by decide) (by omega) (by omega)
    exact (gw2 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 1) (o := 256) (by decide) (by decide) (by omega) (by omega)
    exact (gw1 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 0) (o := 256) (by decide) (by decide) (by omega) (by omega)
    exact (gw0 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 2) (o := 0) (by decide) (by decide) (by omega) (by omega)
    exact (gw2 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 1) (o := 0) (by decide) (by decide) (by omega) (by omega)
    exact (gw1 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 0) (o := 0) (by decide) (by decide) (by omega) (by omega)
    exact (gw0 (half_grad H hq (by omega) _ _ _ j) (half_gate H hq (by omega) _ _ j) 0).trans (congrArg (· + _) (half_at (n := 1) (N := 3) p.2.2.1 _ (by omega) (by omega) 0 j))

theorem gb_C (h0 h1 h2 h3) (H : AtHand m c t p q col f s X z W) (hq : q < 16) (ha : (grid0.coords t 1).val = q + 2) (y) :
    (tilesC m c t h0 h1 h2 h3 p).2.2.2.1 y = p.2.2.2.1 y + gbPart (fun i => f i * s i) (col (y 1)) q := by
  unfold tilesC
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨j, rfl, rfl⟩ := row_of (y := y) (x := x) (n := 1) (r := 0) (o := 256) (by decide) (by decide) (by omega) (by omega)
    exact (gb (half_grad H hq (by omega) _ _ _ j) 0).trans (congrArg (· + _) (half_at (n := 1) (N := 1) p.2.2.2.1 _ (by omega) (by omega) 0 j))
  · obtain ⟨j, rfl, rfl⟩ := row_of (y := y) (x := x) (n := 1) (r := 0) (o := 0) (by decide) (by decide) (by omega) (by omega)
    exact (gb (half_grad H hq (by omega) _ _ _ j) 0).trans (congrArg (· + _) (half_at (n := 1) (N := 1) p.2.2.2.1 _ (by omega) (by omega) 0 j))

theorem dg_D (h0 h1 h2 h3) (H : AtHand m c t p q col f s X z W) (hq : q < 16) (ha : (grid0.coords t 1).val = q + 2) (y) :
    (tilesD m c t h0 h1 h2 h3 p).1 y = dgAt W (fun i => f i * s i) (col (y 1)) (512 * q + (y 0 : Fin 512)) := by
  unfold tilesD
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨k, j, rfl, rfl⟩ := left_of (y := y) (x := x) (o := 256) (by decide) h0 (by omega)
    exact half_dg H hq (by omega) _ _ _ _ k j
  · obtain ⟨k, j, rfl, rfl⟩ := left_of (y := y) (x := x) (o := 0) (by decide) h0 (by omega)
    exact half_dg H hq (by omega) _ _ _ _ k j

theorem du_D (h0 h1 h2 h3) (H : AtHand m c t p q col f s X z W) (hq : q < 16) (ha : (grid0.coords t 1).val = q + 2) (y) :
    (tilesD m c t h0 h1 h2 h3 p).2.1 y = padded (fun i => f i * z i) (col (y 1)) (512 * q + (y 0 : Fin 512) + 16) := by
  unfold tilesD
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨k, j, rfl, rfl⟩ := left_of (y := y) (x := x) (o := 256) (by decide) h0 (by omega)
    exact half_du H hq (by omega) _ k j
  · obtain ⟨k, j, rfl, rfl⟩ := left_of (y := y) (x := x) (o := 0) (by decide) h0 (by omega)
    exact half_du H hq (by omega) _ k j

theorem gw_D (h0 h1 h2 h3) (H : AtHand m c t p q col f s X z W) (hq : q < 16) (ha : (grid0.coords t 1).val = q + 2) (y) :
    (tilesD m c t h0 h1 h2 h3 p).2.2.1 y = p.2.2.1 y + gwPart (fun i => f i * s i) X (col (y 1)) (y 0 : Fin 3) q := by
  unfold tilesD
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨j, rfl, rfl⟩ := row_of (y := y) (x := x) (n := 3) (r := 2) (o := 256) (by decide) (by decide) (by omega) (by omega)
    exact (gw2 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 1) (o := 256) (by decide) (by decide) (by omega) (by omega)
    exact (gw1 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 0) (o := 256) (by decide) (by decide) (by omega) (by omega)
    exact (gw0 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 2) (o := 0) (by decide) (by decide) (by omega) (by omega)
    exact (gw2 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 1) (o := 0) (by decide) (by decide) (by omega) (by omega)
    exact (gw1 (half_grad H hq (by omega) _ _ _ j) (half_gate H hq (by omega) _ _ j) 0).trans (congrArg (· + _) (half_at (n := 1) (N := 3) p.2.2.1 _ (by omega) (by omega) 0 j))
  · obtain ⟨j, rfl, rfl⟩ := row_of (y := y) (x := x) (n := 3) (r := 0) (o := 0) (by decide) (by decide) (by omega) (by omega)
    exact (gw0 (half_grad H hq (by omega) _ _ _ j) (half_gate H hq (by omega) _ _ j) 0).trans (congrArg (· + _) (half_at (n := 1) (N := 3) p.2.2.1 _ (by omega) (by omega) 0 j))

theorem gb_D (h0 h1 h2 h3) (H : AtHand m c t p q col f s X z W) (hq : q < 16) (ha : (grid0.coords t 1).val = q + 2) (y) :
    (tilesD m c t h0 h1 h2 h3 p).2.2.2.1 y = p.2.2.2.1 y + gbPart (fun i => f i * s i) (col (y 1)) q := by
  unfold tilesD
  frame_out
  simp only [read_unread_whole, ha]
  canon_tiles x h <;> try simp only [t31, t32, t33, t34, t35, t37, t38, t39, t42, t43, t44, t45, t27, t28, t47, t48, t49, t50, t51, t52, t53, t57, t58, t59, t60, t63, t64, t65, t66, t67, t69, t70, t72, t73, t13, t14]
  · obtain ⟨j, rfl, rfl⟩ := row_of (y := y) (x := x) (n := 1) (r := 0) (o := 256) (by decide) (by decide) (by omega) (by omega)
    exact (gb (half_grad H hq (by omega) _ _ _ j) 0).trans (congrArg (· + _) (half_at (n := 1) (N := 1) p.2.2.2.1 _ (by omega) (by omega) 0 j))
  · obtain ⟨j, rfl, rfl⟩ := row_of (y := y) (x := x) (n := 1) (r := 0) (o := 0) (by decide) (by decide) (by omega) (by omega)
    exact (gb (half_grad H hq (by omega) _ _ _ j) 0).trans (congrArg (· + _) (half_at (n := 1) (N := 1) p.2.2.2.1 _ (by omega) (by omega) 0 j))

theorem near_B (h0 h1 h2 h3) (y) : (tilesB m c t h0 h1 h2 h3 p).2.2.2.2.1 y = prodAt (iblk m c 0 t) (iblk m c 1 t) y := by
  unfold tilesB
  frame_out
  canon_tiles x h  <;> simp only [t8, t9, t31, k0_pay11, k0_pay12, shapeCast_id]
  · obtain ⟨k, j, rfl, rfl⟩ := left_of (y := y) (x := x) (o := 256) (by decide) h0 (by omega)
    exact half_product _ _ (by decide) _ k j
  · obtain ⟨k, j, rfl, rfl⟩ := left_of (y := y) (x := x) (o := 0) (by decide) h0 (by omega)
    exact half_product _ _ (by decide) _ k j

theorem near_C (h0 h1 h2 h3) (y) : (tilesC m c t h0 h1 h2 h3 p).2.2.2.2.1 y = prodAt (iblk m c 0 t) (iblk m c 1 t) y := by
  unfold tilesC
  frame_out
  canon_tiles x h  <;> simp only [t8, t9, t31, k0_pay11, k0_pay12, shapeCast_id]
  · obtain ⟨k, j, rfl, rfl⟩ := left_of (y := y) (x := x) (o := 256) (by decide) h0 (by omega)
    exact half_product _ _ (by decide) _ k j
  · obtain ⟨k, j, rfl, rfl⟩ := left_of (y := y) (x := x) (o := 0) (by decide) h0 (by omega)
    exact half_product _ _ (by decide) _ k j

theorem near_A (h0 h1 h2 h3) (y) : (tilesA m c t h0 h1 h2 h3).2.2.2.2.1 y = prodAt (iblk m c 0 t) (iblk m c 1 t) y := by
  unfold tilesA
  frame_out
  refine View.canon_append_of_pieces (Val := Elt Ideal) (e := .bf16) (prodAt (iblk m c 0 t) (iblk m c 1 t)) [_] [_, _] ?_ y ?_
  · intro q hq x
    rcases List.mem_pair.mp hq with rfl | rfl
    · obtain ⟨k, j, rfl, e⟩ := left_of (x := x) (o := 256) (by decide) ((ValueKit.rect_emb_unit_val _ _ _ x 0).trans (Nat.zero_add _)) (ValueKit.rect_emb_unit_val _ _ _ x 1)
      rw [e]
      simp only [t9, k0_pay12, shapeCast_id]
      exact half_product _ _ (by decide) _ k j
    · obtain ⟨k, j, rfl, e⟩ := left_of (x := x) (o := 0) (by decide) ((ValueKit.rect_emb_unit_val _ _ _ x 0).trans (Nat.zero_add _)) (ValueKit.rect_emb_unit_val _ _ _ x 1)
      rw [e]
      simp only [t8, k0_pay11, shapeCast_id]
      exact half_product _ _ (by decide) _ k j
  · have h0 : (y 0 : ℕ) < 512 := (y 0).isLt
    have h1 : (y 1 : ℕ) < 512 := (y 1).isLt
    by_cases hy : (y 1 : ℕ) < 256
    · refine ⟨_, List.mem_cons_of_mem _ List.mem_cons_self, ?_⟩
      refine (Rect.mem_set_unit (inb := inb_S512x512_S512x256_0_0)).mpr fun a => ?_
      match a with
      | ⟨0, _⟩ => exact ⟨Nat.zero_le _, h0⟩
      | ⟨1, _⟩ => exact ⟨Nat.zero_le _, hy⟩
    · refine ⟨_, List.mem_cons_self, ?_⟩
      refine (Rect.mem_set_unit (inb := inb_S512x512_S512x256_0_256)).mpr fun a => ?_
      match a with
      | ⟨0, _⟩ => exact ⟨Nat.zero_le _, h0⟩
      | ⟨1, _⟩ => exact ⟨Nat.le_of_not_lt hy, h1⟩

theorem near_D (h0 h1 h2 h3) : (tilesD m c t h0 h1 h2 h3 p).2.2.2.2.1 = p.2.2.2.2.1 := by
  unfold tilesD
  frame_out

theorem far_B (h0 h1 h2 h3) (y) : (tilesB m c t h0 h1 h2 h3 p).2.2.2.2.2.1 y = p.2.2.2.2.1 y := by
  unfold tilesB
  frame_out
  simp only [read_unread_whole]
  pointwise [k0_pay7, k0_pay10, k0_pay16]

theorem tail_B (h0 h1 h2 h3) (k : Fin 16) (j : Fin 512) :
    (tilesB m c t h0 h1 h2 h3 p).2.2.2.2.2.2 (ix2 k j) = p.2.2.2.2.2.1 (ix2 ⟨496 + k, by omega⟩ j) := by
  unfold tilesB
  frame_out
  simp only [read_unread_whole]
  pointwise [k0_pay6, k0_pay46, k0_pay15]

theorem far_C (h0 h1 h2 h3) (y) : (tilesC m c t h0 h1 h2 h3 p).2.2.2.2.2.1 y = p.2.2.2.2.1 y := by
  unfold tilesC
  frame_out
  simp only [read_unread_whole]
  pointwise [k0_pay7, k0_pay10, k0_pay16]

theorem tail_C (h0 h1 h2 h3) (k : Fin 16) (j : Fin 512) :
    (tilesC m c t h0 h1 h2 h3 p).2.2.2.2.2.2 (ix2 k j) = p.2.2.2.2.2.1 (ix2 ⟨496 + k, by omega⟩ j) := by
  unfold tilesC
  frame_out
  simp only [read_unread_whole]
  pointwise [k0_pay6, k0_pay46, k0_pay15]

theorem far_D (h0 h1 h2 h3) (y) : (tilesD m c t h0 h1 h2 h3 p).2.2.2.2.2.1 y = p.2.2.2.2.1 y := by
  unfold tilesD
  frame_out
  simp only [read_unread_whole]
  pointwise [k0_pay7, k0_pay10, k0_pay16]

theorem tail_D (h0 h1 h2 h3) (k : Fin 16) (j : Fin 512) :
    (tilesD m c t h0 h1 h2 h3 p).2.2.2.2.2.2 (ix2 k j) = p.2.2.2.2.2.1 (ix2 ⟨496 + k, by omega⟩ j) := by
  unfold tilesD
  frame_out
  simp only [read_unread_whole]
  pointwise [k0_pay6, k0_pay46, k0_pay15]

theorem gw_A (h0 h1 h2 h3) (y) : (tilesA m c t h0 h1 h2 h3).2.2.1 y = 0 := by
  unfold tilesA
  frame_out
  pointwise [k0_pay4]

theorem gb_A (h0 h1 h2 h3) (y) : (tilesA m c t h0 h1 h2 h3).2.2.2.1 y = 0 := by
  unfold tilesA
  frame_out
  pointwise [k0_pay5]

theorem gw_B (h0 h1 h2 h3) : (tilesB m c t h0 h1 h2 h3 p).2.2.1 = p.2.2.1 := by
  unfold tilesB
  rfl

theorem gb_B (h0 h1 h2 h3) : (tilesB m c t h0 h1 h2 h3 p).2.2.2.1 = p.2.2.2.1 := by
  unfold tilesB
  rfl

end Cert.FfnMidIdeal.Value

end
-- ==== Proof.FfnMidReads.lean ====
/- What the windows of `ffn_mid_bwd` hold at a point: the rows of the arrays the region is called with. -/
module

public import proofs.«01_k».proof.Proof.FfnMidPoint
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FfnMidIdeal.Value

open Cert.FfnMidIdeal Cert.FfnMidIdeal.Gen Cert.FfnMidIdeal.Run
open Cert.FfnMidRefIdeal.Value (padded padded_in prod grad)
open Cert.FfnMidRefIdeal.Read (val_main_v26 val_main_v27_0 val_main_v27_2)

variable (m : (ℓ : Loc nD τ sig) → Buf (Elt Ideal) ℓ) (c : Dev nD) (t : Fin cfg0.N)

/-- The block each window is on at a grid point. -/
theorem idx : ∀ t : Fin cfg0.N,
    win0_0.index t = ![min (t.val % 18) 15, 0] ∧ win0_1.index t = ![t.val / 18, 0]
      ∧ win0_2.index t = ![(t.val % 18 - 2) * 32 - 1, t.val / 18] ∧ win0_3.index t = ![t.val % 18 - 2, t.val / 18]
      ∧ win0_4.index t = ![min ((t.val % 18 - 2 + 1) * 32) 511, t.val / 18]
      ∧ win0_5.index t = ![(t.val % 18 - 2) * 32 - 1, t.val / 18] ∧ win0_6.index t = ![t.val % 18 - 2, t.val / 18]
      ∧ win0_7.index t = ![min ((t.val % 18 - 2 + 1) * 32) 511, t.val / 18]
      ∧ win0_8.index t = ![t.val % 18 - 2, t.val / 18] ∧ win0_9.index t = ![0, t.val / 18]
      ∧ win0_10.index t = ![t.val % 18 - 2, t.val / 18] ∧ win0_11.index t = ![t.val % 18 - 2, t.val / 18]
      ∧ win0_12.index t = ![0, t.val / 18] ∧ win0_13.index t = ![0, t.val / 18] :=
  (by decide +kernel : ∀ t : Fin grid0.N, _)

theorem coord (t : Fin cfg0.N) : (grid0.coords t 1).val = t.val % 18 := by
  have e : (grid0.coords t 1).val = t.val / 1 % 18 := Pipeline.Grid.coords_val t 1 (by decide) rfl
  rwa [Nat.div_one] at e

/-- The arguments: the gate's and the other half's products, the convolution's kernel and bias, the down projection, the cotangent. -/
abbrev gateA : FVec Ideal Cert.FfnMidRefIdeal.S8192x5632 .f32 := m ((c : Thread nD τ).loc main_arg0)
abbrev upA : FVec Ideal Cert.FfnMidRefIdeal.S8192x5632 .f32 := m ((c : Thread nD τ).loc main_arg1)
abbrev kerA : FVec Ideal Cert.FfnMidRefIdeal.S3x5632 .f32 := m ((c : Thread nD τ).loc main_arg2)
abbrev biasA : FVec Ideal Cert.FfnMidRefIdeal.S1x5632 .f32 := m ((c : Thread nD τ).loc main_arg3)
abbrev downA : FVec Ideal Cert.FfnMidRefIdeal.S5632x2048 .f32 := m ((c : Thread nD τ).loc main_arg4)
abbrev ctA : FVec Ideal Cert.FfnMidRefIdeal.S8192x2048 .f32 := m ((c : Thread nD τ).loc main_arg5)

/-- The cotangent of the gated activation, the saved slope and the saved gated gate. -/
def prodA : Arr := prod (downA m c) (ctA m c)
def slopeA : Arr := Cert.FfnMidRefIdeal.Value.slope (gateA m c) (upA m c) (kerA m c) (biasA m c)
def siluA : Arr := val_main_v27_0 (F := Ideal) (gateA m c) (kerA m c) (biasA m c)

theorem read_silu (i) : V m c main_v32 i = siluA m c i := by
  have h : V m c main_v32 = (truncf .bf16 (val_main_v27_0 (F := Ideal) (gateA m c) (kerA m c) (biasA m c)) bitsLt_bf16_f32 : FVec Ideal S8192x5632 .bf16) := by
    after_reads_simp
    rfl
  rw [h]
  rfl

theorem read_slope (i) : V m c main_v40 i = slopeA m c i := by
  have h : V m c main_v40 = (truncf .bf16 (mulf (upA m c) (mulf (val_main_v27_2 (F := Ideal) (gateA m c) (kerA m c) (biasA m c))
      (addf (broadcastInDim S8192x5632 ![] bcast_S_S8192x5632 (constant S_ .f32 0x3F800000#32))
        (mulf (val_main_v26 (F := Ideal) (gateA m c) (kerA m c) (biasA m c))
          (subf (broadcastInDim S8192x5632 ![] bcast_S_S8192x5632 (constant S_ .f32 0x3F800000#32))
            (val_main_v27_2 (F := Ideal) (gateA m c) (kerA m c) (biasA m c))))))) bitsLt_bf16_f32 : FVec Ideal S8192x5632 .bf16) := by
    after_reads_simp
    rfl
  rw [h]
  unfold slopeA Cert.FfnMidRefIdeal.Value.slope
  pointwise []

theorem read_ct (i) : V m c main_v41 i = ctA m c i := by
  have h : V m c main_v41 = (truncf .bf16 (ctA m c) bitsLt_bf16_f32 : FVec Ideal S8192x2048 .bf16) := by after_reads_simp
  rw [h]
  rfl

theorem read_down (i) : V m c main_v42 i = downA m c i := by
  have h : V m c main_v42 = (truncf .bf16 (downA m c) bitsLt_bf16_f32 : FVec Ideal S5632x2048 .bf16) := by after_reads_simp
  rw [h]
  rfl

/-- The column of an array under column `j` of the tile at hand. -/
def colA (t : Fin cfg0.N) (j : Fin 512) : Fin 5632 := ⟨512 * (t.val / 18) + j, by have : t.val < 198 := t.isLt; omega⟩

theorem padded_row (f : Arr) {s : ℕ} (hs : s < 8192) (j : Fin 5632) {n : ℕ} (h : n = s + 16) : f (ix2 ⟨s, hs⟩ j) = padded f j n := by
  subst h
  exact (padded_in f ⟨s, hs⟩ j).symm

/-! Each window's block, read: the rows before the tile at hand, its own, the rows after it. -/

theorem block2 (k : Fin 16) (j : Fin 512) (r : Fin 8192) (hr : r.val = 16 * ((t.val % 18 - 2) * 32 - 1) + k) :
    iblk m c 2 t (ix2 k j) = gateA m c (ix2 r (colA t j)) := by
  unfold gateA
  rw [← V_main_arg0 m c]
  unfold colA
  blk_point [iblk, idx t]

theorem block3 (k : Fin 512) (j : Fin 512) (r : Fin 8192) (hr : r.val = 512 * (t.val % 18 - 2) + k) :
    iblk m c 3 t (ix2 k j) = gateA m c (ix2 r (colA t j)) := by
  unfold gateA
  rw [← V_main_arg0 m c]
  unfold colA
  blk_point [iblk, idx t]

theorem block4 (k : Fin 16) (j : Fin 512) (r : Fin 8192) (hr : r.val = 16 * min ((t.val % 18 - 2 + 1) * 32) 511 + k) :
    iblk m c 4 t (ix2 k j) = gateA m c (ix2 r (colA t j)) := by
  unfold gateA
  rw [← V_main_arg0 m c]
  unfold colA
  blk_point [iblk, idx t]

theorem block5 (k : Fin 16) (j : Fin 512) (r : Fin 8192) (hr : r.val = 16 * ((t.val % 18 - 2) * 32 - 1) + k) :
    iblk m c 5 t (ix2 k j) = slopeA m c (ix2 r (colA t j)) := by
  rw [← read_slope]
  unfold colA
  blk_point [iblk, idx t]

theorem block6 (k : Fin 512) (j : Fin 512) (r : Fin 8192) (hr : r.val = 512 * (t.val % 18 - 2) + k) :
    iblk m c 6 t (ix2 k j) = slopeA m c (ix2 r (colA t j)) := by
  rw [← read_slope]
  unfold colA
  blk_point [iblk, idx t]

theorem block7 (k : Fin 16) (j : Fin 512) (r : Fin 8192) (hr : r.val = 16 * min ((t.val % 18 - 2 + 1) * 32) 511 + k) :
    iblk m c 7 t (ix2 k j) = slopeA m c (ix2 r (colA t j)) := by
  rw [← read_slope]
  unfold colA
  blk_point [iblk, idx t]

theorem block8 (k : Fin 512) (j : Fin 512) (r : Fin 8192) (hr : r.val = 512 * (t.val % 18 - 2) + k) :
    iblk m c 8 t (ix2 k j) = siluA m c (ix2 r (colA t j)) := by
  rw [← read_silu]
  unfold colA
  blk_point [iblk, idx t]

theorem block9 (i : Fin 3) (j : Fin 512) : iblk m c 9 t (ix2 i j) = kerA m c (ix2 i (colA t j)) := by
  unfold kerA colA
  rw [← V_main_arg2 m c]
  blk_point [iblk, idx t]

theorem block0 (k : Fin 512) (d : Fin 2048) (r : Fin 8192) (hr : r.val = 512 * min (t.val % 18) 15 + k) :
    iblk m c 0 t (ix2 k d) = ctA m c (ix2 r d) := by
  rw [← read_ct]
  blk_point [iblk, idx t]

theorem block1 (j : Fin 512) (d : Fin 2048) : iblk m c 1 t (ix2 j d) = downA m c (ix2 (colA t j) d) := by
  rw [← read_down]
  unfold colA
  blk_point [iblk, idx t]

/-- The product a point leaves is the tile's part of the cotangent. -/
theorem prodAt_eq (h : t.val % 18 ≤ 15) (k j : Fin 512) :
    prodAt (iblk m c 0 t) (iblk m c 1 t) (ix2 k j) = padded (prodA m c) (colA t j) (512 * (t.val % 18) + (16 + k)) := by
  rw [← padded_row (prodA m c) (s := 512 * (t.val % 18) + k) (by omega) (colA t j) (by omega)]
  unfold prodA Cert.FfnMidRefIdeal.Value.prod prodAt
  refine Finset.sum_congr rfl fun d _ => ?_
  exact congrArg₂ (· * ·) (block0 m c t k d ⟨512 * (t.val % 18) + k, by omega⟩ (by rw [Nat.min_eq_left h])) (block1 m c t j d)

/-- A point past the second has at hand what it finishes its tile with, the scratch holding what it should. -/
theorem atHand {p : Tiles Ideal} (h : 2 ≤ t.val % 18)
    (htl : t.val % 18 - 2 ≠ 0 → ∀ (k : Fin 16) (j : Fin 512), p.2.2.2.2.2.2 (ix2 k j) = padded (prodA m c) (colA t j) (512 * (t.val % 18 - 2) + k))
    (hfr : ∀ (k : Fin 512) (j : Fin 512), p.2.2.2.2.2.1 (ix2 k j) = padded (prodA m c) (colA t j) (512 * (t.val % 18 - 2) + (16 + k)))
    (hnr : t.val % 18 - 2 ≠ 15 → ∀ (k : Fin 16) (j : Fin 512),
      p.2.2.2.2.1 (ix2 ⟨k, by omega⟩ j) = padded (prodA m c) (colA t j) (512 * (t.val % 18 - 2) + (528 + k))) :
    AtHand m c t p (t.val % 18 - 2) (colA t) (prodA m c) (slopeA m c) (gateA m c) (siluA m c) (kerA m c) where
  htl := htl
  hfr := hfr
  hnr := hnr
  hgp h0 k j := (block2 m c t k j ⟨16 * ((t.val % 18 - 2) * 32 - 1) + k, by omega⟩ rfl).trans (padded_row _ _ _ (by omega))
  hgc k j := (block3 m c t k j ⟨512 * (t.val % 18 - 2) + k, by omega⟩ rfl).trans (padded_row _ _ _ (by omega))
  hgn h1 k j := (block4 m c t k j ⟨16 * min ((t.val % 18 - 2 + 1) * 32) 511 + k, by omega⟩ rfl).trans (padded_row _ _ _ (by omega))
  hsp h0 k j := (block5 m c t k j ⟨16 * ((t.val % 18 - 2) * 32 - 1) + k, by omega⟩ rfl).trans (padded_row _ _ _ (by omega))
  hsc k j := (block6 m c t k j ⟨512 * (t.val % 18 - 2) + k, by omega⟩ rfl).trans (padded_row _ _ _ (by omega))
  hsn h1 k j := (block7 m c t k j ⟨16 * min ((t.val % 18 - 2 + 1) * 32) 511 + k, by omega⟩ rfl).trans (padded_row _ _ _ (by omega))
  hzc k j := (block8 m c t k j ⟨512 * (t.val % 18 - 2) + k, by omega⟩ rfl).trans (padded_row _ _ _ (by omega))
  hw i j := block9 m c t i j

end Cert.FfnMidIdeal.Value

end
-- ==== Proof.FfnMidRun.lean ====
/- The run of `ffn_mid_bwd`: its arguments end unchanged, and its result arrays hold what the points' buffers held when written back.
   The text is the same for both programs, at any float values. -/
module

public import proofs.«01_k».proof.Proof.FfnMidOuts
public import Idealize.ShloMosaic.Lib.Claim

@[expose] public section

set_option maxRecDepth 16384

noncomputable section

namespace Cert.FfnMidIdeal.Run

open Cert.FfnMidIdeal Cert.FfnMidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 198 := lt_of_lt_of_eq t.isLt (show cfg0.N = 198 from N_0)
  rw [after0_12, after0_12]
  by_cases h0 : t.val % 18 = 0
  · by_cases h1 : t.val % 18 ≤ 1
    · by_cases h2 : (2 ≤ t.val % 18 ∧ t.val % 18 ≤ 15)
      · exfalso; omega
      · by_cases h3 : 16 ≤ t.val % 18
        · exfalso; omega
        · rw [liveAt0_12_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 18 ≤ 1
    · by_cases h2 : (2 ≤ t.val % 18 ∧ t.val % 18 ≤ 15)
      · exfalso; omega
      · by_cases h3 : 16 ≤ t.val % 18
        · exfalso; omega
        · rw [outsAt0_B m c t h0 h1 h2 h3]
          unfold tilesB
          rfl
    · by_cases h2 : (2 ≤ t.val % 18 ∧ t.val % 18 ≤ 15)
      · by_cases h3 : 16 ≤ t.val % 18
        · exfalso; omega
        · rw [liveAt0_12_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : 16 ≤ t.val % 18
        · rw [liveAt0_12_D t (fun h => h0 ((hcond0_0 t).mp h)) (fun h => h1 ((hcond0_1 t).mp h)) (fun h => h2 ((hcond0_2 t).mp h)) ((hcond0_3 t).mpr h3)] at hi
          exact absurd hi Bool.false_ne_true
        · exfalso; omega

theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 198 := lt_of_lt_of_eq t.isLt (show cfg0.N = 198 from N_0)
  rw [after0_13, after0_13]
  by_cases h0 : t.val % 18 = 0
  · by_cases h1 : t.val % 18 ≤ 1
    · by_cases h2 : (2 ≤ t.val % 18 ∧ t.val % 18 ≤ 15)
      · exfalso; omega
      · by_cases h3 : 16 ≤ t.val % 18
        · exfalso; omega
        · rw [liveAt0_13_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 18 ≤ 1
    · by_cases h2 : (2 ≤ t.val % 18 ∧ t.val % 18 ≤ 15)
      · exfalso; omega
      · by_cases h3 : 16 ≤ t.val % 18
        · exfalso; omega
        · rw [outsAt0_B m c t h0 h1 h2 h3]
          unfold tilesB
          rfl
    · by_cases h2 : (2 ≤ t.val % 18 ∧ t.val % 18 ≤ 15)
      · by_cases h3 : 16 ≤ t.val % 18
        · exfalso; omega
        · rw [liveAt0_13_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : 16 ≤ t.val % 18
        · rw [liveAt0_13_D t (fun h => h0 ((hcond0_0 t).mp h)) (fun h => h1 ((hcond0_1 t).mp h)) (fun h => h2 ((hcond0_2 t).mp h)) ((hcond0_3 t).mpr h3)] at hi
          exact absurd hi Bool.false_ne_true
        · exfalso; omega
theorem before0_12_C (c : Dev nD) (t : Fin cfg0.N) (h0 : ¬t.val % 18 = 0) (h1 : ¬t.val % 18 ≤ 1) (h2 : (2 ≤ t.val % 18 ∧ t.val % 18 ≤ 15)) (h3 : ¬16 ≤ t.val % 18) (d) :
    (dats m 0 c).before 12 t d = (outsAt0 m c (t.val - 1) (Nat.lt_of_le_of_lt (Nat.sub_le _ _) t.isLt)).2.2.1 := by
  rw [Dat.before_out_traj _ 12 rfl (fun _ _ => rfl) (hcarry0_12 m c) t.val t rfl d,
    if_neg (by rw [notFresh0_12_C t (fun h => h0 ((hcond0_0 t).mp h)) (fun h => h1 ((hcond0_1 t).mp h)) ((hcond0_2 t).mpr h2) (fun h => h3 ((hcond0_3 t).mp h))]; exact Bool.false_ne_true)]
  dsimp only [dats]
theorem before0_13_C (c : Dev nD) (t : Fin cfg0.N) (h0 : ¬t.val % 18 = 0) (h1 : ¬t.val % 18 ≤ 1) (h2 : (2 ≤ t.val % 18 ∧ t.val % 18 ≤ 15)) (h3 : ¬16 ≤ t.val % 18) (d) :
    (dats m 0 c).before 13 t d = (outsAt0 m c (t.val - 1) (Nat.lt_of_le_of_lt (Nat.sub_le _ _) t.isLt)).2.2.2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2) (fun h => h3 ((hcond0_3 t).mp h))]; exact Bool.false_ne_true)]
  dsimp only [dats]
theorem before0_12_D (c : Dev nD) (t : Fin cfg0.N) (h0 : ¬t.val % 18 = 0) (h1 : ¬t.val % 18 ≤ 1) (h2 : ¬(2 ≤ t.val % 18 ∧ t.val % 18 ≤ 15)) (h3 : 16 ≤ t.val % 18) (d) :
    (dats m 0 c).before 12 t d = (outsAt0 m c (t.val - 1) (Nat.lt_of_le_of_lt (Nat.sub_le _ _) t.isLt)).2.2.1 := by
  rw [Dat.before_out_traj _ 12 rfl (fun _ _ => rfl) (hcarry0_12 m c) t.val t rfl d,
    if_neg (by rw [notFresh0_12_D t (fun h => h0 ((hcond0_0 t).mp h)) (fun h => h1 ((hcond0_1 t).mp h)) (fun h => h2 ((hcond0_2 t).mp h)) ((hcond0_3 t).mpr h3)]; exact Bool.false_ne_true)]
  dsimp only [dats]
theorem before0_13_D (c : Dev nD) (t : Fin cfg0.N) (h0 : ¬t.val % 18 = 0) (h1 : ¬t.val % 18 ≤ 1) (h2 : ¬(2 ≤ t.val % 18 ∧ t.val % 18 ≤ 15)) (h3 : 16 ≤ t.val % 18) (d) :
    (dats m 0 c).before 13 t d = (outsAt0 m c (t.val - 1) (Nat.lt_of_le_of_lt (Nat.sub_le _ _) t.isLt)).2.2.2.1 := by
  rw [Dat.before_out_traj _ 13 rfl (fun _ _ => rfl) (hcarry0_13 m c) t.val t rfl d,
    if_neg (by rw [notFresh0_13_D t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 25600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 198 := lt_of_lt_of_eq t.isLt (show cfg0.N = 198 from N_0)
  by_cases h0 : t.val % 18 = 0
  · by_cases h1 : t.val % 18 ≤ 1
    · by_cases h2 : (2 ≤ t.val % 18 ∧ t.val % 18 ≤ 15)
      · exfalso; omega
      · by_cases h3 : 16 ≤ t.val % 18
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [Dat.leavesExact_idle (dats m 0 c) 10 t (idleAt0_10_A t ((hcond0_0 t).mpr h0) ((hcond0_1 t).mpr h1) (fun h => h2 ((hcond0_2 t).mp h)) (fun h => h3 ((hcond0_3 t).mp h))) (noFlush0_10_A t ((hcond0_0 t).mpr h0) ((hcond0_1 t).mpr h1) (fun h => h2 ((hcond0_2 t).mp h)) (fun h => h3 ((hcond0_3 t).mp h)))]
          rw [Dat.leavesExact_idle (dats m 0 c) 11 t (idleAt0_11_A t ((hcond0_0 t).mpr h0) ((hcond0_1 t).mpr h1) (fun h => h2 ((hcond0_2 t).mp h)) (fun h => h3 ((hcond0_3 t).mp h))) (noFlush0_11_A t ((hcond0_0 t).mpr h0) ((hcond0_1 t).mpr h1) (fun h => h2 ((hcond0_2 t).mp h)) (fun h => h3 ((hcond0_3 t).mp h)))]
          rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (fun h => h2 ((hcond0_2 t).mp h)) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h)) (fun h => h3 ((hcond0_3 t).mp h))], after0_13]
          by_cases hz : t.val = 0
          · rw [PhiS_castSucc m c t, PhiS_zero m c _ _ hz, PhiA0_eq]
            rw [outsAt0_A m c t h0 h1 h2 h3]
            unfold tilesA out0_A_12 out0_A_13 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexists _; iexact H13
            isplitl [HS0]; · iexact HS0
            isplitl [HS1]; · iexact HS1
            isplitl [HS2]; · iexact HS2
            iintro ⟨H0, H1, H2, H3, H4, H5, H6, H7, H8, H9, H10, H11, ⟨%e12, H12⟩, ⟨%e13, H13⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]
            · unfold owns; iexists _; isplitr
              swap; · iexact H12
              ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
          · rw [PhiS_castSucc m c t, PhiS_pos m c _ _ hz]
            rw [outsAt0_A m c t h0 h1 h2 h3]
            unfold tilesA out0_A_12 out0_A_13 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexists _; iexact H13
            isplitl [HS0]; · iexists _; iexact HS0
            isplitl [HS1]; · iexists _; iexact HS1
            isplitl [HS2]; · iexists _; iexact HS2
            iintro ⟨H0, H1, H2, H3, H4, H5, H6, H7, H8, H9, H10, H11, ⟨%e12, H12⟩, ⟨%e13, H13⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]
            · unfold owns; iexists _; isplitr
              swap; · iexact H12
              ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
    · exfalso; omega
  · by_cases h1 : t.val % 18 ≤ 1
    · by_cases h2 : (2 ≤ t.val % 18 ∧ t.val % 18 ≤ 15)
      · exfalso; omega
      · by_cases h3 : 16 ≤ t.val % 18
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h))) (noFlush0_10_B t (fun h => h0 ((hcond0_0 t).mp h)) ((hcond0_1 t).mpr h1) (fun h => h2 ((hcond0_2 t).mp h)) (fun h => h3 ((hcond0_3 t).mp h)))]
          rw [Dat.leavesExact_idle (dats m 0 c) 11 t (idleAt0_11_B t (fun h => h0 ((hcond0_0 t).mp h)) ((hcond0_1 t).mpr h1) (fun h => h2 ((hcond0_2 t).mp h)) (fun h => h3 ((hcond0_3 t).mp h))) (noFlush0_11_B t (fun h => h0 ((hcond0_0 t).mp h)) ((hcond0_1 t).mpr h1) (fun h => h2 ((hcond0_2 t).mp h)) (fun h => h3 ((hcond0_3 t).mp h)))]
          rw [Dat.leavesExact_idle (dats m 0 c) 12 t (idleAt0_12_B t (fun h => h0 ((hcond0_0 t).mp h)) ((hcond0_1 t).mpr h1) (fun h => h2 ((hcond0_2 t).mp h)) (fun h => h3 ((hcond0_3 t).mp h))) (noFlush0_12_B t (fun h => h0 ((hcond0_0 t).mp h)) ((hcond0_1 t).mpr h1) (fun h => h2 ((hcond0_2 t).mp h)) (fun h => h3 ((hcond0_3 t).mp h)))]
          rw [Dat.leavesExact_idle (dats m 0 c) 13 t (idleAt0_13_B t (fun h => h0 ((hcond0_0 t).mp h)) ((hcond0_1 t).mpr h1) (fun h => h2 ((hcond0_2 t).mp h)) (fun h => h3 ((hcond0_3 t).mp h))) (noFlush0_13_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 198 := lt_of_lt_of_eq t.isLt (show cfg0.N = 198 from N_0); omega
          · rw [PhiS_castSucc m c t, PhiS_pos m c _ _ hz]
            rw [outsAt0_B m c t h0 h1 h2 h3]
            unfold tilesB sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2 _ _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [HS0]; · iexact HS0
            isplitl [HS1]; · iexact HS1
            isplitl [HS2]; · iexists _; iexact HS2
            iintro ⟨H0, H1, H2, H3, H4, H5, H6, H7, H8, H9, H10, H11, H12, H13, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]; · iexists _; iexact H12
            iexists _; iexact H13
    · by_cases h2 : (2 ≤ t.val % 18 ∧ t.val % 18 ≤ 15)
      · by_cases h3 : 16 ≤ t.val % 18
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2) (fun h => h3 ((hcond0_3 t).mp h))], after0_11]
          rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2) (fun h => h3 ((hcond0_3 t).mp h))], after0_13]
          by_cases hz : t.val = 0
          · exfalso; have hN : t.val < 198 := lt_of_lt_of_eq t.isLt (show cfg0.N = 198 from N_0); omega
          · rw [PhiS_castSucc m c t, PhiS_pos m c _ _ hz]
            rw [outsAt0_C m c t h0 h1 h2 h3]
            simp only [before0_12_C m c t h0 h1 h2 h3, before0_13_C m c t h0 h1 h2 h3]
            unfold tilesC out0_C_10 out0_C_11 out0_C_12 out0_C_13 sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]; · iexact H12
            isplitl [H13]; · iexact H13
            isplitl [HS0]; · iexact HS0
            isplitl [HS1]; · iexact HS1
            isplitl [HS2]; · iexact HS2
            iintro ⟨H0, H1, H2, H3, H4, H5, H6, H7, H8, H9, ⟨%e10, H10⟩, ⟨%e11, H11⟩, ⟨%e12, H12⟩, ⟨%e13, H13⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]
            · unfold owns; iexists _; isplitr
              swap; · iexact H10
              ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _)
            isplitl [H11]
            · unfold owns; iexists _; isplitr
              swap; · iexact H11
              ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _)
            isplitl [H12]
            · unfold owns; iexists _; isplitr
              swap; · iexact H12
              ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
      · by_cases h3 : 16 ≤ t.val % 18
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) ((hcond0_3 t).mpr h3)], after0_11]
          rw [show (dats m 0 c).leavesExact 12 t = owns (c : Thread nD τ) (ms0_12 t) fullShare ((dats m 0 c).after 12 t) from by
      unfold Dat.leavesExact; rw [liveAt0_12_D t (fun h => h0 ((hcond0_0 t).mp h)) (fun h => h1 ((hcond0_1 t).mp h)) (fun h => h2 ((hcond0_2 t).mp h)) ((hcond0_3 t).mpr h3)], after0_12]
          rw [show (dats m 0 c).leavesExact 13 t = owns (c : Thread nD τ) (ms0_13 t) fullShare ((dats m 0 c).after 13 t) from by
      unfold Dat.leavesExact; rw [liveAt0_13_D t (fun h => h0 ((hcond0_0 t).mp h)) (fun h => h1 ((hcond0_1 t).mp h)) (fun h => h2 ((hcond0_2 t).mp h)) ((hcond0_3 t).mpr h3)], after0_13]
          by_cases hz : t.val = 0
          · exfalso; have hN : t.val < 198 := lt_of_lt_of_eq t.isLt (show cfg0.N = 198 from N_0); omega
          · rw [PhiS_castSucc m c t, PhiS_pos m c _ _ hz]
            rw [outsAt0_D m c t h0 h1 h2 h3]
            simp only [before0_12_D m c t h0 h1 h2 h3, before0_13_D m c t h0 h1 h2 h3]
            unfold tilesD out0_D_10 out0_D_11 out0_D_12 out0_D_13 sout0_D_1 sout0_D_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) _ _ _ _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]; · iexact H12
            isplitl [H13]; · iexact H13
            isplitl [HS0]; · iexact HS0
            isplitl [HS1]; · iexact HS1
            isplitl [HS2]; · iexact HS2
            iintro ⟨H0, H1, H2, H3, H4, H5, H6, H7, H8, H9, ⟨%e10, H10⟩, ⟨%e11, H11⟩, ⟨%e12, H12⟩, ⟨%e13, H13⟩, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]
            · unfold owns; iexists _; isplitr
              swap; · iexact H10
              ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _ _ _ _ _ _ _ _)
            isplitl [H11]
            · unfold owns; iexists _; isplitr
              swap; · iexact H11
              ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _ _ _ _ _)
            isplitl [H12]
            · unfold owns; iexists _; isplitr
              swap; · iexact H12
              ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H13
            ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 198 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnMidIdeal.Run

end
-- ==== Proof.FfnMid.lean ====
/- `ffn_mid_bwd`: what the scratch holds after each point, by induction over the points, and the four result arrays, which are the
   reference's over the reals where the arrays the cotangent passes through are finite. -/
module

public import proofs.«01_k».proof.Proof.FfnMidReads
public import proofs.«01_k».proof.Proof.FfnMidRun

@[expose] public section

set_option maxRecDepth 16384

noncomputable section

open Idealize.ShloMosaic Idealize.ShloMosaic.TcCoe Idealize.SL.Sem
open Idealize.ShloMosaic.Pipeline (Dat)

namespace Cert.FfnMidIdeal.Value

open Cert.FfnMidIdeal Cert.FfnMidIdeal.Gen Cert.FfnMidIdeal.Run
open Cert.FfnMidRefIdeal.Value (padded padded_in)

variable (m : (ℓ : Loc nD τ sig) → Buf (Elt Ideal) ℓ) (c : Dev nD) (t : Fin cfg0.N)

/-- The cotangent of the convolution's result. -/
abbrev gradA : Arr := fun i => prodA m c i * slopeA m c i

/-- What the buffers hold after a point: the last product and the one before it, the last rows of the one before that, and the
    two sums over the tiles finished. -/
structure Held (p : Tiles Ideal) : Prop where
  near : t.val % 18 ≤ 15 → ∀ k j : Fin 512, p.2.2.2.2.1 (ix2 k j) = padded (prodA m c) (colA t j) (512 * (t.val % 18) + (16 + k))
  far : 1 ≤ t.val % 18 → t.val % 18 ≤ 16 → ∀ k j : Fin 512,
    p.2.2.2.2.2.1 (ix2 k j) = padded (prodA m c) (colA t j) (512 * (t.val % 18 - 1) + (16 + k))
  tail : 2 ≤ t.val % 18 → ∀ (k : Fin 16) (j : Fin 512),
    p.2.2.2.2.2.2 (ix2 k j) = padded (prodA m c) (colA t j) (512 * (t.val % 18 - 2) + (512 + k))
  gw : ∀ y : S3x512.Idx, p.2.2.1 y = ∑ q ∈ Finset.range (t.val % 18 - 1), gwPart (gradA m c) (gateA m c) (colA t (y 1)) (y 0 : Fin 3) q
  gb : ∀ y : S1x512.Idx, p.2.2.2.1 y = ∑ q ∈ Finset.range (t.val % 18 - 1), gbPart (gradA m c) (colA t (y 1)) q

variable {m c t}

/-- The point before, in the same run of 18. -/
theorem pred {t' : Fin cfg0.N} (ht : t'.val = t.val - 1) (h0 : ¬t.val % 18 = 0) : t'.val % 18 = t.val % 18 - 1 ∧ colA t' = colA t := by
  refine ⟨by omega, funext fun j => Fin.ext ?_⟩
  show 512 * (t'.val / 18) + j.val = 512 * (t.val / 18) + j.val
  omega

theorem Held.atHand {p : Tiles Ideal} {t' : Fin cfg0.N} (H : Held m c t' p) (ht : t'.val = t.val - 1) (h : 2 ≤ t.val % 18) :
    AtHand m c t p (t.val % 18 - 2) (colA t) (prodA m c) (slopeA m c) (gateA m c) (siluA m c) (kerA m c) := by
  obtain ⟨e, ec⟩ := pred ht (by omega)
  refine Value.atHand m c t h (fun h0 k j => ?_) (fun k j => ?_) (fun h1 k j => ?_)
  · rw [H.tail (by omega), ec]
    exact congrArg _ (by omega)
  · rw [H.far (by omega) (by omega), ec]
    exact congrArg _ (by omega)
  · rw [H.near (by omega), ec]
    exact congrArg _ (by show 512 * (t'.val % 18) + (16 + k.val) = _; omega)

theorem held_A (h0 h1 h2 h3) : Held m c t (tilesA m c t h0 h1 h2 h3) where
  near h k j := (near_A h0 h1 h2 h3 _).trans (prodAt_eq m c t h k j)
  far h := by omega
  tail h := by omega
  gw y := by rw [gw_A, h0]; rfl
  gb y := by rw [gb_A, h0]; rfl

section

variable {p : Tiles Ideal} {t' : Fin cfg0.N} (H : Held m c t' p) (ht : t'.val = t.val - 1)

include H ht

theorem held_B (h0 h1 h2 h3) : Held m c t (tilesB m c t h0 h1 h2 h3 p) := by
  obtain ⟨e, ec⟩ := pred ht h0
  refine ⟨fun h k j => (near_B h0 h1 h2 h3 _).trans (prodAt_eq m c t h k j), fun _ _ k j => ?_, by omega, fun y => ?_, fun y => ?_⟩
  · rw [far_B, H.near (by omega), ec, e]
  · rw [gw_B, H.gw, ec, e]
    congr 2
    omega
  · rw [gb_B, H.gb, ec, e]
    congr 2
    omega

theorem held_C (h0 h1 h2 h3) : Held m c t (tilesC m c t h0 h1 h2 h3 p) := by
  obtain ⟨e, ec⟩ := pred ht h0
  have A := H.atHand ht h2.1
  have ha : (grid0.coords t 1).val = t.val % 18 - 2 + 2 := by rw [coord]; omega
  have hr : t.val % 18 - 1 = t.val % 18 - 1 - 1 + 1 := by omega
  refine ⟨fun h k j => (near_C h0 h1 h2 h3 _).trans (prodAt_eq m c t h k j), fun _ _ k j => ?_, fun _ k j => ?_, fun y => ?_, fun y => ?_⟩
  · rw [far_C, H.near (by omega), ec, e]
  · rw [tail_C, H.far (by omega) (by omega), ec]
    exact congrArg _ (by show 512 * (t'.val % 18 - 1) + (16 + (496 + k.val)) = _; omega)
  · rw [gw_C h0 h1 h2 h3 A (by omega) ha, H.gw, ec, e, hr, Finset.sum_range_succ]
    rfl
  · rw [gb_C h0 h1 h2 h3 A (by omega) ha, H.gb, ec, e, hr, Finset.sum_range_succ]
    rfl

theorem held_D (h0 h1 h2 h3) : Held m c t (tilesD m c t h0 h1 h2 h3 p) := by
  obtain ⟨e, ec⟩ := pred ht h0
  have A := H.atHand ht (by omega)
  have ha : (grid0.coords t 1).val = t.val % 18 - 2 + 2 := by rw [coord]; omega
  have hr : t.val % 18 - 1 = t.val % 18 - 1 - 1 + 1 := by omega
  refine ⟨by omega, fun _ _ k j => ?_, fun _ k j => ?_, fun y => ?_, fun y => ?_⟩
  · rw [far_D, H.near (by omega), ec, e]
  · rw [tail_D, H.far (by omega) (by omega), ec]
    exact congrArg _ (by show 512 * (t'.val % 18 - 1) + (16 + (496 + k.val)) = _; omega)
  · rw [gw_D h0 h1 h2 h3 A (by omega) ha, H.gw, ec, e, hr, Finset.sum_range_succ]
    rfl
  · rw [gb_D h0 h1 h2 h3 A (by omega) ha, H.gb, ec, e, hr, Finset.sum_range_succ]
    rfl

end

variable (m c)

theorem held : ∀ (n : ℕ) (t : Fin cfg0.N), t.val = n → Held m c t (outsAt0 m c t.val t.isLt) := fun n => by
  induction n using Nat.strong_induction_on with
  | _ n ih =>
    intro t ht
    by_cases h0 : t.val % 18 = 0
    · rw [outsAt0_A m c t h0 (by omega) (by omega) (by omega)]
      exact held_A ..
    have H := ih (n - 1) (by omega) ⟨t.val - 1, by omega⟩ (by show t.val - 1 = n - 1; rw [ht])
    by_cases h1 : t.val % 18 ≤ 1
    · rw [outsAt0_B m c t h0 h1 (by omega) (by omega)]
      exact held_B H rfl ..
    by_cases h3 : 16 ≤ t.val % 18
    · rw [outsAt0_D m c t h0 h1 (by omega) h3]
      exact held_D H rfl ..
    · rw [outsAt0_C m c t h0 h1 (by omega) h3]
      exact held_C H rfl ..

/-- A point past the second leaves its tile of the gate's cotangent. -/
theorem dg_point (t : Fin cfg0.N) (h : 2 ≤ t.val % 18) (y) : (outsAt0 m c t.val t.isLt).1 y
    = dgAt (kerA m c) (gradA m c) (colA t (y 1)) (512 * (t.val % 18 - 2) + (y 0 : Fin 512)) := by
  have A := (held m c (t.val - 1) ⟨t.val - 1, by omega⟩ rfl).atHand (t := t) rfl h
  have ha : (grid0.coords t 1).val = t.val % 18 - 2 + 2 := by rw [coord]; omega
  by_cases h3 : 16 ≤ t.val % 18
  · rw [outsAt0_D m c t (by omega) (by omega) (by omega) h3]
    exact dg_D _ _ _ _ A (by omega) ha y
  · rw [outsAt0_C m c t (by omega) (by omega) (by omega) h3]
    exact dg_C _ _ _ _ A (by omega) ha y

/-- And of the other half's. -/
theorem du_point (t : Fin cfg0.N) (h : 2 ≤ t.val % 18) (y) : (outsAt0 m c t.val t.isLt).2.1 y
    = padded (fun i => prodA m c i * siluA m c i) (colA t (y 1)) (512 * (t.val % 18 - 2) + (y 0 : Fin 512) + 16) := by
  have A := (held m c (t.val - 1) ⟨t.val - 1, by omega⟩ rfl).atHand (t := t) rfl h
  have ha : (grid0.coords t 1).val = t.val % 18 - 2 + 2 := by rw [coord]; omega
  by_cases h3 : 16 ≤ t.val % 18
  · rw [outsAt0_D m c t (by omega) (by omega) (by omega) h3]
    exact du_D _ _ _ _ A (by omega) ha y
  · rw [outsAt0_C m c t (by omega) (by omega) (by omega) h3]
    exact du_C _ _ _ _ A (by omega) ha y

/-- The sums over the tiles are the sums over the rows. -/
theorem gw_sum (G X : Arr) (j : Fin 5632) (i : ℕ) : ∑ q ∈ Finset.range 16, gwPart G X j i q = ∑ s : Fin 8192, G (ix2 s j) * padded X j (s.val + 15 + i) := by
  rw [Finset.sum_range]
  refine Fin.sum_mul_add_congr (n := 512) fun q k hl => ?_
  rw [padded_row G hl j rfl, Nat.mul_comm 512]

theorem gb_sum (G : Arr) (j : Fin 5632) : ∑ q ∈ Finset.range 16, gbPart G j q = ∑ s : Fin 8192, G (ix2 s j) := by
  rw [Finset.sum_range]
  refine Fin.sum_mul_add_congr (n := 512) fun q k hl => ?_
  rw [padded_row G hl j rfl, Nat.mul_comm 512]

/-- The points that write the first two results back: those past the second. -/
theorem flush_10 : ∀ t : Fin cfg0.N, (cfg0.win 10).flush t = true → 2 ≤ t.val % 18 :=
  (by decide +kernel : ∀ t : Fin grid0.N, (cfg0.win 10).flush t = true → 2 ≤ t.val % 18)

theorem flush_11 : ∀ t : Fin cfg0.N, (cfg0.win 11).flush t = true → 2 ≤ t.val % 18 :=
  (by decide +kernel : ∀ t : Fin grid0.N, (cfg0.win 11).flush t = true → 2 ≤ t.val % 18)

section

variable (hU : ∀ i, ∃ r : ℝ, upA m c i = r) (hP : ∀ i, ∃ r : ℝ, downA m c i = r) (hY : ∀ i, ∃ r : ℝ, ctA m c i = r)

include hU hP hY

theorem ref_grad : Cert.FfnMidRefIdeal.Read.val_main_v33 (F := Ideal) (gateA m c) (upA m c) (kerA m c) (biasA m c) (downA m c) (ctA m c) = gradA m c :=
  funext fun i => Cert.FfnMidRefIdeal.Value.grad_eq _ _ _ _ _ _ hU hP hY i

theorem final_dg : (dats m 0 c).arrAt 10 (cfgs 0).N = Cert.FfnMidRefIdeal.Read.val_main_v70 (F := Ideal) (gateA m c) (upA m c) (kerA m c) (biasA m c) (downA m c) (ctA m c) := by
  have e : Cert.FfnMidRefIdeal.Read.val_main_v70 (F := Ideal) (gateA m c) (upA m c) (kerA m c) (biasA m c) (downA m c) (ctA m c)
      = fun i => dgAt (kerA m c) (gradA m c) (i 1) (i 0 : Fin 8192).val := funext fun i => by
    obtain ⟨i0, i1, rfl⟩ : ∃ (i0 : Fin 8192) (i1 : Fin 5632), i = ix2 i0 i1 := ⟨i 0, i 1, by funext a; match a with | ⟨0, _⟩ => rfl | ⟨1, _⟩ => rfl⟩
    rw [Cert.FfnMidRefIdeal.Value.dg_eq _ _ _ _ _ _ _ (ref_grad m c hU hP hY)]
    show _ = dgAt _ _ i1 i0.val
    unfold dgAt
    rw [← padded_in (gradA m c) i0 i1]
  rw [e]
  refine (dats m 0 c).arrAt_eq_of_covers 10 _ (by decide +kernel) fun t hf y => ?_
  have h := flush_10 t hf
  rw [after0_10, dg_point m c t h]
  refine congrArg₂ (dgAt (kerA m c) (gradA m c)) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

theorem final_gw : (dats m 0 c).arrAt 12 (cfgs 0).N = Cert.FfnMidRefIdeal.Read.val_main_v61 (F := Ideal) (gateA m c) (upA m c) (kerA m c) (biasA m c) (downA m c) (ctA m c) := by
  have e : Cert.FfnMidRefIdeal.Read.val_main_v61 (F := Ideal) (gateA m c) (upA m c) (kerA m c) (biasA m c) (downA m c) (ctA m c)
      = fun i => ∑ q ∈ Finset.range 16, gwPart (gradA m c) (gateA m c) (i 1) (i 0 : Fin 3).val q := funext fun i => by
    rw [Cert.FfnMidRefIdeal.Value.gw_eq _ _ _ _ _ _ _ (ref_grad m c hU hP hY)]
    exact (gw_sum _ _ _ _).symm
  rw [e]
  refine (dats m 0 c).arrAt_eq_of_covers 12 _ (by decide +kernel) fun t hf y => ?_
  have h := (flush0_12 t).mp hf
  rw [after0_12, (held m c t.val t rfl).gw, h]
  refine congrArg₂ (fun j i => ∑ q ∈ Finset.range 16, gwPart (gradA m c) (gateA m c) j i q) (Fin.ext ?_) ?_
  · unfold colA
    blk_simp [idx t]
    exact congrArg (· + (y 1 : ℕ)) (Nat.mul_comm 512 _)
  · blk_simp [idx t]

theorem final_gb : (dats m 0 c).arrAt 13 (cfgs 0).N = Cert.FfnMidRefIdeal.Read.val_main_v35 (F := Ideal) (gateA m c) (upA m c) (kerA m c) (biasA m c) (downA m c) (ctA m c) := by
  have e : Cert.FfnMidRefIdeal.Read.val_main_v35 (F := Ideal) (gateA m c) (upA m c) (kerA m c) (biasA m c) (downA m c) (ctA m c)
      = fun i => ∑ q ∈ Finset.range 16, gbPart (gradA m c) (i 1) q := funext fun i => by
    rw [Cert.FfnMidRefIdeal.Value.gb_eq _ _ _ _ _ _ _ (ref_grad m c hU hP hY)]
    exact (gb_sum _ _).symm
  rw [e]
  refine (dats m 0 c).arrAt_eq_of_covers 13 _ (by decide +kernel) fun t hf y => ?_
  have h := (flush0_13 t).mp hf
  rw [after0_13, (held m c t.val t rfl).gb, h]
  refine congrArg (fun j => ∑ q ∈ Finset.range 16, gbPart (gradA m c) j q) (Fin.ext ?_)
  unfold colA
  blk_simp [idx t]
  exact congrArg (· + (y 1 : ℕ)) (Nat.mul_comm 512 _)

end

theorem final_du : (dats m 0 c).arrAt 11 (cfgs 0).N
    = Cert.FfnMidRefIdeal.Read.val_main_v71 (F := Ideal) (gateA m c) (kerA m c) (biasA m c) (downA m c) (ctA m c) := by
  have e : Cert.FfnMidRefIdeal.Read.val_main_v71 (F := Ideal) (gateA m c) (kerA m c) (biasA m c) (downA m c) (ctA m c)
      = fun i => padded (fun i => prodA m c i * siluA m c i) (i 1) ((i 0 : Fin 8192).val + 16) := funext fun i => by
    obtain ⟨i0, i1, rfl⟩ : ∃ (i0 : Fin 8192) (i1 : Fin 5632), i = ix2 i0 i1 := ⟨i 0, i 1, by funext a; match a with | ⟨0, _⟩ => rfl | ⟨1, _⟩ => rfl⟩
    rw [Cert.FfnMidRefIdeal.Value.du_eq]
    exact (padded_in (fun i => prodA m c i * siluA m c i) i0 i1).symm
  rw [e]
  refine (dats m 0 c).arrAt_eq_of_covers 11 _ (by decide +kernel) fun t hf y => ?_
  have h := flush_11 t hf
  rw [after0_11, du_point m c t h]
  refine congrArg₂ (fun j n => padded (fun i => prodA m c i * siluA m c i) j (n + 16)) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

end Cert.FfnMidIdeal.Value

end
-- ==== Proof.FfnMidClaim.lean ====
module

public import proofs.«01_k».proof.Proof.FfnMid

/-! What every run of the kernel's program leaves: the reference's four results, and the arguments as they were. -/

@[expose] public section

noncomputable section

namespace Cert.FfnMidIdeal.Value

open Idealize.ShloMosaic Idealize.SL.Sem
open Cert.FfnMidIdeal Cert.FfnMidIdeal.Gen Cert.FfnMidIdeal.Run

variable (m : (ℓ : Loc nD τ sig) → Buf (Elt Ideal) ℓ) (ρ : Dev nD → PrngReg)

theorem run_arrays : θ_run defs (onTc (τ := τ) (main (F := Ideal))) ⟨m, fun _ => 0, ρ⟩ (fun r => ∀ c : Dev nD,
      r.2.mem ((c.tc : Thread nD τ).loc main_v43_0) = (dats m 0 c).arrAt 10 (cfgs 0).N
      ∧ r.2.mem ((c.tc : Thread nD τ).loc main_v43_1) = (dats m 0 c).arrAt 11 (cfgs 0).N
      ∧ r.2.mem ((c.tc : Thread nD τ).loc main_v43_2) = (dats m 0 c).arrAt 12 (cfgs 0).N
      ∧ r.2.mem ((c.tc : Thread nD τ).loc main_v43_3) = (dats m 0 c).arrAt 13 (cfgs 0).N) :=
  (θ_run defs _ _).mono (fun _ h c => ⟨(h c).1 10, (h c).1 11, (h c).1 12, (h c).1 13⟩) (run_main m ρ)

variable (hU : ∀ c i, ∃ r : ℝ, upA m c i = r) (hP : ∀ c i, ∃ r : ℝ, downA m c i = r) (hY : ∀ c i, ∃ r : ℝ, ctA m c i = r)

include hU hP hY

theorem run : θ_run defs (onTc (τ := τ) (main (F := Ideal))) ⟨m, fun _ => 0, ρ⟩ (fun r => ∀ c : Dev nD,
      r.2.mem ((c.tc : Thread nD τ).loc main_v43_0) = Cert.FfnMidRefIdeal.Read.val_main_v70 (F := Ideal) (gateA m c) (upA m c) (kerA m c) (biasA m c) (downA m c) (ctA m c)
      ∧ r.2.mem ((c.tc : Thread nD τ).loc main_v43_1) = Cert.FfnMidRefIdeal.Read.val_main_v71 (F := Ideal) (gateA m c) (kerA m c) (biasA m c) (downA m c) (ctA m c)
      ∧ r.2.mem ((c.tc : Thread nD τ).loc main_v43_2) = Cert.FfnMidRefIdeal.Read.val_main_v61 (F := Ideal) (gateA m c) (upA m c) (kerA m c) (biasA m c) (downA m c) (ctA m c)
      ∧ r.2.mem ((c.tc : Thread nD τ).loc main_v43_3) = Cert.FfnMidRefIdeal.Read.val_main_v35 (F := Ideal) (gateA m c) (upA m c) (kerA m c) (biasA m c) (downA m c) (ctA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).1).trans (final_dg m c (hU c) (hP c) (hY c)), ((h.1 c).2.1).trans (final_du m c),
        ((h.1 c).2.2.1).trans (final_gw m c (hU c) (hP c) (hY c)), ((h.1 c).2.2.2).trans (final_gb m c (hU c) (hP c) (hY c)), h.2 c⟩)
    (θ_run_and (run_arrays m ρ) (unchanged m ρ))

end Cert.FfnMidIdeal.Value

end
-- ==== Proof.FfnMidFinite.lean ====
/- `finite_inputs`, read: an array whose absolute values all compare below the infinity holds real numbers. -/
module

public import proofs.«01_k».proof.Pre_finite_inputs
public import Idealize.ShloMosaic.Lib.KernelVsHost

@[expose] public section

noncomputable section

open Idealize.ShloMosaic

namespace Cert.Pre_finite_inputs

/-- The shapes the function states. -/
theorem facts : Facts where
  bcast_S_S8192x5632 := by decide
  bcast_S_S5632x2048 := by decide
  bcast_S_S8192x2048 := by decide

theorem real_of_lt (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine ⟨(x : EReal).toReal, (EReal.coe_toReal (fun e => ?_) (fun e => ?_)).symm⟩
  · rw [e] at h
    simp [Ideal.cmp] at h
  · rw [e] at h
    simp [Ideal.cmp] at h

variable [Facts] (x u : FVec Ideal S8192x5632 .f32) (w : FVec Ideal S3x5632 .f32) (b : FVec Ideal S1x5632 .f32)
  (p : FVec Ideal S5632x2048 .f32) (y : FVec Ideal S8192x2048 .f32)

theorem up_real (h : (fn x u w b p y).1 = fun _ => 1#1) (i) : ∃ r : ℝ, u i = r := real_of_lt _ (congrFun h i)
theorem down_real (h : (fn x u w b p y).2.1 = fun _ => 1#1) (i) : ∃ r : ℝ, p i = r := real_of_lt _ (congrFun h i)
theorem ct_real (h : (fn x u w b p y).2.2 = fun _ => 1#1) (i) : ∃ r : ℝ, y i = r := real_of_lt _ (congrFun h i)

end Cert.Pre_finite_inputs

end
-- ==== Proof.FfnInRef.lean ====
/- `ffn_in`'s reference at an index: every result in terms of the gate's and the other half's products, the convolution and its sigmoid. -/
module

public import proofs.«01_k».proof.Proof.Gen.FfnInRefIdeal.Read
public import Idealize.ShloMosaic.Lib.Pipeline.ValueKit

@[expose] public section

set_option maxRecDepth 16384

noncomputable section

open Idealize.ShloMosaic Idealize.ShloMosaic.TcCoe Idealize.SL.Sem

namespace Cert.FfnInRefIdeal.Value

open Cert.FfnInRefIdeal Cert.FfnInRefIdeal.Gen Cert.FfnInRefIdeal.Read

variable (X : FVec Ideal S8192x2048 .f32) (P U : FVec Ideal S2048x5632 .f32) (W : FVec Ideal S3x5632 .f32) (B : FVec Ideal S1x5632 .f32)

/-- A product with the input. -/
def prod (i : S8192x5632.Idx) : EReal := ∑ k : Fin 2048, X (ix2 (i 0) k) * P (ix2 k (i 1))

/-- Row `n - 8` of column `j`, and zero outside the array: the array with a halo of 8 rows at either end. -/
def padded (f : S8192x5632.Idx → EReal) (j : Fin 5632) (n : ℕ) : EReal :=
  if h : 8 ≤ n ∧ n < 8200 then f (ix2 ⟨n - 8, by omega⟩ j) else 0

/-- Row `n` of the convolution, at a column. -/
def convAt (W : S3x5632.Idx → EReal) (B : S1x5632.Idx → EReal) (f : S8192x5632.Idx → EReal) (j : Fin 5632) (n : ℕ) : EReal :=
  W (ix2 0 j) * padded f j (n + 7) + W (ix2 1 j) * padded f j (n + 8) + W (ix2 2 j) * padded f j (n + 9) + B (ix2 0 j)

/-- The gate, its slope times the other factor, and the activation, of the convolution's value and the other factor. -/
def siluOf (c : EReal) : EReal := c * Ideal.logistic c
def slopeOf (c u : EReal) : EReal := u * (Ideal.logistic c * (1 + c * (1 - Ideal.logistic c)))
def actOf (c u : EReal) : EReal := siluOf c * u

theorem padded_in (f : S8192x5632.Idx → EReal) (s : Fin 8192) (j : Fin 5632) : padded f j (s.val + 8) = f (ix2 s j) := by
  unfold padded
  rw [dif_pos ⟨by omega, by omega⟩]
  congr 2

theorem gate_eq (i) : val_main_v0 (F := Ideal) X P i = prod X P i := by
  unfold val_main_v0
  pointwise []
  rfl

theorem up_eq (i) : val_main_v1 (F := Ideal) X U i = prod X U i := by
  unfold val_main_v1
  pointwise []
  rfl

theorem before_eq (s : Fin 8192) (j : Fin 5632) : val_main_v5 (F := Ideal) X P (ix2 s j) = padded (prod X P) j (s.val + 7) := by
  rw [← funext (gate_eq X P)]
  unfold val_main_v5 val_main_v4 val_main_v3 padded
  generalize val_main_v0 (F := Ideal) X P = g
  pointwise [val_main_cst]
  by_cases h : s.val < 1
  · rw [dif_pos h, dif_neg (by omega)]
  · rw [dif_neg h, dif_pos (by omega)]
    blk_ext

theorem after_eq (s : Fin 8192) (j : Fin 5632) : val_main_v7 (F := Ideal) X P (ix2 s j) = padded (prod X P) j (s.val + 9) := by
  rw [← funext (gate_eq X P)]
  unfold val_main_v7 val_main_v6 val_main_v3 padded
  generalize val_main_v0 (F := Ideal) X P = g
  pointwise [val_main_cst]
  by_cases h : s.val < 8191
  · rw [dif_pos h, dif_pos (by omega)]
    blk_ext
  · rw [dif_neg h, dif_neg (by omega)]

theorem conv_eq (s : Fin 8192) (j : Fin 5632) : val_main_v26 (F := Ideal) X P W B (ix2 s j) = convAt W B (prod X P) j s := by
  unfold convAt
  rw [← before_eq, ← after_eq, padded_in, ← gate_eq]
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8
  generalize val_main_v5 (F := Ideal) X P = a
  generalize val_main_v7 (F := Ideal) X P = b
  generalize val_main_v0 (F := Ideal) X P = g
  pointwise []

theorem silu_eq (i) : val_main_v31 (F := Ideal) X P W B i = siluOf (val_main_v26 (F := Ideal) X P W B i) := by
  unfold val_main_v31 val_main_v27_0 val_main_v27_2 val_main_call0_v4 val_main_call0_v3 val_main_call0_v2 val_main_call0_v1 val_main_call0_v0 val_main_call0_cst_0 val_main_call0_cst
  generalize val_main_v26 (F := Ideal) X P W B = a
  pointwise []
  rfl

theorem act_eq (i) : val_main_v34 (F := Ideal) X P U W B i = actOf (val_main_v26 (F := Ideal) X P W B i) (prod X U i) := by
  rw [← up_eq]
  unfold val_main_v34 val_main_v33 val_main_v27_0 val_main_v27_2 val_main_call0_v4 val_main_call0_v3 val_main_call0_v2 val_main_call0_v1 val_main_call0_v0 val_main_call0_cst_0 val_main_call0_cst
  generalize val_main_v26 (F := Ideal) X P W B = a
  generalize val_main_v1 (F := Ideal) X U = b
  pointwise []
  rfl

/-- The derivative of the gate, as the derivative's rule leaves it. -/
theorem bridge (c : EReal) :
    (Ideal.logistic c + c * (Ideal.logistic c * (1 - Ideal.logistic c)) : EReal)
      = Ideal.logistic c * (1 + c * (1 - Ideal.logistic c)) := by
  induction c using EReal.rec with
  | bot => simp
  | top =>
    have h : (1 - 1 : EReal) = 0 := EReal.sub_self (EReal.coe_ne_top 1) (EReal.coe_ne_bot 1)
    simp [h]
  | coe r =>
    rw [Ideal.logistic_coe]
    norm_cast
    ring

theorem slope_eq (i) : val_main_v32 (F := Ideal) X P U W B i = slopeOf (val_main_v26 (F := Ideal) X P W B i) (prod X U i) := by
  rw [← up_eq]
  unfold slopeOf val_main_v32 val_main_v30 val_main_v29 val_main_call1_v2 val_main_call1_v1 val_main_call1_v0 val_main_v28 val_main_cst_0 val_main_v27_1 val_main_call0_v7 val_main_call0_v6 val_main_call0_cst_1 val_main_v27_2 val_main_call0_v4 val_main_call0_v3 val_main_call0_v2 val_main_call0_v1 val_main_call0_v0 val_main_call0_cst_0 val_main_call0_cst
  generalize val_main_v26 (F := Ideal) X P W B = a
  generalize val_main_v1 (F := Ideal) X U = b
  pointwise []
  exact congrArg (b i * ·) (bridge (a i))

/-- The sigmoid by the hyperbolic tangent of half its argument. -/
theorem tanh_half (c : EReal) : ((1 / 2 : ℝ) : EReal) * Ideal.tanh (((1 / 2 : ℝ) : EReal) * c) + ((1 / 2 : ℝ) : EReal) = Ideal.logistic c := by
  have hp : (0 : EReal) < ((1 / 2 : ℝ) : EReal) := by exact_mod_cast (by norm_num : (0 : ℝ) < 1 / 2)
  induction c using EReal.rec with
  | bot =>
    rw [EReal.mul_bot_of_pos hp, Ideal.tanh_bot, Ideal.logistic_bot, ← EReal.coe_one, ← EReal.coe_neg, ← EReal.coe_mul, ← EReal.coe_add, ← EReal.coe_zero]
    exact congrArg _ (by norm_num)
  | top =>
    rw [EReal.mul_top_of_pos hp, Ideal.tanh_top, Ideal.logistic_top, ← EReal.coe_one, ← EReal.coe_mul, ← EReal.coe_add]
    exact congrArg _ (by norm_num)
  | coe r =>
    rw [Ideal.logistic_coe, ← EReal.coe_mul, Ideal.tanh_coe, ← EReal.coe_mul, ← EReal.coe_add]
    refine congrArg _ ?_
    have hy := Real.exp_pos (-(1 / 2 * r))
    have e1 : Real.exp (-r) = Real.exp (-(1 / 2 * r)) * Real.exp (-(1 / 2 * r)) := by rw [← Real.exp_add]; congr 1; ring
    have e2 : Real.exp (1 / 2 * r) = (Real.exp (-(1 / 2 * r)))⁻¹ := by rw [← Real.exp_neg, neg_neg]
    rw [Real.tanh_eq_sinh_div_cosh, Real.sinh_eq, Real.cosh_eq, e1, e2]
    generalize Real.exp (-(1 / 2 * r)) = y at hy
    have h1 : (1 : ℝ) + y * y ≠ 0 := by positivity
    field_simp
    ring

theorem half : Ideal.ofBits .f32 0x3F000000#32 = ((1 / 2 : ℝ) : EReal) := by
  simp [Ideal.ofBits, Ideal.ieee, -EReal.coe_mul]
  norm_num

end Cert.FfnInRefIdeal.Value

end
-- ==== Proof.FfnInBody.lean ====
/- The payloads of `ffn_in`'s body at an index, and a tile with its halo. -/
module

public import proofs.«01_k».proof.Proof.Gen.FfnInIdeal.Skeleton
public import proofs.«01_k».proof.Proof.FfnInRef
public import Idealize.ShloMosaic.Lib.Pipeline.ValueKit

@[expose] public section

set_option maxRecDepth 16384

noncomputable section

open Idealize.ShloMosaic Idealize.ShloMosaic.TcCoe Idealize.SL.Sem

namespace Cert.FfnInIdeal.Value

open Cert.FfnInIdeal Cert.FfnInIdeal.Gen
open Cert.FfnInRefIdeal.Value (padded convAt siluOf slopeOf actOf half tanh_half)

section

variable (l : Vec Ideal S512x2048 .bf16) (r : Vec Ideal S2048x512 .bf16) (x : Vec Ideal S512x512 .f32) (u : Vec Ideal S512x512 .bf16)
  (a b : FVec Ideal S528x512 .f32) (w : FVec Ideal S1x512 .f32) (v : Vec Ideal S1x512 .f32) (k j : Fin 512)

theorem gate_at : k0_pay7 (F := Ideal) l r (ix2 k j) = ∑ d : Fin 2048, l (ix2 k d) * r (ix2 d j) := by
  pointwise [k0_pay7, k0_pay6]

theorem up_at : k0_pay8 (F := Ideal) l r (ix2 k j) = ∑ d : Fin 2048, l (ix2 k d) * r (ix2 d j) := by
  pointwise [k0_pay8, k0_pay6]

theorem sig_at : k0_pay14 (F := Ideal) a w b v (ix2 k j) = Ideal.logistic (k0_pay13 (F := Ideal) a w b v (ix2 k j)) := by
  unfold k0_pay14
  generalize k0_pay13 (F := Ideal) a w b v = c
  rw [← tanh_half, ← half]
  pointwise []

theorem silu_at : k0_pay17 (F := Ideal) a w b v (ix2 k j) = siluOf (k0_pay13 (F := Ideal) a w b v (ix2 k j)) := by
  unfold siluOf
  rw [← sig_at]
  unfold k0_pay17 k0_pay15
  rfl

theorem slope_at : k0_pay18 (F := Ideal) u a w b v (ix2 k j) = slopeOf (k0_pay13 (F := Ideal) a w b v (ix2 k j)) (u (ix2 k j)) := by
  unfold slopeOf
  rw [← sig_at]
  unfold k0_pay18 k0_pay16
  generalize k0_pay13 (F := Ideal) a w b v = c
  generalize k0_pay14 (F := Ideal) a w b v = s
  pointwise []

theorem act_at : k0_pay19 (F := Ideal) u a w b v (ix2 k j) = actOf (k0_pay13 (F := Ideal) a w b v (ix2 k j)) (u (ix2 k j)) := by
  unfold actOf siluOf
  rw [← sig_at]
  unfold k0_pay19 k0_pay15 k0_pay16
  rfl

end

/-! ## A tile with its halo

Point `q + 1` of a column's run finishes tile `q`: the 512 rows from `512 · q`, which are rows `8 …` of an extended array of 528. -/

theorem sel_first {α : Type} (q : ℕ) (hq : q < 16) (y z : α) :
    Scalar.select (Scalar.cmpi .eq (BitVec.ofNat 32 (q + 1)) 1#32) y z = if q = 0 then y else z := by
  interval_cases q <;> rfl

theorem sel_last {α : Type} (q : ℕ) (hq : q < 16) (y z : α) :
    Scalar.select (Scalar.cmpi .eq (BitVec.ofNat 32 (q + 1)) 16#32) y z = if q = 15 then y else z := by
  interval_cases q <;> rfl

abbrev Arr := Cert.FfnInRefIdeal.S8192x5632.Idx → EReal

theorem padded_low (f : Arr) (c : Fin 5632) {k : ℕ} (h : k < 8) : padded f c k = 0 := by
  unfold Cert.FfnInRefIdeal.Value.padded; rw [dif_neg (by omega)]

theorem padded_high (f : Arr) (c : Fin 5632) {k : ℕ} (h : 8200 ≤ k) : padded f c k = 0 := by
  unfold Cert.FfnInRefIdeal.Value.padded; rw [dif_neg (by omega)]

variable {f : Arr} {c : Fin 5632} {q : ℕ} {j : Fin 512} {i : grid0.Coords}
  {l : Vec Ideal S512x2048 .bf16} {r : Vec Ideal S2048x512 .bf16} {x : Vec Ideal S512x512 .f32} {p : Vec Ideal S8x512 .f32}

/-- The three pieces of an extended array, the halo replaced by zeros at the ends. -/
theorem pieces (hq : q < 16) (P N : Fin 8 → EReal) (Z : Fin 512 → EReal)
    (hp : q ≠ 0 → ∀ k : Fin 8, P k = padded f c (512 * q + k)) (hx : ∀ k : Fin 512, Z k = padded f c (512 * q + (8 + k)))
    (hn : q ≠ 15 → ∀ k : Fin 8, N k = padded f c (512 * q + (520 + k))) (k : Fin 528) :
    (if h : k.val < 8 then (if q = 0 then 0 else P ⟨k.val, h⟩)
      else if h2 : k.val - 8 < 512 then Z ⟨k.val - 8, h2⟩ else (if q = 15 then 0 else N ⟨k.val - 8 - 512, by omega⟩))
      = padded f c (512 * q + k) := by
  by_cases h : k.val < 8
  · rw [dif_pos h]
    by_cases h0 : q = 0
    · rw [if_pos h0, padded_low _ _ (by omega)]
    · rw [if_neg h0, hp h0]
  · rw [dif_neg h]
    by_cases h2 : k.val - 8 < 512
    · rw [dif_pos h2, hx]
      exact congrArg (padded f c) (by show 512 * q + (8 + (k.val - 8)) = 512 * q + k.val; omega)
    · rw [dif_neg h2]
      by_cases h0 : q = 15
      · rw [if_pos h0, padded_high _ _ (by omega)]
      · rw [if_neg h0, hn h0]
        exact congrArg (padded f c) (by show 512 * q + (520 + (k.val - 8 - 512)) = 512 * q + k.val; omega)

/-- The tile's product with the rows before it and the first rows of the product just made. -/
theorem ext_at (hq : q < 16) (hi : (i 1).val = q + 1) (hp : q ≠ 0 → ∀ k : Fin 8, p (ix2 k j) = padded f c (512 * q + k))
    (hx : ∀ k : Fin 512, x (ix2 k j) = padded f c (512 * q + (8 + k)))
    (hn : q ≠ 15 → ∀ k : Fin 8, k0_pay7 (F := Ideal) l r (ix2 ⟨k, by omega⟩ j) = padded f c (512 * q + (520 + k))) (k : Fin 528) :
    k0_pay9 (F := Ideal) i l r x p (ix2 k j) = padded f c (512 * q + k) := by
  unfold k0_pay9
  rw [hi]
  revert hn
  generalize k0_pay7 (F := Ideal) l r = n
  intro hn
  pointwise []
  simp only [sel_first q hq, sel_last q hq]
  exact pieces hq (fun k => p (ix2 k j)) (fun k => n (ix2 ⟨k, by omega⟩ j)) (fun k => x (ix2 k j)) hp hx hn k

/-- The convolution of a tile. -/
theorem conv_at {W : Cert.FfnInRefIdeal.S3x5632.Idx → EReal} {B : Cert.FfnInRefIdeal.S1x5632.Idx → EReal} {w : Vec Ideal S3x512 .f32} {v : Vec Ideal S1x512 .f32}
    (h : ∀ k : Fin 528, k0_pay9 (F := Ideal) i l r x p (ix2 k j) = padded f c (512 * q + k))
    (hw : ∀ a : Fin 3, w (ix2 a j) = W (ix2 a c)) (hv : v (ix2 0 j) = B (ix2 0 c)) (k : Fin 512) :
    k0_pay13 (F := Ideal) (k0_pay10 (F := Ideal) i l r x p w) (k0_pay11 (F := Ideal) w) (k0_pay12 (F := Ideal) i l r x p) v (ix2 k j)
      = convAt W B f c (512 * q + k) := by
  unfold k0_pay13 k0_pay10 k0_pay12 k0_pay11 convAt
  revert h
  generalize k0_pay9 (F := Ideal) i l r x p = d
  intro h
  pointwise []
  rw [h, h, h, hw, hw, hw, hv]
  refine congrArg (· + _) (congrArg₂ (· + ·) (congrArg₂ (· + ·) ?_ ?_) ?_)
  · exact congrArg (W (ix2 0 c) * padded f c ·) (by show 512 * q + (8 + k.val + 528 - 1) % 528 = _; omega)
  · exact congrArg (W (ix2 1 c) * padded f c ·) (by show 512 * q + (8 + k.val) = _; omega)
  · exact congrArg (W (ix2 2 c) * padded f c ·) (by show 512 * q + (8 + k.val + 528 - 527) % 528 = _; omega)

end Cert.FfnInIdeal.Value

end
-- ==== Proof.FfnInPoint.lean ====
/- What each point of `ffn_in` leaves, over what the point before left, and what its windows hold. -/
module

public import proofs.«01_k».proof.Proof.Gen.FfnInIdeal.Frame
public import proofs.«01_k».proof.Proof.FfnInBody
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen
open Cert.FfnInRefIdeal.Value (padded padded_in prod convAt siluOf slopeOf actOf)

variable (m : (ℓ : Loc nD τ sig) → Buf (Elt Ideal) ℓ) (c : Dev nD) (t : Fin cfg0.N)

/-! ## The windows -/

/-- The block each window is on at a grid point. -/
theorem idx : ∀ t : Fin cfg0.N,
    win0_0.index t = ![min (t.val % 17) 15, 0] ∧ win0_1.index t = ![0, t.val / 17] ∧ win0_2.index t = ![0, t.val / 17]
      ∧ win0_3.index t = ![0, t.val / 17] ∧ win0_4.index t = ![0, t.val / 17]
      ∧ win0_5.index t = ![t.val % 17 - 1, t.val / 17] ∧ win0_6.index t = ![t.val % 17 - 1, t.val / 17]
      ∧ win0_7.index t = ![t.val % 17 - 1, t.val / 17] ∧ win0_8.index t = ![t.val % 17 - 1, t.val / 17] :=
  (by decide +kernel : ∀ t : Fin grid0.N, _)

theorem coord (t : Fin cfg0.N) : (grid0.coords t 1).val = t.val % 17 := by
  have e : (grid0.coords t 1).val = t.val / 1 % 17 := Pipeline.Grid.coords_val t 1 (by decide) rfl
  rwa [Nat.div_one] at e

/-- The arguments: the input, the two up projections, the convolution's kernel and bias. -/
abbrev inA : FVec Ideal Cert.FfnInRefIdeal.S8192x2048 .f32 := m ((c : Thread nD τ).loc main_arg0)
abbrev gwA : FVec Ideal Cert.FfnInRefIdeal.S2048x5632 .f32 := m ((c : Thread nD τ).loc main_arg1)
abbrev uwA : FVec Ideal Cert.FfnInRefIdeal.S2048x5632 .f32 := m ((c : Thread nD τ).loc main_arg2)
abbrev kerA : FVec Ideal Cert.FfnInRefIdeal.S3x5632 .f32 := m ((c : Thread nD τ).loc main_arg3)
abbrev biasA : FVec Ideal Cert.FfnInRefIdeal.S1x5632 .f32 := m ((c : Thread nD τ).loc main_arg4)

/-- The gate's and the other half's products. -/
def gateA : Arr := prod (inA m c) (gwA m c)
def upA : Arr := prod (inA m c) (uwA m c)

theorem read_in (i) : V m c main_v0 i = inA m c i := by
  have h : V m c main_v0 = (truncf .bf16 (inA m c) bitsLt_bf16_f32 : FVec Ideal S8192x2048 .bf16) := by after_reads_simp
  rw [h]
  rfl

theorem read_gw (i) : V m c main_v1 i = gwA m c i := by
  have h : V m c main_v1 = (truncf .bf16 (gwA m c) bitsLt_bf16_f32 : FVec Ideal S2048x5632 .bf16) := by after_reads_simp
  rw [h]
  rfl

theorem read_uw (i) : V m c main_v2 i = uwA m c i := by
  have h : V m c main_v2 = (truncf .bf16 (uwA m c) bitsLt_bf16_f32 : FVec Ideal S2048x5632 .bf16) := by after_reads_simp
  rw [h]
  rfl

/-- The column of an array under column `j` of the tile at hand. -/
def colA (t : Fin cfg0.N) (j : Fin 512) : Fin 5632 := ⟨512 * (t.val / 17) + j, by have : t.val < 187 := t.isLt; omega⟩

theorem padded_row (f : Arr) {s : ℕ} (hs : s < 8192) (j : Fin 5632) {n : ℕ} (h : n = s + 8) : f (ix2 ⟨s, hs⟩ j) = padded f j n := by
  subst h
  exact (padded_in f ⟨s, hs⟩ j).symm

theorem block0 (k : Fin 512) (d : Fin 2048) (r : Fin 8192) (hr : r.val = 512 * min (t.val % 17) 15 + k) :
    iblk m c 0 t (ix2 k d) = inA m c (ix2 r d) := by
  rw [← read_in]
  blk_point [iblk, idx t]

theorem block1 (d : Fin 2048) (j : Fin 512) : iblk m c 1 t (ix2 d j) = gwA m c (ix2 d (colA t j)) := by
  rw [← read_gw]
  unfold colA
  blk_point [iblk, idx t]

theorem block2 (d : Fin 2048) (j : Fin 512) : iblk m c 2 t (ix2 d j) = uwA m c (ix2 d (colA t j)) := by
  rw [← read_uw]
  unfold colA
  blk_point [iblk, idx t]

theorem block3 (i : Fin 3) (j : Fin 512) : iblk m c 3 t (ix2 i j) = kerA m c (ix2 i (colA t j)) := by
  unfold kerA colA
  rw [← V_main_arg3 m c]
  blk_point [iblk, idx t]

theorem block4 (j : Fin 512) : iblk m c 4 t (ix2 0 j) = biasA m c (ix2 0 (colA t j)) := by
  unfold biasA colA
  rw [← V_main_arg4 m c]
  blk_point [iblk, idx t]

/-- The products a point makes are the tile's part of the two. -/
theorem gate_prod (h : t.val % 17 ≤ 15) (k j : Fin 512) :
    k0_pay7 (F := Ideal) (iblk m c 0 t) (iblk m c 1 t) (ix2 k j) = padded (gateA m c) (colA t j) (512 * (t.val % 17) + (8 + k)) := by
  rw [← padded_row (gateA m c) (s := 512 * (t.val % 17) + k) (by omega) (colA t j) (by omega), gate_at]
  unfold gateA Cert.FfnInRefIdeal.Value.prod
  refine Finset.sum_congr rfl fun d _ => ?_
  exact congrArg₂ (· * ·) (block0 m c t k d ⟨512 * (t.val % 17) + k, by omega⟩ (by rw [Nat.min_eq_left h])) (block1 m c t d j)

theorem up_prod (h : t.val % 17 ≤ 15) (k j : Fin 512) :
    k0_pay8 (F := Ideal) (iblk m c 0 t) (iblk m c 2 t) (ix2 k j) = padded (upA m c) (colA t j) (512 * (t.val % 17) + (8 + k)) := by
  rw [← padded_row (upA m c) (s := 512 * (t.val % 17) + k) (by omega) (colA t j) (by omega), up_at]
  unfold upA Cert.FfnInRefIdeal.Value.prod
  refine Finset.sum_congr rfl fun d _ => ?_
  exact congrArg₂ (· * ·) (block0 m c t k d ⟨512 * (t.val % 17) + k, by omega⟩ (by rw [Nat.min_eq_left h])) (block2 m c t d j)

/-! ## A point over the one before -/

variable {t}

/-- What the point before left. -/
abbrev prev (h0 : ¬t.val % 17 = 0) := outsAt0 m c (t.val - 1) (Nat.lt_of_le_of_lt (Nat.sub_le _ _) t.isLt)

theorem tile_A (h0 : t.val % 17 = 0) (y) :
    (outsAt0 m c t.val t.isLt).2.2.2.2.1 y = k0_pay7 (F := Ideal) (iblk m c 0 t) (iblk m c 1 t) y := by
  rw [outsAt0_A m c t h0]
  frame_out
  simp only [k0_pay1, shapeCast_id]

theorem other_A (h0 : t.val % 17 = 0) (y) :
    (outsAt0 m c t.val t.isLt).2.2.2.2.2.1 y = k0_pay8 (F := Ideal) (iblk m c 0 t) (iblk m c 2 t) y := by
  rw [outsAt0_A m c t h0]
  frame_out
  simp only [k0_pay2, shapeCast_id]
  rfl

theorem tile_B (h0 : ¬t.val % 17 = 0) (y) :
    (outsAt0 m c t.val t.isLt).2.2.2.2.1 y = k0_pay7 (F := Ideal) (iblk m c 0 t) (iblk m c 1 t) y := by
  rw [outsAt0_B m c t h0]
  frame_out
  simp only [k0_pay1, shapeCast_id]

theorem other_B (h0 : ¬t.val % 17 = 0) (y) :
    (outsAt0 m c t.val t.isLt).2.2.2.2.2.1 y = k0_pay8 (F := Ideal) (iblk m c 0 t) (iblk m c 2 t) y := by
  rw [outsAt0_B m c t h0]
  frame_out
  simp only [k0_pay2, shapeCast_id]
  rfl

theorem tail_B (h0 : ¬t.val % 17 = 0) (k : Fin 8) (j : Fin 512) :
    (outsAt0 m c t.val t.isLt).2.2.2.2.2.2 (ix2 k j) = (prev m c h0).2.2.2.2.1 (ix2 ⟨504 + k, by omega⟩ j) := by
  rw [outsAt0_B m c t h0]
  frame_out
  simp only [read_unread_whole]
  pointwise [k0_pay20]

theorem gate_B (h0 : ¬t.val % 17 = 0) : (outsAt0 m c t.val t.isLt).1 = (prev m c h0).2.2.2.2.1 := by
  rw [outsAt0_B m c t h0]
  frame_out
  simp only [read_unread_whole]

/-- The convolution of the tile the point before left. -/
def convT (h0 : ¬t.val % 17 = 0) : FVec Ideal S512x512 .f32 :=
  k0_pay13 (F := Ideal) (k0_pay10 (F := Ideal) (grid0.coords t) (iblk m c 0 t) (iblk m c 1 t) (prev m c h0).2.2.2.2.1 (prev m c h0).2.2.2.2.2.2 (iblk m c 3 t))
    (k0_pay11 (F := Ideal) (iblk m c 3 t))
    (k0_pay12 (F := Ideal) (grid0.coords t) (iblk m c 0 t) (iblk m c 1 t) (prev m c h0).2.2.2.2.1 (prev m c h0).2.2.2.2.2.2) (iblk m c 4 t)

theorem silu_B (h0 : ¬t.val % 17 = 0) (k j : Fin 512) : (outsAt0 m c t.val t.isLt).2.1 (ix2 k j) = siluOf (convT m c h0 (ix2 k j)) := by
  rw [outsAt0_B m c t h0]
  frame_out
  simp only [read_unread_whole]
  exact silu_at ..

theorem slope_B (h0 : ¬t.val % 17 = 0) (k j : Fin 512) :
    (outsAt0 m c t.val t.isLt).2.2.1 (ix2 k j) = slopeOf (convT m c h0 (ix2 k j)) ((prev m c h0).2.2.2.2.2.1 (ix2 k j)) := by
  rw [outsAt0_B m c t h0]
  frame_out
  simp only [read_unread_whole]
  exact slope_at ..

theorem act_B (h0 : ¬t.val % 17 = 0) (k j : Fin 512) :
    (outsAt0 m c t.val t.isLt).2.2.2.1 (ix2 k j) = actOf (convT m c h0 (ix2 k j)) ((prev m c h0).2.2.2.2.2.1 (ix2 k j)) := by
  rw [outsAt0_B m c t h0]
  frame_out
  simp only [read_unread_whole]
  exact act_at ..

end Cert.FfnInIdeal.Value

end
-- ==== Proof.FfnIn.lean ====
/- `ffn_in`: what the scratch holds after each point, by induction over the points, the four result arrays, which are the
   reference's over the reals, and what every run leaves. -/
module

public import proofs.«01_k».proof.Proof.FfnInPoint

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen
open Cert.FfnInRefIdeal.Value (padded padded_in prod convAt siluOf slopeOf actOf)

variable (m : (ℓ : Loc nD τ sig) → Buf (Elt Ideal) ℓ) (c : Dev nD) (t : Fin cfg0.N)

/-- What the scratch holds after a point: the two products just made, and the last rows of the tile before. -/
structure Held (tile : Vec Ideal S512x512 .f32) (other : Vec Ideal S512x512 .bf16) (tail : Vec Ideal S8x512 .f32) : Prop where
  tile : t.val % 17 ≤ 15 → ∀ k j : Fin 512, tile (ix2 k j) = padded (gateA m c) (colA t j) (512 * (t.val % 17) + (8 + k))
  other : t.val % 17 ≤ 15 → ∀ k j : Fin 512, other (ix2 k j) = padded (upA m c) (colA t j) (512 * (t.val % 17) + (8 + k))
  tail : 1 ≤ t.val % 17 → ∀ (k : Fin 8) (j : Fin 512), tail (ix2 k j) = padded (gateA m c) (colA t j) (512 * (t.val % 17) + k)

variable {m c t}

/-- The point before, in the same run of 17. -/
theorem pred {t' : Fin cfg0.N} (ht : t'.val = t.val - 1) (h0 : ¬t.val % 17 = 0) : t'.val % 17 = t.val % 17 - 1 ∧ colA t' = colA t := by
  refine ⟨by omega, funext fun j => Fin.ext ?_⟩
  show 512 * (t'.val / 17) + j.val = 512 * (t.val / 17) + j.val
  omega

variable (m c)

theorem held : ∀ (n : ℕ) (t : Fin cfg0.N), t.val = n → Held m c t (outsAt0 m c t.val t.isLt).2.2.2.2.1
    (outsAt0 m c t.val t.isLt).2.2.2.2.2.1 (outsAt0 m c t.val t.isLt).2.2.2.2.2.2 := fun n => by
  induction n using Nat.strong_induction_on with
  | _ n ih =>
    intro t ht
    by_cases h0 : t.val % 17 = 0
    · exact ⟨fun h k j => (tile_A m c h0 _).trans (gate_prod m c t h k j), fun h k j => (other_A m c h0 _).trans (up_prod m c t h k j), by omega⟩
    · have H := ih (n - 1) (by omega) ⟨t.val - 1, by omega⟩ (by show t.val - 1 = n - 1; rw [ht])
      obtain ⟨e, ec⟩ := pred (t := t) (t' := ⟨t.val - 1, by omega⟩) rfl h0
      refine ⟨fun h k j => (tile_B m c h0 _).trans (gate_prod m c t h k j), fun h k j => (other_B m c h0 _).trans (up_prod m c t h k j), fun h k j => ?_⟩
      refine (tail_B m c h0 k j).trans ((H.tile (by omega) _ j).trans ?_)
      rw [ec, e]
      exact congrArg _ (by show 512 * (t.val % 17 - 1) + (8 + (504 + k.val)) = _; omega)

section

variable (h0 : ¬t.val % 17 = 0)

/-- What the point before left, as the tile a point finishes. -/
theorem prev_tile (k j : Fin 512) : (prev m c h0).2.2.2.2.1 (ix2 k j) = padded (gateA m c) (colA t j) (512 * (t.val % 17 - 1) + (8 + k)) := by
  obtain ⟨e, ec⟩ := pred (t := t) (t' := ⟨t.val - 1, by omega⟩) rfl h0
  have H := (held m c (t.val - 1) ⟨t.val - 1, by omega⟩ rfl).tile (by omega) k j
  rwa [ec, e] at H

theorem prev_other (k j : Fin 512) : (prev m c h0).2.2.2.2.2.1 (ix2 k j) = padded (upA m c) (colA t j) (512 * (t.val % 17 - 1) + (8 + k)) := by
  obtain ⟨e, ec⟩ := pred (t := t) (t' := ⟨t.val - 1, by omega⟩) rfl h0
  have H := (held m c (t.val - 1) ⟨t.val - 1, by omega⟩ rfl).other (by omega) k j
  rwa [ec, e] at H

theorem prev_tail (h : t.val % 17 - 1 ≠ 0) (k : Fin 8) (j : Fin 512) :
    (prev m c h0).2.2.2.2.2.2 (ix2 k j) = padded (gateA m c) (colA t j) (512 * (t.val % 17 - 1) + k) := by
  obtain ⟨e, ec⟩ := pred (t := t) (t' := ⟨t.val - 1, by omega⟩) rfl h0
  have H := (held m c (t.val - 1) ⟨t.val - 1, by omega⟩ rfl).tail (by omega) k j
  rwa [ec, e] at H

theorem convT_eq (k j : Fin 512) :
    convT m c h0 (ix2 k j) = convAt (kerA m c) (biasA m c) (gateA m c) (colA t j) (512 * (t.val % 17 - 1) + k) := by
  refine conv_at (fun k => ?_) (fun a => block3 m c t a j) (block4 m c t j) k
  refine ext_at (by omega) (by rw [coord]; omega) (fun h k => prev_tail m c h0 h k j) (fun k => prev_tile m c h0 k j) (fun h k => ?_) k
  refine (gate_prod m c t (by omega) ⟨k, by omega⟩ j).trans (congrArg _ ?_)
  show 512 * (t.val % 17) + (8 + k.val) = _
  omega

end

/-! ## The result arrays -/

abbrev convA (j : Fin 5632) (n : ℕ) : EReal := convAt (kerA m c) (biasA m c) (gateA m c) j n

theorem gate_point (t : Fin cfg0.N) (h0 : ¬t.val % 17 = 0) (y : S512x512.Idx) : (outsAt0 m c t.val t.isLt).1 y
    = padded (gateA m c) (colA t (y 1)) (512 * (t.val % 17 - 1) + (y 0 : Fin 512) + 8) := by
  obtain ⟨k, j, rfl⟩ : ∃ k j : Fin 512, y = ix2 k j := ⟨y 0, y 1, by funext a; match a with | ⟨0, _⟩ => rfl | ⟨1, _⟩ => rfl⟩
  rw [gate_B m c h0, prev_tile]
  refine congrArg (padded (gateA m c) (colA t j)) ?_
  show 512 * (t.val % 17 - 1) + (8 + k.val) = 512 * (t.val % 17 - 1) + k.val + 8
  omega

theorem silu_point (t : Fin cfg0.N) (h0 : ¬t.val % 17 = 0) (y : S512x512.Idx) : (outsAt0 m c t.val t.isLt).2.1 y
    = siluOf (convA m c (colA t (y 1)) (512 * (t.val % 17 - 1) + (y 0 : Fin 512))) := by
  obtain ⟨k, j, rfl⟩ : ∃ k j : Fin 512, y = ix2 k j := ⟨y 0, y 1, by funext a; match a with | ⟨0, _⟩ => rfl | ⟨1, _⟩ => rfl⟩
  rw [silu_B m c h0, convT_eq]
  rfl

theorem slope_point (t : Fin cfg0.N) (h0 : ¬t.val % 17 = 0) (y : S512x512.Idx) : (outsAt0 m c t.val t.isLt).2.2.1 y
    = slopeOf (convA m c (colA t (y 1)) (512 * (t.val % 17 - 1) + (y 0 : Fin 512)))
        (padded (upA m c) (colA t (y 1)) (512 * (t.val % 17 - 1) + (y 0 : Fin 512) + 8)) := by
  obtain ⟨k, j, rfl⟩ : ∃ k j : Fin 512, y = ix2 k j := ⟨y 0, y 1, by funext a; match a with | ⟨0, _⟩ => rfl | ⟨1, _⟩ => rfl⟩
  rw [slope_B m c h0, convT_eq, prev_other]
  refine congrArg (fun n => slopeOf (convA m c (colA t j) (512 * (t.val % 17 - 1) + k)) (padded (upA m c) (colA t j) n)) ?_
  show 512 * (t.val % 17 - 1) + (8 + k.val) = 512 * (t.val % 17 - 1) + k.val + 8
  omega

theorem act_point (t : Fin cfg0.N) (h0 : ¬t.val % 17 = 0) (y : S512x512.Idx) : (outsAt0 m c t.val t.isLt).2.2.2.1 y
    = actOf (convA m c (colA t (y 1)) (512 * (t.val % 17 - 1) + (y 0 : Fin 512)))
        (padded (upA m c) (colA t (y 1)) (512 * (t.val % 17 - 1) + (y 0 : Fin 512) + 8)) := by
  obtain ⟨k, j, rfl⟩ : ∃ k j : Fin 512, y = ix2 k j := ⟨y 0, y 1, by funext a; match a with | ⟨0, _⟩ => rfl | ⟨1, _⟩ => rfl⟩
  rw [act_B m c h0, convT_eq, prev_other]
  refine congrArg (fun n => actOf (convA m c (colA t j) (512 * (t.val % 17 - 1) + k)) (padded (upA m c) (colA t j) n)) ?_
  show 512 * (t.val % 17 - 1) + (8 + k.val) = 512 * (t.val % 17 - 1) + k.val + 8
  omega

/-- The points that write a tile back: those past the first. -/
theorem flush_5 : ∀ t : Fin cfg0.N, (cfg0.win 5).flush t = true → ¬t.val % 17 = 0 :=
  (by decide +kernel : ∀ t : Fin grid0.N, (cfg0.win 5).flush t = true → ¬t.val % 17 = 0)

theorem flush_6 : ∀ t : Fin cfg0.N, (cfg0.win 6).flush t = true → ¬t.val % 17 = 0 :=
  (by decide +kernel : ∀ t : Fin grid0.N, (cfg0.win 6).flush t = true → ¬t.val % 17 = 0)

theorem flush_7 : ∀ t : Fin cfg0.N, (cfg0.win 7).flush t = true → ¬t.val % 17 = 0 :=
  (by decide +kernel : ∀ t : Fin grid0.N, (cfg0.win 7).flush t = true → ¬t.val % 17 = 0)

theorem flush_8 : ∀ t : Fin cfg0.N, (cfg0.win 8).flush t = true → ¬t.val % 17 = 0 :=
  (by decide +kernel : ∀ t : Fin grid0.N, (cfg0.win 8).flush t = true → ¬t.val % 17 = 0)

theorem row_col (i : Cert.FfnInRefIdeal.S8192x5632.Idx) : ∃ (s : Fin 8192) (j : Fin 5632), i = ix2 s j :=
  ⟨i 0, i 1, by funext a; match a with | ⟨0, _⟩ => rfl | ⟨1, _⟩ => rfl⟩

theorem final_gate : (dats m 0 c).arrAt 5 (cfgs 0).N = Cert.FfnInRefIdeal.Read.val_main_v0 (F := Ideal) (inA m c) (gwA m c) := by
  have e : Cert.FfnInRefIdeal.Read.val_main_v0 (F := Ideal) (inA m c) (gwA m c)
      = fun i => padded (gateA m c) (i 1) ((i 0 : Fin 8192).val + 8) := funext fun i => by
    obtain ⟨s, j, rfl⟩ := row_col i
    rw [Cert.FfnInRefIdeal.Value.gate_eq]
    exact (padded_in (gateA m c) s j).symm
  rw [e]
  refine (dats m 0 c).arrAt_eq_of_covers 5 _ (by decide +kernel) fun t hf y => ?_
  rw [after0_5, gate_point m c t (flush_5 t hf)]
  refine congrArg₂ (fun j n => padded (gateA m c) j (n + 8)) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

theorem final_silu : (dats m 0 c).arrAt 6 (cfgs 0).N
    = Cert.FfnInRefIdeal.Read.val_main_v31 (F := Ideal) (inA m c) (gwA m c) (kerA m c) (biasA m c) := by
  have e : Cert.FfnInRefIdeal.Read.val_main_v31 (F := Ideal) (inA m c) (gwA m c) (kerA m c) (biasA m c)
      = fun i => siluOf (convA m c (i 1) (i 0 : Fin 8192).val) := funext fun i => by
    obtain ⟨s, j, rfl⟩ := row_col i
    rw [Cert.FfnInRefIdeal.Value.silu_eq, Cert.FfnInRefIdeal.Value.conv_eq]
    rfl
  rw [e]
  refine (dats m 0 c).arrAt_eq_of_covers 6 _ (by decide +kernel) fun t hf y => ?_
  rw [after0_6, silu_point m c t (flush_6 t hf)]
  refine congrArg₂ (fun j n => siluOf (convA m c j n)) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

theorem final_slope : (dats m 0 c).arrAt 7 (cfgs 0).N
    = Cert.FfnInRefIdeal.Read.val_main_v32 (F := Ideal) (inA m c) (gwA m c) (uwA m c) (kerA m c) (biasA m c) := by
  have e : Cert.FfnInRefIdeal.Read.val_main_v32 (F := Ideal) (inA m c) (gwA m c) (uwA m c) (kerA m c) (biasA m c)
      = fun i => slopeOf (convA m c (i 1) (i 0 : Fin 8192).val) (padded (upA m c) (i 1) ((i 0 : Fin 8192).val + 8)) := funext fun i => by
    obtain ⟨s, j, rfl⟩ := row_col i
    rw [Cert.FfnInRefIdeal.Value.slope_eq, Cert.FfnInRefIdeal.Value.conv_eq]
    exact congrArg _ (padded_in (upA m c) s j).symm
  rw [e]
  refine (dats m 0 c).arrAt_eq_of_covers 7 _ (by decide +kernel) fun t hf y => ?_
  rw [after0_7, slope_point m c t (flush_7 t hf)]
  refine congrArg₂ (fun j n => slopeOf (convA m c j n) (padded (upA m c) j (n + 8))) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

theorem final_act : (dats m 0 c).arrAt 8 (cfgs 0).N
    = Cert.FfnInRefIdeal.Read.val_main_v34 (F := Ideal) (inA m c) (gwA m c) (uwA m c) (kerA m c) (biasA m c) := by
  have e : Cert.FfnInRefIdeal.Read.val_main_v34 (F := Ideal) (inA m c) (gwA m c) (uwA m c) (kerA m c) (biasA m c)
      = fun i => actOf (convA m c (i 1) (i 0 : Fin 8192).val) (padded (upA m c) (i 1) ((i 0 : Fin 8192).val + 8)) := funext fun i => by
    obtain ⟨s, j, rfl⟩ := row_col i
    rw [Cert.FfnInRefIdeal.Value.act_eq, Cert.FfnInRefIdeal.Value.conv_eq]
    exact congrArg _ (padded_in (upA m c) s j).symm
  rw [e]
  refine (dats m 0 c).arrAt_eq_of_covers 8 _ (by decide +kernel) fun t hf y => ?_
  rw [after0_8, act_point m c t (flush_8 t hf)]
  refine congrArg₂ (fun j n => actOf (convA m c j n) (padded (upA m c) j (n + 8))) (Fin.ext ?_) ?_
  · unfold colA
    blk_simp [idx t]
    exact congrArg (· + (y 1 : ℕ)) (Nat.mul_comm 512 _)
  · blk_simp [idx t]
    exact congrArg (· + (y 0 : ℕ)) (Nat.mul_comm 512 _)

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v3_0) = (dats m 0 c).arrAt 5 (cfgs 0).N
      ∧ r.2.mem ((c.tc : Thread nD τ).loc main_v3_1) = (dats m 0 c).arrAt 6 (cfgs 0).N
      ∧ r.2.mem ((c.tc : Thread nD τ).loc main_v3_2) = (dats m 0 c).arrAt 7 (cfgs 0).N
      ∧ r.2.mem ((c.tc : Thread nD τ).loc main_v3_3) = (dats m 0 c).arrAt 8 (cfgs 0).N) :=
  (θ_run defs _ _).mono (fun _ h c => ⟨(h c).1 5, (h c).1 6, (h c).1 7, (h c).1 8⟩) (run_main m ρ)

theorem run : θ_run defs (onTc (τ := τ) (main (F := Ideal))) ⟨m, fun _ => 0, ρ⟩ (fun r => ∀ c : Dev nD,
      r.2.mem ((c.tc : Thread nD τ).loc main_v3_0) = Cert.FfnInRefIdeal.Read.val_main_v0 (F := Ideal) (inA m c) (gwA m c)
      ∧ r.2.mem ((c.tc : Thread nD τ).loc main_v3_1) = Cert.FfnInRefIdeal.Read.val_main_v31 (F := Ideal) (inA m c) (gwA m c) (kerA m c) (biasA m c)
      ∧ r.2.mem ((c.tc : Thread nD τ).loc main_v3_2) = Cert.FfnInRefIdeal.Read.val_main_v32 (F := Ideal) (inA m c) (gwA m c) (uwA m c) (kerA m c) (biasA m c)
      ∧ r.2.mem ((c.tc : Thread nD τ).loc main_v3_3) = Cert.FfnInRefIdeal.Read.val_main_v34 (F := Ideal) (inA m c) (gwA m c) (uwA m c) (kerA m c) (biasA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).1).trans (final_gate m c), ((h.1 c).2.1).trans (final_silu m c),
        ((h.1 c).2.2.1).trans (final_slope m c), ((h.1 c).2.2.2).trans (final_act m c), h.2 c⟩)
    (θ_run_and (run_arrays m ρ) (unchanged m ρ))

end Cert.FfnInIdeal.Value

end
-- ==== Proof.RmsBwdRef.lean ====
/- The reference of the norm's gradient at an index. -/
module

public import proofs.«01_k».proof.Proof.Gen.RmsBwdRefIdeal.Read
public import Idealize.ShloMosaic.Lib.Pipeline.ValueKit

@[expose] public section

set_option maxRecDepth 16384

noncomputable section

open Idealize.ShloMosaic Idealize.ShloMosaic.TcCoe Idealize.SL.Sem

namespace Cert.RmsBwdRefIdeal.Value

open Cert.RmsBwdRefIdeal Cert.RmsBwdRefIdeal.Gen Cert.RmsBwdRefIdeal.Read

variable (D X : FVec Ideal S8192x2048 .f32) (G : FVec Ideal S1x2048 .f32) (R : FVec Ideal S8192x2048 .f32)

/-- The mean square of a row and what is added to it. -/
def meanSq (x : Fin 2048 → EReal) : EReal :=
  Ideal.div (∑ k, x k * x k) (Ideal.ofBits .f32 0x45000000#32) + Ideal.ofBits .f32 0x358637BD#32

/-- The gradient of a row, as the derivative's rule leaves it: `y` is the row's cotangent times the gain, `w` the mean square. -/
def rowRule (d y x w t : EReal) : EReal :=
  d + y * Ideal.rsqrt w + x * Ideal.div (t * (Ideal.ofBits .f32 0xBF000000#32 * Ideal.div (Ideal.rsqrt w) w)) (Ideal.ofBits .f32 0x45000000#32)
    + Ideal.div (t * (Ideal.ofBits .f32 0xBF000000#32 * Ideal.div (Ideal.rsqrt w) w)) (Ideal.ofBits .f32 0x45000000#32) * x

theorem w_eq (s : Fin 8192) : val_main_v7 (F := Ideal) X (ix2 s 0) = meanSq (fun k => X (ix2 s k)) := by
  unfold val_main_v7 val_main_v6 val_main_v5 val_main_v4 val_main_v3 val_main_v2 val_main_v1 val_main_cst val_main_cst_0 val_main_cst_1 meanSq
  pointwise []

theorem dx_eq (s : Fin 8192) (j : Fin 2048) : val_main_v37 (F := Ideal) D X G R (ix2 s j)
    = rowRule (R (ix2 s j)) (D (ix2 s j) * G (ix2 0 j)) (X (ix2 s j)) (meanSq (fun k => X (ix2 s k)))
        (∑ k : Fin 2048, X (ix2 s k) * (D (ix2 s k) * G (ix2 0 k))) := by
  rw [← w_eq]
  unfold rowRule val_main_v37 val_main_v36 val_main_v35 val_main_v34 val_main_v33 val_main_v32 val_main_v31 val_main_v30 val_main_v29 val_main_v28 val_main_v27 val_main_v26 val_main_v25 val_main_v24 val_main_v23 val_main_v21 val_main_v20 val_main_v14 val_main_v0 val_main_v11 val_main_v10 val_main_v9 val_main_v8 val_main_cst_2 val_main_cst_5 val_main_cst_6 val_main_cst_7
  generalize val_main_v7 (F := Ideal) X = w
  pointwise []
  simp only [Fin.sum_univ_one]

theorem dg_eq (j : Fin 2048) : val_main_v38 (F := Ideal) D X (ix2 0 j)
    = ∑ s : Fin 8192, X (ix2 s j) * Ideal.rsqrt (meanSq (fun k => X (ix2 s k))) * D (ix2 s j) := by
  simp only [← w_eq]
  unfold val_main_v38 val_main_v22 val_main_v19 val_main_v18 val_main_v17 val_main_v13 val_main_v12 val_main_v8 val_main_cst_3 val_main_cst_4
  generalize val_main_v7 (F := Ideal) X = w
  pointwise []
  simp only [Fin.sum_univ_one]

theorem cast_eq (i) : val_main_v39 (F := Ideal) D X G R i = val_main_v37 (F := Ideal) D X G R i := by
  unfold val_main_v39
  pointwise []

/-! ## The rule's two equal terms, put together -/

theorem width : Ideal.ofBits .f32 0x45000000#32 = ((2048 : ℝ) : EReal) := by
  simp [Ideal.ofBits, Ideal.ieee, -EReal.coe_mul]
  norm_num

theorem neg_half : Ideal.ofBits .f32 0xBF000000#32 = ((-(1 / 2) : ℝ) : EReal) := by
  simp [Ideal.ofBits, Ideal.ieee, -EReal.coe_mul]
  norm_num

theorem eps_pos : (0 : EReal) < Ideal.ofBits .f32 0x358637BD#32 := by
  simp [Ideal.ofBits, Ideal.ieee, -EReal.coe_mul]

theorem square_nonneg (x : EReal) : 0 ≤ x * x := by
  induction x using EReal.rec with
  | bot => simp
  | top => simp
  | coe r => exact_mod_cast mul_self_nonneg r

theorem meanSq_pos (x : Fin 2048 → EReal) : 0 < meanSq x := by
  unfold meanSq
  rw [width, Ideal.div_coe (by norm_num)]
  refine lt_of_lt_of_le eps_pos (le_add_of_nonneg_left ?_)
  exact mul_nonneg (Finset.sum_nonneg fun k _ => square_nonneg _) (by exact_mod_cast (by norm_num : (0 : ℝ) ≤ 1 / 2048))

theorem twice (y : EReal) {p : ℝ} (hp : 0 ≤ p) : y * ((-p : ℝ) : EReal) + y * ((-p : ℝ) : EReal) = -(y * ((2 * p : ℝ) : EReal)) := by
  rcases hp.eq_or_lt with rfl | hp
  · simp
  · have h1 : -p < 0 := by linarith
    have h2 : 0 < 2 * p := by linarith
    induction y using EReal.rec with
    | bot => rw [EReal.bot_mul_coe_of_neg h1, EReal.bot_mul_coe_of_pos h2]; rfl
    | top => rw [EReal.top_mul_coe_of_neg h1, EReal.top_mul_coe_of_pos h2]; rfl
    | coe r => norm_cast; ring

/-- The rule's gradient, in the form of one term for the mean square. -/
theorem rowRule_eq (d y x w t : EReal) (hw : 0 < w) : rowRule d y x w t
    = d + Ideal.rsqrt w * y
      - x * (Ideal.rsqrt w * Ideal.rsqrt w * Ideal.rsqrt w * Ideal.div t (Ideal.ofBits .f32 0x45000000#32)) := by
  unfold rowRule
  rw [width, neg_half, mul_comm y, mul_comm _ x, add_assoc, sub_eq_add_neg]
  refine congrArg (d + Ideal.rsqrt w * y + ·) ?_
  induction w using EReal.rec with
  | bot => simp at hw
  | top => simp [Ideal.div]
  | coe r =>
    have hr : 0 < r := by exact_mod_cast hw
    have hs := Real.sqrt_pos.mpr hr
    rw [Ideal.rsqrt_coe, if_neg (by linarith), if_neg hr.ne', Ideal.div_coe hr.ne', Ideal.div_coe (by norm_num), Ideal.div_coe (by norm_num)]
    simp only [← EReal.coe_mul, mul_assoc t]
    rw [← mul_assoc x]
    have e : -(1 / 2) * ((√r)⁻¹ * (1 / r)) * (1 / 2048) = -((√r)⁻¹ * (1 / r) / 4096) := by ring
    rw [e, twice _ (by positivity), mul_comm _ (t * _), mul_assoc t, ← EReal.coe_mul, ← mul_assoc x]
    refine congrArg (fun z : ℝ => -(x * t * (z : EReal))) ?_
    have h : √r * √r = r := Real.mul_self_sqrt hr.le
    generalize √r = a at *
    subst h
    field_simp
    ring

end Cert.RmsBwdRefIdeal.Value

end
-- ==== Proof.RmsBwd.lean ====
/- The norm's gradient: what each point leaves, the sum over the points before it, and the three result arrays, which are the
   reference's over the reals. -/
module

public import proofs.«01_k».proof.Proof.Gen.RmsBwdIdeal.Frame
public import proofs.«01_k».proof.Proof.RmsBwdRef
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.RmsBwdIdeal.Value

open Cert.RmsBwdIdeal Cert.RmsBwdIdeal.Gen
open Cert.RmsBwdRefIdeal.Value (meanSq meanSq_pos rowRule rowRule_eq)

/-! ## The payloads at an index -/

section

variable (x d r : Vec Ideal S256x2048 .f32) (g a : Vec Ideal S1x2048 .f32) (k : Fin 256) (j : Fin 2048)

theorem rms_at : k0_pay2 (F := Ideal) x (ix2 k 0) = Ideal.rsqrt (meanSq fun l => x (ix2 k l)) := by
  unfold meanSq
  pointwise [k0_pay2]

theorem dx_at : k0_pay3 (F := Ideal) x d g r (ix2 k j)
    = rowRule (r (ix2 k j)) (d (ix2 k j) * g (ix2 0 j)) (x (ix2 k j)) (meanSq fun l => x (ix2 k l))
        (∑ l : Fin 2048, x (ix2 k l) * (d (ix2 k l) * g (ix2 0 l))) := by
  rw [rowRule_eq _ _ _ _ _ (meanSq_pos _), ← rms_at, Finset.sum_congr rfl fun l _ => mul_comm (x (ix2 k l)) (d (ix2 k l) * g (ix2 0 l))]
  unfold k0_pay3
  generalize k0_pay2 (F := Ideal) x = w
  pointwise []

theorem dg_at : k0_pay1 (F := Ideal) x d (k0_pay2 (F := Ideal) x) a (ix2 0 j)
    = a (ix2 0 j) + ∑ k : Fin 256, x (ix2 k j) * Ideal.rsqrt (meanSq fun l => x (ix2 k l)) * d (ix2 k j) := by
  simp only [← rms_at]
  unfold k0_pay1
  generalize k0_pay2 (F := Ideal) x = w
  rw [Finset.sum_congr rfl fun k _ => show x (ix2 k j) * w (ix2 k 0) * d (ix2 k j) = d (ix2 k j) * x (ix2 k j) * w (ix2 k 0) by
    rw [mul_comm _ (d _), mul_assoc]]
  pointwise []

end

/-! ## The windows -/

variable (m : (ℓ : Loc nD τ sig) → Buf (Elt Ideal) ℓ) (c : Dev nD) (t : Fin cfg0.N)

theorem idx : ∀ t : Fin cfg0.N,
    win0_0.index t = ![t.val, 0] ∧ win0_1.index t = ![t.val, 0] ∧ win0_2.index t = ![0, 0] ∧ win0_3.index t = ![t.val, 0]
      ∧ win0_4.index t = ![t.val, 0] ∧ win0_5.index t = ![t.val, 0] ∧ win0_6.index t = ![0, 0] :=
  (by decide +kernel : ∀ t : Fin grid0.N, _)

/-- The arguments: the cotangent, the input, the gain, the cotangent that has come back beside the norm. -/
abbrev ctA : FVec Ideal Cert.RmsBwdRefIdeal.S8192x2048 .f32 := m ((c : Thread nD τ).loc main_arg0)
abbrev inA : FVec Ideal Cert.RmsBwdRefIdeal.S8192x2048 .f32 := m ((c : Thread nD τ).loc main_arg1)
abbrev gainA : FVec Ideal Cert.RmsBwdRefIdeal.S1x2048 .f32 := m ((c : Thread nD τ).loc main_arg2)
abbrev besideA : FVec Ideal Cert.RmsBwdRefIdeal.S8192x2048 .f32 := m ((c : Thread nD τ).loc main_arg3)

/-- The row of an array under row `k` of the tile at hand. -/
def rowA (t : Fin cfg0.N) (k : Fin 256) : Fin 8192 := ⟨256 * t.val + k, by have : t.val < 32 := t.isLt; omega⟩

theorem block0 (k : Fin 256) (j : Fin 2048) : iblk m c 0 t (ix2 k j) = ctA m c (ix2 (rowA t k) j) := by
  unfold ctA rowA
  rw [← V_main_arg0 m c]
  blk_point [iblk, idx t]

theorem block1 (k : Fin 256) (j : Fin 2048) : iblk m c 1 t (ix2 k j) = inA m c (ix2 (rowA t k) j) := by
  unfold inA rowA
  rw [← V_main_arg1 m c]
  blk_point [iblk, idx t]

theorem block2 (j : Fin 2048) : iblk m c 2 t (ix2 0 j) = gainA m c (ix2 0 j) := by
  unfold gainA
  rw [← V_main_arg2 m c]
  blk_point [iblk, idx t]

theorem block3 (k : Fin 256) (j : Fin 2048) : iblk m c 3 t (ix2 k j) = besideA m c (ix2 (rowA t k) j) := by
  unfold besideA rowA
  rw [← V_main_arg3 m c]
  blk_point [iblk, idx t]

/-! ## What a point leaves -/

/-- The gradient of a row, at a column, and a row's part of the gain's. -/
def dxAt (s : Fin 8192) (j : Fin 2048) : EReal :=
  rowRule (besideA m c (ix2 s j)) (ctA m c (ix2 s j) * gainA m c (ix2 0 j)) (inA m c (ix2 s j)) (meanSq fun l => inA m c (ix2 s l))
    (∑ l : Fin 2048, inA m c (ix2 s l) * (ctA m c (ix2 s l) * gainA m c (ix2 0 l)))

def dgRow (s : Fin 8192) (j : Fin 2048) : EReal :=
  inA m c (ix2 s j) * Ideal.rsqrt (meanSq fun l => inA m c (ix2 s l)) * ctA m c (ix2 s j)

/-- The rows of tile `q` in the gain's sum. -/
def dgPart (j : Fin 2048) (q : ℕ) : EReal := ∑ k : Fin 256, if h : 256 * q + k < 8192 then dgRow m c ⟨256 * q + k, h⟩ j else 0

theorem dgPart_at (j : Fin 2048) : dgPart m c j t.val = ∑ k : Fin 256, dgRow m c (rowA t k) j := by
  have : t.val < 32 := t.isLt
  exact Finset.sum_congr rfl fun k _ => dif_pos (by omega)

theorem dx_tile (k : Fin 256) (j : Fin 2048) :
    k0_pay3 (F := Ideal) (iblk m c 1 t) (iblk m c 0 t) (iblk m c 2 t) (iblk m c 3 t) (ix2 k j) = dxAt m c (rowA t k) j := by
  rw [dx_at]
  unfold dxAt
  simp only [block0, block1, block2, block3]

theorem dg_tile (a : Vec Ideal S1x2048 .f32) (j : Fin 2048) :
    k0_pay1 (F := Ideal) (iblk m c 1 t) (iblk m c 0 t) (k0_pay2 (F := Ideal) (iblk m c 1 t)) a (ix2 0 j) = a (ix2 0 j) + dgPart m c j t.val := by
  rw [dg_at, dgPart_at]
  unfold dgRow
  simp only [block0, block1]

variable {t}

theorem row_col {a b : ℕ} (i : (⟨2, ![a, b]⟩ : Shape).Idx) : ∃ (s : Fin a) (j : Fin b), i = ix2 s j :=
  ⟨i 0, i 1, by funext d; match d with | ⟨0, _⟩ => rfl | ⟨1, _⟩ => rfl⟩

theorem dx_point (t : Fin cfg0.N) (y : S256x2048.Idx) : (outsAt0 m c t.val t.isLt).1 y = dxAt m c (rowA t (y 0)) (y 1) := by
  obtain ⟨k, j, rfl⟩ : ∃ (k : Fin 256) (j : Fin 2048), y = ix2 k j := row_col y
  show _ = dxAt m c (rowA t k) j
  rw [← dx_tile]
  by_cases h0 : t.val % 32 = 0
  · rw [outsAt0_A m c t h0]
    frame_out
  · rw [outsAt0_B m c t h0]
    frame_out

theorem copy_point (t : Fin cfg0.N) (y : S256x2048.Idx) : (outsAt0 m c t.val t.isLt).2.1 y = dxAt m c (rowA t (y 0)) (y 1) := by
  obtain ⟨k, j, rfl⟩ : ∃ (k : Fin 256) (j : Fin 2048), y = ix2 k j := row_col y
  show _ = dxAt m c (rowA t k) j
  rw [← dx_tile]
  by_cases h0 : t.val % 32 = 0
  · rw [outsAt0_A m c t h0]
    frame_out
    rfl
  · rw [outsAt0_B m c t h0]
    frame_out
    rfl

theorem dg_A (h0 : t.val % 32 = 0) (j : Fin 2048) : (outsAt0 m c t.val t.isLt).2.2 (ix2 0 j) = dgPart m c j t.val := by
  rw [outsAt0_A m c t h0]
  frame_out
  refine (dg_tile m c t _ j).trans ?_
  pointwise [k0_pay5]

theorem dg_B (h0 : ¬t.val % 32 = 0) (j : Fin 2048) : (outsAt0 m c t.val t.isLt).2.2 (ix2 0 j)
    = (outsAt0 m c (t.val - 1) (Nat.lt_of_le_of_lt (Nat.sub_le _ _) t.isLt)).2.2 (ix2 0 j) + dgPart m c j t.val := by
  rw [outsAt0_B m c t h0]
  frame_out
  exact dg_tile m c t _ j

/-- A point leaves the gain's sum over the tiles so far. -/
theorem dg_point : ∀ (n : ℕ) (t : Fin cfg0.N), t.val = n → ∀ j : Fin 2048,
    (outsAt0 m c t.val t.isLt).2.2 (ix2 0 j) = ∑ q ∈ Finset.range (t.val + 1), dgPart m c j q := fun n => by
  induction n with
  | zero =>
    intro t ht j
    rw [dg_A m c (by omega), ht]
    simp
  | succ n ih =>
    intro t ht j
    have hN : t.val < 32 := t.isLt
    rw [dg_B m c (by omega), ih ⟨t.val - 1, by omega⟩ (by show t.val - 1 = n; omega), Finset.sum_range_succ _ t.val]
    exact congrArg (fun n => ∑ q ∈ Finset.range n, dgPart m c j q + dgPart m c j t.val) (by show t.val - 1 + 1 = t.val; omega)

theorem dg_last (t : Fin cfg0.N) (y : S1x2048.Idx) :
    (outsAt0 m c t.val t.isLt).2.2 y = ∑ q ∈ Finset.range (t.val + 1), dgPart m c (y 1) q := by
  obtain ⟨k, j, rfl⟩ : ∃ (k : Fin 1) (j : Fin 2048), y = ix2 k j := row_col y
  obtain rfl := Fin.fin_one_eq_zero k
  exact dg_point m c t.val t rfl j

/-! ## The result arrays -/

theorem dg_sum (j : Fin 2048) : ∑ q ∈ Finset.range 32, dgPart m c j q = ∑ s : Fin 8192, dgRow m c s j := by
  rw [Finset.sum_range]
  unfold dgPart
  rw [← Finset.sum_product', ← finProdFinEquiv.sum_comp (fun s : Fin (32 * 256) => dgRow m c s j)]
  refine Finset.sum_congr rfl fun p _ => ?_
  rw [dif_pos (by omega)]
  exact congrArg (dgRow m c · j) (Fin.ext (by show 256 * p.1.val + p.2.val = p.2.val + 256 * p.1.val; omega))

theorem final_dx : (dats m 0 c).arrAt 4 (cfgs 0).N
    = Cert.RmsBwdRefIdeal.Read.val_main_v37 (F := Ideal) (ctA m c) (inA m c) (gainA m c) (besideA m c) := by
  have e : Cert.RmsBwdRefIdeal.Read.val_main_v37 (F := Ideal) (ctA m c) (inA m c) (gainA m c) (besideA m c)
      = fun i => dxAt m c (i 0) (i 1) := funext fun i => by
    obtain ⟨s, j, rfl⟩ := row_col i
    rw [Cert.RmsBwdRefIdeal.Value.dx_eq]
    rfl
  rw [e]
  refine (dats m 0 c).arrAt_eq_of_covers 4 _ (by decide +kernel) fun t hf y => ?_
  rw [after0_4, dx_point m c t]
  refine congrArg₂ (dxAt m c) (Fin.ext ?_) (Fin.ext ?_)
  · unfold rowA
    blk_simp [idx t]
    exact congrArg (· + (y 0 : ℕ)) (Nat.mul_comm 256 _)
  · blk_simp [idx t]

theorem final_copy : (dats m 0 c).arrAt 5 (cfgs 0).N
    = Cert.RmsBwdRefIdeal.Read.val_main_v39 (F := Ideal) (ctA m c) (inA m c) (gainA m c) (besideA m c) := by
  have e : Cert.RmsBwdRefIdeal.Read.val_main_v39 (F := Ideal) (ctA m c) (inA m c) (gainA m c) (besideA m c)
      = fun i => dxAt m c (i 0) (i 1) := funext fun i => by
    obtain ⟨s, j, rfl⟩ := row_col i
    rw [Cert.RmsBwdRefIdeal.Value.cast_eq, Cert.RmsBwdRefIdeal.Value.dx_eq]
    rfl
  rw [e]
  refine (dats m 0 c).arrAt_eq_of_covers 5 _ (by decide +kernel) fun t hf y => ?_
  rw [after0_5, copy_point m c t]
  refine congrArg₂ (dxAt m c) (Fin.ext ?_) (Fin.ext ?_)
  · unfold rowA
    blk_simp [idx t]
    exact congrArg (· + (y 0 : ℕ)) (Nat.mul_comm 256 _)
  · blk_simp [idx t]

theorem flush_6 : ∀ t : Fin cfg0.N, (cfg0.win 6).flush t = true → t.val = 31 :=
  (by decide +kernel : ∀ t : Fin grid0.N, (cfg0.win 6).flush t = true → t.val = 31)

theorem final_dg : (dats m 0 c).arrAt 6 (cfgs 0).N = Cert.RmsBwdRefIdeal.Read.val_main_v38 (F := Ideal) (ctA m c) (inA m c) := by
  have e : Cert.RmsBwdRefIdeal.Read.val_main_v38 (F := Ideal) (ctA m c) (inA m c)
      = fun i => ∑ q ∈ Finset.range 32, dgPart m c (i 1) q := funext fun i => by
    obtain ⟨s, j, rfl⟩ := row_col i
    obtain rfl := Fin.fin_one_eq_zero s
    rw [Cert.RmsBwdRefIdeal.Value.dg_eq]
    exact (dg_sum m c j).symm
  rw [e]
  refine (dats m 0 c).arrAt_eq_of_covers 6 _ (by decide +kernel) fun t hf y => ?_
  rw [after0_6, dg_last m c t, flush_6 t hf]
  refine congrArg (fun j => ∑ q ∈ Finset.range 32, dgPart m c j q) (Fin.ext ?_)
  blk_simp [idx t]

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N
      ∧ r.2.mem ((c.tc : Thread nD τ).loc main_v0_2) = (dats m 0 c).arrAt 6 (cfgs 0).N) :=
  (θ_run defs _ _).mono (fun _ h c => ⟨(h c).1 4, (h c).1 5, (h c).1 6⟩) (run_main m ρ)

theorem run : θ_run defs (onTc (τ := τ) (main (F := Ideal))) ⟨m, fun _ => 0, ρ⟩ (fun r => ∀ c : Dev nD,
      r.2.mem ((c.tc : Thread nD τ).loc main_v0_0)
          = Cert.RmsBwdRefIdeal.Read.val_main_v37 (F := Ideal) (ctA m c) (inA m c) (gainA m c) (besideA m c)
      ∧ r.2.mem ((c.tc : Thread nD τ).loc main_v0_1)
          = Cert.RmsBwdRefIdeal.Read.val_main_v39 (F := Ideal) (ctA m c) (inA m c) (gainA m c) (besideA m c)
      ∧ r.2.mem ((c.tc : Thread nD τ).loc main_v0_2) = Cert.RmsBwdRefIdeal.Read.val_main_v38 (F := Ideal) (ctA m c) (inA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).1).trans (final_dx m c), ((h.1 c).2.1).trans (final_copy m c), ((h.1 c).2.2).trans (final_dg m c), h.2 c⟩)
    (θ_run_and (run_arrays m ρ) (unchanged m ρ))

end Cert.RmsBwdIdeal.Value

end
-- ==== Proof.AttnBwdRef.lean ====
/- The reference of attention's gradient at an index: each result as one sum over the rows of a residue class. -/
module

public import proofs.«01_k».proof.Proof.Gen.AttnBwdRefIdeal.Read
public import Idealize.ShloMosaic.Lib.Pipeline.ValueKit

@[expose] public section

set_option maxRecDepth 16384

noncomputable section

open Idealize.ShloMosaic Idealize.ShloMosaic.TcCoe Idealize.SL.Sem

namespace Cert.AttnBwdRefIdeal.Value

open Cert.AttnBwdRefIdeal Cert.AttnBwdRefIdeal.Gen Cert.AttnBwdRefIdeal.Read

variable (Q K V O : FVec Ideal S8192x8x128 .f32) (L D : FVec Ideal S8192x8 .f32)

/-- The token at position `x` of residue class `n`, and the column of head `h` and class `n` in a row of the residue layout. -/
def token (n : Fin 16) (x : Fin 512) : Fin 8192 := ⟨x * 16 + n, by omega⟩
def lane (n : Fin 16) (h : Fin 8) (d : Fin 128) : Fin 16384 := ⟨1024 * n + 128 * h + d, by omega⟩

/-- A weight from its score and the logarithm of its denominator. -/
def weight (s l : EReal) : EReal := Ideal.exp (s * Ideal.ofBits .f32 0x3DB504F3#32 - l)

/-- The scaled product of a query and a key gives the weight; its cotangent is the weight times how far the value's is from the mean. -/
def weightAt (n : Fin 16) (h : Fin 8) (x y : Fin 512) : EReal :=
  weight (∑ d : Fin 128, Q (ix3 (token n x) h d) * K (ix3 (token n y) h d)) (L (ix2 (token n x) h))

def ctAt (n : Fin 16) (h : Fin 8) (x y : Fin 512) : EReal :=
  weightAt Q K L n h x y * (∑ d : Fin 128, O (ix3 (token n x) h d) * V (ix3 (token n y) h d) - D (ix2 (token n x) h))

/-- The band. -/
def near (x y : ℕ) : Prop := x ≤ y + 64 ∧ y ≤ x + 64
instance (x y : ℕ) : Decidable (near x y) := inferInstanceAs (Decidable (_ ∧ _))

def dq (n : Fin 16) (h : Fin 8) (x : Fin 512) (d : Fin 128) : EReal :=
  (∑ y : Fin 512, if near x y then ctAt Q K V O L D n h x y * K (ix3 (token n y) h d) else 0) * Ideal.ofBits .f32 0x3DB504F3#32

def dk (n : Fin 16) (h : Fin 8) (y : Fin 512) (d : Fin 128) : EReal :=
  (∑ x : Fin 512, if near x y then ctAt Q K V O L D n h x y * Q (ix3 (token n x) h d) else 0) * Ideal.ofBits .f32 0x3DB504F3#32

def dv (n : Fin 16) (h : Fin 8) (y : Fin 512) (d : Fin 128) : EReal :=
  ∑ x : Fin 512, if near x y then weightAt Q K L n h x y * O (ix3 (token n x) h d) else 0

theorem abs_word (d : Fin 512) :
    IntOp.cmpi .sle (IntOp.absi (BitVec.ofNat 32 d)) 64#32 = (if (d : ℕ) ≤ 64 then 1#1 else 0#1)
      ∧ IntOp.cmpi .sle (IntOp.absi (-BitVec.ofNat 32 d)) 64#32 = (if (d : ℕ) ≤ 64 then 1#1 else 0#1) := by
  revert d; decide +kernel

/-- The distance of two positions, compared as words. -/
theorem near_word (x y : Fin 512) :
    IntOp.cmpi .sle (IntOp.absi (IntOp.subi (BitVec.ofNat 32 x) (BitVec.ofNat 32 y))) 64#32 = if near x y then 1#1 else 0#1 := by
  unfold near IntOp.subi
  rcases le_total (y : ℕ) x with h | h
  · have e : BitVec.ofNat 32 x - BitVec.ofNat 32 y = BitVec.ofNat 32 (x - y : ℕ) := by
      apply BitVec.eq_of_toNat_eq
      simp only [BitVec.toNat_sub, BitVec.toNat_ofNat]
      omega
    rw [e, (abs_word ⟨x - y, by omega⟩).1]
    congr 1
    apply propext
    show (x : ℕ) - y ≤ 64 ↔ _
    omega
  · have e : BitVec.ofNat 32 x - BitVec.ofNat 32 y = -BitVec.ofNat 32 (y - x : ℕ) := by
      apply BitVec.eq_of_toNat_eq
      simp only [BitVec.toNat_sub, BitVec.toNat_neg, BitVec.toNat_ofNat]
      omega
    rw [e, (abs_word ⟨y - x, by omega⟩).2]
    congr 1
    apply propext
    show (y : ℕ) - x ≤ 64 ↔ _
    omega

theorem mask_eq (x y : Fin 512) : val_main_v8 (F := Ideal) (ix2 x y) = if near x y then 1#1 else 0#1 := by
  unfold val_main_v8 val_main_v7 val_main_v6 val_main_v5 val_main_v4 val_main_v3 val_main_v2 val_main_v1 val_main_v0 val_main_c
  pointwise []
  exact near_word x y

/-- The scale is a real number that is not negative, so it comes out of a sum. -/
theorem sum_scale {ι : Type*} [Fintype ι] (f : ι → EReal) :
    ∑ i, f i * Ideal.ofBits .f32 0x3DB504F3#32 = (∑ i, f i) * Ideal.ofBits .f32 0x3DB504F3#32 := by
  have e : ∃ r : ℝ, 0 ≤ r ∧ Ideal.ofBits .f32 0x3DB504F3#32 = (r : EReal) := by
    refine ⟨11863283 / 134217728, by norm_num, ?_⟩
    simp [Ideal.ofBits, Ideal.ieee, -EReal.coe_mul]
    norm_num
  obtain ⟨r, h0, hr⟩ := e
  rw [hr]
  symm
  induction (Finset.univ : Finset ι) using Finset.cons_induction with
  | empty => simp
  | cons a s ha ih =>
    rw [Finset.sum_cons, Finset.sum_cons, EReal.right_distrib_of_nonneg_of_ne_top (by exact_mod_cast h0) (EReal.coe_ne_top r), ih]

/-! ## The residue layout -/

theorem q_eq (n : Fin 16) (x : Fin 512) (h : Fin 8) (d : Fin 128) : val_main_v16 (F := Ideal) Q (ix4 n x h d) = Q (ix3 (token n x) h d) := by
  unfold val_main_v16 val_main_v15 token
  pointwise []

theorem k_eq (n : Fin 16) (x : Fin 512) (h : Fin 8) (d : Fin 128) : val_main_v18 (F := Ideal) K (ix4 n x h d) = K (ix3 (token n x) h d) := by
  unfold val_main_v18 val_main_v17 token
  pointwise []

theorem v_eq (n : Fin 16) (x : Fin 512) (h : Fin 8) (d : Fin 128) : val_main_v31 (F := Ideal) V (ix4 n x h d) = V (ix3 (token n x) h d) := by
  unfold val_main_v31 val_main_v30 token
  pointwise []

theorem o_eq (n : Fin 16) (x : Fin 512) (h : Fin 8) (d : Fin 128) : val_main_v10 (F := Ideal) O (ix4 n x h d) = O (ix3 (token n x) h d) := by
  unfold val_main_v10 val_main_v9 token
  pointwise []

theorem l_eq (n : Fin 16) (x : Fin 512) (h : Fin 8) : val_main_v24 (F := Ideal) L (ix3 n h x) = L (ix2 (token n x) h) := by
  unfold val_main_v24 val_main_v23 val_main_v22 token
  pointwise []

theorem d_eq (n : Fin 16) (x : Fin 512) (h : Fin 8) : val_main_v14 (F := Ideal) D (ix3 n h x) = -D (ix2 (token n x) h) := by
  unfold val_main_v14 val_main_v13 val_main_v12 val_main_v11 token
  pointwise []

/-! ## Weights and their cotangents -/

theorem weight_eq (n : Fin 16) (h : Fin 8) (x y : Fin 512) :
    val_main_v28 (F := Ideal) Q K L (ix4 n h x y) = weightAt Q K L n h x y := by
  unfold weightAt weight
  simp only [← q_eq Q, ← k_eq K, ← l_eq L]
  unfold val_main_v28 val_main_v27 val_main_v26 val_main_v25 val_main_v21 val_main_v20 val_main_v19 val_main_cst
  generalize val_main_v16 (F := Ideal) Q = q
  generalize val_main_v18 (F := Ideal) K = k
  generalize val_main_v24 (F := Ideal) L = l
  pointwise []

theorem kept_eq (n : Fin 16) (h : Fin 8) (x y : Fin 512) :
    val_main_v29_0 (F := Ideal) Q K L (ix4 n h x y) = if near x y then weightAt Q K L n h x y else 0 := by
  rw [← weight_eq]
  unfold val_main_v29_0 val_main_v29_1 val_main_call0_v2 val_main_call0_v0 val_main_cst_0
  generalize val_main_v28 (F := Ideal) Q K L = w
  pointwise [mask_eq]
  split <;> simp_all [Scalar.select]
  pointwise []

theorem ct_eq (n : Fin 16) (h : Fin 8) (x y : Fin 512) :
    val_main_v46 (F := Ideal) Q K V O L D (ix4 n h x y)
      = if near x y then ctAt Q K V O L D n h x y * Ideal.ofBits .f32 0x3DB504F3#32 else 0 := by
  unfold ctAt
  simp only [← weight_eq, ← o_eq O, ← v_eq V]
  unfold val_main_v46 val_main_v45 val_main_cst_2 val_main_v44 val_main_v43 val_main_v29_1 val_main_call1_v0 val_main_call1_cst val_main_v38 val_main_v37 val_main_v36 val_main_v35
  generalize val_main_v28 (F := Ideal) Q K L = w
  generalize val_main_v31 (F := Ideal) V = v
  generalize val_main_v10 (F := Ideal) O = o
  pointwise [mask_eq, d_eq]
  split
  · simp only [Scalar.select]
    rw [if_pos (by decide), sub_eq_add_neg, add_comm, mul_comm (_ + _) (w _)]
  · simp [Scalar.select]

/-! ## The results -/

theorem dq_eq (n : Fin 16) (h : Fin 8) (x : Fin 512) (d : Fin 128) :
    val_main_v56 (F := Ideal) Q K V O L D (ix2 x (lane n h d)) = dq Q K V O L D n h x d := by
  have e : val_main_v49 (F := Ideal) Q K V O L D (ix4 n h x d) = dq Q K V O L D n h x d := by
    unfold val_main_v49 dq
    generalize hw : val_main_v46 (F := Ideal) Q K V O L D = w
    pointwise []
    subst hw
    simp only [ct_eq, k_eq]
    rw [← sum_scale]
    refine Finset.sum_congr rfl fun y _ => ?_
    split
    · rw [mul_right_comm]
    · rw [zero_mul, zero_mul]
  rw [← e]
  unfold val_main_v56 val_main_v55 val_main_v54 val_main_v53 val_main_v50 lane
  generalize val_main_v49 (F := Ideal) Q K V O L D = w
  pointwise []

theorem dk_eq (n : Fin 16) (h : Fin 8) (y : Fin 512) (d : Fin 128) :
    val_main_v58 (F := Ideal) Q K V O L D (ix2 y (lane n h d)) = dk Q K V O L D n h y d := by
  have e : val_main_v47 (F := Ideal) Q K V O L D (ix4 n h y d) = dk Q K V O L D n h y d := by
    unfold val_main_v47 dk
    generalize hw : val_main_v46 (F := Ideal) Q K V O L D = w
    pointwise []
    subst hw
    simp only [ct_eq, q_eq]
    rw [← sum_scale]
    refine Finset.sum_congr rfl fun x _ => ?_
    split
    · rw [mul_right_comm]
    · rw [zero_mul, zero_mul]
  rw [← e]
  unfold val_main_v58 val_main_v57 val_main_v52 val_main_v51 val_main_v48 lane
  generalize val_main_v47 (F := Ideal) Q K V O L D = w
  pointwise []

theorem dv_eq (n : Fin 16) (h : Fin 8) (y : Fin 512) (d : Fin 128) :
    val_main_v60 (F := Ideal) Q K O L (ix2 y (lane n h d)) = dv Q K O L n h y d := by
  have e : val_main_v39 (F := Ideal) Q K O L (ix4 n h d y) = dv Q K O L n h y d := by
    unfold val_main_v39 val_main_v36 dv
    generalize hw : val_main_v29_0 (F := Ideal) Q K L = w
    pointwise []
    subst hw
    simp only [kept_eq, o_eq]
    refine Finset.sum_congr rfl fun x _ => ?_
    split
    · rw [mul_comm]
    · rw [mul_zero]
  rw [← e]
  unfold val_main_v60 val_main_v59 val_main_v42 val_main_v41 val_main_v40 lane
  generalize val_main_v39 (F := Ideal) Q K O L = w
  pointwise []

end Cert.AttnBwdRefIdeal.Value

end
-- ==== Proof.AttnBwdTile.lean ====
/- A block of 128 queries (or keys) of one head in the gradient of attention: the body's operations on it, and what they give at an
   index over the reals. -/
module

public import proofs.«01_k».proof.Proof.Gen.AttnBwdIdeal
public import proofs.«01_k».proof.Proof.AttnBwdRef
public import Idealize.ShloMosaic.Lib.Pipeline.ValueKit

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen
open Cert.AttnBwdRefIdeal.Value (weight near)

/-- A block of a head, the half block before or after it, a column of a block, a half block of such columns. -/
local notation "Blk" => Vec Ideal S128x128 EltTy.bf16
local notation "Half" => Vec Ideal S64x128 EltTy.bf16
local notation "Col" => Vec Ideal S128x1 EltTy.f32
local notation "Halves" => Vec Ideal S64x128 EltTy.f32
local notation "Tile" => FVec Ideal S128x128 FTy.f32

/-! ## The body's operations -/

def block (x : Blk) : FVec Ideal S128x128 .bf16 := shapeCast S128x128 x shapeCasts_S128x128_S128x128

def beside (a b : Half) : FVec Ideal S128x128 .bf16 :=
  concatenate S128x128 0 [⟨S64x128, shapeCast S64x128 a shapeCasts_S64x128_S64x128⟩, ⟨S64x128, shapeCast S64x128 b shapeCasts_S64x128_S64x128⟩]
    concatenates_S64x128_S64x128_S128x128_d0

def column (l : Col) : FVec Ideal S128x1 .f32 := shapeCast S128x1 l shapeCasts_S128x1_S128x1

def columns (a b : Halves) : FVec Ideal S128x128 .f32 :=
  concatenate S128x128 0 [⟨S64x128, shapeCast S64x128 a shapeCasts_S64x128_S64x128⟩, ⟨S64x128, shapeCast S64x128 b shapeCasts_S64x128_S64x128⟩]
    concatenates_S64x128_S64x128_S128x128_d0

def scores (a b : FVec Ideal S128x128 .bf16) : Tile :=
  matmul dot_S128x128_S128x128_S128x128_1_1_0_0_n_n none a b (constant S128x128 .f32 0x00000000#32)

def weights (m : IVec S128x128 1) (s : Tile) (l : FVec Ideal S128x1 .f32) : Tile :=
  select m (exp (subf (mulf s (broadcast S128x128 (Scalar.ofBits .f32 0x3DB504F3#32))) (broadcastTo S128x128 l broadcasts_S128x1_S128x128)))
    (broadcast S128x128 (Scalar.ofBits .f32 0x00000000#32))

def scoreCt (m : IVec S128x128 1) (s : Tile) (l : FVec Ideal S128x1 .f32) (dp : Tile) (d : FVec Ideal S128x1 .f32) : FVec Ideal S128x128 .bf16 :=
  truncf .bf16 (mulf (weights m s l) (subf dp (broadcastTo S128x128 d broadcasts_S128x1_S128x128))) bitsLt_bf16_f32

def queryCt (m mE : IVec S128x128 1) (q k v o : Blk) (kA kB vA vB : Half) (l d : Col) : FVec Ideal S128x128 .bf16 :=
  truncf .bf16 (mulf (addf
      (matmul dot_S128x128_S128x128_S128x128_1_0_0_1_n_n none
        (scoreCt m (scores (block q) (block k)) (column l) (scores (block o) (block v)) (column d)) (block k) (constant S128x128 .f32 0x00000000#32))
      (matmul dot_S128x128_S128x128_S128x128_1_0_0_1_n_n none
        (scoreCt mE (scores (block q) (beside kA kB)) (column l) (scores (block o) (beside vA vB)) (column d)) (beside kA kB)
        (constant S128x128 .f32 0x00000000#32)))
    (broadcast S128x128 (Scalar.ofBits .f32 0x3DB504F3#32))) bitsLt_bf16_f32

def keyCt (m mE : IVec S128x128 1) (q k v o : Blk) (qA qB oA oB : Half) (l d : Col) (lE dE : FVec Ideal S128x1 .f32) :
    FVec Ideal S128x128 .bf16 :=
  truncf .bf16 (mulf (addf
      (matmul dot_S128x128_S128x128_S128x128_0_0_1_1_n_n none
        (scoreCt m (scores (block q) (block k)) (column l) (scores (block o) (block v)) (column d)) (block q) (constant S128x128 .f32 0x00000000#32))
      (matmul dot_S128x128_S128x128_S128x128_0_0_1_1_n_n none
        (scoreCt mE (scores (beside qA qB) (block k)) lE (scores (beside oA oB) (block v)) dE) (beside qA qB)
        (constant S128x128 .f32 0x00000000#32)))
    (broadcast S128x128 (Scalar.ofBits .f32 0x3DB504F3#32))) bitsLt_bf16_f32

def valueCt (m mE : IVec S128x128 1) (q k o : Blk) (qA qB oA oB : Half) (l : Col) (lE : FVec Ideal S128x1 .f32) : FVec Ideal S128x128 .bf16 :=
  truncf .bf16 (addf
      (matmul dot_S128x128_S128x128_S128x128_0_0_1_1_n_n none
        (truncf .bf16 (weights m (scores (block q) (block k)) (column l)) bitsLt_bf16_f32) (block o) (constant S128x128 .f32 0x00000000#32))
      (matmul dot_S128x128_S128x128_S128x128_0_0_1_1_n_n none
        (truncf .bf16 (weights mE (scores (beside qA qB) (block k)) lE) bitsLt_bf16_f32) (beside oA oB) (constant S128x128 .f32 0x00000000#32)))
    bitsLt_bf16_f32

/-! ## At an index -/

theorem block_at (x : Blk) (a b : Fin 128) : block x (ix2 a b) = x (ix2 a b) := by
  unfold block
  pointwise []

theorem column_at (l : Col) (a : Fin 128) : column l (ix2 a 0) = l (ix2 a 0) := by
  unfold column
  pointwise []

theorem beside_at (A B : Half) (a b : Fin 128) :
    beside A B (ix2 a b) = if h : a.val < 64 then A (ix2 ⟨a.val, h⟩ b) else B (ix2 ⟨a.val - 64, by omega⟩ b) := by
  unfold beside
  pointwise []

theorem columns_at (A B : Halves) (a b : Fin 128) :
    columns A B (ix2 a b) = if h : a.val < 64 then A (ix2 ⟨a.val, h⟩ b) else B (ix2 ⟨a.val - 64, by omega⟩ b) := by
  unfold columns
  pointwise []

theorem scores_at (x y : FVec Ideal S128x128 .bf16) (a b : Fin 128) : scores x y (ix2 a b) = ∑ c : Fin 128, x (ix2 a c) * y (ix2 b c) := by
  unfold scores
  pointwise []

theorem weights_at (m : IVec S128x128 1) (s : Tile) (l : FVec Ideal S128x1 .f32) (a b : Fin 128) :
    weights m s l (ix2 a b) = if m (ix2 a b) = 1#1 then weight (s (ix2 a b)) (l (ix2 a 0)) else 0 := by
  unfold weights weight
  pointwise []
  rfl

theorem scoreCt_at (m : IVec S128x128 1) (s : Tile) (l : FVec Ideal S128x1 .f32) (dp : Tile) (d : FVec Ideal S128x1 .f32) (a b : Fin 128) :
    scoreCt m s l dp d (ix2 a b)
      = (if m (ix2 a b) = 1#1 then weight (s (ix2 a b)) (l (ix2 a 0)) else 0) * (dp (ix2 a b) - d (ix2 a 0)) := by
  unfold scoreCt
  rw [← weights_at]
  generalize weights m s l = w
  pointwise []

theorem scoreCt_mul (m : IVec S128x128 1) (s : Tile) (l : FVec Ideal S128x1 .f32) (dp : Tile) (d : FVec Ideal S128x1 .f32) (a b : Fin 128) (z : EReal) :
    scoreCt m s l dp d (ix2 a b) * z
      = if m (ix2 a b) = 1#1 then weight (s (ix2 a b)) (l (ix2 a 0)) * (dp (ix2 a b) - d (ix2 a 0)) * z else 0 := by
  rw [scoreCt_at]
  split
  · rfl
  · rw [zero_mul, zero_mul]

theorem queryCt_at (m mE : IVec S128x128 1) (q k v o : Blk) (kA kB vA vB : Half) (l d : Col) (a b : Fin 128) :
    queryCt m mE q k v o kA kB vA vB l d (ix2 a b)
      = ((∑ c : Fin 128, if m (ix2 a c) = 1#1 then
            weight (∑ e : Fin 128, q (ix2 a e) * k (ix2 c e)) (l (ix2 a 0)) * (∑ e : Fin 128, o (ix2 a e) * v (ix2 c e) - d (ix2 a 0)) * k (ix2 c b) else 0)
          + ∑ c : Fin 128, if mE (ix2 a c) = 1#1 then
            weight (∑ e : Fin 128, q (ix2 a e) * beside kA kB (ix2 c e)) (l (ix2 a 0))
              * (∑ e : Fin 128, o (ix2 a e) * beside vA vB (ix2 c e) - d (ix2 a 0)) * beside kA kB (ix2 c b) else 0)
        * Ideal.ofBits .f32 0x3DB504F3#32 := by
  unfold queryCt
  generalize hs : scoreCt _ _ _ _ _ = s
  generalize hs' : scoreCt _ _ _ _ _ = s'
  generalize hx : block k = x
  generalize hy : beside kA kB = y
  pointwise []
  subst hs hs' hx hy
  simp only [scoreCt_mul, scores_at, block_at, column_at]

theorem keyCt_at (m mE : IVec S128x128 1) (q k v o : Blk) (qA qB oA oB : Half) (l d : Col) (lE dE : FVec Ideal S128x1 .f32) (a b : Fin 128) :
    keyCt m mE q k v o qA qB oA oB l d lE dE (ix2 a b)
      = ((∑ c : Fin 128, if m (ix2 c a) = 1#1 then
            weight (∑ e : Fin 128, q (ix2 c e) * k (ix2 a e)) (l (ix2 c 0)) * (∑ e : Fin 128, o (ix2 c e) * v (ix2 a e) - d (ix2 c 0)) * q (ix2 c b) else 0)
          + ∑ c : Fin 128, if mE (ix2 c a) = 1#1 then
            weight (∑ e : Fin 128, beside qA qB (ix2 c e) * k (ix2 a e)) (lE (ix2 c 0))
              * (∑ e : Fin 128, beside oA oB (ix2 c e) * v (ix2 a e) - dE (ix2 c 0)) * beside qA qB (ix2 c b) else 0)
        * Ideal.ofBits .f32 0x3DB504F3#32 := by
  unfold keyCt
  generalize hs : scoreCt _ _ _ _ _ = s
  generalize hs' : scoreCt _ _ _ _ _ = s'
  generalize hx : block q = x
  generalize hy : beside qA qB = y
  pointwise []
  subst hs hs' hx hy
  simp only [scoreCt_mul, scores_at, block_at, column_at]

theorem weights_mul (m : IVec S128x128 1) (s : Tile) (l : FVec Ideal S128x1 .f32) (a b : Fin 128) (z : EReal) :
    weights m s l (ix2 a b) * z = if m (ix2 a b) = 1#1 then weight (s (ix2 a b)) (l (ix2 a 0)) * z else 0 := by
  rw [weights_at]
  split
  · rfl
  · rw [zero_mul]

theorem valueCt_at (m mE : IVec S128x128 1) (q k o : Blk) (qA qB oA oB : Half) (l : Col) (lE : FVec Ideal S128x1 .f32) (a b : Fin 128) :
    valueCt m mE q k o qA qB oA oB l lE (ix2 a b)
      = (∑ c : Fin 128, if m (ix2 c a) = 1#1 then
            weight (∑ e : Fin 128, q (ix2 c e) * k (ix2 a e)) (l (ix2 c 0)) * o (ix2 c b) else 0)
          + ∑ c : Fin 128, if mE (ix2 c a) = 1#1 then
            weight (∑ e : Fin 128, beside qA qB (ix2 c e) * k (ix2 a e)) (lE (ix2 c 0)) * beside oA oB (ix2 c b) else 0 := by
  unfold valueCt
  generalize hs : weights _ _ _ = s
  generalize hs' : weights _ _ _ = s'
  generalize hx : block o = x
  generalize hy : beside oA oB = y
  pointwise []
  subst hs hs' hx hy
  simp only [weights_mul, scores_at, block_at, column_at]

end Cert.AttnBwdIdeal.Value

end
-- ==== Proof.AttnBwdBand.lean ====
/- A block of 128 rows sees the band through itself and the half blocks before and after it: the sums over those are the sums over all
   the rows of the residue class, so the three products of a block are the gradient's. -/
module

public import proofs.«01_k».proof.Proof.AttnBwdTile

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen
open Cert.AttnBwdRefIdeal.Value (weight near)

local notation "Blk" => Vec Ideal S128x128 EltTy.bf16
local notation "Half" => Vec Ideal S64x128 EltTy.bf16
local notation "Col" => Vec Ideal S128x1 EltTy.f32

/-- Row `a` of block `b`; and row `c` of the two half blocks around it, counted from 64 rows before the first. -/
def row (b : Fin 4) (a : Fin 128) : Fin 512 := ⟨128 * b + a, by omega⟩
def around (b : Fin 4) (c : Fin 128) : ℕ := 128 * b + c + if c.val < 64 then 0 else 128

/-- The row is one of the class. -/
def inside (b : Fin 4) (c : Fin 128) : Prop := 64 ≤ around b c ∧ around b c < 576
instance (b : Fin 4) (c : Fin 128) : Decidable (inside b c) := inferInstanceAs (Decidable (_ ∧ _))

def rowAround (b : Fin 4) (c : Fin 128) (h : inside b c) : Fin 512 := ⟨around b c - 64, by unfold inside at h; omega⟩

/-- The band between row `a` of the block and row `c` around it. -/
def nearAround (b : Fin 4) (a c : Fin 128) : Prop := inside b c ∧ near (128 * b + a + 64) (around b c)
instance (b : Fin 4) (a c : Fin 128) : Decidable (nearAround b a c) := inferInstanceAs (Decidable (_ ∧ _))

theorem near_comm (x y : ℕ) : near x y ↔ near y x := by unfold near; omega

theorem sum_halves (f : Fin 128 → EReal) :
    ∑ c, f c = (∑ i : Fin 64, f ⟨i, by omega⟩) + ∑ i : Fin 64, f ⟨64 + i, by omega⟩ :=
  Fin.sum_univ_add (a := 64) (b := 64) f

/-- The rows of the class, 64 at a time. -/
theorem sum_rows (g : ℕ → EReal) : ∑ y : Fin 512, g y = ∑ j : Fin 8, ∑ i : Fin 64, g (64 * j + i) := by
  rw [← Fintype.sum_prod_type']
  refine (Fintype.sum_equiv (finProdFinEquiv (m := 8) (n := 64)) _ _ fun p => ?_).symm
  show g _ = g _
  congr 1
  simp [finProdFinEquiv]
  omega

theorem sum_band (f : Fin 512 → EReal) (b : Fin 4) (a : Fin 128) :
    (∑ y : Fin 512, if near (row b a) y then f y else 0)
      = (∑ c : Fin 128, if near a c then f (row b c) else 0)
        + ∑ c : Fin 128, if h : nearAround b a c then f (rowAround b c h.1) else 0 := by
  let g : ℕ → EReal := fun n => if h : n < 512 then (if near (row b a) n then f ⟨n, h⟩ else 0) else 0
  have e : ∀ y : Fin 512, (if near (row b a) y then f y else 0) = g y := fun y => by
    show _ = dite _ _ _
    rw [dif_pos y.isLt]
  have far : ∀ j : ℕ, (j + 1 < 2 * b.val ∨ 2 * b.val + 2 < j) → ∑ i : Fin 64, g (64 * j + i) = 0 := fun j hj =>
    Finset.sum_eq_zero fun i _ => by
      show dite _ _ _ = _
      split
      · rw [if_neg]
        unfold near row
        show ¬ (128 * b.val + a.val ≤ _ ∧ _ ≤ 128 * b.val + a.val + 64)
        omega
      · rfl
  have cur : ∀ c : Fin 128, (if near a c then f (row b c) else 0) = g (128 * b + c) := fun c => by
    show _ = dite _ _ _
    rw [dif_pos (by omega)]
    refine if_congr ?_ rfl rfl
    unfold near row
    show _ ↔ 128 * b.val + a.val ≤ 128 * b.val + c.val + 64 ∧ 128 * b.val + c.val ≤ 128 * b.val + a.val + 64
    omega
  have edge : ∀ c : Fin 128, (if h : nearAround b a c then f (rowAround b c h.1) else 0) = if 64 ≤ around b c then g (around b c - 64) else 0 := fun c => by
    by_cases h1 : 64 ≤ around b c
    · rw [if_pos h1]
      show _ = dite _ _ _
      by_cases h2 : around b c - 64 < 512
      · rw [dif_pos h2]
        by_cases h3 : near (128 * b + a + 64) (around b c)
        · rw [dif_pos ⟨⟨h1, by omega⟩, h3⟩, if_pos]
          · rfl
          · unfold near row at *
            show 128 * b.val + a.val ≤ _ ∧ _ ≤ 128 * b.val + a.val + 64
            omega
        · rw [dif_neg (fun h => h3 h.2), if_neg]
          unfold near row at *
          show ¬ (128 * b.val + a.val ≤ _ ∧ _ ≤ 128 * b.val + a.val + 64)
          omega
      · rw [dif_neg h2, dif_neg]
        intro h
        have := h.1.2
        omega
    · rw [if_neg h1, dif_neg]
      intro h
      exact h1 h.1.1
  simp only [e, cur, edge]
  rw [sum_rows, sum_halves, sum_halves, Fin.sum_univ_eight]
  have e1 : (∑ i : Fin 64, g (128 * b + i)) = ∑ i : Fin 64, g (64 * (2 * b.val) + i) :=
    Finset.sum_congr rfl fun i _ => by congr 1; omega
  have e2 : (∑ i : Fin 64, g (128 * b + (64 + i))) = ∑ i : Fin 64, g (64 * (2 * b.val + 1) + i) :=
    Finset.sum_congr rfl fun i _ => by congr 1; omega
  have e3 : (∑ i : Fin 64, if 64 ≤ around b ⟨i, by omega⟩ then g (around b ⟨i, by omega⟩ - 64) else 0)
      = if b.val = 0 then 0 else ∑ i : Fin 64, g (64 * (2 * b.val - 1) + i) := by
    have ha : ∀ i : Fin 64, around b ⟨i, by omega⟩ = 128 * b + i := fun i => by
      unfold around
      rw [if_pos i.isLt, add_zero]
    split
    · exact Finset.sum_eq_zero fun i _ => by rw [if_neg]; rw [ha]; omega
    · exact Finset.sum_congr rfl fun i _ => by
        rw [if_pos (by rw [ha]; omega), ha]; congr 1; omega
  have e4 : (∑ i : Fin 64, if 64 ≤ around b ⟨64 + i, by omega⟩ then g (around b ⟨64 + i, by omega⟩ - 64) else 0)
      = ∑ i : Fin 64, g (64 * (2 * b.val + 2) + i) := by
    have ha : ∀ i : Fin 64, around b ⟨64 + i, by omega⟩ = 128 * b + (64 + i) + 128 := fun i => by
      unfold around
      rw [if_neg (by show ¬ 64 + i.val < 64; omega)]
    exact Finset.sum_congr rfl fun i _ => by
      rw [if_pos (by rw [ha]; omega), ha]; congr 1; omega
  have past : ∑ i : Fin 64, g (64 * 8 + i) = 0 := Finset.sum_eq_zero fun i _ => by
    show dite _ _ _ = _
    rw [dif_neg (by omega)]
  show _ = ((∑ i : Fin 64, g (128 * b + i)) + (∑ i : Fin 64, g (128 * b + (64 + i)))) + _
  rw [e1, e2, e3, e4]
  generalize hS : (fun j : ℕ => ∑ i : Fin 64, g (64 * j + i)) = S
  have hs : ∀ j : ℕ, ∑ i : Fin 64, g (64 * j + i) = S j := fun j => by rw [← hS]
  simp only [hs] at far past ⊢
  show S 0 + S 1 + S 2 + S 3 + S 4 + S 5 + S 6 + S 7 = _
  have f0 := far 0; have f1 := far 1; have f2 := far 2; have f3 := far 3
  have f4 := far 4; have f5 := far 5; have f6 := far 6; have f7 := far 7
  clear far e1 e2 e3 e4 cur edge e hS hs
  fin_cases b <;> simp_all <;> abel

/-! ## A block's gradients -/

/-- The block's rows, and the half blocks around it, of an array of rows. -/
def Rows (b : Fin 4) (q : Blk) (R : Fin 512 → Fin 128 → EReal) : Prop := ∀ a e : Fin 128, q (ix2 a e) = R (row b a) e
def RowsAround (b : Fin 4) (A B : Half) (R : Fin 512 → Fin 128 → EReal) : Prop :=
  ∀ (c e : Fin 128) (h : inside b c), beside A B (ix2 c e) = R (rowAround b c h) e
def Column (b : Fin 4) (l : Col) (R : Fin 512 → EReal) : Prop := ∀ a : Fin 128, l (ix2 a 0) = R (row b a)
def ColumnAround (b : Fin 4) (l : FVec Ideal S128x1 .f32) (R : Fin 512 → EReal) : Prop :=
  ∀ (c : Fin 128) (h : inside b c), l (ix2 c 0) = R (rowAround b c h)

/-- The masks: of the block with itself, of its rows with those around it, of those around it with its rows. -/
def Near (m : IVec S128x128 1) : Prop := ∀ a c : Fin 128, m (ix2 a c) = 1#1 ↔ near a c
def NearAround (b : Fin 4) (m : IVec S128x128 1) : Prop := ∀ a c : Fin 128, m (ix2 a c) = 1#1 ↔ nearAround b a c
def AroundNear (b : Fin 4) (m : IVec S128x128 1) : Prop := ∀ c a : Fin 128, m (ix2 c a) = 1#1 ↔ nearAround b a c

variable {b : Fin 4} {m mE : IVec S128x128 1} {q k v o : Blk} {kA kB vA vB qA qB oA oB : Half} {l d : Col} {lE dE : FVec Ideal S128x1 .f32}
variable {Q K V O : Fin 512 → Fin 128 → EReal} {L D : Fin 512 → EReal}

def weightOf (Q K : Fin 512 → Fin 128 → EReal) (L : Fin 512 → EReal) (x y : Fin 512) : EReal :=
  weight (∑ e : Fin 128, Q x e * K y e) (L x)

def ctOf (Q K V O : Fin 512 → Fin 128 → EReal) (L D : Fin 512 → EReal) (x y : Fin 512) : EReal :=
  weightOf Q K L x y * (∑ e : Fin 128, O x e * V y e - D x)

theorem queryCt_rows (hm : Near m) (hmE : NearAround b mE) (hq : Rows b q Q) (hk : Rows b k K) (hv : Rows b v V) (ho : Rows b o O)
    (hkE : RowsAround b kA kB K) (hvE : RowsAround b vA vB V) (hl : Column b l L) (hd : Column b d D) (a e : Fin 128) :
    queryCt m mE q k v o kA kB vA vB l d (ix2 a e)
      = (∑ y : Fin 512, if near (row b a) y then ctOf Q K V O L D (row b a) y * K y e else 0) * Ideal.ofBits .f32 0x3DB504F3#32 := by
  rw [queryCt_at, sum_band (fun y => ctOf Q K V O L D (row b a) y * K y e)]
  unfold ctOf weightOf
  congr 2
  · refine Finset.sum_congr rfl fun c _ => if_congr (hm a c) ?_ rfl
    simp only [hq _ _, hk _ _, hv _ _, ho _ _, hl _, hd _]
  · refine Finset.sum_congr rfl fun c _ => ?_
    by_cases h : nearAround b a c
    · rw [if_pos ((hmE a c).2 h), dif_pos h]
      simp only [hq _ _, ho _ _, hl _, hd _, hkE _ _ h.1, hvE _ _ h.1]
    · rw [if_neg (fun hh => h ((hmE a c).1 hh)), dif_neg h]

theorem keyCt_rows (hm : Near m) (hmE : AroundNear b mE) (hq : Rows b q Q) (hk : Rows b k K) (hv : Rows b v V) (ho : Rows b o O)
    (hqE : RowsAround b qA qB Q) (hoE : RowsAround b oA oB O) (hl : Column b l L) (hd : Column b d D)
    (hlE : ColumnAround b lE L) (hdE : ColumnAround b dE D) (a e : Fin 128) :
    keyCt m mE q k v o qA qB oA oB l d lE dE (ix2 a e)
      = (∑ x : Fin 512, if near x (row b a) then ctOf Q K V O L D x (row b a) * Q x e else 0) * Ideal.ofBits .f32 0x3DB504F3#32 := by
  simp only [near_comm _ (row b a)]
  rw [keyCt_at, sum_band (fun x => ctOf Q K V O L D x (row b a) * Q x e)]
  unfold ctOf weightOf
  congr 2
  · refine Finset.sum_congr rfl fun c _ => if_congr ((hm c a).trans (near_comm _ _)) ?_ rfl
    simp only [hq _ _, hk _ _, hv _ _, ho _ _, hl _, hd _]
  · refine Finset.sum_congr rfl fun c _ => ?_
    by_cases h : nearAround b a c
    · rw [if_pos ((hmE c a).2 h), dif_pos h]
      simp only [hk _ _, hv _ _, hlE _ h.1, hdE _ h.1, hqE _ _ h.1, hoE _ _ h.1]
    · rw [if_neg (fun hh => h ((hmE c a).1 hh)), dif_neg h]

theorem valueCt_rows (hm : Near m) (hmE : AroundNear b mE) (hq : Rows b q Q) (hk : Rows b k K) (ho : Rows b o O)
    (hqE : RowsAround b qA qB Q) (hoE : RowsAround b oA oB O) (hl : Column b l L) (hlE : ColumnAround b lE L) (a e : Fin 128) :
    valueCt m mE q k o qA qB oA oB l lE (ix2 a e)
      = ∑ x : Fin 512, if near x (row b a) then weightOf Q K L x (row b a) * O x e else 0 := by
  simp only [near_comm _ (row b a)]
  rw [valueCt_at, sum_band (fun x => weightOf Q K L x (row b a) * O x e)]
  unfold weightOf
  congr 1
  · refine Finset.sum_congr rfl fun c _ => if_congr ((hm c a).trans (near_comm _ _)) ?_ rfl
    simp only [hq _ _, hk _ _, ho _ _, hl _]
  · refine Finset.sum_congr rfl fun c _ => ?_
    by_cases h : nearAround b a c
    · rw [if_pos ((hmE c a).2 h), dif_pos h]
      simp only [hk _ _, hlE _ h.1, hqE _ _ h.1, hoE _ _ h.1]
    · rw [if_neg (fun hh => h ((hmE c a).1 hh)), dif_neg h]

end Cert.AttnBwdIdeal.Value

end
-- ==== Proof.AttnBwdMask.lean ====
/- The masks the body makes from its grid coordinate: the band inside a block, and between a block and the half blocks around it. -/
module

public import proofs.«01_k».proof.Proof.AttnBwdBand

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen
open Cert.AttnBwdRefIdeal.Value (weight near)

def down : IVec S128x128 32 := iota .tc S128x128 32 [0] iota_S128x128_d0_w32
def across : IVec S128x128 32 := iota .tc S128x128 32 [1] iota_S128x128_d1_w32

/-- The rows of block `w`, and those around it, as words. -/
def rowsWord (w : BitVec 32) (p : IVec S128x128 32) : IVec S128x128 32 := addi (broadcast S128x128 (Scalar.muli w 128#32)) p
def aroundWord (w : BitVec 32) (p : IVec S128x128 32) : IVec S128x128 32 :=
  addi (addi (broadcast S128x128 (Scalar.subi (Scalar.muli w 128#32) 64#32)) p)
    (select (cmpi .sge p (broadcast S128x128 64#32)) (broadcast S128x128 128#32) (broadcast S128x128 0#32))

def band (x y : IVec S128x128 32) : IVec S128x128 1 := cmpi .sle (absi (subi x y)) (broadcast S128x128 64#32)
def within (m : IVec S128x128 1) (p : IVec S128x128 32) : IVec S128x128 1 :=
  andi (andi m (cmpi .sge p (broadcast S128x128 0#32))) (cmpi .slt p (broadcast S128x128 512#32))

def blockMask : IVec S128x128 1 := band down across
def keyMask (w : BitVec 32) : IVec S128x128 1 := within (band (rowsWord w down) (aroundWord w across)) (aroundWord w across)
def queryMask (w : BitVec 32) : IVec S128x128 1 := within (band (aroundWord w down) (rowsWord w across)) (aroundWord w down)

theorem down_at (a c : Fin 128) : down (ix2 a c) = BitVec.ofNat 32 a := by unfold down; pointwise []
theorem across_at (a c : Fin 128) : across (ix2 a c) = BitVec.ofNat 32 c := by unfold across; pointwise []

theorem rowsWord_at (b : Fin 4) (p : IVec S128x128 32) (a c k : Fin 128) (h : p (ix2 a c) = BitVec.ofNat 32 k) :
    rowsWord (BitVec.ofNat 32 b) p (ix2 a c) = BitVec.ofNat 32 (128 * b + k : ℕ) := by
  unfold rowsWord
  pointwise [h]
  clear h
  revert b k
  decide +kernel

theorem aroundWord_at (b : Fin 4) (p : IVec S128x128 32) (a c k : Fin 128) (h : p (ix2 a c) = BitVec.ofNat 32 k) :
    aroundWord (BitVec.ofNat 32 b) p (ix2 a c) = BitVec.ofNat 32 (around b k) - 64#32 := by
  unfold aroundWord
  pointwise [h]
  clear h
  revert b k
  decide +kernel

/-- The distance of two positions below 1024, compared as words. -/
theorem abs_word (d : Fin 1024) :
    IntOp.cmpi .sle (IntOp.absi (BitVec.ofNat 32 d)) 64#32 = (if (d : ℕ) ≤ 64 then 1#1 else 0#1)
      ∧ IntOp.cmpi .sle (IntOp.absi (-BitVec.ofNat 32 d)) 64#32 = (if (d : ℕ) ≤ 64 then 1#1 else 0#1) := by
  revert d; decide +kernel

theorem near_word (x y : ℕ) (hx : x < 1024) (hy : y < 1024) :
    IntOp.cmpi .sle (IntOp.absi (BitVec.ofNat 32 x - BitVec.ofNat 32 y)) 64#32 = if near x y then 1#1 else 0#1 := by
  unfold near
  rcases le_total y x with h | h
  · have e : BitVec.ofNat 32 x - BitVec.ofNat 32 y = BitVec.ofNat 32 (x - y : ℕ) := by
      apply BitVec.eq_of_toNat_eq
      simp only [BitVec.toNat_sub, BitVec.toNat_ofNat]
      omega
    rw [e, (abs_word ⟨x - y, by omega⟩).1]
    congr 1
    apply propext
    show (x : ℕ) - y ≤ 64 ↔ _
    omega
  · have e : BitVec.ofNat 32 x - BitVec.ofNat 32 y = -BitVec.ofNat 32 (y - x : ℕ) := by
      apply BitVec.eq_of_toNat_eq
      simp only [BitVec.toNat_sub, BitVec.toNat_neg, BitVec.toNat_ofNat]
      omega
    rw [e, (abs_word ⟨y - x, by omega⟩).2]
    congr 1
    apply propext
    show (y : ℕ) - x ≤ 64 ↔ _
    omega

theorem inside_word (e : Fin 640) :
    (IntOp.cmpi .sge (BitVec.ofNat 32 e - 64#32) 0#32 = if 64 ≤ (e : ℕ) then 1#1 else 0#1)
      ∧ (IntOp.cmpi .slt (BitVec.ofNat 32 e - 64#32) 512#32 = if (e : ℕ) < 576 then 1#1 else 0#1) := by
  revert e; decide +kernel

theorem around_lt (b : Fin 4) (c : Fin 128) : around b c < 640 := by
  unfold around
  split <;> omega

theorem blockMask_near : Near blockMask := fun a c => by
  unfold blockMask band
  pointwise [down_at, across_at]
  show IntOp.cmpi .sle (IntOp.absi (BitVec.ofNat 32 a - BitVec.ofNat 32 c)) 64#32 = 1#1 ↔ _
  rw [near_word a c (by omega) (by omega)]
  split <;> simp_all

theorem keyMask_near (b : Fin 4) : NearAround b (keyMask (BitVec.ofNat 32 b)) := fun a c => by
  unfold keyMask within band
  pointwise [rowsWord_at b down a c a (down_at a c), aroundWord_at b across a c c (across_at a c)]
  have e : IntOp.subi (BitVec.ofNat 32 (128 * b + a : ℕ)) (BitVec.ofNat 32 (around b c) - 64#32)
      = BitVec.ofNat 32 (128 * b + a + 64 : ℕ) - BitVec.ofNat 32 (around b c) := by
    have := around_lt b c
    apply BitVec.eq_of_toNat_eq
    simp only [IntOp.subi, BitVec.toNat_sub, BitVec.toNat_ofNat]
    omega
  have := around_lt b c
  have h1 := (inside_word ⟨_, around_lt b c⟩).1
  have h2 := (inside_word ⟨_, around_lt b c⟩).2
  dsimp only at h1 h2
  rw [e, near_word _ _ (by omega) (by omega), h1, h2]
  unfold nearAround inside
  split <;> split <;> split <;> simp_all [IntOp.andi]

theorem queryMask_near (b : Fin 4) : AroundNear b (queryMask (BitVec.ofNat 32 b)) := fun c a => by
  unfold queryMask within band
  pointwise [rowsWord_at b across c a a (across_at c a), aroundWord_at b down c a c (down_at c a)]
  have e : IntOp.subi (BitVec.ofNat 32 (around b c) - 64#32) (BitVec.ofNat 32 (128 * b + a : ℕ))
      = BitVec.ofNat 32 (around b c) - BitVec.ofNat 32 (128 * b + a + 64 : ℕ) := by
    have := around_lt b c
    apply BitVec.eq_of_toNat_eq
    simp only [IntOp.subi, BitVec.toNat_sub, BitVec.toNat_ofNat]
    omega
  have := around_lt b c
  have h1 := (inside_word ⟨_, around_lt b c⟩).1
  have h2 := (inside_word ⟨_, around_lt b c⟩).2
  dsimp only at h1 h2
  rw [e, near_word _ _ (by omega) (by omega), h1, h2]
  unfold nearAround inside
  rw [near_comm (128 * b + a + 64)]
  split <;> split <;> split <;> simp_all [IntOp.andi]

end Cert.AttnBwdIdeal.Value

end
-- ==== Proof.AttnBwdPiece.lean ====
/- What a point stores for a block of a head: the loads it makes of the windows, and the three products of those, which are the gradients
   of the rows of the class. -/
module

public import proofs.«01_k».proof.Proof.AttnBwdMask
public import Idealize.ShloMosaic.Lib.Pipeline.FrameBody

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen
open Cert.AttnBwdRefIdeal.Value (weight near)

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

/-! ## Loads -/

def blockRect (b : Fin 4) (h : Fin 8) : Rect S512x1024 := Rect.unit (s := S512x1024) ![128 * b, 128 * h] S128x128.size (by revert b h; decide +kernel)
def halfRect (r : Fin 8) (h : Fin 8) : Rect S512x1024 := Rect.unit (s := S512x1024) ![64 * r, 128 * h] S64x128.size (by revert r h; decide +kernel)
def outerRect (h : Fin 8) : Rect S64x1024 := Rect.unit (s := S64x1024) ![0, 128 * h] S64x128.size (by revert h; decide +kernel)
def columnRect (b : Fin 4) (h : Fin 8) : Rect S512x128 := Rect.unit (s := S512x128) ![128 * b, h] S128x1.size (by revert b h; decide +kernel)
def columnsRect (r : Fin 8) : Rect S512x128 := Rect.unit (s := S512x128) ![64 * r, 0] S64x128.size (by revert r; decide +kernel)
def outerColumns : Rect S64x128 := Rect.unit (s := S64x128) ![0, 0] S64x128.size (by decide +kernel)

def blockOf (x : Wide) (b : Fin 4) (h : Fin 8) : Vec Ideal S128x128 .bf16 := View.ld x (blockRect b h)
def columnOf (x : Narrow) (b : Fin 4) (h : Fin 8) : Vec Ideal S128x1 .f32 := View.ld x (columnRect b h)

/-- The half block before, and the one after. -/
def before (p : WideHalf) (x : Wide) : Fin 4 → Fin 8 → Vec Ideal S64x128 .bf16
  | 0, h => View.ld p (outerRect h)
  | 1, h => View.ld x (halfRect 1 h)
  | 2, h => View.ld x (halfRect 3 h)
  | 3, h => View.ld x (halfRect 5 h)

def after (x : Wide) (n : WideHalf) : Fin 4 → Fin 8 → Vec Ideal S64x128 .bf16
  | 0, h => View.ld x (halfRect 2 h)
  | 1, h => View.ld x (halfRect 4 h)
  | 2, h => View.ld x (halfRect 6 h)
  | 3, h => View.ld n (outerRect h)

def columnsAround (p : NarrowHalf) (x : Narrow) (n : NarrowHalf) : Fin 4 → FVec Ideal S128x128 .f32
  | 0 => columns (View.ld p outerColumns) (View.ld x (columnsRect 2))
  | 1 => columns (View.ld x (columnsRect 1)) (View.ld x (columnsRect 4))
  | 2 => columns (View.ld x (columnsRect 3)) (View.ld x (columnsRect 6))
  | 3 => columns (View.ld x (columnsRect 5)) (View.ld n outerColumns)

theorem slices_column (h : Fin 8) : S128x128.Slices ![0, (h : ℕ)] S128x1 := by revert h; decide +kernel

def columnAround (w : FVec Ideal S128x128 .f32) (h : Fin 8) : FVec Ideal S128x1 .f32 :=
  extractStridedSlice (s := S128x128) S128x1 ![0, (h : ℕ)] w (slices_column h)

def col (h : Fin 8) (e : Fin 128) : Fin 1024 := ⟨128 * h + e, by omega⟩
def laneOf (h : Fin 8) : Fin 128 := ⟨h, by omega⟩

/-- The class's rows of head `h` in a window, and its column in a narrow one. -/
def headRows (x : Wide) (h : Fin 8) : Fin 512 → Fin 128 → EReal := fun r e => x (ix2 r (col h e))
def headColumn (x : Narrow) (h : Fin 8) : Fin 512 → EReal := fun r => x (ix2 r (laneOf h))

theorem blockOf_at (x : Wide) (b : Fin 4) (h : Fin 8) (a e : Fin 128) : blockOf x b h (ix2 a e) = x (ix2 (row b a) (col h e)) := by
  unfold blockOf blockRect row col
  pointwise []

theorem columnOf_at (x : Narrow) (b : Fin 4) (h : Fin 8) (a : Fin 128) : columnOf x b h (ix2 a 0) = x (ix2 (row b a) (laneOf h)) := by
  unfold columnOf columnRect row laneOf
  pointwise []

theorem blockOf_rows (x : Wide) (b : Fin 4) (h : Fin 8) : Rows b (blockOf x b h) (headRows x h) := blockOf_at x b h
theorem columnOf_rows (x : Narrow) (b : Fin 4) (h : Fin 8) : Column b (columnOf x b h) (headColumn x h) := columnOf_at x b h

theorem halfRect_at (x : Wide) (r : Fin 8) (h : Fin 8) (a : Fin 64) (e : Fin 128) :
    View.ld x (halfRect r h) (ix2 a e) = x (ix2 ⟨64 * r + a, by omega⟩ (col h e)) := by
  unfold halfRect col
  pointwise []

theorem columnsRect_at (x : Narrow) (r : Fin 8) (a : Fin 64) (e : Fin 128) :
    View.ld x (columnsRect r) (ix2 a e) = x (ix2 ⟨64 * r + a, by omega⟩ e) := by
  unfold columnsRect
  pointwise []

theorem columnAround_at (w : FVec Ideal S128x128 .f32) (h : Fin 8) (a : Fin 128) : columnAround w h (ix2 a 0) = w (ix2 a (laneOf h)) := by
  unfold columnAround laneOf
  pointwise []

theorem rowsAround (p : WideHalf) (x : Wide) (n : WideHalf) (b : Fin 4) (h : Fin 8) :
    RowsAround b (before p x b h) (after x n b h) (headRows x h) := fun c e hi => by
  show _ = x (ix2 _ (col h e))
  rw [beside_at]
  unfold inside around at hi
  have key : ∀ (r : Fin 512) (r' : Fin 512), (r : ℕ) = r' → x (ix2 r (col h e)) = x (ix2 r' (col h e)) := fun r r' hr => by
    rw [Fin.ext hr]
  unfold rowAround around
  split
  · rename_i hc
    simp only [hc, if_true] at hi ⊢
    match b with
    | 0 => exact absurd hi.1 (by show ¬ 64 ≤ 128 * 0 + c.val + 0; omega)
    | 1 => exact (halfRect_at x 1 h _ e).trans (key _ _ (by show 64 * 1 + c.val = 128 * 1 + c.val + 0 - 64; omega))
    | 2 => exact (halfRect_at x 3 h _ e).trans (key _ _ (by show 64 * 3 + c.val = 128 * 2 + c.val + 0 - 64; omega))
    | 3 => exact (halfRect_at x 5 h _ e).trans (key _ _ (by show 64 * 5 + c.val = 128 * 3 + c.val + 0 - 64; omega))
  · rename_i hc
    simp only [hc, if_false] at hi ⊢
    match b with
    | 0 => exact (halfRect_at x 2 h _ e).trans (key _ _ (by show 64 * 2 + (c.val - 64) = 128 * 0 + c.val + 128 - 64; omega))
    | 1 => exact (halfRect_at x 4 h _ e).trans (key _ _ (by show 64 * 4 + (c.val - 64) = 128 * 1 + c.val + 128 - 64; omega))
    | 2 => exact (halfRect_at x 6 h _ e).trans (key _ _ (by show 64 * 6 + (c.val - 64) = 128 * 2 + c.val + 128 - 64; omega))
    | 3 => exact absurd hi.2 (by show ¬ 128 * 3 + c.val + 128 < 576; omega)

theorem columnAround_rows (p : NarrowHalf) (x : Narrow) (n : NarrowHalf) (b : Fin 4) (h : Fin 8) :
    ColumnAround b (columnAround (columnsAround p x n b) h) (headColumn x h) := fun c hi => by
  show _ = x (ix2 _ (laneOf h))
  rw [columnAround_at]
  suffices goal : ∀ r : Fin 512, (r : ℕ) = around b c - 64 → columnsAround p x n b (ix2 c (laneOf h)) = x (ix2 r (laneOf h)) from goal _ rfl
  intro r hr
  have hj := hi
  clear hi
  unfold inside around at hj
  unfold around at hr
  have key : ∀ (r : Fin 512) (r' : Fin 512), (r : ℕ) = r' → x (ix2 r (laneOf h)) = x (ix2 r' (laneOf h)) := fun r r' hr => by
    rw [Fin.ext hr]
  by_cases hc : c.val < 64
  · have step : ∀ A B : NarrowHalf, columns A B (ix2 c (laneOf h)) = A (ix2 ⟨c, hc⟩ (laneOf h)) := fun A B =>
      (columns_at A B c (laneOf h)).trans (dif_pos hc)
    simp only [hc, if_true] at hj hr
    match b with
    | 0 => exact absurd hj.1 (by show ¬ 64 ≤ 128 * 0 + c.val + 0; omega)
    | 1 => exact (step _ _).trans ((columnsRect_at x 1 _ _).trans (key _ _ (by rw [hr]; show 64 * 1 + c.val = 128 * 1 + c.val + 0 - 64; omega)))
    | 2 => exact (step _ _).trans ((columnsRect_at x 3 _ _).trans (key _ _ (by rw [hr]; show 64 * 3 + c.val = 128 * 2 + c.val + 0 - 64; omega)))
    | 3 => exact (step _ _).trans ((columnsRect_at x 5 _ _).trans (key _ _ (by rw [hr]; show 64 * 5 + c.val = 128 * 3 + c.val + 0 - 64; omega)))
  · have step : ∀ A B : NarrowHalf, columns A B (ix2 c (laneOf h)) = B (ix2 ⟨c - 64, by omega⟩ (laneOf h)) := fun A B =>
      (columns_at A B c (laneOf h)).trans (dif_neg hc)
    simp only [hc, if_false] at hj hr
    match b with
    | 0 => exact (step _ _).trans ((columnsRect_at x 2 _ _).trans (key _ _ (by rw [hr]; show 64 * 2 + (c.val - 64) = 128 * 0 + c.val + 128 - 64; omega)))
    | 1 => exact (step _ _).trans ((columnsRect_at x 4 _ _).trans (key _ _ (by rw [hr]; show 64 * 4 + (c.val - 64) = 128 * 1 + c.val + 128 - 64; omega)))
    | 2 => exact (step _ _).trans ((columnsRect_at x 6 _ _).trans (key _ _ (by rw [hr]; show 64 * 6 + (c.val - 64) = 128 * 2 + c.val + 128 - 64; omega)))
    | 3 => exact absurd hj.2 (by show ¬ 128 * 3 + c.val + 128 < 576; omega)

/-! ## The pieces -/

section

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)

/-- The gradients of a head's rows, from the windows. -/
def dqOf (h : Fin 8) (x : Fin 512) (e : Fin 128) : EReal :=
  (∑ y : Fin 512, if near x y then
    ctOf (headRows x1 h) (headRows x4 h) (headRows x7 h) (headRows x10 h) (headColumn x13 h) (headColumn x16 h) x y * headRows x4 h y e else 0)
    * Ideal.ofBits .f32 0x3DB504F3#32

def dkOf (h : Fin 8) (y : Fin 512) (e : Fin 128) : EReal :=
  (∑ x : Fin 512, if near x y then
    ctOf (headRows x1 h) (headRows x4 h) (headRows x7 h) (headRows x10 h) (headColumn x13 h) (headColumn x16 h) x y * headRows x1 h x e else 0)
    * Ideal.ofBits .f32 0x3DB504F3#32

def dvOf (h : Fin 8) (y : Fin 512) (e : Fin 128) : EReal :=
  ∑ x : Fin 512, if near x y then weightOf (headRows x1 h) (headRows x4 h) (headColumn x13 h) x y * headRows x10 h x e else 0

/-- An index of a window's block, as head and column in it. -/
def headOf (j : Fin 1024) : Fin 8 := ⟨j / 128, by omega⟩
def columnIn (j : Fin 1024) : Fin 128 := ⟨j % 128, by omega⟩

def overBlock (f : Fin 8 → Fin 512 → Fin 128 → EReal) : Vec Ideal S512x1024 .bf16 := fun y => f (headOf (y 1)) (y 0) (columnIn (y 1))

theorem overBlock_emb (f : Fin 8 → Fin 512 → Fin 128 → EReal) (b : Fin 4) (h : Fin 8) (a e : Fin 128) :
    overBlock f ((blockRect b h).emb (ix2 a e)) = f h (row b a) e := by
  have e0 : (blockRect b h).emb (ix2 a e) 0 = row b a := Fin.ext (ValueKit.rect_emb_unit_val ..)
  have e1 : (blockRect b h).emb (ix2 a e) 1 = col h e := Fin.ext (ValueKit.rect_emb_unit_val ..)
  show f (headOf ((blockRect b h).emb (ix2 a e) 1)) ((blockRect b h).emb (ix2 a e) 0) (columnIn ((blockRect b h).emb (ix2 a e) 1)) = _
  rw [e0, e1]
  congr 1
  · congr 1
    exact Fin.ext (by show (128 * h.val + e.val) / 128 = h.val; omega)
  · exact Fin.ext (by show (128 * h.val + e.val) % 128 = e.val; omega)

theorem idx_eq (y : S128x128.Idx) : ∃ a e : Fin 128, y = ix2 a e :=
  ⟨y 0, y 1, by funext d; match d with | ⟨0, _⟩ => rfl | ⟨1, _⟩ => rfl⟩

theorem dq_piece (b : Fin 4) (h : Fin 8) (w : BitVec 32) (hw : w = BitVec.ofNat 32 b) (y : S128x128.Idx) :
    queryCt blockMask (keyMask w) (blockOf x1 b h) (blockOf x4 b h) (blockOf x7 b h) (blockOf x10 b h) (before x3 x4 b h) (after x4 x5 b h)
        (before x6 x7 b h) (after x7 x8 b h) (columnOf x13 b h) (columnOf x16 b h) y
      = overBlock (dqOf x1 x4 x7 x10 x13 x16) ((blockRect b h).emb y) := by
  obtain ⟨a, e, rfl⟩ := idx_eq y
  subst hw
  rw [overBlock_emb]
  exact queryCt_rows blockMask_near (keyMask_near b) (blockOf_rows x1 b h) (blockOf_rows x4 b h) (blockOf_rows x7 b h) (blockOf_rows x10 b h)
    (rowsAround x3 x4 x5 b h) (rowsAround x6 x7 x8 b h) (columnOf_rows x13 b h) (columnOf_rows x16 b h) a e

theorem dk_piece (b : Fin 4) (h : Fin 8) (w : BitVec 32) (hw : w = BitVec.ofNat 32 b) (y : S128x128.Idx) :
    keyCt blockMask (queryMask w) (blockOf x1 b h) (blockOf x4 b h) (blockOf x7 b h) (blockOf x10 b h) (before x0 x1 b h) (after x1 x2 b h)
        (before x9 x10 b h) (after x10 x11 b h) (columnOf x13 b h) (columnOf x16 b h) (columnAround (columnsAround x12 x13 x14 b) h)
        (columnAround (columnsAround x15 x16 x17 b) h) y
      = overBlock (dkOf x1 x4 x7 x10 x13 x16) ((blockRect b h).emb y) := by
  obtain ⟨a, e, rfl⟩ := idx_eq y
  subst hw
  rw [overBlock_emb]
  exact keyCt_rows blockMask_near (queryMask_near b) (blockOf_rows x1 b h) (blockOf_rows x4 b h) (blockOf_rows x7 b h) (blockOf_rows x10 b h)
    (rowsAround x0 x1 x2 b h) (rowsAround x9 x10 x11 b h) (columnOf_rows x13 b h) (columnOf_rows x16 b h)
    (columnAround_rows x12 x13 x14 b h) (columnAround_rows x15 x16 x17 b h) a e

theorem dv_piece (b : Fin 4) (h : Fin 8) (w : BitVec 32) (hw : w = BitVec.ofNat 32 b) (y : S128x128.Idx) :
    valueCt blockMask (queryMask w) (blockOf x1 b h) (blockOf x4 b h) (blockOf x10 b h) (before x0 x1 b h) (after x1 x2 b h)
        (before x9 x10 b h) (after x10 x11 b h) (columnOf x13 b h) (columnAround (columnsAround x12 x13 x14 b) h) y
      = overBlock (dvOf x1 x4 x10 x13) ((blockRect b h).emb y) := by
  obtain ⟨a, e, rfl⟩ := idx_eq y
  subst hw
  rw [overBlock_emb]
  exact valueCt_rows blockMask_near (queryMask_near b) (blockOf_rows x1 b h) (blockOf_rows x4 b h) (blockOf_rows x10 b h)
    (rowsAround x0 x1 x2 b h) (rowsAround x9 x10 x11 b h) (columnOf_rows x13 b h) (columnAround_rows x12 x13 x14 b h) a e

end

end Cert.AttnBwdIdeal.Value

end
-- ==== Proof.AttnBwdQuery.lean ====
/- A point's gradient of the queries: its 32 stores are the rows of the class's gradient. -/
module

public import proofs.«01_k».proof.Proof.Gen.AttnBwdIdeal.Frame
public import proofs.«01_k».proof.Proof.AttnBwdPiece

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)

theorem query_canon (i : grid0.Coords) (hi : (i 1).val = 0) (z : S512x1024.Idx) :
    out0_18 (F := Ideal) i x0 x1 x2 x3 x4 x5 x6 x7 x8 x9 x10 x11 x12 x13 x14 x15 x16 x17 z = overBlock (dqOf x1 x4 x7 x10 x13 x16) z := by
  have p := fun (b : Fin 4) (h : Fin 8) => dq_piece x1 x3 x4 x5 x6 x7 x8 x10 x13 x16 b h
    (Scalar.addi (Scalar.muli (BitVec.ofNat 32 (i 1).val) 4#32) (BitVec.ofNat 32 b)) (by rw [hi]; revert b; decide +kernel)
  refine View.canon_apply_of_pieces _ _ ?_ z (cover0_18 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwdIdeal.Value

end
-- ==== Proof.AttnBwdKey.lean ====
/- A point's gradient of the keys: its 32 stores are the rows of the class's gradient. -/
module

public import proofs.«01_k».proof.Proof.Gen.AttnBwdIdeal.Frame
public import proofs.«01_k».proof.Proof.AttnBwdPiece

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)

theorem key_canon (i : grid0.Coords) (hi : (i 1).val = 0) (z : S512x1024.Idx) :
    out0_19 (F := Ideal) i x0 x1 x2 x3 x4 x5 x6 x7 x8 x9 x10 x11 x12 x13 x14 x15 x16 x17 z = overBlock (dkOf x1 x4 x7 x10 x13 x16) z := by
  have p := fun (b : Fin 4) (h : Fin 8) => dk_piece x0 x1 x2 x4 x7 x9 x10 x11 x12 x13 x14 x15 x16 x17 b h
    (Scalar.addi (Scalar.muli (BitVec.ofNat 32 (i 1).val) 4#32) (BitVec.ofNat 32 b)) (by rw [hi]; revert b; decide +kernel)
  refine View.canon_apply_of_pieces _ _ ?_ z (cover0_19 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwdIdeal.Value

end
-- ==== Proof.AttnBwdValue.lean ====
/- A point's gradient of the values: its 32 stores are the rows of the class's gradient. -/
module

public import proofs.«01_k».proof.Proof.Gen.AttnBwdIdeal.Frame
public import proofs.«01_k».proof.Proof.AttnBwdPiece

@[expose] public section

set_option maxRecDepth 16384

noncomputable section

open Idealize.ShloMosaic Idealize.ShloMosaic.TcCoe Idealize.SL.Sem

namespace Cert.AttnBwdIdeal.Value

open Cert.AttnBwdIdeal Cert.AttnBwdIdeal.Gen

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)

theorem value_canon (i : grid0.Coords) (hi : (i 1).val = 0) (z : S512x1024.Idx) :
    out0_20 (F := Ideal) i x0 x1 x2 x3 x4 x5 x6 x7 x8 x9 x10 x11 x12 x13 x14 x15 x16 x17 z = overBlock (dvOf x1 x4 x10 x13) z := by
  have p := fun (b : Fin 4) (h : Fin 8) => dv_piece x0 x1 x2 x4 x9 x10 x11 x12 x13 x14 b h
    (Scalar.addi (Scalar.muli (BitVec.ofNat 32 (i 1).val) 4#32) (BitVec.ofNat 32 b)) (by rw [hi]; revert b; decide +kernel)
  refine View.canon_apply_of_pieces _ _ ?_ z (cover0_20 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwdIdeal.Value

end
-- ==== Proof.AttnBwd.lean ====
/- Attention's gradient: what the windows hold, the three result arrays a run leaves, which are the reference's over the reals. -/
module

public import proofs.«01_k».proof.Proof.AttnBwdQuery
public import proofs.«01_k».proof.Proof.AttnBwdKey
public import proofs.«01_k».proof.Proof.AttnBwdValue
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.AttnBwdIdeal.Value

open Cert.AttnBwdIdeal Cert.AttnBwdIdeal.Gen
open Cert.AttnBwdRefIdeal.Value (token lane near weight weightAt ctAt dq dk dv)

/-! ## The windows -/

variable (m : (ℓ : Loc nD τ sig) → Buf (Elt Ideal) ℓ) (c : Dev nD) (t : Fin cfg0.N)

theorem idx : ∀ t : Fin cfg0.N,
    win0_1.index t = ![0, t.val] ∧ win0_4.index t = ![0, t.val] ∧ win0_7.index t = ![0, t.val] ∧ win0_10.index t = ![0, t.val]
      ∧ win0_13.index t = ![0, t.val] ∧ win0_16.index t = ![0, t.val]
      ∧ win0_18.index t = ![0, t.val] ∧ win0_19.index t = ![0, t.val] ∧ win0_20.index t = ![0, t.val] :=
  (by decide +kernel : ∀ t : Fin grid0.N, _)

theorem group_zero : ∀ t : Fin cfg0.N, (grid0.coords t 1).val = 0 := (by decide +kernel : ∀ t : Fin grid0.N, _)

/-- The arguments: queries, keys, values, the output's cotangent, the denominators' logarithms, the means. -/
abbrev qA : FVec Ideal S8192x8x128 .f32 := m ((c : Thread nD τ).loc main_arg0)
abbrev kA : FVec Ideal S8192x8x128 .f32 := m ((c : Thread nD τ).loc main_arg1)
abbrev vA : FVec Ideal S8192x8x128 .f32 := m ((c : Thread nD τ).loc main_arg2)
abbrev oA : FVec Ideal S8192x8x128 .f32 := m ((c : Thread nD τ).loc main_arg3)
abbrev lA : FVec Ideal S8192x8 .f32 := m ((c : Thread nD τ).loc main_arg4)
abbrev dA : FVec Ideal S8192x8 .f32 := m ((c : Thread nD τ).loc main_arg5)

/-- The residue class at hand. -/
def cls (t : Fin cfg0.N) : Fin 16 := ⟨t.val, t.isLt⟩

theorem wide_at (x : FVec Ideal S8192x8x128 .f32) (r : Fin 512) (n : Fin 16) (h : Fin 8) (e : Fin 128) :
    shapeCast S512x16384 (truncf .bf16 x bitsLt_bf16_f32) shapeCasts_S8192x8x128_S512x16384 (ix2 r (lane n h e)) = x (ix3 (token n r) h e) := by
  unfold lane token
  pointwise []
  congr 2
  exact Fin.ext (by show r.val * 16 + (1024 * n.val + 128 * h.val + e.val) / 1024 = r.val * 16 + n.val; omega)

/-- A narrow argument, with zeros after its eight columns, in the residue layout. -/
def narrow (x : FVec Ideal S8192x8 .f32) : FVec Ideal S512x2048 .f32 :=
  shapeCast S512x2048 (pad S8192x128 ![0, 0] ![0, 120] ![0, 0] x (sitofp .f32 (constantI S_ 32 0#32)) pads_S8192x8_S8192x128_000_01200 h_S_)
    shapeCasts_S8192x128_S512x2048

theorem narrow_at (x : FVec Ideal S8192x8 .f32) (r : Fin 512) (n : Fin 16) (h : Fin 8) :
    narrow x (ix2 r ⟨128 * n + h, by omega⟩) = x (ix2 (token n r) h) := by
  unfold narrow token
  pointwise []
  refine (dif_pos ⟨by omega, by omega⟩).trans ?_
  congr 2
  · exact Fin.ext (by show r.val * 16 + (128 * n.val + h.val) / 128 = r.val * 16 + n.val; omega)
  · exact Fin.ext (by show (128 * n.val + h.val) % 128 = h.val; omega)

theorem q_host : V m c main_v1 = (shapeCast S512x16384 (truncf .bf16 (qA m c) bitsLt_bf16_f32) shapeCasts_S8192x8x128_S512x16384 : FVec Ideal S512x16384 .bf16) := by
  after_reads_simp
  rfl
theorem k_host : V m c main_v3 = (shapeCast S512x16384 (truncf .bf16 (kA m c) bitsLt_bf16_f32) shapeCasts_S8192x8x128_S512x16384 : FVec Ideal S512x16384 .bf16) := by
  after_reads_simp
  rfl
theorem v_host : V m c main_v5 = (shapeCast S512x16384 (truncf .bf16 (vA m c) bitsLt_bf16_f32) shapeCasts_S8192x8x128_S512x16384 : FVec Ideal S512x16384 .bf16) := by
  after_reads_simp
  rfl
theorem o_host : V m c main_v7 = (shapeCast S512x16384 (truncf .bf16 (oA m c) bitsLt_bf16_f32) shapeCasts_S8192x8x128_S512x16384 : FVec Ideal S512x16384 .bf16) := by
  after_reads_simp
  rfl
theorem l_host : V m c main_v9 = (narrow (lA m c) : FVec Ideal S512x2048 .f32) := by
  after_reads_simp
  rfl
theorem d_host : V m c main_v11 = (narrow (dA m c) : FVec Ideal S512x2048 .f32) := by
  after_reads_simp
  rfl

theorem block_q (h : Fin 8) : headRows (iblk m c 1 t) h = fun r e => qA m c (ix3 (token (cls t) r) h e) := by
  funext r e
  show iblk m c 1 t (ix2 r (col h e)) = _
  rw [← wide_at (qA m c), ← q_host]
  unfold cls lane col
  blk_point [iblk, idx t]

theorem block_k (h : Fin 8) : headRows (iblk m c 4 t) h = fun r e => kA m c (ix3 (token (cls t) r) h e) := by
  funext r e
  show iblk m c 4 t (ix2 r (col h e)) = _
  rw [← wide_at (kA m c), ← k_host]
  unfold cls lane col
  blk_point [iblk, idx t]

theorem block_v (h : Fin 8) : headRows (iblk m c 7 t) h = fun r e => vA m c (ix3 (token (cls t) r) h e) := by
  funext r e
  show iblk m c 7 t (ix2 r (col h e)) = _
  rw [← wide_at (vA m c), ← v_host]
  unfold cls lane col
  blk_point [iblk, idx t]

theorem block_o (h : Fin 8) : headRows (iblk m c 10 t) h = fun r e => oA m c (ix3 (token (cls t) r) h e) := by
  funext r e
  show iblk m c 10 t (ix2 r (col h e)) = _
  rw [← wide_at (oA m c), ← o_host]
  unfold cls lane col
  blk_point [iblk, idx t]

theorem block_l (h : Fin 8) : headColumn (iblk m c 13 t) h = fun r => lA m c (ix2 (token (cls t) r) h) := by
  funext r
  show iblk m c 13 t (ix2 r (laneOf h)) = _
  rw [← narrow_at (lA m c), ← l_host]
  unfold cls laneOf
  blk_point [iblk, idx t]

theorem block_d (h : Fin 8) : headColumn (iblk m c 16 t) h = fun r => dA m c (ix2 (token (cls t) r) h) := by
  funext r
  show iblk m c 16 t (ix2 r (laneOf h)) = _
  rw [← narrow_at (dA m c), ← d_host]
  unfold cls laneOf
  blk_point [iblk, idx t]

/-! ## The result arrays -/

/-- A result array of the residue layout from its entry at a class, a head, a row and a column. -/
def overClasses (f : Fin 16 → Fin 8 → Fin 512 → Fin 128 → EReal) : FVec Ideal S512x16384 .bf16 := fun i =>
  have h : (i 1).val < 16384 := (i 1).isLt
  f ⟨(i 1).val / 1024, by omega⟩ ⟨(i 1).val / 128 % 8, by omega⟩ (i 0) ⟨(i 1).val % 128, by omega⟩

theorem overClasses_at (f : Fin 16 → Fin 8 → Fin 512 → Fin 128 → EReal) (x : Fin 512) (n : Fin 16) (h : Fin 8) (d : Fin 128) :
    overClasses f (ix2 x (lane n h d)) = f n h x d := by
  have hn : (⟨(1024 * n.val + 128 * h.val + d.val) / 1024, by omega⟩ : Fin 16) = n := Fin.ext (by show (_ : ℕ) / 1024 = _; omega)
  have hh : (⟨(1024 * n.val + 128 * h.val + d.val) / 128 % 8, by omega⟩ : Fin 8) = h := Fin.ext (by show (_ : ℕ) / 128 % 8 = _; omega)
  have hd : (⟨(1024 * n.val + 128 * h.val + d.val) % 128, by omega⟩ : Fin 128) = d := Fin.ext (by show (_ : ℕ) % 128 = _; omega)
  show f ⟨(1024 * n.val + 128 * h.val + d.val) / 1024, _⟩ ⟨(1024 * n.val + 128 * h.val + d.val) / 128 % 8, _⟩ x
    ⟨(1024 * n.val + 128 * h.val + d.val) % 128, _⟩ = _
  rw [hn, hh, hd]

theorem place (i : S512x16384.Idx) : ∃ (x : Fin 512) (n : Fin 16) (h : Fin 8) (d : Fin 128), i = ix2 x (lane n h d) := by
  have hi : (i 1).val < 16384 := (i 1).isLt
  refine ⟨i 0, ⟨(i 1).val / 1024, by omega⟩, ⟨(i 1).val / 128 % 8, by omega⟩, ⟨(i 1).val % 128, by omega⟩, ?_⟩
  funext a
  match a with
  | ⟨0, _⟩ => rfl
  | ⟨1, _⟩ => exact Fin.ext (by show (i 1).val = 1024 * ((i 1).val / 1024) + 128 * ((i 1).val / 128 % 8) + (i 1).val % 128; omega)

/-- The entry under an index of a class's block. -/
theorem overClasses_block (f : Fin 16 → Fin 8 → Fin 512 → Fin 128 → EReal) (t : Fin cfg0.N) (y : S512x1024.Idx) (i : S512x16384.Idx)
    (h0 : (i 0).val = (y 0).val) (h1 : (i 1).val = 1024 * t.val + (y 1).val) :
    overClasses f i = f (cls t) (headOf (y 1)) (y 0) (columnIn (y 1)) := by
  have ht : t.val < 16 := t.isLt
  have hy : (y 1).val < 1024 := (y 1).isLt
  have e : i = ix2 (y 0) (lane (cls t) (headOf (y 1)) (columnIn (y 1))) := by
    funext a
    match a with
    | ⟨0, _⟩ => exact Fin.ext h0
    | ⟨1, _⟩ => exact Fin.ext (h1.trans (by show 1024 * t.val + (y 1).val = 1024 * t.val + 128 * ((y 1).val / 128) + (y 1).val % 128; omega))
  rw [e]
  exact overClasses_at f (y 0) (cls t) (headOf (y 1)) (columnIn (y 1))

theorem final_dq : (dats m 0 c).arrAt 18 (cfgs 0).N = Cert.AttnBwdRefIdeal.Read.val_main_v56 (F := Ideal) (qA m c) (kA m c) (vA m c) (oA m c) (lA m c) (dA m c) := by
  have e : Cert.AttnBwdRefIdeal.Read.val_main_v56 (F := Ideal) (qA m c) (kA m c) (vA m c) (oA m c) (lA m c) (dA m c) = overClasses (dq (qA m c) (kA m c) (vA m c) (oA m c) (lA m c) (dA m c)) := funext fun i => by
    obtain ⟨x, n, h, d, rfl⟩ := place i
    rw [Cert.AttnBwdRefIdeal.Value.dq_eq, overClasses_at]
  rw [e]
  refine (dats m 0 c).arrAt_eq_of_covers 18 _ (by decide +kernel) fun t hf y => ?_
  rw [after0_18, query_canon _ _ _ _ _ _ _ _ _ _ _ _ _ _ _ _ _ _ _ (group_zero t)]
  refine Eq.trans (b := dq (qA m c) (kA m c) (vA m c) (oA m c) (lA m c) (dA m c) (cls t) (headOf (y 1)) (y 0) (columnIn (y 1))) ?_ (overClasses_block _ t y _ ?_ ?_).symm
  · show dqOf (iblk m c 1 t) (iblk m c 4 t) (iblk m c 7 t) (iblk m c 10 t) (iblk m c 13 t) (iblk m c 16 t) _ _ _ = _
    unfold dqOf dq ctOf ctAt weightOf weightAt
    simp only [block_q, block_k, block_v, block_o, block_l, block_d]
  · blk_simp [idx t]
  · blk_simp [idx t]
    exact congrArg (· + (y 1 : ℕ)) (Nat.mul_comm _ 1024)

theorem final_dk : (dats m 0 c).arrAt 19 (cfgs 0).N = Cert.AttnBwdRefIdeal.Read.val_main_v58 (F := Ideal) (qA m c) (kA m c) (vA m c) (oA m c) (lA m c) (dA m c) := by
  have e : Cert.AttnBwdRefIdeal.Read.val_main_v58 (F := Ideal) (qA m c) (kA m c) (vA m c) (oA m c) (lA m c) (dA m c) = overClasses (dk (qA m c) (kA m c) (vA m c) (oA m c) (lA m c) (dA m c)) := funext fun i => by
    obtain ⟨x, n, h, d, rfl⟩ := place i
    rw [Cert.AttnBwdRefIdeal.Value.dk_eq, overClasses_at]
  rw [e]
  refine (dats m 0 c).arrAt_eq_of_covers 19 _ (by decide +kernel) fun t hf y => ?_
  rw [after0_19, key_canon _ _ _ _ _ _ _ _ _ _ _ _ _ _ _ _ _ _ _ (group_zero t)]
  refine Eq.trans (b := dk (qA m c) (kA m c) (vA m c) (oA m c) (lA m c) (dA m c) (cls t) (headOf (y 1)) (y 0) (columnIn (y 1))) ?_ (overClasses_block _ t y _ ?_ ?_).symm
  · show dkOf (iblk m c 1 t) (iblk m c 4 t) (iblk m c 7 t) (iblk m c 10 t) (iblk m c 13 t) (iblk m c 16 t) _ _ _ = _
    unfold dkOf dk ctOf ctAt weightOf weightAt
    simp only [block_q, block_k, block_v, block_o, block_l, block_d]
  · blk_simp [idx t]
  · blk_simp [idx t]
    exact congrArg (· + (y 1 : ℕ)) (Nat.mul_comm _ 1024)

theorem final_dv : (dats m 0 c).arrAt 20 (cfgs 0).N = Cert.AttnBwdRefIdeal.Read.val_main_v60 (F := Ideal) (qA m c) (kA m c) (oA m c) (lA m c) := by
  have e : Cert.AttnBwdRefIdeal.Read.val_main_v60 (F := Ideal) (qA m c) (kA m c) (oA m c) (lA m c) = overClasses (dv (qA m c) (kA m c) (oA m c) (lA m c)) := funext fun i => by
    obtain ⟨x, n, h, d, rfl⟩ := place i
    rw [Cert.AttnBwdRefIdeal.Value.dv_eq, overClasses_at]
  rw [e]
  refine (dats m 0 c).arrAt_eq_of_covers 20 _ (by decide +kernel) fun t hf y => ?_
  rw [after0_20, value_canon _ _ _ _ _ _ _ _ _ _ _ _ _ _ _ _ _ _ _ (group_zero t)]
  refine Eq.trans (b := dv (qA m c) (kA m c) (oA m c) (lA m c) (cls t) (headOf (y 1)) (y 0) (columnIn (y 1))) ?_ (overClasses_block _ t y _ ?_ ?_).symm
  · show dvOf (iblk m c 1 t) (iblk m c 4 t) (iblk m c 10 t) (iblk m c 13 t) _ _ _ = _
    unfold dvOf dv weightOf weightAt
    simp only [block_q, block_k, block_o, block_l]
  · blk_simp [idx t]
  · blk_simp [idx t]
    exact congrArg (· + (y 1 : ℕ)) (Nat.mul_comm _ 1024)

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v12_0) = (dats m 0 c).arrAt 18 (cfgs 0).N
      ∧ r.2.mem ((c.tc : Thread nD τ).loc main_v12_1) = (dats m 0 c).arrAt 19 (cfgs 0).N
      ∧ r.2.mem ((c.tc : Thread nD τ).loc main_v12_2) = (dats m 0 c).arrAt 20 (cfgs 0).N) :=
  (θ_run defs _ _).mono (fun _ h c => ⟨(h c).1 18, (h c).1 19, (h c).1 20⟩) (run_main m ρ)

theorem run : θ_run defs (onTc (τ := τ) (main (F := Ideal))) ⟨m, fun _ => 0, ρ⟩ (fun r => ∀ c : Dev nD,
      r.2.mem ((c.tc : Thread nD τ).loc main_v12_0)
          = Cert.AttnBwdRefIdeal.Read.val_main_v56 (F := Ideal) (qA m c) (kA m c) (vA m c) (oA m c) (lA m c) (dA m c)
      ∧ r.2.mem ((c.tc : Thread nD τ).loc main_v12_1)
          = Cert.AttnBwdRefIdeal.Read.val_main_v58 (F := Ideal) (qA m c) (kA m c) (vA m c) (oA m c) (lA m c) (dA m c)
      ∧ r.2.mem ((c.tc : Thread nD τ).loc main_v12_2)
          = Cert.AttnBwdRefIdeal.Read.val_main_v60 (F := Ideal) (qA m c) (kA m c) (oA m c) (lA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).1).trans (final_dq m c), ((h.1 c).2.1).trans (final_dk m c), ((h.1 c).2.2).trans (final_dv m c), h.2 c⟩)
    (θ_run_and (run_arrays m ρ) (unchanged m ρ))

end Cert.AttnBwdIdeal.Value

end
-- ==== Proof.AttnLongBand.lean ====
/- Attention's gradient in a class of any number of blocks of 128 rows: the sums over the band through a block and the half blocks around it
   are the sums over all the rows of the class, and the masks the body makes are the band's. -/
module

public import proofs.«01_k».proof.Proof.AttnBwdMask

@[expose] public section

set_option maxRecDepth 16384

noncomputable section

open Idealize.ShloMosaic Idealize.ShloMosaic.TcCoe Idealize.SL.Sem

namespace Cert.AttnBwdIdeal.Long

open Cert.AttnBwdIdeal Cert.AttnBwdIdeal.Gen
open Cert.AttnBwdRefIdeal.Value (weight near)
open Cert.AttnBwdIdeal.Value (beside scores scoreCt weights queryCt keyCt valueCt queryCt_at keyCt_at valueCt_at near_comm Near
  down across down_at across_at rowsWord aroundWord band)

local notation "Blk" => Vec Ideal S128x128 EltTy.bf16
local notation "Half" => Vec Ideal S64x128 EltTy.bf16
local notation "Col" => Vec Ideal S128x1 EltTy.f32

variable {N : ℕ}

/-- Row `a` of block `b`; and row `c` of the two half blocks around it, counted from 64 rows before the first. -/
def row (b : Fin N) (a : Fin 128) : Fin (128 * N) := ⟨128 * b + a, by omega⟩
def around (b : Fin N) (c : Fin 128) : ℕ := 128 * b + c + if c.val < 64 then 0 else 128

/-- The row is one of the class. -/
def inside (b : Fin N) (c : Fin 128) : Prop := 64 ≤ around b c ∧ around b c < 128 * N + 64
instance (b : Fin N) (c : Fin 128) : Decidable (inside b c) := inferInstanceAs (Decidable (_ ∧ _))

def rowAround (b : Fin N) (c : Fin 128) (h : inside b c) : Fin (128 * N) := ⟨around b c - 64, by unfold inside at h; omega⟩

/-- The band between row `a` of the block and row `c` around it. -/
def nearAround (b : Fin N) (a c : Fin 128) : Prop := inside b c ∧ near (128 * b + a + 64) (around b c)
instance (b : Fin N) (a c : Fin 128) : Decidable (nearAround b a c) := inferInstanceAs (Decidable (_ ∧ _))

/-- A row's entry, counted from 64 rows before the first, where the row is one of the class and in the band of row `a` of block `b`. -/
def banded (f : Fin (128 * N) → EReal) (b : Fin N) (a : Fin 128) (x : ℕ) : EReal :=
  if h : (64 ≤ x ∧ x < 128 * N + 64) ∧ near (128 * b + a + 64) x then f ⟨x - 64, by omega⟩ else 0

theorem banded_far (f : Fin (128 * N) → EReal) (b : Fin N) (a : Fin 128) (x : ℕ) (h : x < 128 * b ∨ 128 * b + 256 ≤ x) : banded f b a x = 0 :=
  dif_neg fun hh => by
    have := hh.2
    unfold near at this
    omega

theorem sum_class (f : Fin (128 * N) → EReal) (b : Fin N) (a : Fin 128) :
    (∑ y : Fin (128 * N), if near (row b a) y then f y else 0) = ∑ x ∈ Finset.range (64 + 128 * N + 64), banded f b a x := by
  rw [Finset.sum_range_add, Finset.sum_range_add, Finset.sum_range (n := 128 * N)]
  have e1 : ∑ x ∈ Finset.range 64, banded f b a x = 0 := Finset.sum_eq_zero fun x hx => dif_neg fun hh => by
    have := Finset.mem_range.1 hx
    omega
  have e2 : ∑ x ∈ Finset.range 64, banded f b a (64 + 128 * N + x) = 0 := Finset.sum_eq_zero fun x hx => dif_neg fun hh => by omega
  rw [e1, e2, zero_add, add_zero]
  refine Finset.sum_congr rfl fun y _ => ?_
  unfold banded
  have e : near (row b a) y ↔ (64 ≤ 64 + y.val ∧ 64 + y.val < 128 * N + 64) ∧ near (128 * b + a + 64) (64 + y) := by
    have := y.isLt
    unfold near row
    show (128 * b.val + a.val ≤ _ ∧ _ ≤ 128 * b.val + a.val + 64) ↔ _
    omega
  by_cases h : near (row b a) y
  · rw [if_pos h, dif_pos (e.1 h)]
    exact congrArg f (Fin.ext (by show y.val = 64 + y.val - 64; omega))
  · rw [if_neg h, dif_neg fun hh => h (e.2 hh)]

theorem sum_window (f : Fin (128 * N) → EReal) (b : Fin N) (a : Fin 128) :
    ∑ x ∈ Finset.range (64 + 128 * N + 64), banded f b a x = ∑ x ∈ Finset.range (64 + 128 + 64), banded f b a (128 * b + x) := by
  have hb := b.isLt
  rw [show 64 + 128 * N + 64 = 128 * b + (64 + 128 + 64) + (128 * N - 128 * b - 128) by omega, Finset.sum_range_add, Finset.sum_range_add]
  have e1 : ∑ x ∈ Finset.range (128 * b), banded f b a x = 0 := Finset.sum_eq_zero fun x hx =>
    banded_far f b a x (.inl (Finset.mem_range.1 hx))
  have e2 : ∑ x ∈ Finset.range (128 * N - 128 * b - 128), banded f b a (128 * b + (64 + 128 + 64) + x) = 0 := Finset.sum_eq_zero fun x hx =>
    banded_far f b a _ (.inr (by omega))
  rw [e1, e2, zero_add, add_zero]

theorem sum_band (f : Fin (128 * N) → EReal) (b : Fin N) (a : Fin 128) :
    (∑ y : Fin (128 * N), if near (row b a) y then f y else 0)
      = (∑ c : Fin 128, if near a c then f (row b c) else 0)
        + ∑ c : Fin 128, if h : nearAround b a c then f (rowAround b c h.1) else 0 := by
  have cur : ∀ c : Fin 128, (if near a c then f (row b c) else 0) = banded f b a (128 * b + (64 + c)) := fun c => by
    have e : near a c ↔ (64 ≤ 128 * b.val + (64 + c.val) ∧ 128 * b.val + (64 + c.val) < 128 * N + 64) ∧ near (128 * b + a + 64) (128 * b + (64 + c)) := by
      have := b.isLt
      unfold near
      omega
    unfold banded
    by_cases h : near a c
    · rw [if_pos h, dif_pos (e.1 h)]
      exact congrArg f (Fin.ext (by show 128 * b.val + c.val = 128 * b.val + (64 + c.val) - 64; omega))
    · rw [if_neg h, dif_neg fun hh => h (e.2 hh)]
  have edge : ∀ c : Fin 128, (if h : nearAround b a c then f (rowAround b c h.1) else 0) = banded f b a (around b c) := fun c => rfl
  simp only [cur, edge]
  rw [sum_class, sum_window, Finset.sum_range_add, Finset.sum_range_add, Cert.AttnBwdIdeal.Value.sum_halves (fun c => banded f b a (around b c)),
    Finset.sum_range (n := 64), Finset.sum_range (n := 128), Finset.sum_range (n := 64)]
  have e1 : ∀ i : Fin 64, around b ⟨i, by omega⟩ = 128 * b + i := fun i => by
    unfold around
    rw [if_pos i.isLt, add_zero]
  have e2 : ∀ i : Fin 64, around b ⟨64 + i, by omega⟩ = 128 * b + (64 + 128 + i) := fun i => by
    unfold around
    rw [if_neg (by show ¬ 64 + i.val < 64; omega)]
    show 128 * b.val + (64 + i.val) + 128 = _
    omega
  simp only [e1, e2]
  rw [add_right_comm, add_comm]

/-! ## A block's gradients -/

/-- The block's rows, and the half blocks around it, of an array of rows. -/
def Rows (b : Fin N) (q : Blk) (R : Fin (128 * N) → Fin 128 → EReal) : Prop := ∀ a e : Fin 128, q (ix2 a e) = R (row b a) e
def RowsAround (b : Fin N) (A B : Half) (R : Fin (128 * N) → Fin 128 → EReal) : Prop :=
  ∀ (c e : Fin 128) (h : inside b c), beside A B (ix2 c e) = R (rowAround b c h) e
def Column (b : Fin N) (l : Col) (R : Fin (128 * N) → EReal) : Prop := ∀ a : Fin 128, l (ix2 a 0) = R (row b a)
def ColumnAround (b : Fin N) (l : FVec Ideal S128x1 .f32) (R : Fin (128 * N) → EReal) : Prop :=
  ∀ (c : Fin 128) (h : inside b c), l (ix2 c 0) = R (rowAround b c h)

/-- The masks: of the block with itself, of its rows with those around it, of those around it with its rows. -/
def NearAround (b : Fin N) (m : IVec S128x128 1) : Prop := ∀ a c : Fin 128, m (ix2 a c) = 1#1 ↔ nearAround b a c
def AroundNear (b : Fin N) (m : IVec S128x128 1) : Prop := ∀ c a : Fin 128, m (ix2 c a) = 1#1 ↔ nearAround b a c

variable {b : Fin N} {m mE : IVec S128x128 1} {q k v o : Blk} {kA kB vA vB qA qB oA oB : Half} {l d : Col} {lE dE : FVec Ideal S128x1 .f32}
variable {Q K V O : Fin (128 * N) → Fin 128 → EReal} {L D : Fin (128 * N) → EReal}

def weightOf (Q K : Fin (128 * N) → Fin 128 → EReal) (L : Fin (128 * N) → EReal) (x y : Fin (128 * N)) : EReal :=
  weight (∑ e : Fin 128, Q x e * K y e) (L x)

def ctOf (Q K V O : Fin (128 * N) → Fin 128 → EReal) (L D : Fin (128 * N) → EReal) (x y : Fin (128 * N)) : EReal :=
  weightOf Q K L x y * (∑ e : Fin 128, O x e * V y e - D x)

theorem queryCt_rows (hm : Near m) (hmE : NearAround b mE) (hq : Rows b q Q) (hk : Rows b k K) (hv : Rows b v V) (ho : Rows b o O)
    (hkE : RowsAround b kA kB K) (hvE : RowsAround b vA vB V) (hl : Column b l L) (hd : Column b d D) (a e : Fin 128) :
    queryCt m mE q k v o kA kB vA vB l d (ix2 a e)
      = (∑ y : Fin (128 * N), if near (row b a) y then ctOf Q K V O L D (row b a) y * K y e else 0) * Ideal.ofBits .f32 0x3DB504F3#32 := by
  rw [queryCt_at, sum_band (fun y => ctOf Q K V O L D (row b a) y * K y e)]
  unfold ctOf weightOf
  congr 2
  · refine Finset.sum_congr rfl fun c _ => if_congr (hm a c) ?_ rfl
    simp only [hq _ _, hk _ _, hv _ _, ho _ _, hl _, hd _]
  · refine Finset.sum_congr rfl fun c _ => ?_
    by_cases h : nearAround b a c
    · rw [if_pos ((hmE a c).2 h), dif_pos h]
      simp only [hq _ _, ho _ _, hl _, hd _, hkE _ _ h.1, hvE _ _ h.1]
    · rw [if_neg (fun hh => h ((hmE a c).1 hh)), dif_neg h]

theorem keyCt_rows (hm : Near m) (hmE : AroundNear b mE) (hq : Rows b q Q) (hk : Rows b k K) (hv : Rows b v V) (ho : Rows b o O)
    (hqE : RowsAround b qA qB Q) (hoE : RowsAround b oA oB O) (hl : Column b l L) (hd : Column b d D)
    (hlE : ColumnAround b lE L) (hdE : ColumnAround b dE D) (a e : Fin 128) :
    keyCt m mE q k v o qA qB oA oB l d lE dE (ix2 a e)
      = (∑ x : Fin (128 * N), if near x (row b a) then ctOf Q K V O L D x (row b a) * Q x e else 0) * Ideal.ofBits .f32 0x3DB504F3#32 := by
  simp only [near_comm _ (row b a)]
  rw [keyCt_at, sum_band (fun x => ctOf Q K V O L D x (row b a) * Q x e)]
  unfold ctOf weightOf
  congr 2
  · refine Finset.sum_congr rfl fun c _ => if_congr ((hm c a).trans (near_comm _ _)) ?_ rfl
    simp only [hq _ _, hk _ _, hv _ _, ho _ _, hl _, hd _]
  · refine Finset.sum_congr rfl fun c _ => ?_
    by_cases h : nearAround b a c
    · rw [if_pos ((hmE c a).2 h), dif_pos h]
      simp only [hk _ _, hv _ _, hlE _ h.1, hdE _ h.1, hqE _ _ h.1, hoE _ _ h.1]
    · rw [if_neg (fun hh => h ((hmE c a).1 hh)), dif_neg h]

theorem valueCt_rows (hm : Near m) (hmE : AroundNear b mE) (hq : Rows b q Q) (hk : Rows b k K) (ho : Rows b o O)
    (hqE : RowsAround b qA qB Q) (hoE : RowsAround b oA oB O) (hl : Column b l L) (hlE : ColumnAround b lE L) (a e : Fin 128) :
    valueCt m mE q k o qA qB oA oB l lE (ix2 a e)
      = ∑ x : Fin (128 * N), if near x (row b a) then weightOf Q K L x (row b a) * O x e else 0 := by
  simp only [near_comm _ (row b a)]
  rw [valueCt_at, sum_band (fun x => weightOf Q K L x (row b a) * O x e)]
  unfold weightOf
  congr 1
  · refine Finset.sum_congr rfl fun c _ => if_congr ((hm c a).trans (near_comm _ _)) ?_ rfl
    simp only [hq _ _, hk _ _, ho _ _, hl _]
  · refine Finset.sum_congr rfl fun c _ => ?_
    by_cases h : nearAround b a c
    · rw [if_pos ((hmE c a).2 h), dif_pos h]
      simp only [hk _ _, hlE _ h.1, hqE _ _ h.1, hoE _ _ h.1]
    · rw [if_neg (fun hh => h ((hmE c a).1 hh)), dif_neg h]

/-! ## The masks -/

def within (lim : BitVec 32) (m : IVec S128x128 1) (p : IVec S128x128 32) : IVec S128x128 1 :=
  andi (andi m (cmpi .sge p (broadcast S128x128 0#32))) (cmpi .slt p (broadcast S128x128 lim))

def keyMask (lim w : BitVec 32) : IVec S128x128 1 := within lim (band (rowsWord w down) (aroundWord w across)) (aroundWord w across)
def queryMask (lim w : BitVec 32) : IVec S128x128 1 := within lim (band (aroundWord w down) (rowsWord w across)) (aroundWord w down)

theorem rowsWord_at (b : Fin N) (p : IVec S128x128 32) (a c k : Fin 128) (h : p (ix2 a c) = BitVec.ofNat 32 k) :
    rowsWord (BitVec.ofNat 32 b) p (ix2 a c) = BitVec.ofNat 32 (128 * b + k : ℕ) := by
  unfold rowsWord
  pointwise [h]
  apply BitVec.eq_of_toNat_eq
  simp only [Scalar.muli, IntOp.addi, IntOp.muli, BitVec.toNat_add, BitVec.toNat_mul, BitVec.toNat_ofNat]
  omega

theorem gap_word (k : Fin 128) : Scalar.select (IntOp.cmpi .sge (BitVec.ofNat 32 k) 64#32) 128#32 0#32 = BitVec.ofNat 32 (if k.val < 64 then 0 else 128) := by
  revert k
  decide +kernel

theorem aroundWord_at (b : Fin N) (p : IVec S128x128 32) (a c k : Fin 128) (h : p (ix2 a c) = BitVec.ofNat 32 k) :
    aroundWord (BitVec.ofNat 32 b) p (ix2 a c) = BitVec.ofNat 32 (around b k) - 64#32 := by
  unfold aroundWord
  pointwise [h]
  rw [gap_word]
  unfold around
  generalize (if k.val < 64 then 0 else 128) = g
  apply BitVec.eq_of_toNat_eq
  simp only [Scalar.muli, Scalar.subi, IntOp.addi, IntOp.muli, IntOp.subi, BitVec.toNat_add, BitVec.toNat_sub, BitVec.toNat_mul, BitVec.toNat_ofNat]
  omega

theorem toInt_word (d : ℕ) (h : d < 16384) : (BitVec.ofNat 32 d).toInt = d := by
  rw [BitVec.toInt_eq_toNat_cond, BitVec.toNat_ofNat]
  split <;> omega

theorem toInt_shifted (d : ℕ) (h : d < 16384) : (BitVec.ofNat 32 d - 64#32).toInt = (d : ℤ) - 64 := by
  rw [BitVec.toInt_eq_toNat_cond, BitVec.toNat_sub, BitVec.toNat_ofNat, BitVec.toNat_ofNat]
  split <;> omega

theorem small_word (d : ℕ) (h : d < 16384) : IntOp.cmpi .sle (BitVec.ofNat 32 d) 64#32 = if d ≤ 64 then 1#1 else 0#1 := by
  unfold IntOp.cmpi
  dsimp only
  rw [BitVec.sle, toInt_word d h, show (64#32 : BitVec 32).toInt = 64 by decide]
  by_cases hd : d ≤ 64
  · rw [if_pos hd, decide_eq_true (by omega)]; rfl
  · rw [if_neg hd, decide_eq_false (by omega)]; rfl

theorem abs_pos (d : ℕ) (h : d < 16384) : IntOp.absi (BitVec.ofNat 32 d) = BitVec.ofNat 32 d := by
  unfold IntOp.absi
  rw [if_neg]
  rw [BitVec.msb_eq_decide, BitVec.toNat_ofNat]
  simp only [decide_eq_true_eq]
  omega

theorem abs_neg (d : ℕ) (h : d < 16384) : IntOp.absi (-BitVec.ofNat 32 d) = BitVec.ofNat 32 d := by
  by_cases h0 : d = 0
  · subst h0; decide
  · unfold IntOp.absi
    rw [if_pos, BitVec.neg_neg]
    rw [BitVec.msb_eq_decide, BitVec.toNat_neg, BitVec.toNat_ofNat]
    simp only [decide_eq_true_eq]
    omega

theorem near_word (x y : ℕ) (hx : x < 16384) (hy : y < 16384) :
    IntOp.cmpi .sle (IntOp.absi (BitVec.ofNat 32 x - BitVec.ofNat 32 y)) 64#32 = if near x y then 1#1 else 0#1 := by
  unfold near
  rcases le_total y x with h | h
  · have e : BitVec.ofNat 32 x - BitVec.ofNat 32 y = BitVec.ofNat 32 (x - y : ℕ) := by
      apply BitVec.eq_of_toNat_eq
      simp only [BitVec.toNat_sub, BitVec.toNat_ofNat]
      omega
    rw [e, abs_pos _ (by omega), small_word _ (by omega)]
    congr 1
    apply propext
    omega
  · have e : BitVec.ofNat 32 x - BitVec.ofNat 32 y = -BitVec.ofNat 32 (y - x : ℕ) := by
      apply BitVec.eq_of_toNat_eq
      simp only [BitVec.toNat_sub, BitVec.toNat_neg, BitVec.toNat_ofNat]
      omega
    rw [e, abs_neg _ (by omega), small_word _ (by omega)]
    congr 1
    apply propext
    omega

theorem inside_word (e n : ℕ) (he : e < 16384) (hn : n < 16384) :
    (IntOp.cmpi .sge (BitVec.ofNat 32 e - 64#32) 0#32 = if 64 ≤ e then 1#1 else 0#1)
      ∧ (IntOp.cmpi .slt (BitVec.ofNat 32 e - 64#32) (BitVec.ofNat 32 n) = if e < n + 64 then 1#1 else 0#1) := by
  unfold IntOp.cmpi
  dsimp only
  rw [BitVec.sle, BitVec.slt, toInt_shifted e he, toInt_word n hn, show (0#32 : BitVec 32).toInt = 0 by decide]
  constructor
  · by_cases h : 64 ≤ e
    · rw [if_pos h, decide_eq_true (by omega)]; rfl
    · rw [if_neg h, decide_eq_false (by omega)]; rfl
  · by_cases h : e < n + 64
    · rw [if_pos h, decide_eq_true (by omega)]; rfl
    · rw [if_neg h, decide_eq_false (by omega)]; rfl

theorem around_lt (b : Fin N) (c : Fin 128) : around b c < 128 * N + 128 := by
  unfold around
  split <;> omega

theorem keyMask_near (hN : N ≤ 64) (b : Fin N) : NearAround b (keyMask (BitVec.ofNat 32 (128 * N)) (BitVec.ofNat 32 b)) := fun a c => by
  unfold keyMask within band
  pointwise [rowsWord_at b down a c a (down_at a c), aroundWord_at b across a c c (across_at a c)]
  have hc := around_lt b c
  have hb := b.isLt
  have e : IntOp.subi (BitVec.ofNat 32 (128 * b + a : ℕ)) (BitVec.ofNat 32 (around b c) - 64#32)
      = BitVec.ofNat 32 (128 * b + a + 64 : ℕ) - BitVec.ofNat 32 (around b c) := by
    apply BitVec.eq_of_toNat_eq
    simp only [IntOp.subi, BitVec.toNat_sub, BitVec.toNat_ofNat]
    omega
  rw [e, near_word _ _ (by omega) (by omega), (inside_word _ (128 * N) (by omega) (by omega)).1, (inside_word _ (128 * N) (by omega) (by omega)).2]
  unfold nearAround inside
  split <;> split <;> split <;> simp_all [IntOp.andi]

theorem queryMask_near (hN : N ≤ 64) (b : Fin N) : AroundNear b (queryMask (BitVec.ofNat 32 (128 * N)) (BitVec.ofNat 32 b)) := fun c a => by
  unfold queryMask within band
  pointwise [rowsWord_at b across c a a (across_at c a), aroundWord_at b down c a c (down_at c a)]
  have hc := around_lt b c
  have hb := b.isLt
  have e : IntOp.subi (BitVec.ofNat 32 (around b c) - 64#32) (BitVec.ofNat 32 (128 * b + a : ℕ))
      = BitVec.ofNat 32 (around b c) - BitVec.ofNat 32 (128 * b + a + 64 : ℕ) := by
    apply BitVec.eq_of_toNat_eq
    simp only [IntOp.subi, BitVec.toNat_sub, BitVec.toNat_ofNat]
    omega
  rw [e, near_word _ _ (by omega) (by omega), (inside_word _ (128 * N) (by omega) (by omega)).1, (inside_word _ (128 * N) (by omega) (by omega)).2]
  unfold nearAround inside
  rw [near_comm (128 * b + a + 64)]
  split <;> split <;> split <;> simp_all [IntOp.andi]

end Cert.AttnBwdIdeal.Long

end
-- ==== Proof.AttnLongPiece.lean ====
/- What a point stores for a block of a head, where a class has more rows than a point's window: the loads it makes of the window, of the
   half blocks before and after it, and the three products of those, which are the gradients of the rows of the class. -/
module

public import proofs.«01_k».proof.Proof.AttnLongBand
public import proofs.«01_k».proof.Proof.AttnBwdPiece

@[expose] public section

set_option maxRecDepth 16384

noncomputable section

open Idealize.ShloMosaic Idealize.ShloMosaic.TcCoe Idealize.SL.Sem

namespace Cert.AttnBwdIdeal.Long

open Cert.AttnBwdIdeal Cert.AttnBwdIdeal.Gen
open Cert.AttnBwdRefIdeal.Value (weight near)
open Cert.AttnBwdIdeal.Value (queryCt keyCt valueCt blockMask blockMask_near beside_at columns columns_at blockRect blockOf blockOf_at columnOf
  columnOf_at before after columnsAround columnAround columnAround_at outerRect outerColumns columnsRect columnsRect_at halfRect_at col laneOf
  headOf columnIn idx_eq)

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable {J : ℕ}

/-- Block `b` of window `j`, as a block of the class; and the window's rows. -/
def blockIn (j : Fin J) (b : Fin 4) : Fin (4 * J) := ⟨4 * j + b, by omega⟩
def rowIn (j : Fin J) (r : Fin 512) : Fin (128 * (4 * J)) := ⟨512 * j + r, by omega⟩

theorem block_word (hJ : J ≤ 16) (j : Fin J) (b : Fin 4) :
    Scalar.addi (Scalar.muli (BitVec.ofNat 32 j) 4#32) (BitVec.ofNat 32 b) = BitVec.ofNat 32 (4 * j + b : ℕ) := by
  apply BitVec.eq_of_toNat_eq
  simp only [Scalar.muli, Scalar.addi, IntOp.addi, IntOp.muli, BitVec.toNat_add, BitVec.toNat_mul, BitVec.toNat_ofNat]
  omega

/-- Window `j` of the class's rows, with the half blocks before and after it where the class has them: the columns of a head. -/
structure Windows (j : Fin J) (p : WideHalf) (x : Wide) (n : WideHalf) (R : Fin (128 * (4 * J)) → Fin 128 → EReal) (h : Fin 8) : Prop where
  rows : ∀ (r : Fin 512) (e : Fin 128), x (ix2 r (col h e)) = R (rowIn j r) e
  first : ∀ (a : Fin 64) (e : Fin 128) (r : Fin (128 * (4 * J))), r.val + 64 = 512 * j + a → p (ix2 a (col h e)) = R r e
  last : ∀ (a : Fin 64) (e : Fin 128) (r : Fin (128 * (4 * J))), r.val = 512 * j + 512 + a → n (ix2 a (col h e)) = R r e

structure NarrowWindows (j : Fin J) (p : NarrowHalf) (x : Narrow) (n : NarrowHalf) (R : Fin (128 * (4 * J)) → EReal) (h : Fin 8) : Prop where
  rows : ∀ r : Fin 512, x (ix2 r (laneOf h)) = R (rowIn j r)
  first : ∀ (a : Fin 64) (r : Fin (128 * (4 * J))), r.val + 64 = 512 * j + a → p (ix2 a (laneOf h)) = R r
  last : ∀ (a : Fin 64) (r : Fin (128 * (4 * J))), r.val = 512 * j + 512 + a → n (ix2 a (laneOf h)) = R r

variable {j : Fin J} {h : Fin 8}

theorem outerRect_at (x : WideHalf) (h : Fin 8) (a : Fin 64) (e : Fin 128) : View.ld x (outerRect h) (ix2 a e) = x (ix2 a (col h e)) := by
  unfold outerRect col
  pointwise []

theorem outerColumns_at (x : NarrowHalf) (a : Fin 64) (e : Fin 128) : View.ld x outerColumns (ix2 a e) = x (ix2 a e) := by
  unfold outerColumns
  pointwise []

variable {p n : WideHalf} {x : Wide} {R : Fin (128 * (4 * J)) → Fin 128 → EReal}

theorem Windows.block (w : Windows j p x n R h) (b : Fin 4) : Rows (blockIn j b) (blockOf x b h) R := fun a e => by
  rw [blockOf_at, w.rows]
  exact congrArg (R · e) (Fin.ext (by show 512 * j.val + (128 * b.val + a.val) = 128 * (4 * j.val + b.val) + a.val; omega))

theorem Windows.around (w : Windows j p x n R h) (b : Fin 4) : RowsAround (blockIn j b) (before p x b h) (after x n b h) R := fun c e hi => by
  suffices goal : ∀ r : Fin (128 * (4 * J)), r.val = Long.around (blockIn j b) c - 64 →
    Value.beside (before p x b h) (after x n b h) (ix2 c e) = R r e from goal _ rfl
  intro r hr
  rw [beside_at]
  unfold inside at hi
  unfold Long.around at hi hr
  have inner : ∀ (k : Fin 8) (a : Fin 64), r.val = 512 * j + (64 * k + a) → View.ld x (Value.halfRect k h) (ix2 a e) = R r e := fun k a hk => by
    rw [halfRect_at, w.rows]
    exact congrArg (R · e) (Fin.ext hk.symm)
  split
  · rename_i hc
    simp only [hc, if_true] at hi hr
    match b with
    | 0 => exact (outerRect_at _ h _ e).trans (w.first _ e r (by
        have h1 : 64 ≤ 128 * (4 * j.val + 0) + c.val + 0 := hi.1
        have h2 : r.val = 128 * (4 * j.val + 0) + c.val + 0 - 64 := hr
        show r.val + 64 = 512 * j.val + c.val
        omega))
    | 1 => exact inner 1 _ (hr.trans (by show 128 * (4 * j.val + 1) + c.val + 0 - 64 = 512 * j.val + (64 * 1 + c.val); omega))
    | 2 => exact inner 3 _ (hr.trans (by show 128 * (4 * j.val + 2) + c.val + 0 - 64 = 512 * j.val + (64 * 3 + c.val); omega))
    | 3 => exact inner 5 _ (hr.trans (by show 128 * (4 * j.val + 3) + c.val + 0 - 64 = 512 * j.val + (64 * 5 + c.val); omega))
  · rename_i hc
    simp only [hc, if_false] at hi hr
    match b with
    | 0 => exact inner 2 _ (hr.trans (by show 128 * (4 * j.val + 0) + c.val + 128 - 64 = 512 * j.val + (64 * 2 + (c.val - 64)); omega))
    | 1 => exact inner 4 _ (hr.trans (by show 128 * (4 * j.val + 1) + c.val + 128 - 64 = 512 * j.val + (64 * 4 + (c.val - 64)); omega))
    | 2 => exact inner 6 _ (hr.trans (by show 128 * (4 * j.val + 2) + c.val + 128 - 64 = 512 * j.val + (64 * 6 + (c.val - 64)); omega))
    | 3 => exact (outerRect_at _ h _ e).trans (w.last _ e r (hr.trans (by
        show 128 * (4 * j.val + 3) + c.val + 128 - 64 = 512 * j.val + 512 + (c.val - 64)
        omega)))

section

variable {p n : NarrowHalf} {x : Narrow} {R : Fin (128 * (4 * J)) → EReal}

theorem NarrowWindows.column (w : NarrowWindows j p x n R h) (b : Fin 4) : Column (blockIn j b) (columnOf x b h) R := fun a => by
  rw [columnOf_at, w.rows]
  exact congrArg R (Fin.ext (by show 512 * j.val + (128 * b.val + a.val) = 128 * (4 * j.val + b.val) + a.val; omega))

theorem NarrowWindows.around (w : NarrowWindows j p x n R h) (b : Fin 4) : ColumnAround (blockIn j b) (columnAround (columnsAround p x n b) h) R :=
    fun c hi => by
  suffices goal : ∀ r : Fin (128 * (4 * J)), r.val = Long.around (blockIn j b) c - 64 → columnsAround p x n b (ix2 c (laneOf h)) = R r by
    rw [columnAround_at]
    exact goal _ rfl
  intro r hr
  unfold inside at hi
  unfold Long.around at hi hr
  have inner : ∀ (k : Fin 8) (a : Fin 64), r.val = 512 * j + (64 * k + a) → View.ld x (columnsRect k) (ix2 a (laneOf h)) = R r := fun k a hk => by
    rw [columnsRect_at, w.rows]
    exact congrArg R (Fin.ext hk.symm)
  by_cases hc : c.val < 64
  · have step : ∀ A B : NarrowHalf, columns A B (ix2 c (laneOf h)) = A (ix2 ⟨c, hc⟩ (laneOf h)) := fun A B =>
      (columns_at A B c (laneOf h)).trans (dif_pos hc)
    simp only [hc, if_true] at hi hr
    match b with
    | 0 => exact (step _ _).trans ((outerColumns_at _ _ _).trans (w.first _ r (by
        have h1 : 64 ≤ 128 * (4 * j.val + 0) + c.val + 0 := hi.1
        have h2 : r.val = 128 * (4 * j.val + 0) + c.val + 0 - 64 := hr
        show r.val + 64 = 512 * j.val + c.val
        omega)))
    | 1 => exact (step _ _).trans (inner 1 _ (hr.trans (by show 128 * (4 * j.val + 1) + c.val + 0 - 64 = 512 * j.val + (64 * 1 + c.val); omega)))
    | 2 => exact (step _ _).trans (inner 3 _ (hr.trans (by show 128 * (4 * j.val + 2) + c.val + 0 - 64 = 512 * j.val + (64 * 3 + c.val); omega)))
    | 3 => exact (step _ _).trans (inner 5 _ (hr.trans (by show 128 * (4 * j.val + 3) + c.val + 0 - 64 = 512 * j.val + (64 * 5 + c.val); omega)))
  · have step : ∀ A B : NarrowHalf, columns A B (ix2 c (laneOf h)) = B (ix2 ⟨c - 64, by omega⟩ (laneOf h)) := fun A B =>
      (columns_at A B c (laneOf h)).trans (dif_neg hc)
    simp only [hc, if_false] at hi hr
    match b with
    | 0 => exact (step _ _).trans (inner 2 _ (hr.trans (by show 128 * (4 * j.val + 0) + c.val + 128 - 64 = 512 * j.val + (64 * 2 + (c.val - 64)); omega)))
    | 1 => exact (step _ _).trans (inner 4 _ (hr.trans (by show 128 * (4 * j.val + 1) + c.val + 128 - 64 = 512 * j.val + (64 * 4 + (c.val - 64)); omega)))
    | 2 => exact (step _ _).trans (inner 6 _ (hr.trans (by show 128 * (4 * j.val + 2) + c.val + 128 - 64 = 512 * j.val + (64 * 6 + (c.val - 64)); omega)))
    | 3 => exact (step _ _).trans ((outerColumns_at _ _ _).trans (w.last _ r (hr.trans (by
        show 128 * (4 * j.val + 3) + c.val + 128 - 64 = 512 * j.val + 512 + (c.val - 64)
        omega))))

end

/-! ## The pieces -/

section

variable (Q K V O : Fin (128 * (4 * J)) → Fin 128 → EReal) (L D : Fin (128 * (4 * J)) → EReal)

/-- The gradients of a class's rows. -/
def dqOf (x : Fin (128 * (4 * J))) (e : Fin 128) : EReal :=
  (∑ y : Fin (128 * (4 * J)), if near x y then ctOf Q K V O L D x y * K y e else 0) * Ideal.ofBits .f32 0x3DB504F3#32

def dkOf (y : Fin (128 * (4 * J))) (e : Fin 128) : EReal :=
  (∑ x : Fin (128 * (4 * J)), if near x y then ctOf Q K V O L D x y * Q x e else 0) * Ideal.ofBits .f32 0x3DB504F3#32

def dvOf (y : Fin (128 * (4 * J))) (e : Fin 128) : EReal :=
  ∑ x : Fin (128 * (4 * J)), if near x y then weightOf Q K L x y * O x e else 0

end

/-- A window's block of a result from its entry at a head, a row of the class and a column. -/
def overBlock (j : Fin J) (f : Fin 8 → Fin (128 * (4 * J)) → Fin 128 → EReal) : Vec Ideal S512x1024 .bf16 := fun y =>
  f (headOf (y 1)) (rowIn j (y 0)) (columnIn (y 1))

theorem overBlock_emb (f : Fin 8 → Fin (128 * (4 * J)) → Fin 128 → EReal) (b : Fin 4) (h : Fin 8) (a e : Fin 128) :
    overBlock j f ((blockRect b h).emb (ix2 a e)) = f h (row (blockIn j b) a) e := by
  have e0 : rowIn j ((blockRect b h).emb (ix2 a e) 0) = row (blockIn j b) a :=
    Fin.ext ((congrArg (512 * j.val + ·) (show ((blockRect b h).emb (ix2 a e) 0).val = 128 * b.val + a.val from ValueKit.rect_emb_unit_val ..)).trans
      (by show 512 * j.val + (128 * b.val + a.val) = 128 * (4 * j.val + b.val) + a.val; omega))
  have e1 : (blockRect b h).emb (ix2 a e) 1 = col h e := Fin.ext (ValueKit.rect_emb_unit_val ..)
  show f (headOf ((blockRect b h).emb (ix2 a e) 1)) (rowIn j ((blockRect b h).emb (ix2 a e) 0)) (columnIn ((blockRect b h).emb (ix2 a e) 1)) = _
  rw [e0, e1]
  congr 1
  · congr 1
    exact Fin.ext (by show (128 * h.val + e.val) / 128 = h.val; omega)
  · exact Fin.ext (by show (128 * h.val + e.val) % 128 = e.val; omega)

variable {x0 : WideHalf} {x1 : Wide} {x2 x3 : WideHalf} {x4 : Wide} {x5 x6 : WideHalf} {x7 : Wide} {x8 x9 : WideHalf} {x10 : Wide} {x11 : WideHalf}
variable {x12 : NarrowHalf} {x13 : Narrow} {x14 x15 : NarrowHalf} {x16 : Narrow} {x17 : NarrowHalf}
variable {Q K V O : Fin 8 → Fin (128 * (4 * J)) → Fin 128 → EReal} {L D : Fin 8 → Fin (128 * (4 * J)) → EReal}

theorem dq_piece (hJ : J ≤ 16) (hq : ∀ h, Windows j x0 x1 x2 (Q h) h) (hk : ∀ h, Windows j x3 x4 x5 (K h) h)
    (hv : ∀ h, Windows j x6 x7 x8 (V h) h) (ho : ∀ h, Windows j x9 x10 x11 (O h) h) (hl : ∀ h, NarrowWindows j x12 x13 x14 (L h) h)
    (hd : ∀ h, NarrowWindows j x15 x16 x17 (D h) h) (b : Fin 4) (h : Fin 8) (lim w : BitVec 32) (hlim : lim = BitVec.ofNat 32 (128 * (4 * J)))
    (hw : w = BitVec.ofNat 32 (4 * j + b : ℕ)) (y : S128x128.Idx) :
    queryCt blockMask (keyMask lim w) (blockOf x1 b h) (blockOf x4 b h) (blockOf x7 b h) (blockOf x10 b h) (before x3 x4 b h) (after x4 x5 b h)
        (before x6 x7 b h) (after x7 x8 b h) (columnOf x13 b h) (columnOf x16 b h) y
      = overBlock j (fun h => dqOf (Q h) (K h) (V h) (O h) (L h) (D h)) ((blockRect b h).emb y) := by
  obtain ⟨a, e, rfl⟩ := idx_eq y
  subst hw hlim
  rw [overBlock_emb]
  exact queryCt_rows blockMask_near (keyMask_near (by omega) (blockIn j b)) ((hq h).block b) ((hk h).block b) ((hv h).block b) ((ho h).block b)
    ((hk h).around b) ((hv h).around b) ((hl h).column b) ((hd h).column b) a e

theorem dk_piece (hJ : J ≤ 16) (hq : ∀ h, Windows j x0 x1 x2 (Q h) h) (hk : ∀ h, Windows j x3 x4 x5 (K h) h)
    (hv : ∀ h, Windows j x6 x7 x8 (V h) h) (ho : ∀ h, Windows j x9 x10 x11 (O h) h) (hl : ∀ h, NarrowWindows j x12 x13 x14 (L h) h)
    (hd : ∀ h, NarrowWindows j x15 x16 x17 (D h) h) (b : Fin 4) (h : Fin 8) (lim w : BitVec 32) (hlim : lim = BitVec.ofNat 32 (128 * (4 * J)))
    (hw : w = BitVec.ofNat 32 (4 * j + b : ℕ)) (y : S128x128.Idx) :
    keyCt blockMask (queryMask lim w) (blockOf x1 b h) (blockOf x4 b h) (blockOf x7 b h) (blockOf x10 b h) (before x0 x1 b h) (after x1 x2 b h)
        (before x9 x10 b h) (after x10 x11 b h) (columnOf x13 b h) (columnOf x16 b h) (columnAround (columnsAround x12 x13 x14 b) h)
        (columnAround (columnsAround x15 x16 x17 b) h) y
      = overBlock j (fun h => dkOf (Q h) (K h) (V h) (O h) (L h) (D h)) ((blockRect b h).emb y) := by
  obtain ⟨a, e, rfl⟩ := idx_eq y
  subst hw hlim
  rw [overBlock_emb]
  exact keyCt_rows blockMask_near (queryMask_near (by omega) (blockIn j b)) ((hq h).block b) ((hk h).block b) ((hv h).block b) ((ho h).block b)
    ((hq h).around b) ((ho h).around b) ((hl h).column b) ((hd h).column b) ((hl h).around b) ((hd h).around b) a e

theorem dv_piece (hJ : J ≤ 16) (hq : ∀ h, Windows j x0 x1 x2 (Q h) h) (hk : ∀ h, Windows j x3 x4 x5 (K h) h)
    (ho : ∀ h, Windows j x9 x10 x11 (O h) h) (hl : ∀ h, NarrowWindows j x12 x13 x14 (L h) h) (b : Fin 4) (h : Fin 8) (lim w : BitVec 32)
    (hlim : lim = BitVec.ofNat 32 (128 * (4 * J))) (hw : w = BitVec.ofNat 32 (4 * j + b : ℕ)) (y : S128x128.Idx) :
    valueCt blockMask (queryMask lim w) (blockOf x1 b h) (blockOf x4 b h) (blockOf x10 b h) (before x0 x1 b h) (after x1 x2 b h)
        (before x9 x10 b h) (after x10 x11 b h) (columnOf x13 b h) (columnAround (columnsAround x12 x13 x14 b) h) y
      = overBlock j (fun h => dvOf (Q h) (K h) (O h) (L h)) ((blockRect b h).emb y) := by
  obtain ⟨a, e, rfl⟩ := idx_eq y
  subst hw hlim
  rw [overBlock_emb]
  exact valueCt_rows blockMask_near (queryMask_near (by omega) (blockIn j b)) ((hq h).block b) ((hk h).block b) ((ho h).block b)
    ((hq h).around b) ((ho h).around b) ((hl h).column b) ((hl h).around b) a e

end Cert.AttnBwdIdeal.Long

end
-- ==== Proof.AttnBwd4Query.lean ====
/- A point's gradient of the queries, in attention between every fourth token: its 32 stores are rows of the class's gradient. -/
module

public import proofs.«01_k».proof.Proof.Gen.AttnBwd4Ideal.Frame
public import proofs.«01_k».proof.Proof.AttnLongPiece

@[expose] public section

set_option maxRecDepth 16384

noncomputable section

open Idealize.ShloMosaic Idealize.ShloMosaic.TcCoe Idealize.SL.Sem

namespace Cert.AttnBwd4Ideal.Value

open Cert.AttnBwd4Ideal Cert.AttnBwd4Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 4)) → Fin 128 → EReal) (L D : Fin 8 → Fin (128 * (4 * 4)) → EReal)

theorem query_canon (i : grid0.Coords) (j : Fin 4) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_18 (F := Ideal) i x0 x1 x2 x3 x4 x5 x6 x7 x8 x9 x10 x11 x12 x13 x14 x15 x16 x17 z
      = overBlock j (fun h => dqOf (Q h) (K h) (V h) (O h) (L h) (D h)) z := by
  have p := fun (b : Fin 4) (h : Fin 8) => dq_piece (by omega) hq hk hv ho hl hd b h 2048#32
    (Scalar.addi (Scalar.muli (BitVec.ofNat 32 (i 1).val) 4#32) (BitVec.ofNat 32 b)) rfl (by rw [hi]; exact block_word (by omega) j b)
  refine View.canon_apply_of_pieces _ _ ?_ z (cover0_18 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd4Ideal.Value

end
-- ==== Proof.AttnBwd4Key.lean ====
/- A point's gradient of the keys, in attention between every fourth token: its 32 stores are rows of the class's gradient. -/
module

public import proofs.«01_k».proof.Proof.Gen.AttnBwd4Ideal.Frame
public import proofs.«01_k».proof.Proof.AttnLongPiece

@[expose] public section

set_option maxRecDepth 16384

noncomputable section

open Idealize.ShloMosaic Idealize.ShloMosaic.TcCoe Idealize.SL.Sem

namespace Cert.AttnBwd4Ideal.Value

open Cert.AttnBwd4Ideal Cert.AttnBwd4Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 4)) → Fin 128 → EReal) (L D : Fin 8 → Fin (128 * (4 * 4)) → EReal)

theorem key_canon (i : grid0.Coords) (j : Fin 4) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_19 (F := Ideal) i x0 x1 x2 x3 x4 x5 x6 x7 x8 x9 x10 x11 x12 x13 x14 x15 x16 x17 z
      = overBlock j (fun h => dkOf (Q h) (K h) (V h) (O h) (L h) (D h)) z := by
  have p := fun (b : Fin 4) (h : Fin 8) => dk_piece (by omega) hq hk hv ho hl hd b h 2048#32
    (Scalar.addi (Scalar.muli (BitVec.ofNat 32 (i 1).val) 4#32) (BitVec.ofNat 32 b)) rfl (by rw [hi]; exact block_word (by omega) j b)
  refine View.canon_apply_of_pieces _ _ ?_ z (cover0_19 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd4Ideal.Value

end
-- ==== Proof.AttnBwd4Value.lean ====
/- A point's gradient of the values, in attention between every fourth token: its 32 stores are rows of the class's gradient. -/
module

public import proofs.«01_k».proof.Proof.Gen.AttnBwd4Ideal.Frame
public import proofs.«01_k».proof.Proof.AttnLongPiece

@[expose] public section

set_option maxRecDepth 16384

noncomputable section

open Idealize.ShloMosaic Idealize.ShloMosaic.TcCoe Idealize.SL.Sem

namespace Cert.AttnBwd4Ideal.Value

open Cert.AttnBwd4Ideal Cert.AttnBwd4Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 4)) → Fin 128 → EReal) (L D : Fin 8 → Fin (128 * (4 * 4)) → EReal)

theorem value_canon (i : grid0.Coords) (j : Fin 4) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_20 (F := Ideal) i x0 x1 x2 x3 x4 x5 x6 x7 x8 x9 x10 x11 x12 x13 x14 x15 x16 x17 z
      = overBlock j (fun h => dvOf (Q h) (K h) (O h) (L h)) z := by
  have p := fun (b : Fin 4) (h : Fin 8) => dv_piece (by omega) hq hk ho hl b h 2048#32
    (Scalar.addi (Scalar.muli (BitVec.ofNat 32 (i 1).val) 4#32) (BitVec.ofNat 32 b)) rfl (by rw [hi]; exact block_word (by omega) j b)
  refine View.canon_apply_of_pieces _ _ ?_ z (cover0_20 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd4Ideal.Value

end
-- ==== Proof.AttnBwd4Ref.lean ====
/- The reference of the gradient of attention between every fourth token at an index: each result as one sum over the rows of a residue class. -/
module

public import proofs.«01_k».proof.Proof.Gen.AttnBwd4RefIdeal.Read
public import proofs.«01_k».proof.Proof.AttnLongBand
public import Idealize.ShloMosaic.Lib.Pipeline.ValueKit

@[expose] public section

set_option maxRecDepth 16384

noncomputable section

open Idealize.ShloMosaic Idealize.ShloMosaic.TcCoe Idealize.SL.Sem

namespace Cert.AttnBwd4RefIdeal.Value

open Cert.AttnBwd4RefIdeal Cert.AttnBwd4RefIdeal.Gen Cert.AttnBwd4RefIdeal.Read
open Cert.AttnBwdRefIdeal.Value (weight near sum_scale)
open Cert.AttnBwdIdeal.Long (near_word)

variable (Q K V O : FVec Ideal S8192x8x128 .f32) (L D : FVec Ideal S8192x8 .f32)

/-- The token at position `x` of residue class `n`, and the column of head `h` and class `n` in a row of the residue layout. -/
def token (n : Fin 4) (x : Fin 2048) : Fin 8192 := ⟨x * 4 + n, by omega⟩
def lane (n : Fin 4) (h : Fin 8) (d : Fin 128) : Fin 4096 := ⟨1024 * n + 128 * h + d, by omega⟩

/-- The scaled product of a query and a key gives the weight; its cotangent is the weight times how far the value's is from the mean. -/
def weightAt (n : Fin 4) (h : Fin 8) (x y : Fin 2048) : EReal :=
  weight (∑ d : Fin 128, Q (ix3 (token n x) h d) * K (ix3 (token n y) h d)) (L (ix2 (token n x) h))

def ctAt (n : Fin 4) (h : Fin 8) (x y : Fin 2048) : EReal :=
  weightAt Q K L n h x y * (∑ d : Fin 128, O (ix3 (token n x) h d) * V (ix3 (token n y) h d) - D (ix2 (token n x) h))

def dq (n : Fin 4) (h : Fin 8) (x : Fin 2048) (d : Fin 128) : EReal :=
  (∑ y : Fin 2048, if near x y then ctAt Q K V O L D n h x y * K (ix3 (token n y) h d) else 0) * Ideal.ofBits .f32 0x3DB504F3#32

def dk (n : Fin 4) (h : Fin 8) (y : Fin 2048) (d : Fin 128) : EReal :=
  (∑ x : Fin 2048, if near x y then ctAt Q K V O L D n h x y * Q (ix3 (token n x) h d) else 0) * Ideal.ofBits .f32 0x3DB504F3#32

def dv (n : Fin 4) (h : Fin 8) (y : Fin 2048) (d : Fin 128) : EReal :=
  ∑ x : Fin 2048, if near x y then weightAt Q K L n h x y * O (ix3 (token n x) h d) else 0

theorem mask_eq (x y : Fin 2048) : val_main_v8 (F := Ideal) (ix2 x y) = if near x y then 1#1 else 0#1 := by
  unfold val_main_v8 val_main_v7 val_main_v6 val_main_v5 val_main_v4 val_main_v3 val_main_v2 val_main_v1 val_main_v0 val_main_c
  pointwise []
  exact near_word x y (by omega) (by omega)

/-! ## The residue layout -/

theorem q_eq (n : Fin 4) (x : Fin 2048) (h : Fin 8) (d : Fin 128) : val_main_v16 (F := Ideal) Q (ix4 n x h d) = Q (ix3 (token n x) h d) := by
  unfold val_main_v16 val_main_v15 token
  pointwise []

theorem k_eq (n : Fin 4) (x : Fin 2048) (h : Fin 8) (d : Fin 128) : val_main_v18 (F := Ideal) K (ix4 n x h d) = K (ix3 (token n x) h d) := by
  unfold val_main_v18 val_main_v17 token
  pointwise []

theorem v_eq (n : Fin 4) (x : Fin 2048) (h : Fin 8) (d : Fin 128) : val_main_v31 (F := Ideal) V (ix4 n x h d) = V (ix3 (token n x) h d) := by
  unfold val_main_v31 val_main_v30 token
  pointwise []

theorem o_eq (n : Fin 4) (x : Fin 2048) (h : Fin 8) (d : Fin 128) : val_main_v10 (F := Ideal) O (ix4 n x h d) = O (ix3 (token n x) h d) := by
  unfold val_main_v10 val_main_v9 token
  pointwise []

theorem l_eq (n : Fin 4) (x : Fin 2048) (h : Fin 8) : val_main_v24 (F := Ideal) L (ix3 n h x) = L (ix2 (token n x) h) := by
  unfold val_main_v24 val_main_v23 val_main_v22 token
  pointwise []

theorem d_eq (n : Fin 4) (x : Fin 2048) (h : Fin 8) : val_main_v14 (F := Ideal) D (ix3 n h x) = -D (ix2 (token n x) h) := by
  unfold val_main_v14 val_main_v13 val_main_v12 val_main_v11 token
  pointwise []

/-! ## Weights and their cotangents -/

theorem weight_eq (n : Fin 4) (h : Fin 8) (x y : Fin 2048) :
    val_main_v28 (F := Ideal) Q K L (ix4 n h x y) = weightAt Q K L n h x y := by
  unfold weightAt weight
  simp only [← q_eq Q, ← k_eq K, ← l_eq L]
  unfold val_main_v28 val_main_v27 val_main_v26 val_main_v25 val_main_v21 val_main_v20 val_main_v19 val_main_cst
  generalize val_main_v16 (F := Ideal) Q = q
  generalize val_main_v18 (F := Ideal) K = k
  generalize val_main_v24 (F := Ideal) L = l
  pointwise []

theorem kept_eq (n : Fin 4) (h : Fin 8) (x y : Fin 2048) :
    val_main_v29_0 (F := Ideal) Q K L (ix4 n h x y) = if near x y then weightAt Q K L n h x y else 0 := by
  rw [← weight_eq]
  unfold val_main_v29_0 val_main_v29_1 val_main_call0_v2 val_main_call0_v0 val_main_cst_0
  generalize val_main_v28 (F := Ideal) Q K L = w
  pointwise [mask_eq]
  split <;> simp_all [Scalar.select]
  pointwise []

theorem ct_eq (n : Fin 4) (h : Fin 8) (x y : Fin 2048) :
    val_main_v46 (F := Ideal) Q K V O L D (ix4 n h x y)
      = if near x y then ctAt Q K V O L D n h x y * Ideal.ofBits .f32 0x3DB504F3#32 else 0 := by
  unfold ctAt
  simp only [← weight_eq, ← o_eq O, ← v_eq V]
  unfold val_main_v46 val_main_v45 val_main_cst_2 val_main_v44 val_main_v43 val_main_v29_1 val_main_call1_v0 val_main_call1_cst val_main_v38 val_main_v37 val_main_v36 val_main_v35
  generalize val_main_v28 (F := Ideal) Q K L = w
  generalize val_main_v31 (F := Ideal) V = v
  generalize val_main_v10 (F := Ideal) O = o
  pointwise [mask_eq, d_eq]
  split
  · simp only [Scalar.select]
    rw [if_pos (by decide), sub_eq_add_neg, add_comm, mul_comm (_ + _) (w _)]
  · simp [Scalar.select]

/-! ## The results -/

theorem dq_eq (n : Fin 4) (h : Fin 8) (x : Fin 2048) (d : Fin 128) :
    val_main_v56 (F := Ideal) Q K V O L D (ix2 x (lane n h d)) = dq Q K V O L D n h x d := by
  have e : val_main_v49 (F := Ideal) Q K V O L D (ix4 n h x d) = dq Q K V O L D n h x d := by
    unfold val_main_v49 dq
    generalize hw : val_main_v46 (F := Ideal) Q K V O L D = w
    pointwise []
    subst hw
    simp only [ct_eq, k_eq]
    rw [← sum_scale]
    refine Finset.sum_congr rfl fun y _ => ?_
    split
    · rw [mul_right_comm]
    · rw [zero_mul, zero_mul]
  rw [← e]
  unfold val_main_v56 val_main_v55 val_main_v54 val_main_v53 val_main_v50 lane
  generalize val_main_v49 (F := Ideal) Q K V O L D = w
  pointwise []

theorem dk_eq (n : Fin 4) (h : Fin 8) (y : Fin 2048) (d : Fin 128) :
    val_main_v58 (F := Ideal) Q K V O L D (ix2 y (lane n h d)) = dk Q K V O L D n h y d := by
  have e : val_main_v47 (F := Ideal) Q K V O L D (ix4 n h y d) = dk Q K V O L D n h y d := by
    unfold val_main_v47 dk
    generalize hw : val_main_v46 (F := Ideal) Q K V O L D = w
    pointwise []
    subst hw
    simp only [ct_eq, q_eq]
    rw [← sum_scale]
    refine Finset.sum_congr rfl fun x _ => ?_
    split
    · rw [mul_right_comm]
    · rw [zero_mul, zero_mul]
  rw [← e]
  unfold val_main_v58 val_main_v57 val_main_v52 val_main_v51 val_main_v48 lane
  generalize val_main_v47 (F := Ideal) Q K V O L D = w
  pointwise []

theorem dv_eq (n : Fin 4) (h : Fin 8) (y : Fin 2048) (d : Fin 128) :
    val_main_v60 (F := Ideal) Q K O L (ix2 y (lane n h d)) = dv Q K O L n h y d := by
  have e : val_main_v39 (F := Ideal) Q K O L (ix4 n h d y) = dv Q K O L n h y d := by
    unfold val_main_v39 val_main_v36 dv
    generalize hw : val_main_v29_0 (F := Ideal) Q K L = w
    pointwise []
    subst hw
    simp only [kept_eq, o_eq]
    refine Finset.sum_congr rfl fun x _ => ?_
    split
    · rw [mul_comm]
    · rw [mul_zero]
  rw [← e]
  unfold val_main_v60 val_main_v59 val_main_v42 val_main_v41 val_main_v40 lane
  generalize val_main_v39 (F := Ideal) Q K O L = w
  pointwise []

end Cert.AttnBwd4RefIdeal.Value

end
-- ==== Proof.AttnBwd4.lean ====
/- Attention's gradient between every fourth token: what the windows hold, the three result arrays a run leaves, which are the reference's over
   the reals. -/
module

public import proofs.«01_k».proof.Proof.AttnBwd4Query
public import proofs.«01_k».proof.Proof.AttnBwd4Key
public import proofs.«01_k».proof.Proof.AttnBwd4Value
public import proofs.«01_k».proof.Proof.AttnBwd4Ref
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.AttnBwd4Ideal.Value

open Cert.AttnBwd4Ideal Cert.AttnBwd4Ideal.Gen
open Cert.AttnBwd4RefIdeal.Value (token lane weightAt ctAt dq dk dv)
open Cert.AttnBwdRefIdeal.Value (weight near)
open Cert.AttnBwdIdeal.Value (col laneOf headOf columnIn)
open Cert.AttnBwdIdeal.Long (Windows NarrowWindows dqOf dkOf dvOf ctOf weightOf overBlock rowIn)

/-! ## The windows -/

variable (m : (ℓ : Loc nD τ sig) → Buf (Elt Ideal) ℓ) (c : Dev nD) (t : Fin cfg0.N)

/-- The block of each window at a point: a point's own, the half block before it, the half block after it. -/
theorem idx : ∀ t : Fin cfg0.N,
    (win0_1.index t = ![t.val % 4, t.val / 4] ∧ win0_4.index t = ![t.val % 4, t.val / 4] ∧ win0_7.index t = ![t.val % 4, t.val / 4]
      ∧ win0_10.index t = ![t.val % 4, t.val / 4] ∧ win0_13.index t = ![t.val % 4, t.val / 4] ∧ win0_16.index t = ![t.val % 4, t.val / 4]
      ∧ win0_18.index t = ![t.val % 4, t.val / 4] ∧ win0_19.index t = ![t.val % 4, t.val / 4] ∧ win0_20.index t = ![t.val % 4, t.val / 4])
    ∧ (win0_0.index t = ![8 * (t.val % 4) - 1, t.val / 4] ∧ win0_3.index t = ![8 * (t.val % 4) - 1, t.val / 4]
      ∧ win0_6.index t = ![8 * (t.val % 4) - 1, t.val / 4] ∧ win0_9.index t = ![8 * (t.val % 4) - 1, t.val / 4]
      ∧ win0_12.index t = ![8 * (t.val % 4) - 1, t.val / 4] ∧ win0_15.index t = ![8 * (t.val % 4) - 1, t.val / 4])
    ∧ (win0_2.index t = ![min (8 * (t.val % 4) + 8) 31, t.val / 4] ∧ win0_5.index t = ![min (8 * (t.val % 4) + 8) 31, t.val / 4]
      ∧ win0_8.index t = ![min (8 * (t.val % 4) + 8) 31, t.val / 4] ∧ win0_11.index t = ![min (8 * (t.val % 4) + 8) 31, t.val / 4]
      ∧ win0_14.index t = ![min (8 * (t.val % 4) + 8) 31, t.val / 4] ∧ win0_17.index t = ![min (8 * (t.val % 4) + 8) 31, t.val / 4]) :=
  (by decide +kernel : ∀ t : Fin grid0.N, _)

/-- The window of the class's rows at hand, and the residue class. -/
def win (t : Fin cfg0.N) : Fin 4 := ⟨t.val % 4, by omega⟩
def cls (t : Fin cfg0.N) : Fin 4 := ⟨t.val / 4, by have : t.val < 16 := t.isLt; omega⟩

/-- The row of the class under row `a` of the half block before, and of the one after. -/
def firstRow (t : Fin cfg0.N) (a : Fin 64) : Fin 2048 := ⟨64 * (8 * (t.val % 4) - 1) + a, by omega⟩
def lastRow (t : Fin cfg0.N) (a : Fin 64) : Fin 2048 := ⟨64 * min (8 * (t.val % 4) + 8) 31 + a, by omega⟩

theorem coord : ∀ t : Fin cfg0.N, (grid0.coords t 1).val = (win t).val := (by decide +kernel : ∀ t : Fin grid0.N, (grid0.coords t 1).val = t.val % 4)

/-- The arguments: queries, keys, values, the output's cotangent, the denominators' logarithms, the means. -/
abbrev qA : FVec Ideal S8192x8x128 .f32 := m ((c : Thread nD τ).loc main_arg0)
abbrev kA : FVec Ideal S8192x8x128 .f32 := m ((c : Thread nD τ).loc main_arg1)
abbrev vA : FVec Ideal S8192x8x128 .f32 := m ((c : Thread nD τ).loc main_arg2)
abbrev oA : FVec Ideal S8192x8x128 .f32 := m ((c : Thread nD τ).loc main_arg3)
abbrev lA : FVec Ideal S8192x8 .f32 := m ((c : Thread nD τ).loc main_arg4)
abbrev dA : FVec Ideal S8192x8 .f32 := m ((c : Thread nD τ).loc main_arg5)

theorem wide_at (x : FVec Ideal S8192x8x128 .f32) (r : Fin 2048) (n : Fin 4) (h : Fin 8) (e : Fin 128) :
    shapeCast S2048x4096 (truncf .bf16 x bitsLt_bf16_f32) shapeCasts_S8192x8x128_S2048x4096 (ix2 r (lane n h e)) = x (ix3 (token n r) h e) := by
  unfold lane token
  pointwise []
  congr 2
  exact Fin.ext (by show r.val * 4 + (1024 * n.val + 128 * h.val + e.val) / 1024 = r.val * 4 + n.val; omega)

/-- A narrow argument, with zeros after its eight columns, in the residue layout. -/
def narrow (x : FVec Ideal S8192x8 .f32) : FVec Ideal S2048x512 .f32 :=
  shapeCast S2048x512 (pad S8192x128 ![0, 0] ![0, 120] ![0, 0] x (sitofp .f32 (constantI S_ 32 0#32)) pads_S8192x8_S8192x128_000_01200 h_S_)
    shapeCasts_S8192x128_S2048x512

theorem narrow_at (x : FVec Ideal S8192x8 .f32) (r : Fin 2048) (n : Fin 4) (h : Fin 8) :
    narrow x (ix2 r ⟨128 * n + h, by omega⟩) = x (ix2 (token n r) h) := by
  unfold narrow token
  pointwise []
  refine (dif_pos ⟨by omega, by omega⟩).trans ?_
  congr 2
  · exact Fin.ext (by show r.val * 4 + (128 * n.val + h.val) / 128 = r.val * 4 + n.val; omega)
  · exact Fin.ext (by show (128 * n.val + h.val) % 128 = h.val; omega)

theorem q_host : V m c main_v1 = (shapeCast S2048x4096 (truncf .bf16 (qA m c) bitsLt_bf16_f32) shapeCasts_S8192x8x128_S2048x4096 : FVec Ideal S2048x4096 .bf16) := by
  after_reads_simp
  rfl
theorem k_host : V m c main_v3 = (shapeCast S2048x4096 (truncf .bf16 (kA m c) bitsLt_bf16_f32) shapeCasts_S8192x8x128_S2048x4096 : FVec Ideal S2048x4096 .bf16) := by
  after_reads_simp
  rfl
theorem v_host : V m c main_v5 = (shapeCast S2048x4096 (truncf .bf16 (vA m c) bitsLt_bf16_f32) shapeCasts_S8192x8x128_S2048x4096 : FVec Ideal S2048x4096 .bf16) := by
  after_reads_simp
  rfl
theorem o_host : V m c main_v7 = (shapeCast S2048x4096 (truncf .bf16 (oA m c) bitsLt_bf16_f32) shapeCasts_S8192x8x128_S2048x4096 : FVec Ideal S2048x4096 .bf16) := by
  after_reads_simp
  rfl
theorem l_host : V m c main_v9 = (narrow (lA m c) : FVec Ideal S2048x512 .f32) := by
  after_reads_simp
  rfl
theorem d_host : V m c main_v11 = (narrow (dA m c) : FVec Ideal S2048x512 .f32) := by
  after_reads_simp
  rfl

theorem q_windows (h : Fin 8) : Windows (win t) (iblk m c 0 t) (iblk m c 1 t) (iblk m c 2 t) (fun r e => qA m c (ix3 (token (cls t) r) h e)) h where
  rows := fun r e => by
    show iblk m c 1 t (ix2 r (col h e)) = qA m c (ix3 (token (cls t) ⟨512 * (t.val % 4) + r, by omega⟩) h e)
    rw [← wide_at (qA m c), ← q_host]
    unfold cls lane col
    blk_point [iblk, (idx t).1]
  first := fun a e r hr => by
    have hr' : r.val + 64 = 512 * (t.val % 4) + a.val := hr
    obtain rfl : r = (firstRow t a) := Fin.ext (by show r.val = 64 * (8 * (t.val % 4) - 1) + a.val; omega)
    show iblk m c 0 t (ix2 a (col h e)) = qA m c (ix3 (token (cls t) (firstRow t a)) h e)
    rw [← wide_at (qA m c), ← q_host]
    unfold cls lane col firstRow
    blk_point [iblk, (idx t).2.1]
  last := fun a e r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 2 t (ix2 a (col h e)) = qA m c (ix3 (token (cls t) (lastRow t a)) h e)
    rw [← wide_at (qA m c), ← q_host]
    unfold cls lane col lastRow
    blk_point [iblk, (idx t).2.2]

theorem k_windows (h : Fin 8) : Windows (win t) (iblk m c 3 t) (iblk m c 4 t) (iblk m c 5 t) (fun r e => kA m c (ix3 (token (cls t) r) h e)) h where
  rows := fun r e => by
    show iblk m c 4 t (ix2 r (col h e)) = kA m c (ix3 (token (cls t) ⟨512 * (t.val % 4) + r, by omega⟩) h e)
    rw [← wide_at (kA m c), ← k_host]
    unfold cls lane col
    blk_point [iblk, (idx t).1]
  first := fun a e r hr => by
    have hr' : r.val + 64 = 512 * (t.val % 4) + a.val := hr
    obtain rfl : r = (firstRow t a) := Fin.ext (by show r.val = 64 * (8 * (t.val % 4) - 1) + a.val; omega)
    show iblk m c 3 t (ix2 a (col h e)) = kA m c (ix3 (token (cls t) (firstRow t a)) h e)
    rw [← wide_at (kA m c), ← k_host]
    unfold cls lane col firstRow
    blk_point [iblk, (idx t).2.1]
  last := fun a e r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 5 t (ix2 a (col h e)) = kA m c (ix3 (token (cls t) (lastRow t a)) h e)
    rw [← wide_at (kA m c), ← k_host]
    unfold cls lane col lastRow
    blk_point [iblk, (idx t).2.2]

theorem v_windows (h : Fin 8) : Windows (win t) (iblk m c 6 t) (iblk m c 7 t) (iblk m c 8 t) (fun r e => vA m c (ix3 (token (cls t) r) h e)) h where
  rows := fun r e => by
    show iblk m c 7 t (ix2 r (col h e)) = vA m c (ix3 (token (cls t) ⟨512 * (t.val % 4) + r, by omega⟩) h e)
    rw [← wide_at (vA m c), ← v_host]
    unfold cls lane col
    blk_point [iblk, (idx t).1]
  first := fun a e r hr => by
    have hr' : r.val + 64 = 512 * (t.val % 4) + a.val := hr
    obtain rfl : r = (firstRow t a) := Fin.ext (by show r.val = 64 * (8 * (t.val % 4) - 1) + a.val; omega)
    show iblk m c 6 t (ix2 a (col h e)) = vA m c (ix3 (token (cls t) (firstRow t a)) h e)
    rw [← wide_at (vA m c), ← v_host]
    unfold cls lane col firstRow
    blk_point [iblk, (idx t).2.1]
  last := fun a e r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 8 t (ix2 a (col h e)) = vA m c (ix3 (token (cls t) (lastRow t a)) h e)
    rw [← wide_at (vA m c), ← v_host]
    unfold cls lane col lastRow
    blk_point [iblk, (idx t).2.2]

theorem o_windows (h : Fin 8) : Windows (win t) (iblk m c 9 t) (iblk m c 10 t) (iblk m c 11 t) (fun r e => oA m c (ix3 (token (cls t) r) h e)) h where
  rows := fun r e => by
    show iblk m c 10 t (ix2 r (col h e)) = oA m c (ix3 (token (cls t) ⟨512 * (t.val % 4) + r, by omega⟩) h e)
    rw [← wide_at (oA m c), ← o_host]
    unfold cls lane col
    blk_point [iblk, (idx t).1]
  first := fun a e r hr => by
    have hr' : r.val + 64 = 512 * (t.val % 4) + a.val := hr
    obtain rfl : r = (firstRow t a) := Fin.ext (by show r.val = 64 * (8 * (t.val % 4) - 1) + a.val; omega)
    show iblk m c 9 t (ix2 a (col h e)) = oA m c (ix3 (token (cls t) (firstRow t a)) h e)
    rw [← wide_at (oA m c), ← o_host]
    unfold cls lane col firstRow
    blk_point [iblk, (idx t).2.1]
  last := fun a e r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 11 t (ix2 a (col h e)) = oA m c (ix3 (token (cls t) (lastRow t a)) h e)
    rw [← wide_at (oA m c), ← o_host]
    unfold cls lane col lastRow
    blk_point [iblk, (idx t).2.2]

theorem l_windows (h : Fin 8) : NarrowWindows (win t) (iblk m c 12 t) (iblk m c 13 t) (iblk m c 14 t) (fun r => lA m c (ix2 (token (cls t) r) h)) h where
  rows := fun r => by
    show iblk m c 13 t (ix2 r (laneOf h)) = lA m c (ix2 (token (cls t) ⟨512 * (t.val % 4) + r, by omega⟩) h)
    rw [← narrow_at (lA m c), ← l_host]
    unfold cls laneOf
    blk_point [iblk, (idx t).1]
  first := fun a r hr => by
    have hr' : r.val + 64 = 512 * (t.val % 4) + a.val := hr
    obtain rfl : r = (firstRow t a) := Fin.ext (by show r.val = 64 * (8 * (t.val % 4) - 1) + a.val; omega)
    show iblk m c 12 t (ix2 a (laneOf h)) = lA m c (ix2 (token (cls t) (firstRow t a)) h)
    rw [← narrow_at (lA m c), ← l_host]
    unfold cls laneOf firstRow
    blk_point [iblk, (idx t).2.1]
  last := fun a r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 14 t (ix2 a (laneOf h)) = lA m c (ix2 (token (cls t) (lastRow t a)) h)
    rw [← narrow_at (lA m c), ← l_host]
    unfold cls laneOf lastRow
    blk_point [iblk, (idx t).2.2]

theorem d_windows (h : Fin 8) : NarrowWindows (win t) (iblk m c 15 t) (iblk m c 16 t) (iblk m c 17 t) (fun r => dA m c (ix2 (token (cls t) r) h)) h where
  rows := fun r => by
    show iblk m c 16 t (ix2 r (laneOf h)) = dA m c (ix2 (token (cls t) ⟨512 * (t.val % 4) + r, by omega⟩) h)
    rw [← narrow_at (dA m c), ← d_host]
    unfold cls laneOf
    blk_point [iblk, (idx t).1]
  first := fun a r hr => by
    have hr' : r.val + 64 = 512 * (t.val % 4) + a.val := hr
    obtain rfl : r = (firstRow t a) := Fin.ext (by show r.val = 64 * (8 * (t.val % 4) - 1) + a.val; omega)
    show iblk m c 15 t (ix2 a (laneOf h)) = dA m c (ix2 (token (cls t) (firstRow t a)) h)
    rw [← narrow_at (dA m c), ← d_host]
    unfold cls laneOf firstRow
    blk_point [iblk, (idx t).2.1]
  last := fun a r hr => by
    have hr' : r.val = 512 * (t.val % 4) + 512 + a.val := hr
    have hb : r.val < 2048 := r.isLt
    obtain rfl : r = (lastRow t a) := Fin.ext (by show r.val = 64 * min (8 * (t.val % 4) + 8) 31 + a.val; omega)
    show iblk m c 17 t (ix2 a (laneOf h)) = dA m c (ix2 (token (cls t) (lastRow t a)) h)
    rw [← narrow_at (dA m c), ← d_host]
    unfold cls laneOf lastRow
    blk_point [iblk, (idx t).2.2]

/-! ## The result arrays -/

/-- A result array of the residue layout from its entry at a class, a head, a row and a column. -/
def overClasses (f : Fin 4 → Fin 8 → Fin 2048 → Fin 128 → EReal) : FVec Ideal S2048x4096 .bf16 := fun i =>
  have h : (i 1).val < 4096 := (i 1).isLt
  f ⟨(i 1).val / 1024, by omega⟩ ⟨(i 1).val / 128 % 8, by omega⟩ (i 0) ⟨(i 1).val % 128, by omega⟩

theorem overClasses_at (f : Fin 4 → Fin 8 → Fin 2048 → Fin 128 → EReal) (x : Fin 2048) (n : Fin 4) (h : Fin 8) (d : Fin 128) :
    overClasses f (ix2 x (lane n h d)) = f n h x d := by
  have hn : (⟨(1024 * n.val + 128 * h.val + d.val) / 1024, by omega⟩ : Fin 4) = n := Fin.ext (by show (_ : ℕ) / 1024 = _; omega)
  have hh : (⟨(1024 * n.val + 128 * h.val + d.val) / 128 % 8, by omega⟩ : Fin 8) = h := Fin.ext (by show (_ : ℕ) / 128 % 8 = _; omega)
  have hd : (⟨(1024 * n.val + 128 * h.val + d.val) % 128, by omega⟩ : Fin 128) = d := Fin.ext (by show (_ : ℕ) % 128 = _; omega)
  show f ⟨(1024 * n.val + 128 * h.val + d.val) / 1024, _⟩ ⟨(1024 * n.val + 128 * h.val + d.val) / 128 % 8, _⟩ x
    ⟨(1024 * n.val + 128 * h.val + d.val) % 128, _⟩ = _
  rw [hn, hh, hd]

theorem place (i : S2048x4096.Idx) : ∃ (x : Fin 2048) (n : Fin 4) (h : Fin 8) (d : Fin 128), i = ix2 x (lane n h d) := by
  have hi : (i 1).val < 4096 := (i 1).isLt
  refine ⟨i 0, ⟨(i 1).val / 1024, by omega⟩, ⟨(i 1).val / 128 % 8, by omega⟩, ⟨(i 1).val % 128, by omega⟩, ?_⟩
  funext a
  match a with
  | ⟨0, _⟩ => rfl
  | ⟨1, _⟩ => exact Fin.ext (by show (i 1).val = 1024 * ((i 1).val / 1024) + 128 * ((i 1).val / 128 % 8) + (i 1).val % 128; omega)

/-- The row of a class under a row of the window at hand. -/
def rowOf (t : Fin cfg0.N) (r : Fin 512) : Fin 2048 := ⟨512 * (t.val % 4) + r, by omega⟩

/-- The entry under an index of a class's block. -/
theorem overClasses_block (f : Fin 4 → Fin 8 → Fin 2048 → Fin 128 → EReal) (t : Fin cfg0.N) (y : S512x1024.Idx) (i : S2048x4096.Idx)
    (h0 : (i 0).val = 512 * (t.val % 4) + (y 0).val) (h1 : (i 1).val = 1024 * (t.val / 4) + (y 1).val) :
    overClasses f i = f (cls t) (headOf (y 1)) (rowOf t (y 0)) (columnIn (y 1)) := by
  have ht : t.val < 16 := t.isLt
  have hy : (y 1).val < 1024 := (y 1).isLt
  have e : i = ix2 (rowOf t (y 0)) (lane (cls t) (headOf (y 1)) (columnIn (y 1))) := by
    funext a
    match a with
    | ⟨0, _⟩ => exact Fin.ext h0
    | ⟨1, _⟩ => exact Fin.ext (h1.trans (by
        show 1024 * (t.val / 4) + (y 1).val = 1024 * (t.val / 4) + 128 * ((y 1).val / 128) + (y 1).val % 128
        omega))
  rw [e]
  exact overClasses_at f (rowOf t (y 0)) (cls t) (headOf (y 1)) (columnIn (y 1))

theorem final_dq : (dats m 0 c).arrAt 18 (cfgs 0).N = Cert.AttnBwd4RefIdeal.Read.val_main_v56 (F := Ideal) (qA m c) (kA m c) (vA m c) (oA m c) (lA m c) (dA m c) := by
  have e : Cert.AttnBwd4RefIdeal.Read.val_main_v56 (F := Ideal) (qA m c) (kA m c) (vA m c) (oA m c) (lA m c) (dA m c) = overClasses (dq (qA m c) (kA m c) (vA m c) (oA m c) (lA m c) (dA m c)) := funext fun i => by
    obtain ⟨x, n, h, d, rfl⟩ := place i
    rw [Cert.AttnBwd4RefIdeal.Value.dq_eq, overClasses_at]
  rw [e]
  refine (dats m 0 c).arrAt_eq_of_covers 18 _ (by decide +kernel) fun t hf y => ?_
  rw [after0_18, query_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dq (qA m c) (kA m c) (vA m c) (oA m c) (lA m c) (dA m c) (cls t) (headOf (y 1)) (rowOf t (y 0)) (columnIn (y 1))) rfl (overClasses_block _ t y _ ?_ ?_).symm
  · blk_simp [(idx t).1]
    exact congrArg (· + (y 0 : ℕ)) (Nat.mul_comm _ 512)
  · blk_simp [(idx t).1]
    exact congrArg (· + (y 1 : ℕ)) (Nat.mul_comm _ 1024)

theorem final_dk : (dats m 0 c).arrAt 19 (cfgs 0).N = Cert.AttnBwd4RefIdeal.Read.val_main_v58 (F := Ideal) (qA m c) (kA m c) (vA m c) (oA m c) (lA m c) (dA m c) := by
  have e : Cert.AttnBwd4RefIdeal.Read.val_main_v58 (F := Ideal) (qA m c) (kA m c) (vA m c) (oA m c) (lA m c) (dA m c) = overClasses (dk (qA m c) (kA m c) (vA m c) (oA m c) (lA m c) (dA m c)) := funext fun i => by
    obtain ⟨x, n, h, d, rfl⟩ := place i
    rw [Cert.AttnBwd4RefIdeal.Value.dk_eq, overClasses_at]
  rw [e]
  refine (dats m 0 c).arrAt_eq_of_covers 19 _ (by decide +kernel) fun t hf y => ?_
  rw [after0_19, key_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dk (qA m c) (kA m c) (vA m c) (oA m c) (lA m c) (dA m c) (cls t) (headOf (y 1)) (rowOf t (y 0)) (columnIn (y 1))) rfl (overClasses_block _ t y _ ?_ ?_).symm
  · blk_simp [(idx t).1]
    exact congrArg (· + (y 0 : ℕ)) (Nat.mul_comm _ 512)
  · blk_simp [(idx t).1]
    exact congrArg (· + (y 1 : ℕ)) (Nat.mul_comm _ 1024)

theorem final_dv : (dats m 0 c).arrAt 20 (cfgs 0).N = Cert.AttnBwd4RefIdeal.Read.val_main_v60 (F := Ideal) (qA m c) (kA m c) (oA m c) (lA m c) := by
  have e : Cert.AttnBwd4RefIdeal.Read.val_main_v60 (F := Ideal) (qA m c) (kA m c) (oA m c) (lA m c) = overClasses (dv (qA m c) (kA m c) (oA m c) (lA m c)) := funext fun i => by
    obtain ⟨x, n, h, d, rfl⟩ := place i
    rw [Cert.AttnBwd4RefIdeal.Value.dv_eq, overClasses_at]
  rw [e]
  refine (dats m 0 c).arrAt_eq_of_covers 20 _ (by decide +kernel) fun t hf y => ?_
  rw [after0_20, value_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dv (qA m c) (kA m c) (oA m c) (lA m c) (cls t) (headOf (y 1)) (rowOf t (y 0)) (columnIn (y 1))) rfl (overClasses_block _ t y _ ?_ ?_).symm
  · blk_simp [(idx t).1]
    exact congrArg (· + (y 0 : ℕ)) (Nat.mul_comm _ 512)
  · blk_simp [(idx t).1]
    exact congrArg (· + (y 1 : ℕ)) (Nat.mul_comm _ 1024)

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v12_0) = (dats m 0 c).arrAt 18 (cfgs 0).N
      ∧ r.2.mem ((c.tc : Thread nD τ).loc main_v12_1) = (dats m 0 c).arrAt 19 (cfgs 0).N
      ∧ r.2.mem ((c.tc : Thread nD τ).loc main_v12_2) = (dats m 0 c).arrAt 20 (cfgs 0).N) :=
  (θ_run defs _ _).mono (fun _ h c => ⟨(h c).1 18, (h c).1 19, (h c).1 20⟩) (run_main m ρ)

theorem run : θ_run defs (onTc (τ := τ) (main (F := Ideal))) ⟨m, fun _ => 0, ρ⟩ (fun r => ∀ c : Dev nD,
      r.2.mem ((c.tc : Thread nD τ).loc main_v12_0)
          = Cert.AttnBwd4RefIdeal.Read.val_main_v56 (F := Ideal) (qA m c) (kA m c) (vA m c) (oA m c) (lA m c) (dA m c)
      ∧ r.2.mem ((c.tc : Thread nD τ).loc main_v12_1)
          = Cert.AttnBwd4RefIdeal.Read.val_main_v58 (F := Ideal) (qA m c) (kA m c) (vA m c) (oA m c) (lA m c) (dA m c)
      ∧ r.2.mem ((c.tc : Thread nD τ).loc main_v12_2)
          = Cert.AttnBwd4RefIdeal.Read.val_main_v60 (F := Ideal) (qA m c) (kA m c) (oA m c) (lA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).1).trans (final_dq m c), ((h.1 c).2.1).trans (final_dk m c), ((h.1 c).2.2).trans (final_dv m c), h.2 c⟩)
    (θ_run_and (run_arrays m ρ) (unchanged m ρ))

end Cert.AttnBwd4Ideal.Value

end
-- ==== Proof.AttnBwd1Query.lean ====
/- A point's gradient of the queries, in attention between neighbouring tokens: its 32 stores are rows of the class's gradient. -/
module

public import proofs.«01_k».proof.Proof.Gen.AttnBwd1Ideal.Frame
public import proofs.«01_k».proof.Proof.AttnLongPiece

@[expose] public section

set_option maxRecDepth 16384

noncomputable section

open Idealize.ShloMosaic Idealize.ShloMosaic.TcCoe Idealize.SL.Sem

namespace Cert.AttnBwd1Ideal.Value

open Cert.AttnBwd1Ideal Cert.AttnBwd1Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 16)) → Fin 128 → EReal) (L D : Fin 8 → Fin (128 * (4 * 16)) → EReal)

theorem query_canon (i : grid0.Coords) (j : Fin 16) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_18 (F := Ideal) i x0 x1 x2 x3 x4 x5 x6 x7 x8 x9 x10 x11 x12 x13 x14 x15 x16 x17 z
      = overBlock j (fun h => dqOf (Q h) (K h) (V h) (O h) (L h) (D h)) z := by
  have p := fun (b : Fin 4) (h : Fin 8) => dq_piece (by omega) hq hk hv ho hl hd b h 8192#32
    (Scalar.addi (Scalar.muli (BitVec.ofNat 32 (i 1).val) 4#32) (BitVec.ofNat 32 b)) rfl (by rw [hi]; exact block_word (by omega) j b)
  refine View.canon_apply_of_pieces _ _ ?_ z (cover0_18 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd1Ideal.Value

end
-- ==== Proof.AttnBwd1Key.lean ====
/- A point's gradient of the keys, in attention between neighbouring tokens: its 32 stores are rows of the class's gradient. -/
module

public import proofs.«01_k».proof.Proof.Gen.AttnBwd1Ideal.Frame
public import proofs.«01_k».proof.Proof.AttnLongPiece

@[expose] public section

set_option maxRecDepth 16384

noncomputable section

open Idealize.ShloMosaic Idealize.ShloMosaic.TcCoe Idealize.SL.Sem

namespace Cert.AttnBwd1Ideal.Value

open Cert.AttnBwd1Ideal Cert.AttnBwd1Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 16)) → Fin 128 → EReal) (L D : Fin 8 → Fin (128 * (4 * 16)) → EReal)

theorem key_canon (i : grid0.Coords) (j : Fin 16) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_19 (F := Ideal) i x0 x1 x2 x3 x4 x5 x6 x7 x8 x9 x10 x11 x12 x13 x14 x15 x16 x17 z
      = overBlock j (fun h => dkOf (Q h) (K h) (V h) (O h) (L h) (D h)) z := by
  have p := fun (b : Fin 4) (h : Fin 8) => dk_piece (by omega) hq hk hv ho hl hd b h 8192#32
    (Scalar.addi (Scalar.muli (BitVec.ofNat 32 (i 1).val) 4#32) (BitVec.ofNat 32 b)) rfl (by rw [hi]; exact block_word (by omega) j b)
  refine View.canon_apply_of_pieces _ _ ?_ z (cover0_19 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd1Ideal.Value

end
-- ==== Proof.AttnBwd1Value.lean ====
/- A point's gradient of the values, in attention between neighbouring tokens: its 32 stores are rows of the class's gradient. -/
module

public import proofs.«01_k».proof.Proof.Gen.AttnBwd1Ideal.Frame
public import proofs.«01_k».proof.Proof.AttnLongPiece

@[expose] public section

set_option maxRecDepth 16384

noncomputable section

open Idealize.ShloMosaic Idealize.ShloMosaic.TcCoe Idealize.SL.Sem

namespace Cert.AttnBwd1Ideal.Value

open Cert.AttnBwd1Ideal Cert.AttnBwd1Ideal.Gen Cert.AttnBwdIdeal.Long

local notation "Wide" => Vec Ideal S512x1024 EltTy.bf16
local notation "WideHalf" => Vec Ideal S64x1024 EltTy.bf16
local notation "Narrow" => Vec Ideal S512x128 EltTy.f32
local notation "NarrowHalf" => Vec Ideal S64x128 EltTy.f32

variable (x0 : WideHalf) (x1 : Wide) (x2 x3 : WideHalf) (x4 : Wide) (x5 x6 : WideHalf) (x7 : Wide) (x8 x9 : WideHalf) (x10 : Wide) (x11 : WideHalf)
variable (x12 : NarrowHalf) (x13 : Narrow) (x14 x15 : NarrowHalf) (x16 : Narrow) (x17 : NarrowHalf)
variable (Q K V O : Fin 8 → Fin (128 * (4 * 16)) → Fin 128 → EReal) (L D : Fin 8 → Fin (128 * (4 * 16)) → EReal)

theorem value_canon (i : grid0.Coords) (j : Fin 16) (hi : (i 1).val = j) (hq : ∀ h, Windows j x0 x1 x2 (Q h) h)
    (hk : ∀ h, Windows j x3 x4 x5 (K h) h) (hv : ∀ h, Windows j x6 x7 x8 (V h) h) (ho : ∀ h, Windows j x9 x10 x11 (O h) h)
    (hl : ∀ h, NarrowWindows j x12 x13 x14 (L h) h) (hd : ∀ h, NarrowWindows j x15 x16 x17 (D h) h) (z : S512x1024.Idx) :
    out0_20 (F := Ideal) i x0 x1 x2 x3 x4 x5 x6 x7 x8 x9 x10 x11 x12 x13 x14 x15 x16 x17 z
      = overBlock j (fun h => dvOf (Q h) (K h) (O h) (L h)) z := by
  have p := fun (b : Fin 4) (h : Fin 8) => dv_piece (by omega) hq hk ho hl b h 8192#32
    (Scalar.addi (Scalar.muli (BitVec.ofNat 32 (i 1).val) 4#32) (BitVec.ofNat 32 b)) rfl (by rw [hi]; exact block_word (by omega) j b)
  refine View.canon_apply_of_pieces _ _ ?_ z (cover0_20 _ _ _ _ _ _ _ _ _ _ _ _ _ _ _ _ _ _ _ _ _ _ _ _ _ _ _ _ _ _ _ _ z)
  refine List.forall_mem_cons.2 ⟨p 3 7, ?_⟩
  refine List.forall_mem_cons.2 ⟨p 3 6, ?_⟩
  refine List.forall_mem_cons.2 ⟨p 3 5, ?_⟩
  refine List.forall_mem_cons.2 ⟨p 3 4, ?_⟩
  refine List.forall_mem_cons.2 ⟨p 3 3, ?_⟩
  refine List.forall_mem_cons.2 ⟨p 3 2, ?_⟩
  refine List.forall_mem_cons.2 ⟨p 3 1, ?_⟩
  refine List.forall_mem_cons.2 ⟨p 3 0, ?_⟩
  refine List.forall_mem_cons.2 ⟨p 2 7, ?_⟩
  refine List.forall_mem_cons.2 ⟨p 2 6, ?_⟩
  refine List.forall_mem_cons.2 ⟨p 2 5, ?_⟩
  refine List.forall_mem_cons.2 ⟨p 2 4, ?_⟩
  refine List.forall_mem_cons.2 ⟨p 2 3, ?_⟩
  refine List.forall_mem_cons.2 ⟨p 2 2, ?_⟩
  refine List.forall_mem_cons.2 ⟨p 2 1, ?_⟩
  refine List.forall_mem_cons.2 ⟨p 2 0, ?_⟩
  refine List.forall_mem_cons.2 ⟨p 1 7, ?_⟩
  refine List.forall_mem_cons.2 ⟨p 1 6, ?_⟩
  refine List.forall_mem_cons.2 ⟨p 1 5, ?_⟩
  refine List.forall_mem_cons.2 ⟨p 1 4, ?_⟩
  refine List.forall_mem_cons.2 ⟨p 1 3, ?_⟩
  refine List.forall_mem_cons.2 ⟨p 1 2, ?_⟩
  refine List.forall_mem_cons.2 ⟨p 1 1, ?_⟩
  refine List.forall_mem_cons.2 ⟨p 1 0, ?_⟩
  refine List.forall_mem_cons.2 ⟨p 0 7, ?_⟩
  refine List.forall_mem_cons.2 ⟨p 0 6, ?_⟩
  refine List.forall_mem_cons.2 ⟨p 0 5, ?_⟩
  refine List.forall_mem_cons.2 ⟨p 0 4, ?_⟩
  refine List.forall_mem_cons.2 ⟨p 0 3, ?_⟩
  refine List.forall_mem_cons.2 ⟨p 0 2, ?_⟩
  refine List.forall_mem_cons.2 ⟨p 0 1, ?_⟩
  refine List.forall_mem_cons.2 ⟨p 0 0, ?_⟩
  exact fun _ h => absurd h List.not_mem_nil

end Cert.AttnBwd1Ideal.Value

end
-- ==== Proof.AttnBwd1Ref.lean ====
/- The reference of the gradient of attention between neighbouring tokens at an index: each result as one sum over the rows. -/
module

public import proofs.«01_k».proof.Proof.Gen.AttnBwd1RefIdeal.Read
public import proofs.«01_k».proof.Proof.AttnLongBand
public import Idealize.ShloMosaic.Lib.Pipeline.ValueKit

@[expose] public section

set_option maxRecDepth 16384

noncomputable section

open Idealize.ShloMosaic Idealize.ShloMosaic.TcCoe Idealize.SL.Sem

namespace Cert.AttnBwd1RefIdeal.Value

open Cert.AttnBwd1RefIdeal Cert.AttnBwd1RefIdeal.Gen Cert.AttnBwd1RefIdeal.Read
open Cert.AttnBwdRefIdeal.Value (weight near sum_scale)
open Cert.AttnBwdIdeal.Long (near_word)

variable (Q K V O : FVec Ideal S8192x8x128 .f32) (L D : FVec Ideal S8192x8 .f32)

/-- The token at position `x` of residue class `n`, and the column of head `h` and class `n` in a row of the residue layout. -/
def token (n : Fin 1) (x : Fin 8192) : Fin 8192 := ⟨x * 1 + n, by omega⟩
def lane (n : Fin 1) (h : Fin 8) (d : Fin 128) : Fin 1024 := ⟨1024 * n + 128 * h + d, by omega⟩

/-- The scaled product of a query and a key gives the weight; its cotangent is the weight times how far the value's is from the mean. -/
def weightAt (n : Fin 1) (h : Fin 8) (x y : Fin 8192) : EReal :=
  weight (∑ d : Fin 128, Q (ix3 (token n x) h d) * K (ix3 (token n y) h d)) (L (ix2 (token n x) h))

def ctAt (n : Fin 1) (h : Fin 8) (x y : Fin 8192) : EReal :=
  weightAt Q K L n h x y * (∑ d : Fin 128, O (ix3 (token n x) h d) * V (ix3 (token n y) h d) - D (ix2 (token n x) h))

def dq (n : Fin 1) (h : Fin 8) (x : Fin 8192) (d : Fin 128) : EReal :=
  (∑ y : Fin 8192, if near x y then ctAt Q K V O L D n h x y * K (ix3 (token n y) h d) else 0) * Ideal.ofBits .f32 0x3DB504F3#32

def dk (n : Fin 1) (h : Fin 8) (y : Fin 8192) (d : Fin 128) : EReal :=
  (∑ x : Fin 8192, if near x y then ctAt Q K V O L D n h x y * Q (ix3 (token n x) h d) else 0) * Ideal.ofBits .f32 0x3DB504F3#32

def dv (n : Fin 1) (h : Fin 8) (y : Fin 8192) (d : Fin 128) : EReal :=
  ∑ x : Fin 8192, if near x y then weightAt Q K L n h x y * O (ix3 (token n x) h d) else 0

theorem mask_eq (x y : Fin 8192) : val_main_v8 (F := Ideal) (ix2 x y) = if near x y then 1#1 else 0#1 := by
  unfold val_main_v8 val_main_v7 val_main_v6 val_main_v5 val_main_v4 val_main_v3 val_main_v2 val_main_v1 val_main_v0 val_main_c
  pointwise []
  exact near_word x y (by omega) (by omega)

/-! ## The residue layout -/

theorem q_eq (n : Fin 1) (x : Fin 8192) (h : Fin 8) (d : Fin 128) : val_main_v16 (F := Ideal) Q (ix4 n x h d) = Q (ix3 (token n x) h d) := by
  unfold val_main_v16 val_main_v15 token
  pointwise []

theorem k_eq (n : Fin 1) (x : Fin 8192) (h : Fin 8) (d : Fin 128) : val_main_v18 (F := Ideal) K (ix4 n x h d) = K (ix3 (token n x) h d) := by
  unfold val_main_v18 val_main_v17 token
  pointwise []

theorem v_eq (n : Fin 1) (x : Fin 8192) (h : Fin 8) (d : Fin 128) : val_main_v31 (F := Ideal) V (ix4 n x h d) = V (ix3 (token n x) h d) := by
  unfold val_main_v31 val_main_v30 token
  pointwise []

theorem o_eq (n : Fin 1) (x : Fin 8192) (h : Fin 8) (d : Fin 128) : val_main_v10 (F := Ideal) O (ix4 n x h d) = O (ix3 (token n x) h d) := by
  unfold val_main_v10 val_main_v9 token
  pointwise []

theorem l_eq (n : Fin 1) (x : Fin 8192) (h : Fin 8) : val_main_v24 (F := Ideal) L (ix3 n h x) = L (ix2 (token n x) h) := by
  unfold val_main_v24 val_main_v23 val_main_v22 token
  pointwise []

theorem d_eq (n : Fin 1) (x : Fin 8192) (h : Fin 8) : val_main_v14 (F := Ideal) D (ix3 n h x) = -D (ix2 (token n x) h) := by
  unfold val_main_v14 val_main_v13 val_main_v12 val_main_v11 token
  pointwise []

/-! ## Weights and their cotangents -/

theorem weight_eq (n : Fin 1) (h : Fin 8) (x y : Fin 8192) :
    val_main_v28 (F := Ideal) Q K L (ix4 n h x y) = weightAt Q K L n h x y := by
  obtain rfl := Fin.fin_one_eq_zero n
  unfold weightAt weight
  simp only [← q_eq Q, ← k_eq K, ← l_eq L]
  unfold val_main_v28 val_main_v27 val_main_v26 val_main_v25 val_main_v21 val_main_v20 val_main_v19 val_main_cst
  generalize val_main_v16 (F := Ideal) Q = q
  generalize val_main_v18 (F := Ideal) K = k
  generalize val_main_v24 (F := Ideal) L = l
  pointwise []

theorem kept_eq (n : Fin 1) (h : Fin 8) (x y : Fin 8192) :
    val_main_v29_0 (F := Ideal) Q K L (ix4 n h x y) = if near x y then weightAt Q K L n h x y else 0 := by
  obtain rfl := Fin.fin_one_eq_zero n
  rw [← weight_eq]
  unfold val_main_v29_0 val_main_v29_1 val_main_call0_v2 val_main_call0_v0 val_main_cst_0
  generalize val_main_v28 (F := Ideal) Q K L = w
  pointwise [mask_eq]
  split <;> simp_all [Scalar.select]
  pointwise []

theorem ct_eq (n : Fin 1) (h : Fin 8) (x y : Fin 8192) :
    val_main_v46 (F := Ideal) Q K V O L D (ix4 n h x y)
      = if near x y then ctAt Q K V O L D n h x y * Ideal.ofBits .f32 0x3DB504F3#32 else 0 := by
  obtain rfl := Fin.fin_one_eq_zero n
  unfold ctAt
  simp only [← weight_eq, ← o_eq O, ← v_eq V]
  unfold val_main_v46 val_main_v45 val_main_cst_2 val_main_v44 val_main_v43 val_main_v29_1 val_main_call1_v0 val_main_call1_cst val_main_v38 val_main_v37 val_main_v36 val_main_v35
  generalize val_main_v28 (F := Ideal) Q K L = w
  generalize val_main_v31 (F := Ideal) V = v
  generalize val_main_v10 (F := Ideal) O = o
  pointwise [mask_eq, d_eq]
  split
  · simp only [Scalar.select]
    rw [if_pos (by decide), sub_eq_add_neg, add_comm, mul_comm (_ + _) (w _)]
  · simp [Scalar.select]

/-! ## The results -/

theorem dq_eq (n : Fin 1) (h : Fin 8) (x : Fin 8192) (d : Fin 128) :
    val_main_v56 (F := Ideal) Q K V O L D (ix2 x (lane n h d)) = dq Q K V O L D n h x d := by
  obtain rfl := Fin.fin_one_eq_zero n
  have e : val_main_v49 (F := Ideal) Q K V O L D (ix4 0 h x d) = dq Q K V O L D 0 h x d := by
    unfold val_main_v49 dq
    generalize hw : val_main_v46 (F := Ideal) Q K V O L D = w
    pointwise []
    subst hw
    simp only [ct_eq, k_eq]
    rw [← sum_scale]
    refine Finset.sum_congr rfl fun y _ => ?_
    split
    · rw [mul_right_comm]
    · rw [zero_mul, zero_mul]
  rw [← e]
  unfold val_main_v56 val_main_v55 val_main_v54 val_main_v53 val_main_v50 lane
  generalize val_main_v49 (F := Ideal) Q K V O L D = w
  pointwise []

theorem dk_eq (n : Fin 1) (h : Fin 8) (y : Fin 8192) (d : Fin 128) :
    val_main_v58 (F := Ideal) Q K V O L D (ix2 y (lane n h d)) = dk Q K V O L D n h y d := by
  obtain rfl := Fin.fin_one_eq_zero n
  have e : val_main_v47 (F := Ideal) Q K V O L D (ix4 0 h y d) = dk Q K V O L D 0 h y d := by
    unfold val_main_v47 dk
    generalize hw : val_main_v46 (F := Ideal) Q K V O L D = w
    pointwise []
    subst hw
    simp only [ct_eq, q_eq]
    rw [← sum_scale]
    refine Finset.sum_congr rfl fun x _ => ?_
    split
    · rw [mul_right_comm]
    · rw [zero_mul, zero_mul]
  rw [← e]
  unfold val_main_v58 val_main_v57 val_main_v52 val_main_v51 val_main_v48 lane
  generalize val_main_v47 (F := Ideal) Q K V O L D = w
  pointwise []

theorem dv_eq (n : Fin 1) (h : Fin 8) (y : Fin 8192) (d : Fin 128) :
    val_main_v60 (F := Ideal) Q K O L (ix2 y (lane n h d)) = dv Q K O L n h y d := by
  obtain rfl := Fin.fin_one_eq_zero n
  have e : val_main_v39 (F := Ideal) Q K O L (ix4 0 h d y) = dv Q K O L 0 h y d := by
    unfold val_main_v39 val_main_v36 dv
    generalize hw : val_main_v29_0 (F := Ideal) Q K L = w
    pointwise []
    subst hw
    simp only [kept_eq, o_eq]
    refine Finset.sum_congr rfl fun x _ => ?_
    split
    · rw [mul_comm]
    · rw [mul_zero]
  rw [← e]
  unfold val_main_v60 val_main_v59 val_main_v42 val_main_v41 val_main_v40 lane
  generalize val_main_v39 (F := Ideal) Q K O L = w
  pointwise []

end Cert.AttnBwd1RefIdeal.Value

end
-- ==== Proof.AttnBwd1.lean ====
/- Attention's gradient between neighbouring tokens: what the windows hold, the three result arrays a run leaves, which are the reference's over
   the reals. -/
module

public import proofs.«01_k».proof.Proof.AttnBwd1Query
public import proofs.«01_k».proof.Proof.AttnBwd1Key
public import proofs.«01_k».proof.Proof.AttnBwd1Value
public import proofs.«01_k».proof.Proof.AttnBwd1Ref
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.AttnBwd1Ideal.Value

open Cert.AttnBwd1Ideal Cert.AttnBwd1Ideal.Gen
open Cert.AttnBwd1RefIdeal.Value (token lane weightAt ctAt dq dk dv)
open Cert.AttnBwdRefIdeal.Value (weight near)
open Cert.AttnBwdIdeal.Value (col laneOf headOf columnIn)
open Cert.AttnBwdIdeal.Long (Windows NarrowWindows dqOf dkOf dvOf ctOf weightOf overBlock rowIn)

/-! ## The windows -/

variable (m : (ℓ : Loc nD τ sig) → Buf (Elt Ideal) ℓ) (c : Dev nD) (t : Fin cfg0.N)

/-- The block of each window at a point: a point's own, the half block before it, the half block after it. -/
theorem idx : ∀ t : Fin cfg0.N,
    (win0_1.index t = ![t.val % 16, t.val / 16] ∧ win0_4.index t = ![t.val % 16, t.val / 16] ∧ win0_7.index t = ![t.val % 16, t.val / 16]
      ∧ win0_10.index t = ![t.val % 16, t.val / 16] ∧ win0_13.index t = ![t.val % 16, t.val / 16] ∧ win0_16.index t = ![t.val % 16, t.val / 16]
      ∧ win0_18.index t = ![t.val % 16, t.val / 16] ∧ win0_19.index t = ![t.val % 16, t.val / 16] ∧ win0_20.index t = ![t.val % 16, t.val / 16])
    ∧ (win0_0.index t = ![8 * (t.val % 16) - 1, t.val / 16] ∧ win0_3.index t = ![8 * (t.val % 16) - 1, t.val / 16]
      ∧ win0_6.index t = ![8 * (t.val % 16) - 1, t.val / 16] ∧ win0_9.index t = ![8 * (t.val % 16) - 1, t.val / 16]
      ∧ win0_12.index t = ![8 * (t.val % 16) - 1, t.val / 16] ∧ win0_15.index t = ![8 * (t.val % 16) - 1, t.val / 16])
    ∧ (win0_2.index t = ![min (8 * (t.val % 16) + 8) 127, t.val / 16] ∧ win0_5.index t = ![min (8 * (t.val % 16) + 8) 127, t.val / 16]
      ∧ win0_8.index t = ![min (8 * (t.val % 16) + 8) 127, t.val / 16] ∧ win0_11.index t = ![min (8 * (t.val % 16) + 8) 127, t.val / 16]
      ∧ win0_14.index t = ![min (8 * (t.val % 16) + 8) 127, t.val / 16] ∧ win0_17.index t = ![min (8 * (t.val % 16) + 8) 127, t.val / 16]) :=
  (by decide +kernel : ∀ t : Fin grid0.N, _)

/-- The window of the class's rows at hand, and the residue class. -/
def win (t : Fin cfg0.N) : Fin 16 := ⟨t.val % 16, by omega⟩
def cls (t : Fin cfg0.N) : Fin 1 := ⟨t.val / 16, by have : t.val < 16 := t.isLt; omega⟩

/-- The row of the class under row `a` of the half block before, and of the one after. -/
def firstRow (t : Fin cfg0.N) (a : Fin 64) : Fin 8192 := ⟨64 * (8 * (t.val % 16) - 1) + a, by omega⟩
def lastRow (t : Fin cfg0.N) (a : Fin 64) : Fin 8192 := ⟨64 * min (8 * (t.val % 16) + 8) 127 + a, by omega⟩

theorem coord : ∀ t : Fin cfg0.N, (grid0.coords t 1).val = (win t).val := (by decide +kernel : ∀ t : Fin grid0.N, (grid0.coords t 1).val = t.val % 16)

/-- The arguments: queries, keys, values, the output's cotangent, the denominators' logarithms, the means. -/
abbrev qA : FVec Ideal S8192x8x128 .f32 := m ((c : Thread nD τ).loc main_arg0)
abbrev kA : FVec Ideal S8192x8x128 .f32 := m ((c : Thread nD τ).loc main_arg1)
abbrev vA : FVec Ideal S8192x8x128 .f32 := m ((c : Thread nD τ).loc main_arg2)
abbrev oA : FVec Ideal S8192x8x128 .f32 := m ((c : Thread nD τ).loc main_arg3)
abbrev lA : FVec Ideal S8192x8 .f32 := m ((c : Thread nD τ).loc main_arg4)
abbrev dA : FVec Ideal S8192x8 .f32 := m ((c : Thread nD τ).loc main_arg5)

theorem wide_at (x : FVec Ideal S8192x8x128 .f32) (r : Fin 8192) (n : Fin 1) (h : Fin 8) (e : Fin 128) :
    shapeCast S8192x1024 (truncf .bf16 x bitsLt_bf16_f32) shapeCasts_S8192x8x128_S8192x1024 (ix2 r (lane n h e)) = x (ix3 (token n r) h e) := by
  unfold lane token
  pointwise []

/-- A narrow argument, with zeros after its eight columns, in the residue layout. -/
def narrow (x : FVec Ideal S8192x8 .f32) : FVec Ideal S8192x128 .f32 :=
  pad S8192x128 ![0, 0] ![0, 120] ![0, 0] x (sitofp .f32 (constantI S_ 32 0#32)) pads_S8192x8_S8192x128_000_01200 h_S_

theorem narrow_at (x : FVec Ideal S8192x8 .f32) (r : Fin 8192) (n : Fin 1) (h : Fin 8) :
    narrow x (ix2 r ⟨128 * n + h, by omega⟩) = x (ix2 (token n r) h) := by
  unfold narrow token
  pointwise []

theorem q_host : V m c main_v1 = (shapeCast S8192x1024 (truncf .bf16 (qA m c) bitsLt_bf16_f32) shapeCasts_S8192x8x128_S8192x1024 : FVec Ideal S8192x1024 .bf16) := by
  after_reads_simp
  rfl
theorem k_host : V m c main_v3 = (shapeCast S8192x1024 (truncf .bf16 (kA m c) bitsLt_bf16_f32) shapeCasts_S8192x8x128_S8192x1024 : FVec Ideal S8192x1024 .bf16) := by
  after_reads_simp
  rfl
theorem v_host : V m c main_v5 = (shapeCast S8192x1024 (truncf .bf16 (vA m c) bitsLt_bf16_f32) shapeCasts_S8192x8x128_S8192x1024 : FVec Ideal S8192x1024 .bf16) := by
  after_reads_simp
  rfl
theorem o_host : V m c main_v7 = (shapeCast S8192x1024 (truncf .bf16 (oA m c) bitsLt_bf16_f32) shapeCasts_S8192x8x128_S8192x1024 : FVec Ideal S8192x1024 .bf16) := by
  after_reads_simp
  rfl
theorem l_host : V m c main_v8 = (narrow (lA m c) : FVec Ideal S8192x128 .f32) := by
  after_reads_simp
  rfl
theorem d_host : V m c main_v9 = (narrow (dA m c) : FVec Ideal S8192x128 .f32) := by
  after_reads_simp
  rfl

theorem q_windows (h : Fin 8) : Windows (win t) (iblk m c 0 t) (iblk m c 1 t) (iblk m c 2 t) (fun r e => qA m c (ix3 (token (cls t) r) h e)) h where
  rows := fun r e => by
    show iblk m c 1 t (ix2 r (col h e)) = qA m c (ix3 (token (cls t) ⟨512 * (t.val % 16) + r, by omega⟩) h e)
    rw [← wide_at (qA m c), ← q_host]
    unfold cls lane col
    blk_point [iblk, (idx t).1]
  first := fun a e r hr => by
    have hr' : r.val + 64 = 512 * (t.val % 16) + a.val := hr
    obtain rfl : r = (firstRow t a) := Fin.ext (by show r.val = 64 * (8 * (t.val % 16) - 1) + a.val; omega)
    show iblk m c 0 t (ix2 a (col h e)) = qA m c (ix3 (token (cls t) (firstRow t a)) h e)
    rw [← wide_at (qA m c), ← q_host]
    unfold cls lane col firstRow
    blk_point [iblk, (idx t).2.1]
  last := fun a e r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 2 t (ix2 a (col h e)) = qA m c (ix3 (token (cls t) (lastRow t a)) h e)
    rw [← wide_at (qA m c), ← q_host]
    unfold cls lane col lastRow
    blk_point [iblk, (idx t).2.2]

theorem k_windows (h : Fin 8) : Windows (win t) (iblk m c 3 t) (iblk m c 4 t) (iblk m c 5 t) (fun r e => kA m c (ix3 (token (cls t) r) h e)) h where
  rows := fun r e => by
    show iblk m c 4 t (ix2 r (col h e)) = kA m c (ix3 (token (cls t) ⟨512 * (t.val % 16) + r, by omega⟩) h e)
    rw [← wide_at (kA m c), ← k_host]
    unfold cls lane col
    blk_point [iblk, (idx t).1]
  first := fun a e r hr => by
    have hr' : r.val + 64 = 512 * (t.val % 16) + a.val := hr
    obtain rfl : r = (firstRow t a) := Fin.ext (by show r.val = 64 * (8 * (t.val % 16) - 1) + a.val; omega)
    show iblk m c 3 t (ix2 a (col h e)) = kA m c (ix3 (token (cls t) (firstRow t a)) h e)
    rw [← wide_at (kA m c), ← k_host]
    unfold cls lane col firstRow
    blk_point [iblk, (idx t).2.1]
  last := fun a e r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 5 t (ix2 a (col h e)) = kA m c (ix3 (token (cls t) (lastRow t a)) h e)
    rw [← wide_at (kA m c), ← k_host]
    unfold cls lane col lastRow
    blk_point [iblk, (idx t).2.2]

theorem v_windows (h : Fin 8) : Windows (win t) (iblk m c 6 t) (iblk m c 7 t) (iblk m c 8 t) (fun r e => vA m c (ix3 (token (cls t) r) h e)) h where
  rows := fun r e => by
    show iblk m c 7 t (ix2 r (col h e)) = vA m c (ix3 (token (cls t) ⟨512 * (t.val % 16) + r, by omega⟩) h e)
    rw [← wide_at (vA m c), ← v_host]
    unfold cls lane col
    blk_point [iblk, (idx t).1]
  first := fun a e r hr => by
    have hr' : r.val + 64 = 512 * (t.val % 16) + a.val := hr
    obtain rfl : r = (firstRow t a) := Fin.ext (by show r.val = 64 * (8 * (t.val % 16) - 1) + a.val; omega)
    show iblk m c 6 t (ix2 a (col h e)) = vA m c (ix3 (token (cls t) (firstRow t a)) h e)
    rw [← wide_at (vA m c), ← v_host]
    unfold cls lane col firstRow
    blk_point [iblk, (idx t).2.1]
  last := fun a e r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 8 t (ix2 a (col h e)) = vA m c (ix3 (token (cls t) (lastRow t a)) h e)
    rw [← wide_at (vA m c), ← v_host]
    unfold cls lane col lastRow
    blk_point [iblk, (idx t).2.2]

theorem o_windows (h : Fin 8) : Windows (win t) (iblk m c 9 t) (iblk m c 10 t) (iblk m c 11 t) (fun r e => oA m c (ix3 (token (cls t) r) h e)) h where
  rows := fun r e => by
    show iblk m c 10 t (ix2 r (col h e)) = oA m c (ix3 (token (cls t) ⟨512 * (t.val % 16) + r, by omega⟩) h e)
    rw [← wide_at (oA m c), ← o_host]
    unfold cls lane col
    blk_point [iblk, (idx t).1]
  first := fun a e r hr => by
    have hr' : r.val + 64 = 512 * (t.val % 16) + a.val := hr
    obtain rfl : r = (firstRow t a) := Fin.ext (by show r.val = 64 * (8 * (t.val % 16) - 1) + a.val; omega)
    show iblk m c 9 t (ix2 a (col h e)) = oA m c (ix3 (token (cls t) (firstRow t a)) h e)
    rw [← wide_at (oA m c), ← o_host]
    unfold cls lane col firstRow
    blk_point [iblk, (idx t).2.1]
  last := fun a e r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 11 t (ix2 a (col h e)) = oA m c (ix3 (token (cls t) (lastRow t a)) h e)
    rw [← wide_at (oA m c), ← o_host]
    unfold cls lane col lastRow
    blk_point [iblk, (idx t).2.2]

theorem l_windows (h : Fin 8) : NarrowWindows (win t) (iblk m c 12 t) (iblk m c 13 t) (iblk m c 14 t) (fun r => lA m c (ix2 (token (cls t) r) h)) h where
  rows := fun r => by
    show iblk m c 13 t (ix2 r (laneOf h)) = lA m c (ix2 (token (cls t) ⟨512 * (t.val % 16) + r, by omega⟩) h)
    rw [← narrow_at (lA m c), ← l_host]
    unfold cls laneOf
    blk_point [iblk, (idx t).1]
  first := fun a r hr => by
    have hr' : r.val + 64 = 512 * (t.val % 16) + a.val := hr
    obtain rfl : r = (firstRow t a) := Fin.ext (by show r.val = 64 * (8 * (t.val % 16) - 1) + a.val; omega)
    show iblk m c 12 t (ix2 a (laneOf h)) = lA m c (ix2 (token (cls t) (firstRow t a)) h)
    rw [← narrow_at (lA m c), ← l_host]
    unfold cls laneOf firstRow
    blk_point [iblk, (idx t).2.1]
  last := fun a r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 14 t (ix2 a (laneOf h)) = lA m c (ix2 (token (cls t) (lastRow t a)) h)
    rw [← narrow_at (lA m c), ← l_host]
    unfold cls laneOf lastRow
    blk_point [iblk, (idx t).2.2]

theorem d_windows (h : Fin 8) : NarrowWindows (win t) (iblk m c 15 t) (iblk m c 16 t) (iblk m c 17 t) (fun r => dA m c (ix2 (token (cls t) r) h)) h where
  rows := fun r => by
    show iblk m c 16 t (ix2 r (laneOf h)) = dA m c (ix2 (token (cls t) ⟨512 * (t.val % 16) + r, by omega⟩) h)
    rw [← narrow_at (dA m c), ← d_host]
    unfold cls laneOf
    blk_point [iblk, (idx t).1]
  first := fun a r hr => by
    have hr' : r.val + 64 = 512 * (t.val % 16) + a.val := hr
    obtain rfl : r = (firstRow t a) := Fin.ext (by show r.val = 64 * (8 * (t.val % 16) - 1) + a.val; omega)
    show iblk m c 15 t (ix2 a (laneOf h)) = dA m c (ix2 (token (cls t) (firstRow t a)) h)
    rw [← narrow_at (dA m c), ← d_host]
    unfold cls laneOf firstRow
    blk_point [iblk, (idx t).2.1]
  last := fun a r hr => by
    have hr' : r.val = 512 * (t.val % 16) + 512 + a.val := hr
    have hb : r.val < 8192 := r.isLt
    obtain rfl : r = (lastRow t a) := Fin.ext (by show r.val = 64 * min (8 * (t.val % 16) + 8) 127 + a.val; omega)
    show iblk m c 17 t (ix2 a (laneOf h)) = dA m c (ix2 (token (cls t) (lastRow t a)) h)
    rw [← narrow_at (dA m c), ← d_host]
    unfold cls laneOf lastRow
    blk_point [iblk, (idx t).2.2]

/-! ## The result arrays -/

/-- A result array of the residue layout from its entry at a class, a head, a row and a column. -/
def overClasses (f : Fin 1 → Fin 8 → Fin 8192 → Fin 128 → EReal) : FVec Ideal S8192x1024 .bf16 := fun i =>
  have h : (i 1).val < 1024 := (i 1).isLt
  f ⟨(i 1).val / 1024, by omega⟩ ⟨(i 1).val / 128 % 8, by omega⟩ (i 0) ⟨(i 1).val % 128, by omega⟩

theorem overClasses_at (f : Fin 1 → Fin 8 → Fin 8192 → Fin 128 → EReal) (x : Fin 8192) (n : Fin 1) (h : Fin 8) (d : Fin 128) :
    overClasses f (ix2 x (lane n h d)) = f n h x d := by
  have hn : (⟨(1024 * n.val + 128 * h.val + d.val) / 1024, by omega⟩ : Fin 1) = n := Fin.ext (by show (_ : ℕ) / 1024 = _; omega)
  have hh : (⟨(1024 * n.val + 128 * h.val + d.val) / 128 % 8, by omega⟩ : Fin 8) = h := Fin.ext (by show (_ : ℕ) / 128 % 8 = _; omega)
  have hd : (⟨(1024 * n.val + 128 * h.val + d.val) % 128, by omega⟩ : Fin 128) = d := Fin.ext (by show (_ : ℕ) % 128 = _; omega)
  show f ⟨(1024 * n.val + 128 * h.val + d.val) / 1024, _⟩ ⟨(1024 * n.val + 128 * h.val + d.val) / 128 % 8, _⟩ x
    ⟨(1024 * n.val + 128 * h.val + d.val) % 128, _⟩ = _
  rw [hn, hh, hd]

theorem place (i : S8192x1024.Idx) : ∃ (x : Fin 8192) (n : Fin 1) (h : Fin 8) (d : Fin 128), i = ix2 x (lane n h d) := by
  have hi : (i 1).val < 1024 := (i 1).isLt
  refine ⟨i 0, ⟨(i 1).val / 1024, by omega⟩, ⟨(i 1).val / 128 % 8, by omega⟩, ⟨(i 1).val % 128, by omega⟩, ?_⟩
  funext a
  match a with
  | ⟨0, _⟩ => rfl
  | ⟨1, _⟩ => exact Fin.ext (by show (i 1).val = 1024 * ((i 1).val / 1024) + 128 * ((i 1).val / 128 % 8) + (i 1).val % 128; omega)

/-- The row of a class under a row of the window at hand. -/
def rowOf (t : Fin cfg0.N) (r : Fin 512) : Fin 8192 := ⟨512 * (t.val % 16) + r, by omega⟩

/-- The entry under an index of a class's block. -/
theorem overClasses_block (f : Fin 1 → Fin 8 → Fin 8192 → Fin 128 → EReal) (t : Fin cfg0.N) (y : S512x1024.Idx) (i : S8192x1024.Idx)
    (h0 : (i 0).val = 512 * (t.val % 16) + (y 0).val) (h1 : (i 1).val = 1024 * (t.val / 16) + (y 1).val) :
    overClasses f i = f (cls t) (headOf (y 1)) (rowOf t (y 0)) (columnIn (y 1)) := by
  have ht : t.val < 16 := t.isLt
  have hy : (y 1).val < 1024 := (y 1).isLt
  have e : i = ix2 (rowOf t (y 0)) (lane (cls t) (headOf (y 1)) (columnIn (y 1))) := by
    funext a
    match a with
    | ⟨0, _⟩ => exact Fin.ext h0
    | ⟨1, _⟩ => exact Fin.ext (h1.trans (by
        show 1024 * (t.val / 16) + (y 1).val = 1024 * (t.val / 16) + 128 * ((y 1).val / 128) + (y 1).val % 128
        omega))
  rw [e]
  exact overClasses_at f (rowOf t (y 0)) (cls t) (headOf (y 1)) (columnIn (y 1))

theorem final_dq : (dats m 0 c).arrAt 18 (cfgs 0).N = Cert.AttnBwd1RefIdeal.Read.val_main_v56 (F := Ideal) (qA m c) (kA m c) (vA m c) (oA m c) (lA m c) (dA m c) := by
  have e : Cert.AttnBwd1RefIdeal.Read.val_main_v56 (F := Ideal) (qA m c) (kA m c) (vA m c) (oA m c) (lA m c) (dA m c) = overClasses (dq (qA m c) (kA m c) (vA m c) (oA m c) (lA m c) (dA m c)) := funext fun i => by
    obtain ⟨x, n, h, d, rfl⟩ := place i
    rw [Cert.AttnBwd1RefIdeal.Value.dq_eq, overClasses_at]
  rw [e]
  refine (dats m 0 c).arrAt_eq_of_covers 18 _ (by decide +kernel) fun t hf y => ?_
  rw [after0_18, query_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dq (qA m c) (kA m c) (vA m c) (oA m c) (lA m c) (dA m c) (cls t) (headOf (y 1)) (rowOf t (y 0)) (columnIn (y 1))) rfl (overClasses_block _ t y _ ?_ ?_).symm
  · blk_simp [(idx t).1]
    exact congrArg (· + (y 0 : ℕ)) (Nat.mul_comm _ 512)
  · blk_simp [(idx t).1]
    exact congrArg (· + (y 1 : ℕ)) (Nat.mul_comm _ 1024)

theorem final_dk : (dats m 0 c).arrAt 19 (cfgs 0).N = Cert.AttnBwd1RefIdeal.Read.val_main_v58 (F := Ideal) (qA m c) (kA m c) (vA m c) (oA m c) (lA m c) (dA m c) := by
  have e : Cert.AttnBwd1RefIdeal.Read.val_main_v58 (F := Ideal) (qA m c) (kA m c) (vA m c) (oA m c) (lA m c) (dA m c) = overClasses (dk (qA m c) (kA m c) (vA m c) (oA m c) (lA m c) (dA m c)) := funext fun i => by
    obtain ⟨x, n, h, d, rfl⟩ := place i
    rw [Cert.AttnBwd1RefIdeal.Value.dk_eq, overClasses_at]
  rw [e]
  refine (dats m 0 c).arrAt_eq_of_covers 19 _ (by decide +kernel) fun t hf y => ?_
  rw [after0_19, key_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dk (qA m c) (kA m c) (vA m c) (oA m c) (lA m c) (dA m c) (cls t) (headOf (y 1)) (rowOf t (y 0)) (columnIn (y 1))) rfl (overClasses_block _ t y _ ?_ ?_).symm
  · blk_simp [(idx t).1]
    exact congrArg (· + (y 0 : ℕ)) (Nat.mul_comm _ 512)
  · blk_simp [(idx t).1]
    exact congrArg (· + (y 1 : ℕ)) (Nat.mul_comm _ 1024)

theorem final_dv : (dats m 0 c).arrAt 20 (cfgs 0).N = Cert.AttnBwd1RefIdeal.Read.val_main_v60 (F := Ideal) (qA m c) (kA m c) (oA m c) (lA m c) := by
  have e : Cert.AttnBwd1RefIdeal.Read.val_main_v60 (F := Ideal) (qA m c) (kA m c) (oA m c) (lA m c) = overClasses (dv (qA m c) (kA m c) (oA m c) (lA m c)) := funext fun i => by
    obtain ⟨x, n, h, d, rfl⟩ := place i
    rw [Cert.AttnBwd1RefIdeal.Value.dv_eq, overClasses_at]
  rw [e]
  refine (dats m 0 c).arrAt_eq_of_covers 20 _ (by decide +kernel) fun t hf y => ?_
  rw [after0_20, value_canon _ _ _ _ _ _ _ _ _ _ _ _ _ _ _ _ _ _ (fun h r e => qA m c (ix3 (token (cls t) r) h e)) (fun h r e => kA m c (ix3 (token (cls t) r) h e))
    (fun h r e => vA m c (ix3 (token (cls t) r) h e)) (fun h r e => oA m c (ix3 (token (cls t) r) h e)) (fun h r => lA m c (ix2 (token (cls t) r) h))
    (fun h r => dA m c (ix2 (token (cls t) r) h)) _ (win t) (coord t) (q_windows m c t) (k_windows m c t) (v_windows m c t) (o_windows m c t)
    (l_windows m c t) (d_windows m c t)]
  refine Eq.trans (b := dv (qA m c) (kA m c) (oA m c) (lA m c) (cls t) (headOf (y 1)) (rowOf t (y 0)) (columnIn (y 1))) ?_ (overClasses_block _ t y _ ?_ ?_).symm
  · show dvOf (fun r e => qA m c (ix3 (token (cls t) r) (headOf (y 1)) e))
      (fun r e => kA m c (ix3 (token (cls t) r) (headOf (y 1)) e)) (fun r e => oA m c (ix3 (token (cls t) r) (headOf (y 1)) e))
      (fun r => lA m c (ix2 (token (cls t) r) (headOf (y 1)))) (rowIn (win t) (y 0)) (columnIn (y 1)) = _
    unfold dvOf dv
    exact Finset.sum_congr rfl fun x _ => rfl
  · blk_simp [(idx t).1]
    exact congrArg (· + (y 0 : ℕ)) (Nat.mul_comm _ 512)
  · blk_simp [(idx t).1]
    exact congrArg (· + (y 1 : ℕ)) (Nat.mul_comm _ 1024)

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v10_0) = (dats m 0 c).arrAt 18 (cfgs 0).N
      ∧ r.2.mem ((c.tc : Thread nD τ).loc main_v10_1) = (dats m 0 c).arrAt 19 (cfgs 0).N
      ∧ r.2.mem ((c.tc : Thread nD τ).loc main_v10_2) = (dats m 0 c).arrAt 20 (cfgs 0).N) :=
  (θ_run defs _ _).mono (fun _ h c => ⟨(h c).1 18, (h c).1 19, (h c).1 20⟩) (run_main m ρ)

theorem run : θ_run defs (onTc (τ := τ) (main (F := Ideal))) ⟨m, fun _ => 0, ρ⟩ (fun r => ∀ c : Dev nD,
      r.2.mem ((c.tc : Thread nD τ).loc main_v10_0)
          = Cert.AttnBwd1RefIdeal.Read.val_main_v56 (F := Ideal) (qA m c) (kA m c) (vA m c) (oA m c) (lA m c) (dA m c)
      ∧ r.2.mem ((c.tc : Thread nD τ).loc main_v10_1)
          = Cert.AttnBwd1RefIdeal.Read.val_main_v58 (F := Ideal) (qA m c) (kA m c) (vA m c) (oA m c) (lA m c) (dA m c)
      ∧ r.2.mem ((c.tc : Thread nD τ).loc main_v10_2)
          = Cert.AttnBwd1RefIdeal.Read.val_main_v60 (F := Ideal) (qA m c) (kA m c) (oA m c) (lA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).1).trans (final_dq m c), ((h.1 c).2.1).trans (final_dk m c), ((h.1 c).2.2).trans (final_dv m c), h.2 c⟩)
    (θ_run_and (run_arrays m ρ) (unchanged m ρ))

end Cert.AttnBwd1Ideal.Value

end
-- ==== Proof.Norm1.lean ====
/- The norm before the two mixers: the result array a run leaves is the reference's over the reals. -/
module

public import proofs.«01_k».proof.Proof.Gen.Norm1Ideal.Frame
public import proofs.«01_k».proof.Proof.Gen.Norm1RefIdeal.Read
public import proofs.«01_k».proof.Proof.RmsBwdRef
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Norm1RefIdeal.Value

open Cert.Norm1RefIdeal Cert.Norm1RefIdeal.Gen Cert.Norm1RefIdeal.Read
open Cert.RmsBwdRefIdeal.Value (meanSq)

theorem norm_eq (X : FVec Ideal S8192x2048 .f32) (G : FVec Ideal S1x2048 .f32) (s : Fin 8192) (j : Fin 2048) :
    val_main_v14 (F := Ideal) X G (ix2 s j) = X (ix2 s j) * Ideal.rsqrt (meanSq fun k => X (ix2 s k)) * G (ix2 0 j) := by
  unfold meanSq val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []

end Cert.Norm1RefIdeal.Value

namespace Cert.Norm1Ideal.Value

open Cert.Norm1Ideal Cert.Norm1Ideal.Gen
open Cert.RmsBwdRefIdeal.Value (meanSq)

theorem norm_at (x : Vec Ideal S256x2048 .f32) (g : Vec Ideal S1x2048 .f32) (k : Fin 256) (j : Fin 2048) :
    k0_pay1 (F := Ideal) x g (ix2 k j) = x (ix2 k j) * Ideal.rsqrt (meanSq fun l => x (ix2 k l)) * g (ix2 0 j) := by
  unfold meanSq
  pointwise [k0_pay1]

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0] :=
  (by decide +kernel : ∀ t : Fin grid0.N, _)

abbrev inA : FVec Ideal Cert.Norm1RefIdeal.S8192x2048 .f32 := m ((c : Thread nD τ).loc main_arg0)
abbrev gainA : FVec Ideal Cert.Norm1RefIdeal.S1x2048 .f32 := m ((c : Thread nD τ).loc main_arg1)

/-- The row of an array under row `k` of the tile at hand. -/
def rowA (t : Fin cfg0.N) (k : Fin 256) : Fin 8192 := ⟨256 * t.val + k, by have : t.val < 32 := t.isLt; omega⟩

theorem block0 (k : Fin 256) (j : Fin 2048) : iblk m c 0 t (ix2 k j) = inA m c (ix2 (rowA t k) j) := by
  unfold inA rowA
  rw [← V_main_arg0 m c]
  blk_point [iblk, idx t]

theorem block1 (j : Fin 2048) : iblk m c 1 t (ix2 0 j) = gainA m c (ix2 0 j) := by
  unfold gainA
  rw [← V_main_arg1 m c]
  blk_point [iblk, idx t]

theorem row_col {a b : ℕ} (i : (⟨2, ![a, b]⟩ : Shape).Idx) : ∃ (s : Fin a) (j : Fin b), i = ix2 s j :=
  ⟨i 0, i 1, by funext d; match d with | ⟨0, _⟩ => rfl | ⟨1, _⟩ => rfl⟩

def normAt (s : Fin 8192) (j : Fin 2048) : EReal :=
  inA m c (ix2 s j) * Ideal.rsqrt (meanSq fun k => inA m c (ix2 s k)) * gainA m c (ix2 0 j)

theorem point (y : S256x2048.Idx) : out0_2 (F := Ideal) (iblk m c 0 t) (iblk m c 1 t) y = normAt m c (rowA t (y 0)) (y 1) := by
  obtain ⟨k, j, rfl⟩ : ∃ (k : Fin 256) (j : Fin 2048), y = ix2 k j := row_col y
  have p : k0_pay1 (F := Ideal) (iblk m c 0 t) (iblk m c 1 t) (ix2 k j) = normAt m c (rowA t k) j := by
    rw [norm_at]
    unfold normAt
    simp only [block0, block1]
  refine Eq.trans ?_ p
  frame_out

theorem final : (dats m 0 c).arrAt 2 (cfgs 0).N = Cert.Norm1RefIdeal.Read.val_main_v14 (F := Ideal) (inA m c) (gainA m c) := by
  have e : Cert.Norm1RefIdeal.Read.val_main_v14 (F := Ideal) (inA m c) (gainA m c) = fun i => normAt m c (i 0) (i 1) := funext fun i => by
    obtain ⟨s, j, rfl⟩ := row_col i
    rw [Cert.Norm1RefIdeal.Value.norm_eq]
    rfl
  rw [e]
  refine (dats m 0 c).arrAt_eq_of_covers 2 _ (by decide +kernel) fun t hf y => ?_
  rw [after0_2, point m c t]
  refine congrArg₂ (normAt m c) (Fin.ext ?_) (Fin.ext ?_)
  · unfold rowA
    blk_simp [idx t]
    exact congrArg (· + (y 0 : ℕ)) (Nat.mul_comm 256 _)
  · blk_simp [idx t]

end Cert.Norm1Ideal.Value

end
-- ==== Proof.Norm2.lean ====
/- The norm before the feed-forward: the result array a run leaves is the reference's over the reals. -/
module

public import proofs.«01_k».proof.Proof.Gen.Norm2Ideal.Frame
public import proofs.«01_k».proof.Proof.Gen.Norm2RefIdeal.Read
public import proofs.«01_k».proof.Proof.RmsBwdRef
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Norm2RefIdeal.Value

open Cert.Norm2RefIdeal Cert.Norm2RefIdeal.Gen Cert.Norm2RefIdeal.Read
open Cert.RmsBwdRefIdeal.Value (meanSq)

theorem norm_eq (X : FVec Ideal S8192x2048 .f32) (G : FVec Ideal S1x2048 .f32) (s : Fin 8192) (j : Fin 2048) :
    val_main_v14 (F := Ideal) X G (ix2 s j) = X (ix2 s j) * Ideal.rsqrt (meanSq fun k => X (ix2 s k)) * G (ix2 0 j) := by
  unfold meanSq val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []

end Cert.Norm2RefIdeal.Value

namespace Cert.Norm2Ideal.Value

open Cert.Norm2Ideal Cert.Norm2Ideal.Gen
open Cert.RmsBwdRefIdeal.Value (meanSq)

theorem norm_at (x : Vec Ideal S256x2048 .f32) (g : Vec Ideal S1x2048 .f32) (k : Fin 256) (j : Fin 2048) :
    k0_pay1 (F := Ideal) x g (ix2 k j) = x (ix2 k j) * Ideal.rsqrt (meanSq fun l => x (ix2 k l)) * g (ix2 0 j) := by
  unfold meanSq
  pointwise [k0_pay1]

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0] :=
  (by decide +kernel : ∀ t : Fin grid0.N, _)

abbrev inA : FVec Ideal Cert.Norm2RefIdeal.S8192x2048 .f32 := m ((c : Thread nD τ).loc main_arg0)
abbrev gainA : FVec Ideal Cert.Norm2RefIdeal.S1x2048 .f32 := m ((c : Thread nD τ).loc main_arg1)

/-- The row of an array under row `k` of the tile at hand. -/
def rowA (t : Fin cfg0.N) (k : Fin 256) : Fin 8192 := ⟨256 * t.val + k, by have : t.val < 32 := t.isLt; omega⟩

theorem block0 (k : Fin 256) (j : Fin 2048) : iblk m c 0 t (ix2 k j) = inA m c (ix2 (rowA t k) j) := by
  unfold inA rowA
  rw [← V_main_arg0 m c]
  blk_point [iblk, idx t]

theorem block1 (j : Fin 2048) : iblk m c 1 t (ix2 0 j) = gainA m c (ix2 0 j) := by
  unfold gainA
  rw [← V_main_arg1 m c]
  blk_point [iblk, idx t]

theorem row_col {a b : ℕ} (i : (⟨2, ![a, b]⟩ : Shape).Idx) : ∃ (s : Fin a) (j : Fin b), i = ix2 s j :=
  ⟨i 0, i 1, by funext d; match d with | ⟨0, _⟩ => rfl | ⟨1, _⟩ => rfl⟩

def normAt (s : Fin 8192) (j : Fin 2048) : EReal :=
  inA m c (ix2 s j) * Ideal.rsqrt (meanSq fun k => inA m c (ix2 s k)) * gainA m c (ix2 0 j)

theorem point (y : S256x2048.Idx) : out0_2 (F := Ideal) (iblk m c 0 t) (iblk m c 1 t) y = normAt m c (rowA t (y 0)) (y 1) := by
  obtain ⟨k, j, rfl⟩ : ∃ (k : Fin 256) (j : Fin 2048), y = ix2 k j := row_col y
  have p : k0_pay1 (F := Ideal) (iblk m c 0 t) (iblk m c 1 t) (ix2 k j) = normAt m c (rowA t k) j := by
    rw [norm_at]
    unfold normAt
    simp only [block0, block1]
  refine Eq.trans ?_ p
  frame_out

theorem final : (dats m 0 c).arrAt 2 (cfgs 0).N = Cert.Norm2RefIdeal.Read.val_main_v14 (F := Ideal) (inA m c) (gainA m c) := by
  have e : Cert.Norm2RefIdeal.Read.val_main_v14 (F := Ideal) (inA m c) (gainA m c) = fun i => normAt m c (i 0) (i 1) := funext fun i => by
    obtain ⟨s, j, rfl⟩ := row_col i
    rw [Cert.Norm2RefIdeal.Value.norm_eq]
    rfl
  rw [e]
  refine (dats m 0 c).arrAt_eq_of_covers 2 _ (by decide +kernel) fun t hf y => ?_
  rw [after0_2, point m c t]
  refine congrArg₂ (normAt m c) (Fin.ext ?_) (Fin.ext ?_)
  · unfold rowA
    blk_simp [idx t]
    exact congrArg (· + (y 0 : ℕ)) (Nat.mul_comm 256 _)
  · blk_simp [idx t]

end Cert.Norm2Ideal.Value

end
-- ==== Proof.Norm1BwdRef.lean ====
/- The reference of the first norm's gradient at an index. -/
module

public import proofs.«01_k».proof.Proof.Gen.Norm1BwdRefIdeal.Read
public import proofs.«01_k».proof.Proof.RmsBwdRef
public import Idealize.ShloMosaic.Lib.Pipeline.ValueKit

@[expose] public section

set_option maxRecDepth 16384

noncomputable section

open Idealize.ShloMosaic Idealize.ShloMosaic.TcCoe Idealize.SL.Sem

namespace Cert.Norm1BwdRefIdeal.Value

open Cert.Norm1BwdRefIdeal Cert.Norm1BwdRefIdeal.Gen Cert.Norm1BwdRefIdeal.Read
open Cert.RmsBwdRefIdeal.Value (meanSq rowRule)

variable (D X : FVec Ideal S8192x2048 .f32) (G : FVec Ideal S1x2048 .f32) (R : FVec Ideal S8192x2048 .f32)

theorem w_eq (s : Fin 8192) : val_main_v7 (F := Ideal) X (ix2 s 0) = meanSq (fun k => X (ix2 s k)) := by
  unfold val_main_v7 val_main_v6 val_main_v5 val_main_v4 val_main_v3 val_main_v2 val_main_v1 val_main_cst val_main_cst_0 val_main_cst_1 meanSq
  pointwise []

theorem dx_eq (s : Fin 8192) (j : Fin 2048) : val_main_v37 (F := Ideal) D X G R (ix2 s j)
    = rowRule (R (ix2 s j)) (D (ix2 s j) * G (ix2 0 j)) (X (ix2 s j)) (meanSq (fun k => X (ix2 s k)))
        (∑ k : Fin 2048, X (ix2 s k) * (D (ix2 s k) * G (ix2 0 k))) := by
  rw [← w_eq]
  unfold rowRule val_main_v37 val_main_v36 val_main_v35 val_main_v34 val_main_v33 val_main_v32 val_main_v31 val_main_v30 val_main_v29 val_main_v28 val_main_v27 val_main_v26 val_main_v25 val_main_v24 val_main_v23 val_main_v21 val_main_v20 val_main_v14 val_main_v0 val_main_v11 val_main_v10 val_main_v9 val_main_v8 val_main_cst_2 val_main_cst_5 val_main_cst_6 val_main_cst_7
  generalize val_main_v7 (F := Ideal) X = w
  pointwise []
  simp only [Fin.sum_univ_one]

theorem dg_eq (j : Fin 2048) : val_main_v38 (F := Ideal) D X (ix2 0 j)
    = ∑ s : Fin 8192, X (ix2 s j) * Ideal.rsqrt (meanSq (fun k => X (ix2 s k))) * D (ix2 s j) := by
  simp only [← w_eq]
  unfold val_main_v38 val_main_v22 val_main_v19 val_main_v18 val_main_v17 val_main_v13 val_main_v12 val_main_v8 val_main_cst_3 val_main_cst_4
  generalize val_main_v7 (F := Ideal) X = w
  pointwise []
  simp only [Fin.sum_univ_one]

end Cert.Norm1BwdRefIdeal.Value

end
-- ==== Proof.Norm1Bwd.lean ====
/- The first norm's gradient: what each point leaves, the sum over the points before it, and the two result arrays, which are
   the reference's over the reals. -/
module

public import proofs.«01_k».proof.Proof.Gen.Norm1BwdIdeal.Frame
public import proofs.«01_k».proof.Proof.Norm1BwdRef
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Norm1BwdIdeal.Value

open Cert.Norm1BwdIdeal Cert.Norm1BwdIdeal.Gen
open Cert.RmsBwdRefIdeal.Value (meanSq meanSq_pos rowRule rowRule_eq)

/-! ## The payloads at an index -/

section

variable (x d r : Vec Ideal S256x2048 .f32) (g a : Vec Ideal S1x2048 .f32) (k : Fin 256) (j : Fin 2048)

theorem rms_at : k0_pay2 (F := Ideal) x (ix2 k 0) = Ideal.rsqrt (meanSq fun l => x (ix2 k l)) := by
  unfold meanSq
  pointwise [k0_pay2]

theorem dx_at : k0_pay3 (F := Ideal) x d g r (ix2 k j)
    = rowRule (r (ix2 k j)) (d (ix2 k j) * g (ix2 0 j)) (x (ix2 k j)) (meanSq fun l => x (ix2 k l))
        (∑ l : Fin 2048, x (ix2 k l) * (d (ix2 k l) * g (ix2 0 l))) := by
  rw [rowRule_eq _ _ _ _ _ (meanSq_pos _), ← rms_at, Finset.sum_congr rfl fun l _ => mul_comm (x (ix2 k l)) (d (ix2 k l) * g (ix2 0 l))]
  unfold k0_pay3
  generalize k0_pay2 (F := Ideal) x = w
  pointwise []

theorem dg_at : k0_pay1 (F := Ideal) a (k0_pay6 (F := Ideal) x d) (ix2 0 j)
    = a (ix2 0 j) + ∑ k : Fin 256, x (ix2 k j) * Ideal.rsqrt (meanSq fun l => x (ix2 k l)) * d (ix2 k j) := by
  simp only [← rms_at]
  unfold k0_pay1 k0_pay6
  generalize k0_pay2 (F := Ideal) x = w
  rw [Finset.sum_congr rfl fun k _ => show x (ix2 k j) * w (ix2 k 0) * d (ix2 k j) = d (ix2 k j) * x (ix2 k j) * w (ix2 k 0) by
    rw [mul_comm _ (d _), mul_assoc]]
  pointwise []

end

/-! ## The windows -/

variable (m : (ℓ : Loc nD τ sig) → Buf (Elt Ideal) ℓ) (c : Dev nD) (t : Fin cfg0.N)

theorem idx : ∀ t : Fin cfg0.N,
    win0_0.index t = ![t.val, 0] ∧ win0_1.index t = ![t.val, 0] ∧ win0_2.index t = ![0, 0] ∧ win0_3.index t = ![t.val, 0]
      ∧ win0_4.index t = ![t.val, 0] ∧ win0_5.index t = ![0, 0] :=
  (by decide +kernel : ∀ t : Fin grid0.N, _)

/-- The arguments: the cotangent, the input, the gain, the cotangent that has come back beside the norm. -/
abbrev ctA : FVec Ideal Cert.Norm1BwdRefIdeal.S8192x2048 .f32 := m ((c : Thread nD τ).loc main_arg0)
abbrev inA : FVec Ideal Cert.Norm1BwdRefIdeal.S8192x2048 .f32 := m ((c : Thread nD τ).loc main_arg1)
abbrev gainA : FVec Ideal Cert.Norm1BwdRefIdeal.S1x2048 .f32 := m ((c : Thread nD τ).loc main_arg2)
abbrev besideA : FVec Ideal Cert.Norm1BwdRefIdeal.S8192x2048 .f32 := m ((c : Thread nD τ).loc main_arg3)

/-- The row of an array under row `k` of the tile at hand. -/
def rowA (t : Fin cfg0.N) (k : Fin 256) : Fin 8192 := ⟨256 * t.val + k, by have : t.val < 32 := t.isLt; omega⟩

theorem block0 (k : Fin 256) (j : Fin 2048) : iblk m c 0 t (ix2 k j) = ctA m c (ix2 (rowA t k) j) := by
  unfold ctA rowA
  rw [← V_main_arg0 m c]
  blk_point [iblk, idx t]

theorem block1 (k : Fin 256) (j : Fin 2048) : iblk m c 1 t (ix2 k j) = inA m c (ix2 (rowA t k) j) := by
  unfold inA rowA
  rw [← V_main_arg1 m c]
  blk_point [iblk, idx t]

theorem block2 (j : Fin 2048) : iblk m c 2 t (ix2 0 j) = gainA m c (ix2 0 j) := by
  unfold gainA
  rw [← V_main_arg2 m c]
  blk_point [iblk, idx t]

theorem block3 (k : Fin 256) (j : Fin 2048) : iblk m c 3 t (ix2 k j) = besideA m c (ix2 (rowA t k) j) := by
  unfold besideA rowA
  rw [← V_main_arg3 m c]
  blk_point [iblk, idx t]

/-! ## What a point leaves -/

/-- The gradient of a row, at a column, and a row's part of the gain's. -/
def dxAt (s : Fin 8192) (j : Fin 2048) : EReal :=
  rowRule (besideA m c (ix2 s j)) (ctA m c (ix2 s j) * gainA m c (ix2 0 j)) (inA m c (ix2 s j)) (meanSq fun l => inA m c (ix2 s l))
    (∑ l : Fin 2048, inA m c (ix2 s l) * (ctA m c (ix2 s l) * gainA m c (ix2 0 l)))

def dgRow (s : Fin 8192) (j : Fin 2048) : EReal :=
  inA m c (ix2 s j) * Ideal.rsqrt (meanSq fun l => inA m c (ix2 s l)) * ctA m c (ix2 s j)

/-- The rows of tile `q` in the gain's sum. -/
def dgPart (j : Fin 2048) (q : ℕ) : EReal := ∑ k : Fin 256, if h : 256 * q + k < 8192 then dgRow m c ⟨256 * q + k, h⟩ j else 0

theorem dgPart_at (j : Fin 2048) : dgPart m c j t.val = ∑ k : Fin 256, dgRow m c (rowA t k) j := by
  have : t.val < 32 := t.isLt
  exact Finset.sum_congr rfl fun k _ => dif_pos (by omega)

theorem dx_tile (k : Fin 256) (j : Fin 2048) :
    k0_pay3 (F := Ideal) (iblk m c 1 t) (iblk m c 0 t) (iblk m c 2 t) (iblk m c 3 t) (ix2 k j) = dxAt m c (rowA t k) j := by
  rw [dx_at]
  unfold dxAt
  simp only [block0, block1, block2, block3]

theorem dg_tile (a : Vec Ideal S1x2048 .f32) (j : Fin 2048) :
    k0_pay1 (F := Ideal) a (k0_pay6 (F := Ideal) (iblk m c 1 t) (iblk m c 0 t)) (ix2 0 j) = a (ix2 0 j) + dgPart m c j t.val := by
  rw [dg_at, dgPart_at]
  unfold dgRow
  simp only [block0, block1]

variable {t}

theorem row_col {a b : ℕ} (i : (⟨2, ![a, b]⟩ : Shape).Idx) : ∃ (s : Fin a) (j : Fin b), i = ix2 s j :=
  ⟨i 0, i 1, by funext d; match d with | ⟨0, _⟩ => rfl | ⟨1, _⟩ => rfl⟩

theorem dx_point (t : Fin cfg0.N) (y : S256x2048.Idx) : (outsAt0 m c t.val t.isLt).1 y = dxAt m c (rowA t (y 0)) (y 1) := by
  obtain ⟨k, j, rfl⟩ : ∃ (k : Fin 256) (j : Fin 2048), y = ix2 k j := row_col y
  show _ = dxAt m c (rowA t k) j
  rw [← dx_tile]
  by_cases h0 : t.val % 32 = 0
  · rw [outsAt0_A m c t h0]
    frame_out
  · rw [outsAt0_B m c t h0]
    frame_out

theorem dg_A (h0 : t.val % 32 = 0) (j : Fin 2048) : (outsAt0 m c t.val t.isLt).2 (ix2 0 j) = dgPart m c j t.val := by
  rw [outsAt0_A m c t h0]
  frame_out
  refine (dg_tile m c t _ j).trans ?_
  pointwise [k0_pay5, k0_pay4]

theorem dg_B (h0 : ¬t.val % 32 = 0) (j : Fin 2048) : (outsAt0 m c t.val t.isLt).2 (ix2 0 j)
    = (outsAt0 m c (t.val - 1) (Nat.lt_of_le_of_lt (Nat.sub_le _ _) t.isLt)).2 (ix2 0 j) + dgPart m c j t.val := by
  rw [outsAt0_B m c t h0]
  frame_out
  refine (dg_tile m c t _ j).trans (congrArg (· + dgPart m c j t.val) ?_)
  generalize (outsAt0 m c (t.val - 1) _).2 = a
  pointwise [k0_pay5]

/-- A point leaves the gain's sum over the tiles so far. -/
theorem dg_point : ∀ (n : ℕ) (t : Fin cfg0.N), t.val = n → ∀ j : Fin 2048,
    (outsAt0 m c t.val t.isLt).2 (ix2 0 j) = ∑ q ∈ Finset.range (t.val + 1), dgPart m c j q := fun n => by
  induction n with
  | zero =>
    intro t ht j
    rw [dg_A m c (by omega), ht]
    simp
  | succ n ih =>
    intro t ht j
    have hN : t.val < 32 := t.isLt
    rw [dg_B m c (by omega), ih ⟨t.val - 1, by omega⟩ (by show t.val - 1 = n; omega), Finset.sum_range_succ _ t.val]
    exact congrArg (fun n => ∑ q ∈ Finset.range n, dgPart m c j q + dgPart m c j t.val) (by show t.val - 1 + 1 = t.val; omega)

theorem dg_last (t : Fin cfg0.N) (y : S1x2048.Idx) :
    (outsAt0 m c t.val t.isLt).2 y = ∑ q ∈ Finset.range (t.val + 1), dgPart m c (y 1) q := by
  obtain ⟨k, j, rfl⟩ : ∃ (k : Fin 1) (j : Fin 2048), y = ix2 k j := row_col y
  obtain rfl := Fin.fin_one_eq_zero k
  exact dg_point m c t.val t rfl j

/-! ## The result arrays -/

theorem dg_sum (j : Fin 2048) : ∑ q ∈ Finset.range 32, dgPart m c j q = ∑ s : Fin 8192, dgRow m c s j := by
  rw [Finset.sum_range]
  unfold dgPart
  rw [← Finset.sum_product', ← finProdFinEquiv.sum_comp (fun s : Fin (32 * 256) => dgRow m c s j)]
  refine Finset.sum_congr rfl fun p _ => ?_
  rw [dif_pos (by omega)]
  exact congrArg (dgRow m c · j) (Fin.ext (by show 256 * p.1.val + p.2.val = p.2.val + 256 * p.1.val; omega))

theorem final_dx : (dats m 0 c).arrAt 4 (cfgs 0).N
    = Cert.Norm1BwdRefIdeal.Read.val_main_v37 (F := Ideal) (ctA m c) (inA m c) (gainA m c) (besideA m c) := by
  have e : Cert.Norm1BwdRefIdeal.Read.val_main_v37 (F := Ideal) (ctA m c) (inA m c) (gainA m c) (besideA m c)
      = fun i => dxAt m c (i 0) (i 1) := funext fun i => by
    obtain ⟨s, j, rfl⟩ := row_col i
    rw [Cert.Norm1BwdRefIdeal.Value.dx_eq]
    rfl
  rw [e]
  refine (dats m 0 c).arrAt_eq_of_covers 4 _ (by decide +kernel) fun t hf y => ?_
  rw [after0_4, dx_point m c t]
  refine congrArg₂ (dxAt m c) (Fin.ext ?_) (Fin.ext ?_)
  · unfold rowA
    blk_simp [idx t]
    exact congrArg (· + (y 0 : ℕ)) (Nat.mul_comm 256 _)
  · blk_simp [idx t]

theorem flush_5 : ∀ t : Fin cfg0.N, (cfg0.win 5).flush t = true → t.val = 31 :=
  (by decide +kernel : ∀ t : Fin grid0.N, (cfg0.win 5).flush t = true → t.val = 31)

theorem final_dg : (dats m 0 c).arrAt 5 (cfgs 0).N = Cert.Norm1BwdRefIdeal.Read.val_main_v38 (F := Ideal) (ctA m c) (inA m c) := by
  have e : Cert.Norm1BwdRefIdeal.Read.val_main_v38 (F := Ideal) (ctA m c) (inA m c)
      = fun i => ∑ q ∈ Finset.range 32, dgPart m c (i 1) q := funext fun i => by
    obtain ⟨s, j, rfl⟩ := row_col i
    obtain rfl := Fin.fin_one_eq_zero s
    rw [Cert.Norm1BwdRefIdeal.Value.dg_eq]
    exact (dg_sum m c j).symm
  rw [e]
  refine (dats m 0 c).arrAt_eq_of_covers 5 _ (by decide +kernel) fun t hf y => ?_
  rw [after0_5, dg_last m c t, flush_5 t hf]
  refine congrArg (fun j => ∑ q ∈ Finset.range 32, dgPart m c j q) (Fin.ext ?_)
  blk_simp [idx t]

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N) :=
  (θ_run defs _ _).mono (fun _ h c => ⟨(h c).1 4, (h c).1 5⟩) (run_main m ρ)

theorem run : θ_run defs (onTc (τ := τ) (main (F := Ideal))) ⟨m, fun _ => 0, ρ⟩ (fun r => ∀ c : Dev nD,
      r.2.mem ((c.tc : Thread nD τ).loc main_v0_0)
          = Cert.Norm1BwdRefIdeal.Read.val_main_v37 (F := Ideal) (ctA m c) (inA m c) (gainA m c) (besideA m c)
      ∧ r.2.mem ((c.tc : Thread nD τ).loc main_v0_1) = Cert.Norm1BwdRefIdeal.Read.val_main_v38 (F := Ideal) (ctA m c) (inA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1).trans (final_dx m c), ((h.1 c).2).trans (final_dg m c), h.2 c⟩)
    (θ_run_and (run_arrays m ρ) (unchanged m ρ))

end Cert.Norm1BwdIdeal.Value

end
-- ==== Proof.FinalLossRef.lean ====
/- The reference of the loss and its gradient at an index. -/
module

public import proofs.«01_k».proof.Proof.Gen.FinalLossRefIdeal.Read
public import proofs.«01_k».proof.Proof.RmsBwdRef
public import Idealize.ShloMosaic.Lib.Pipeline.ValueKit

@[expose] public section

set_option maxRecDepth 16384

noncomputable section

open Idealize.ShloMosaic Idealize.ShloMosaic.TcCoe Idealize.SL.Sem

namespace Cert.FinalLossRefIdeal.Value

open Cert.FinalLossRefIdeal Cert.FinalLossRefIdeal.Gen Cert.FinalLossRefIdeal.Read
open Cert.RmsBwdRefIdeal.Value (meanSq rowRule width square_nonneg)

/-! ## The constants -/

theorem half : Ideal.ofBits .f32 0x3F000000#32 = ((1 / 2 : ℝ) : EReal) := by
  simp [Ideal.ofBits, Ideal.ieee, -EReal.coe_mul]
  norm_num

theorem unit : Ideal.ofBits .f32 0x3F800000#32 = ((1 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem per_column : Ideal.ofBits .f32 0x3A000000#32 = ((1 / 2048 : ℝ) : EReal) := by
  simp [Ideal.ofBits, Ideal.ieee, -EReal.coe_mul]
  norm_num

theorem per_square : Ideal.ofBits .f32 0x39800000#32 = ((1 / 4096 : ℝ) : EReal) := by
  simp [Ideal.ofBits, Ideal.ieee, -EReal.coe_mul]
  norm_num

/-- Half the derivative of a square, over the width. -/
theorem slope_eq (x : EReal) :
    Ideal.div (Ideal.ofBits .f32 0x3F000000#32 * Ideal.ofBits .f32 0x3F800000#32) (Ideal.ofBits .f32 0x45000000#32) * (Ideal.ofBits .f32 0x40000000#32 * x)
      = x * Ideal.ofBits .f32 0x3A000000#32 := by
  rw [half, unit, two, per_column, width, Ideal.div_coe (by norm_num), ← mul_assoc, mul_comm x, ← EReal.coe_mul, ← EReal.coe_mul, ← EReal.coe_mul]
  norm_num

theorem mul_sum_nonneg {ι : Type} (s : Finset ι) (a : EReal) (f : ι → EReal) (h : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (h i) (Finset.sum_nonneg fun j _ => h j), ih]

theorem half_mean (x : EReal) : Ideal.ofBits .f32 0x3F000000#32 * Ideal.div x (Ideal.ofBits .f32 0x45000000#32) = x * Ideal.ofBits .f32 0x39800000#32 := by
  rw [half, per_square, width, Ideal.div_coe (by norm_num), mul_comm x, ← mul_assoc, ← EReal.coe_mul, mul_comm x]
  norm_num

/-! ## The results -/

/-- What a row's entry misses its target by, and the loss's slope there. -/
def miss (x g t w : EReal) : EReal := x * Ideal.rsqrt w * g - t
def errorSlope (x g t w : EReal) : EReal := miss x g t w * Ideal.ofBits .f32 0x3A000000#32

variable (H T : FVec Ideal S8192x2048 .f32) (G : FVec Ideal S1x2048 .f32)

/-- The mean square of a row. -/
abbrev msq (s : Fin 8192) : EReal := meanSq fun k => H (ix2 s k)

theorem w_eq (s : Fin 8192) : val_main_v7 (F := Ideal) H (ix2 s 0) = msq H s := by
  unfold val_main_v7 val_main_v6 val_main_v5 val_main_v4 val_main_v3 val_main_v2 val_main_v1 val_main_cst val_main_cst_0 val_main_cst_1 msq meanSq
  pointwise []

theorem miss_eq (s : Fin 8192) (j : Fin 2048) :
    val_main_v17 (F := Ideal) H T G (ix2 s j) = miss (H (ix2 s j)) (G (ix2 0 j)) (T (ix2 s j)) (msq H s) := by
  rw [← w_eq]
  unfold miss val_main_v17 val_main_v16 val_main_v15 val_main_v14 val_main_v13 val_main_v12 val_main_v8 val_main_v0
  generalize val_main_v7 (F := Ideal) H = w
  pointwise []

theorem slope_at (s : Fin 8192) (j : Fin 2048) :
    val_main_v31 (F := Ideal) H T G (ix2 s j) = errorSlope (H (ix2 s j)) (G (ix2 0 j)) (T (ix2 s j)) (msq H s) := by
  unfold errorSlope
  rw [← miss_eq, ← slope_eq]
  unfold val_main_v31 val_main_v30 val_main_v29 val_main_v28 val_main_v27 val_main_v26 val_main_v20 val_main_v19 val_main_cst_3 val_main_cst_8 val_main_cst_9 val_main_cst_10
  generalize val_main_v17 (F := Ideal) H T G = e
  pointwise []

theorem dh_eq (s : Fin 8192) (j : Fin 2048) : val_main_v51 (F := Ideal) H T G (ix2 s j)
    = rowRule 0 (errorSlope (H (ix2 s j)) (G (ix2 0 j)) (T (ix2 s j)) (msq H s) * G (ix2 0 j)) (H (ix2 s j)) (msq H s)
        (∑ k : Fin 2048, H (ix2 s k) * (errorSlope (H (ix2 s k)) (G (ix2 0 k)) (T (ix2 s k)) (msq H s) * G (ix2 0 k))) := by
  simp only [← slope_at]
  rw [← w_eq]
  unfold rowRule val_main_v51 val_main_v50 val_main_v49 val_main_v48 val_main_v47 val_main_v46 val_main_v45 val_main_v44 val_main_v43 val_main_v42 val_main_v41 val_main_v40 val_main_v39 val_main_v38 val_main_v36 val_main_v35 val_main_v14 val_main_v0 val_main_v11 val_main_v10 val_main_v9 val_main_v8 val_main_cst_2 val_main_cst_13 val_main_cst_14 val_main_cst_15
  generalize val_main_v7 (F := Ideal) H = w
  generalize val_main_v31 (F := Ideal) H T G = e
  pointwise []
  simp only [Fin.sum_univ_one, zero_add]

theorem copy_eq (i) : val_main_v53 (F := Ideal) H T G i = val_main_v51 (F := Ideal) H T G i := by
  unfold val_main_v53
  pointwise []

theorem dg_eq (j : Fin 2048) : val_main_v52 (F := Ideal) H T G (ix2 0 j)
    = ∑ s : Fin 8192, H (ix2 s j) * Ideal.rsqrt (msq H s) * errorSlope (H (ix2 s j)) (G (ix2 0 j)) (T (ix2 s j)) (msq H s) := by
  simp only [← slope_at]
  simp only [← w_eq]
  unfold val_main_v52 val_main_v37 val_main_v34 val_main_v33 val_main_v32 val_main_v13 val_main_v12 val_main_v8 val_main_cst_11 val_main_cst_12
  generalize val_main_v7 (F := Ideal) H = w
  generalize val_main_v31 (F := Ideal) H T G = e
  pointwise []
  simp only [Fin.sum_univ_one]

/-- A row's part of the loss. -/
def lossRow (x g t : Fin 2048 → EReal) (w : EReal) : EReal :=
  (∑ j : Fin 2048, miss (x j) (g j) (t j) w * miss (x j) (g j) (t j) w) * Ideal.ofBits .f32 0x39800000#32

theorem loss_eq (a : Fin 8) (b : Fin 128) : val_main_v54 (F := Ideal) H T G (ix2 a b)
    = ∑ s : Fin 8192, lossRow (fun j => H (ix2 s j)) (fun j => G (ix2 0 j)) (fun j => T (ix2 s j)) (msq H s) := by
  unfold lossRow
  simp only [← miss_eq, ← half_mean]
  rw [← mul_sum_nonneg _ _ _ fun s => by
    rw [width, Ideal.div_coe (by norm_num)]
    exact mul_nonneg (Finset.sum_nonneg fun k _ => square_nonneg _) (by exact_mod_cast (by norm_num : (0 : ℝ) ≤ 1 / 2048))]
  unfold val_main_v54 val_main_v25 val_main_v24 val_main_v23 val_main_v22 val_main_v21 val_main_v18 val_main_cst_4 val_main_cst_5 val_main_cst_6 val_main_cst_7
  generalize val_main_v17 (F := Ideal) H T G = e
  pointwise []

end Cert.FinalLossRefIdeal.Value

end
-- ==== Proof.FinalLoss.lean ====
/- The loss and its gradient: what each point leaves, the sums over the points before it, and the four result arrays, which are
   the reference's over the reals. -/
module

public import proofs.«01_k».proof.Proof.Gen.FinalLossIdeal.Frame
public import proofs.«01_k».proof.Proof.FinalLossRef
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FinalLossIdeal.Value

open Cert.FinalLossIdeal Cert.FinalLossIdeal.Gen
open Cert.RmsBwdRefIdeal.Value (meanSq meanSq_pos rowRule rowRule_eq square_nonneg)
open Cert.FinalLossRefIdeal.Value (miss errorSlope lossRow mul_sum_nonneg)

/-! ## The payloads at an index -/

section

variable (x t : Vec Ideal S256x2048 .f32) (g a : Vec Ideal S1x2048 .f32) (l : Vec Ideal S8x128 .f32) (k : Fin 256) (j : Fin 2048)

theorem rms_at : k0_pay5 (F := Ideal) x (ix2 k 0) = Ideal.rsqrt (meanSq fun l => x (ix2 k l)) := by
  unfold meanSq
  pointwise [k0_pay5]

theorem miss_at : k0_pay6 (F := Ideal) x g t (ix2 k j) = miss (x (ix2 k j)) (g (ix2 0 j)) (t (ix2 k j)) (meanSq fun l => x (ix2 k l)) := by
  unfold miss
  rw [← rms_at]
  unfold k0_pay6
  generalize k0_pay5 (F := Ideal) x = w
  pointwise []

theorem slope_at : k0_pay7 (F := Ideal) x g t (ix2 k j) = errorSlope (x (ix2 k j)) (g (ix2 0 j)) (t (ix2 k j)) (meanSq fun l => x (ix2 k l)) := by
  unfold errorSlope
  rw [← miss_at]
  unfold k0_pay7
  generalize k0_pay6 (F := Ideal) x g t = w
  pointwise []

theorem dh_at : k0_pay8 (F := Ideal) x g t (ix2 k j)
    = rowRule 0 (errorSlope (x (ix2 k j)) (g (ix2 0 j)) (t (ix2 k j)) (meanSq fun l => x (ix2 k l)) * g (ix2 0 j)) (x (ix2 k j)) (meanSq fun l => x (ix2 k l))
        (∑ l : Fin 2048, x (ix2 k l) * (errorSlope (x (ix2 k l)) (g (ix2 0 l)) (t (ix2 k l)) (meanSq fun l => x (ix2 k l)) * g (ix2 0 l))) := by
  simp only [← slope_at]
  rw [rowRule_eq _ _ _ _ _ (meanSq_pos _), ← rms_at, zero_add,
    Finset.sum_congr rfl fun l _ => mul_comm (x (ix2 k l)) (k0_pay7 (F := Ideal) x g t (ix2 k l) * g (ix2 0 l))]
  unfold k0_pay8
  generalize k0_pay5 (F := Ideal) x = w
  generalize k0_pay7 (F := Ideal) x g t = e
  pointwise []

theorem copy_at : k0_pay9 (F := Ideal) x g t (ix2 k j) = k0_pay8 (F := Ideal) x g t (ix2 k j) := by
  unfold k0_pay9
  pointwise []

theorem dg_at : k0_pay3 (F := Ideal) x (k0_pay5 (F := Ideal) x) (k0_pay7 (F := Ideal) x g t) a (ix2 0 j)
    = a (ix2 0 j) + ∑ k : Fin 256, x (ix2 k j) * Ideal.rsqrt (meanSq fun l => x (ix2 k l))
        * errorSlope (x (ix2 k j)) (g (ix2 0 j)) (t (ix2 k j)) (meanSq fun l => x (ix2 k l)) := by
  simp only [← slope_at]
  simp only [← rms_at]
  unfold k0_pay3
  generalize k0_pay5 (F := Ideal) x = w
  generalize k0_pay7 (F := Ideal) x g t = e
  rw [Finset.sum_congr rfl fun k _ => show x (ix2 k j) * w (ix2 k 0) * e (ix2 k j) = e (ix2 k j) * x (ix2 k j) * w (ix2 k 0) by
    rw [mul_comm _ (e _), mul_assoc]]
  pointwise []

theorem loss_at (p : Fin 8) (q : Fin 128) : k0_pay4 (F := Ideal) (k0_pay6 (F := Ideal) x g t) l (ix2 p q)
    = l (ix2 p q) + ∑ k : Fin 256, lossRow (fun j => x (ix2 k j)) (fun j => g (ix2 0 j)) (fun j => t (ix2 k j)) (meanSq fun l => x (ix2 k l)) := by
  unfold lossRow
  simp only [← miss_at, mul_comm _ (Ideal.ofBits .f32 0x39800000#32)]
  rw [← mul_sum_nonneg _ _ _ fun s => Finset.sum_nonneg fun k _ => square_nonneg _, mul_comm (Ideal.ofBits .f32 0x39800000#32)]
  unfold k0_pay4
  generalize k0_pay6 (F := Ideal) x g t = e
  pointwise []

end

/-! ## The windows -/

variable (m : (ℓ : Loc nD τ sig) → Buf (Elt Ideal) ℓ) (c : Dev nD) (t : Fin cfg0.N)

theorem idx : ∀ t : Fin cfg0.N,
    win0_0.index t = ![t.val, 0] ∧ win0_1.index t = ![t.val, 0] ∧ win0_2.index t = ![0, 0] ∧ win0_3.index t = ![t.val, 0]
      ∧ win0_4.index t = ![t.val, 0] ∧ win0_5.index t = ![0, 0] ∧ win0_6.index t = ![0, 0] :=
  (by decide +kernel : ∀ t : Fin grid0.N, _)

/-- The arguments: the input, the target, the gain. -/
abbrev inA : FVec Ideal Cert.FinalLossRefIdeal.S8192x2048 .f32 := m ((c : Thread nD τ).loc main_arg0)
abbrev targetA : FVec Ideal Cert.FinalLossRefIdeal.S8192x2048 .f32 := m ((c : Thread nD τ).loc main_arg1)
abbrev gainA : FVec Ideal Cert.FinalLossRefIdeal.S1x2048 .f32 := m ((c : Thread nD τ).loc main_arg2)

/-- The row of an array under row `k` of the tile at hand. -/
def rowA (t : Fin cfg0.N) (k : Fin 256) : Fin 8192 := ⟨256 * t.val + k, by have : t.val < 32 := t.isLt; omega⟩

theorem block0 (k : Fin 256) (j : Fin 2048) : iblk m c 0 t (ix2 k j) = inA m c (ix2 (rowA t k) j) := by
  unfold inA rowA
  rw [← V_main_arg0 m c]
  blk_point [iblk, idx t]

theorem block1 (k : Fin 256) (j : Fin 2048) : iblk m c 1 t (ix2 k j) = targetA m c (ix2 (rowA t k) j) := by
  unfold targetA rowA
  rw [← V_main_arg1 m c]
  blk_point [iblk, idx t]

theorem block2 (j : Fin 2048) : iblk m c 2 t (ix2 0 j) = gainA m c (ix2 0 j) := by
  unfold gainA
  rw [← V_main_arg2 m c]
  blk_point [iblk, idx t]

/-! ## What a point leaves -/

/-- The loss's slope at an entry, its gradient there, a row's part of the gain's gradient, and a row's part of the loss. -/
def slopeAt (s : Fin 8192) (j : Fin 2048) : EReal :=
  errorSlope (inA m c (ix2 s j)) (gainA m c (ix2 0 j)) (targetA m c (ix2 s j)) (meanSq fun l => inA m c (ix2 s l))

def dhAt (s : Fin 8192) (j : Fin 2048) : EReal :=
  rowRule 0 (slopeAt m c s j * gainA m c (ix2 0 j)) (inA m c (ix2 s j)) (meanSq fun l => inA m c (ix2 s l))
    (∑ l : Fin 2048, inA m c (ix2 s l) * (slopeAt m c s l * gainA m c (ix2 0 l)))

def dgRow (j : Fin 2048) (s : Fin 8192) : EReal := inA m c (ix2 s j) * Ideal.rsqrt (meanSq fun l => inA m c (ix2 s l)) * slopeAt m c s j

def lossAt (s : Fin 8192) : EReal :=
  lossRow (fun j => inA m c (ix2 s j)) (fun j => gainA m c (ix2 0 j)) (fun j => targetA m c (ix2 s j)) (meanSq fun l => inA m c (ix2 s l))

/-- The rows of tile `q` in a sum over all rows. -/
def part (f : Fin 8192 → EReal) (q : ℕ) : EReal := ∑ k : Fin 256, if h : 256 * q + k < 8192 then f ⟨256 * q + k, h⟩ else 0

theorem part_at (f : Fin 8192 → EReal) : part f t.val = ∑ k : Fin 256, f (rowA t k) := by
  have : t.val < 32 := t.isLt
  exact Finset.sum_congr rfl fun k _ => dif_pos (by omega)

theorem part_sum (f : Fin 8192 → EReal) : ∑ q ∈ Finset.range 32, part f q = ∑ s : Fin 8192, f s := by
  rw [Finset.sum_range]
  unfold part
  rw [← Finset.sum_product', ← finProdFinEquiv.sum_comp (fun s : Fin (32 * 256) => f s)]
  refine Finset.sum_congr rfl fun p _ => ?_
  rw [dif_pos (by omega)]
  exact congrArg f (Fin.ext (by show 256 * p.1.val + p.2.val = p.2.val + 256 * p.1.val; omega))

theorem dh_tile (k : Fin 256) (j : Fin 2048) :
    k0_pay8 (F := Ideal) (iblk m c 0 t) (iblk m c 2 t) (iblk m c 1 t) (ix2 k j) = dhAt m c (rowA t k) j := by
  rw [dh_at]
  unfold dhAt slopeAt
  simp only [block0, block1, block2]

theorem dg_tile (a : Vec Ideal S1x2048 .f32) (j : Fin 2048) :
    k0_pay3 (F := Ideal) (iblk m c 0 t) (k0_pay5 (F := Ideal) (iblk m c 0 t)) (k0_pay7 (F := Ideal) (iblk m c 0 t) (iblk m c 2 t) (iblk m c 1 t)) a (ix2 0 j)
      = a (ix2 0 j) + part (dgRow m c j) t.val := by
  rw [dg_at, part_at]
  unfold dgRow slopeAt
  simp only [block0, block1, block2]

theorem loss_tile (l : Vec Ideal S8x128 .f32) (p : Fin 8) (q : Fin 128) :
    k0_pay4 (F := Ideal) (k0_pay6 (F := Ideal) (iblk m c 0 t) (iblk m c 2 t) (iblk m c 1 t)) l (ix2 p q) = l (ix2 p q) + part (lossAt m c) t.val := by
  rw [loss_at, part_at]
  unfold lossAt
  simp only [block0, block1, block2]

variable {t}

theorem row_col {a b : ℕ} (i : (⟨2, ![a, b]⟩ : Shape).Idx) : ∃ (s : Fin a) (j : Fin b), i = ix2 s j :=
  ⟨i 0, i 1, by funext d; match d with | ⟨0, _⟩ => rfl | ⟨1, _⟩ => rfl⟩

theorem dh_point (t : Fin cfg0.N) (y : S256x2048.Idx) : (outsAt0 m c t.val t.isLt).1 y = dhAt m c (rowA t (y 0)) (y 1) := by
  obtain ⟨k, j, rfl⟩ : ∃ (k : Fin 256) (j : Fin 2048), y = ix2 k j := row_col y
  show _ = dhAt m c (rowA t k) j
  rw [← dh_tile]
  by_cases h0 : t.val % 32 = 0
  · rw [outsAt0_A m c t h0]
    frame_out
  · rw [outsAt0_B m c t h0]
    frame_out

theorem copy_point (t : Fin cfg0.N) (y : S256x2048.Idx) : (outsAt0 m c t.val t.isLt).2.1 y = dhAt m c (rowA t (y 0)) (y 1) := by
  obtain ⟨k, j, rfl⟩ : ∃ (k : Fin 256) (j : Fin 2048), y = ix2 k j := row_col y
  show _ = dhAt m c (rowA t k) j
  rw [← dh_tile, ← copy_at]
  by_cases h0 : t.val % 32 = 0
  · rw [outsAt0_A m c t h0]
    frame_out
  · rw [outsAt0_B m c t h0]
    frame_out

theorem loss_A (h0 : t.val % 32 = 0) (p : Fin 8) (q : Fin 128) : (outsAt0 m c t.val t.isLt).2.2.1 (ix2 p q) = part (lossAt m c) t.val := by
  rw [outsAt0_A m c t h0]
  frame_out
  refine (loss_tile m c t _ p q).trans ?_
  pointwise [k0_pay2]

theorem loss_B (h0 : ¬t.val % 32 = 0) (p : Fin 8) (q : Fin 128) : (outsAt0 m c t.val t.isLt).2.2.1 (ix2 p q)
    = (outsAt0 m c (t.val - 1) (Nat.lt_of_le_of_lt (Nat.sub_le _ _) t.isLt)).2.2.1 (ix2 p q) + part (lossAt m c) t.val := by
  rw [outsAt0_B m c t h0]
  frame_out
  refine (loss_tile m c t _ p q).trans (congrArg (· + part (lossAt m c) t.val) ?_)
  generalize (outsAt0 m c (t.val - 1) _).2.2.1 = a
  pointwise []

theorem dg_A (h0 : t.val % 32 = 0) (j : Fin 2048) : (outsAt0 m c t.val t.isLt).2.2.2 (ix2 0 j) = part (dgRow m c j) t.val := by
  rw [outsAt0_A m c t h0]
  frame_out
  refine (dg_tile m c t _ j).trans ?_
  pointwise [k0_pay1]

theorem dg_B (h0 : ¬t.val % 32 = 0) (j : Fin 2048) : (outsAt0 m c t.val t.isLt).2.2.2 (ix2 0 j)
    = (outsAt0 m c (t.val - 1) (Nat.lt_of_le_of_lt (Nat.sub_le _ _) t.isLt)).2.2.2 (ix2 0 j) + part (dgRow m c j) t.val := by
  rw [outsAt0_B m c t h0]
  frame_out
  refine (dg_tile m c t _ j).trans (congrArg (· + part (dgRow m c j) t.val) ?_)
  generalize (outsAt0 m c (t.val - 1) _).2.2.2 = a
  pointwise []

/-- A quantity that begins at the first tile's part and gains each tile's is the sum of the parts so far. -/
theorem sum_so_far (f : ℕ → EReal) (v : Fin cfg0.N → EReal) (hA : ∀ t : Fin cfg0.N, t.val % 32 = 0 → v t = f t.val)
    (hB : ∀ t : Fin cfg0.N, ¬t.val % 32 = 0 → v t = v ⟨t.val - 1, Nat.lt_of_le_of_lt (Nat.sub_le _ _) t.isLt⟩ + f t.val) :
    ∀ (n : ℕ) (t : Fin cfg0.N), t.val = n → v t = ∑ q ∈ Finset.range (t.val + 1), f q := fun n => by
  induction n with
  | zero =>
    intro t ht
    rw [hA t (by omega), ht]
    simp
  | succ n ih =>
    intro t ht
    have hN : t.val < 32 := t.isLt
    rw [hB t (by omega), ih _ (by show t.val - 1 = n; omega), Finset.sum_range_succ _ t.val]
    exact congrArg (fun n => ∑ q ∈ Finset.range n, f q + f t.val) (by show t.val - 1 + 1 = t.val; omega)

theorem loss_last (t : Fin cfg0.N) (y : S8x128.Idx) : (outsAt0 m c t.val t.isLt).2.2.1 y = ∑ q ∈ Finset.range (t.val + 1), part (lossAt m c) q := by
  obtain ⟨p, q, rfl⟩ : ∃ (p : Fin 8) (q : Fin 128), y = ix2 p q := row_col y
  exact sum_so_far _ (fun t => (outsAt0 m c t.val t.isLt).2.2.1 (ix2 p q)) (fun t h => loss_A m c h p q) (fun t h => loss_B m c h p q) _ t rfl

theorem dg_last (t : Fin cfg0.N) (y : S1x2048.Idx) :
    (outsAt0 m c t.val t.isLt).2.2.2 y = ∑ q ∈ Finset.range (t.val + 1), part (dgRow m c (y 1)) q := by
  obtain ⟨k, j, rfl⟩ : ∃ (k : Fin 1) (j : Fin 2048), y = ix2 k j := row_col y
  obtain rfl := Fin.fin_one_eq_zero k
  exact sum_so_far _ (fun t => (outsAt0 m c t.val t.isLt).2.2.2 (ix2 0 j)) (fun t h => dg_A m c h j) (fun t h => dg_B m c h j) _ t rfl

/-! ## The result arrays -/

theorem dh_ref : Cert.FinalLossRefIdeal.Read.val_main_v51 (F := Ideal) (inA m c) (targetA m c) (gainA m c) = fun i => dhAt m c (i 0) (i 1) :=
  funext fun i => by
    obtain ⟨s, j, rfl⟩ := row_col i
    rw [Cert.FinalLossRefIdeal.Value.dh_eq]
    rfl

theorem final_dh : (dats m 0 c).arrAt 3 (cfgs 0).N = Cert.FinalLossRefIdeal.Read.val_main_v51 (F := Ideal) (inA m c) (targetA m c) (gainA m c) := by
  rw [dh_ref]
  refine (dats m 0 c).arrAt_eq_of_covers 3 _ (by decide +kernel) fun t hf y => ?_
  rw [after0_3, dh_point m c t]
  refine congrArg₂ (dhAt m c) (Fin.ext ?_) (Fin.ext ?_)
  · unfold rowA
    blk_simp [idx t]
    exact congrArg (· + (y 0 : ℕ)) (Nat.mul_comm 256 _)
  · blk_simp [idx t]

theorem final_copy : (dats m 0 c).arrAt 4 (cfgs 0).N = Cert.FinalLossRefIdeal.Read.val_main_v53 (F := Ideal) (inA m c) (targetA m c) (gainA m c) := by
  rw [show Cert.FinalLossRefIdeal.Read.val_main_v53 (F := Ideal) (inA m c) (targetA m c) (gainA m c) = fun i => dhAt m c (i 0) (i 1) from
    (funext (Cert.FinalLossRefIdeal.Value.copy_eq _ _ _)).trans (dh_ref m c)]
  refine (dats m 0 c).arrAt_eq_of_covers 4 _ (by decide +kernel) fun t hf y => ?_
  rw [after0_4, copy_point m c t]
  refine congrArg₂ (dhAt m c) (Fin.ext ?_) (Fin.ext ?_)
  · unfold rowA
    blk_simp [idx t]
    exact congrArg (· + (y 0 : ℕ)) (Nat.mul_comm 256 _)
  · blk_simp [idx t]

theorem flush_5 : ∀ t : Fin cfg0.N, (cfg0.win 5).flush t = true → t.val = 31 :=
  (by decide +kernel : ∀ t : Fin grid0.N, (cfg0.win 5).flush t = true → t.val = 31)
theorem flush_6 : ∀ t : Fin cfg0.N, (cfg0.win 6).flush t = true → t.val = 31 :=
  (by decide +kernel : ∀ t : Fin grid0.N, (cfg0.win 6).flush t = true → t.val = 31)

theorem final_loss : (dats m 0 c).arrAt 5 (cfgs 0).N = Cert.FinalLossRefIdeal.Read.val_main_v54 (F := Ideal) (inA m c) (targetA m c) (gainA m c) := by
  have e : Cert.FinalLossRefIdeal.Read.val_main_v54 (F := Ideal) (inA m c) (targetA m c) (gainA m c)
      = fun i => ∑ q ∈ Finset.range 32, part (lossAt m c) q := funext fun i => by
    obtain ⟨s, j, rfl⟩ := row_col i
    rw [Cert.FinalLossRefIdeal.Value.loss_eq, part_sum]
    rfl
  rw [e]
  refine (dats m 0 c).arrAt_eq_of_covers 5 _ (by decide +kernel) fun t hf y => ?_
  rw [after0_5, loss_last m c t, flush_5 t hf]
  rfl

theorem final_dg : (dats m 0 c).arrAt 6 (cfgs 0).N = Cert.FinalLossRefIdeal.Read.val_main_v52 (F := Ideal) (inA m c) (targetA m c) (gainA m c) := by
  have e : Cert.FinalLossRefIdeal.Read.val_main_v52 (F := Ideal) (inA m c) (targetA m c) (gainA m c)
      = fun i => ∑ q ∈ Finset.range 32, part (dgRow m c (i 1)) q := funext fun i => by
    obtain ⟨s, j, rfl⟩ := row_col i
    obtain rfl := Fin.fin_one_eq_zero s
    rw [Cert.FinalLossRefIdeal.Value.dg_eq, part_sum]
    rfl
  rw [e]
  refine (dats m 0 c).arrAt_eq_of_covers 6 _ (by decide +kernel) fun t hf y => ?_
  rw [after0_6, dg_last m c t, flush_6 t hf]
  refine congrArg (fun j => ∑ q ∈ Finset.range 32, part (dgRow m c j) q) (Fin.ext ?_)
  blk_simp [idx t]

/-! ## Every run -/

variable (ρ : Dev nD → PrngReg)

theorem run_arrays : θ_run defs (onTc (τ := τ) (main (F := Ideal))) ⟨m, fun _ => 0, ρ⟩ (fun r => ∀ c : Dev nD,
      r.2.mem ((c.tc : Thread nD τ).loc main_v0_0) = (dats m 0 c).arrAt 3 (cfgs 0).N
      ∧ r.2.mem ((c.tc : Thread nD τ).loc main_v0_1) = (dats m 0 c).arrAt 4 (cfgs 0).N
      ∧ r.2.mem ((c.tc : Thread nD τ).loc main_v0_2) = (dats m 0 c).arrAt 5 (cfgs 0).N
      ∧ r.2.mem ((c.tc : Thread nD τ).loc main_v0_3) = (dats m 0 c).arrAt 6 (cfgs 0).N) :=
  (θ_run defs _ _).mono (fun _ h c => ⟨(h c).1 3, (h c).1 4, (h c).1 5, (h c).1 6⟩) (run_main m ρ)

theorem run : θ_run defs (onTc (τ := τ) (main (F := Ideal))) ⟨m, fun _ => 0, ρ⟩ (fun r => ∀ c : Dev nD,
      r.2.mem ((c.tc : Thread nD τ).loc main_v0_0) = Cert.FinalLossRefIdeal.Read.val_main_v51 (F := Ideal) (inA m c) (targetA m c) (gainA m c)
      ∧ r.2.mem ((c.tc : Thread nD τ).loc main_v0_1) = Cert.FinalLossRefIdeal.Read.val_main_v53 (F := Ideal) (inA m c) (targetA m c) (gainA m c)
      ∧ r.2.mem ((c.tc : Thread nD τ).loc main_v0_2) = Cert.FinalLossRefIdeal.Read.val_main_v54 (F := Ideal) (inA m c) (targetA m c) (gainA m c)
      ∧ r.2.mem ((c.tc : Thread nD τ).loc main_v0_3) = Cert.FinalLossRefIdeal.Read.val_main_v52 (F := Ideal) (inA m c) (targetA m c) (gainA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1).trans (final_dh m c), ((h.1 c).2.1).trans (final_copy m c), ((h.1 c).2.2.1).trans (final_loss m c),
    ((h.1 c).2.2.2).trans (final_dg m c), h.2 c⟩) (θ_run_and (run_arrays m ρ) (unchanged m ρ))

end Cert.FinalLossIdeal.Value

end
-- ==== Proof.GWGate.lean ====
/- `g_w_gate`: the result array is the reference's, over the reals. The contraction goes in 4 steps of 2048; the scratch buffer holds
   the sum of the steps so far, and the last step of a run stores it. -/
module

public import proofs.«01_k».proof.Proof.Gen.GWGateIdeal.Frame
public import proofs.«01_k».proof.Proof.Gen.GWGateRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GWGateIdeal.Value

open Cert.GWGateIdeal Cert.GWGateIdeal.Gen

variable (m : (ℓ : Loc nD τ sig) → Buf (Elt Ideal) ℓ)

/-- The block each window is on at a grid point. -/
theorem idx : ∀ t : Fin cfg0.N,
    win0_0.index t = ![t.val % 4, 0] ∧
      win0_1.index t = ![t.val % 4, t.val / 4] ∧
      win0_2.index t = ![0, t.val / 4] :=
  (by decide +kernel : ∀ t : Fin grid0.N, _)

/-- The reference's composed term over the arguments. -/
abbrev REF (X : FVec Ideal Cert.GWGateRefIdeal.S8192x2048 .f32) (Y : FVec Ideal Cert.GWGateRefIdeal.S8192x5632 .f32) :
    FVec Ideal Cert.GWGateRefIdeal.S2048x5632 .bf16 :=
  Cert.GWGateRefIdeal.Read.val_main_v4 (F := Ideal) X Y

theorem ref_at (X Y j) : REF X Y j = ∑ k : Fin 8192, X (ix2 k (j 0)) * Y (ix2 k (j 1)) := by
  unfold REF Cert.GWGateRefIdeal.Read.val_main_v4 Cert.GWGateRefIdeal.Read.val_main_v3 Cert.GWGateRefIdeal.Read.val_main_v2
  pointwise []
  exact Finset.sum_congr rfl fun k _ => mul_comm _ _

theorem zero_fill (j) : k0_pay1 (F := Ideal) j = 0 := by pointwise [k0_pay1]

/-- One step adds the product of its two blocks. -/
theorem step (acc : Vec Ideal S2048x512 .f32) (a : Vec Ideal S2048x2048 .bf16) (b : Vec Ideal S2048x512 .bf16) (j) :
    k0_pay2 (F := Ideal) acc a b j = acc j + ∑ k : Fin 2048, a (ix2 k (j 0)) * b (ix2 k (j 1)) := by
  pointwise [k0_pay2]

/-- A point that writes back stores what its scratch holds. -/
theorem result_of_scratch (c : Dev nD) (t : Fin cfg0.N) (h : t.val % 4 = 3) (y) :
    (outsAt0 m c t.val t.isLt).1 y = (outsAt0 m c t.val t.isLt).2 y := by
  rw [outsAt0_C m c t (by omega) h]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 4 (fun _ => 0) _
    (fun t h j => by
      rw [outsAt0_A m c t h (by omega)]; frame_out; rw [step, zero_fill])
    (fun t h j => by
      by_cases h2 : t.val % 4 = 3
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.GWGateIdeal.Value

end
-- ==== Proof.GWUp.lean ====
/- `g_w_up`: the result array is the reference's, over the reals. The contraction goes in 4 steps of 2048; the scratch buffer holds
   the sum of the steps so far, and the last step of a run stores it. -/
module

public import proofs.«01_k».proof.Proof.Gen.GWUpIdeal.Frame
public import proofs.«01_k».proof.Proof.Gen.GWUpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GWUpIdeal.Value

open Cert.GWUpIdeal Cert.GWUpIdeal.Gen

variable (m : (ℓ : Loc nD τ sig) → Buf (Elt Ideal) ℓ)

/-- The block each window is on at a grid point. -/
theorem idx : ∀ t : Fin cfg0.N,
    win0_0.index t = ![t.val % 4, 0] ∧
      win0_1.index t = ![t.val % 4, t.val / 4] ∧
      win0_2.index t = ![0, t.val / 4] :=
  (by decide +kernel : ∀ t : Fin grid0.N, _)

/-- The reference's composed term over the arguments. -/
abbrev REF (X : FVec Ideal Cert.GWUpRefIdeal.S8192x2048 .f32) (Y : FVec Ideal Cert.GWUpRefIdeal.S8192x5632 .f32) :
    FVec Ideal Cert.GWUpRefIdeal.S2048x5632 .bf16 :=
  Cert.GWUpRefIdeal.Read.val_main_v4 (F := Ideal) X Y

theorem ref_at (X Y j) : REF X Y j = ∑ k : Fin 8192, X (ix2 k (j 0)) * Y (ix2 k (j 1)) := by
  unfold REF Cert.GWUpRefIdeal.Read.val_main_v4 Cert.GWUpRefIdeal.Read.val_main_v3 Cert.GWUpRefIdeal.Read.val_main_v2
  pointwise []
  exact Finset.sum_congr rfl fun k _ => mul_comm _ _

theorem zero_fill (j) : k0_pay1 (F := Ideal) j = 0 := by pointwise [k0_pay1]

/-- One step adds the product of its two blocks. -/
theorem step (acc : Vec Ideal S2048x512 .f32) (a : Vec Ideal S2048x2048 .bf16) (b : Vec Ideal S2048x512 .bf16) (j) :
    k0_pay2 (F := Ideal) acc a b j = acc j + ∑ k : Fin 2048, a (ix2 k (j 0)) * b (ix2 k (j 1)) := by
  pointwise [k0_pay2]

/-- A point that writes back stores what its scratch holds. -/
theorem result_of_scratch (c : Dev nD) (t : Fin cfg0.N) (h : t.val % 4 = 3) (y) :
    (outsAt0 m c t.val t.isLt).1 y = (outsAt0 m c t.val t.isLt).2 y := by
  rw [outsAt0_C m c t (by omega) h]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 4 (fun _ => 0) _
    (fun t h j => by
      rw [outsAt0_A m c t h (by omega)]; frame_out; rw [step, zero_fill])
    (fun t h j => by
      by_cases h2 : t.val % 4 = 3
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.GWUpIdeal.Value

end
-- ==== Proof.GWDown.lean ====
/- `g_w_down`: the result array is the reference's, over the reals. The contraction goes in 4 steps of 2048; the scratch buffer holds
   the sum of the steps so far, and the last step of a run stores it. -/
module

public import proofs.«01_k».proof.Proof.Gen.GWDownIdeal.Frame
public import proofs.«01_k».proof.Proof.Gen.GWDownRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GWDownIdeal.Value

open Cert.GWDownIdeal Cert.GWDownIdeal.Gen

variable (m : (ℓ : Loc nD τ sig) → Buf (Elt Ideal) ℓ)

/-- The block each window is on at a grid point. -/
theorem idx : ∀ t : Fin cfg0.N,
    win0_0.index t = ![t.val % 4, t.val / 8] ∧
      win0_1.index t = ![t.val % 4, t.val / 4 % 2] ∧
      win0_2.index t = ![t.val / 8, t.val / 4 % 2] :=
  (by decide +kernel : ∀ t : Fin grid0.N, _)

/-- The reference's composed term over the arguments. -/
abbrev REF (X : FVec Ideal Cert.GWDownRefIdeal.S8192x5632 .f32) (Y : FVec Ideal Cert.GWDownRefIdeal.S8192x2048 .f32) :
    FVec Ideal Cert.GWDownRefIdeal.S5632x2048 .bf16 :=
  Cert.GWDownRefIdeal.Read.val_main_v4 (F := Ideal) X Y

theorem ref_at (X Y j) : REF X Y j = ∑ k : Fin 8192, X (ix2 k (j 0)) * Y (ix2 k (j 1)) := by
  unfold REF Cert.GWDownRefIdeal.Read.val_main_v4 Cert.GWDownRefIdeal.Read.val_main_v3 Cert.GWDownRefIdeal.Read.val_main_v2
  pointwise []
  exact Finset.sum_congr rfl fun k _ => mul_comm _ _

theorem zero_fill (j) : k0_pay1 (F := Ideal) j = 0 := by pointwise [k0_pay1]

/-- One step adds the product of its two blocks. -/
theorem step (acc : Vec Ideal S1408x1024 .f32) (a : Vec Ideal S2048x1408 .bf16) (b : Vec Ideal S2048x1024 .bf16) (j) :
    k0_pay2 (F := Ideal) acc a b j = acc j + ∑ k : Fin 2048, a (ix2 k (j 0)) * b (ix2 k (j 1)) := by
  pointwise [k0_pay2]

/-- A point that writes back stores what its scratch holds. -/
theorem result_of_scratch (c : Dev nD) (t : Fin cfg0.N) (h : t.val % 4 = 3) (y) :
    (outsAt0 m c t.val t.isLt).1 y = (outsAt0 m c t.val t.isLt).2 y := by
  rw [outsAt0_C m c t (by omega) h]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 4 (fun _ => 0) _
    (fun t h j => by
      rw [outsAt0_A m c t h (by omega)]; frame_out; rw [step, zero_fill])
    (fun t h j => by
      by_cases h2 : t.val % 4 = 3
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.GWDownIdeal.Value

end
-- ==== Proof.DN2Gate.lean ====
/- `d_n2_gate`: the result array is the reference's, over the reals. The contraction goes in 2 steps of 2816; the scratch buffer holds
   the sum of the steps so far, and the last step of a run stores it. -/
module

public import proofs.«01_k».proof.Proof.Gen.DN2GateIdeal.Frame
public import proofs.«01_k».proof.Proof.Gen.DN2GateRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DN2GateIdeal.Value

open Cert.DN2GateIdeal Cert.DN2GateIdeal.Gen

variable (m : (ℓ : Loc nD τ sig) → Buf (Elt Ideal) ℓ)

/-- The block each window is on at a grid point. -/
theorem idx : ∀ t : Fin cfg0.N,
    win0_0.index t = ![t.val / 4, t.val % 2] ∧
      win0_1.index t = ![t.val / 2 % 2, t.val % 2] ∧
      win0_2.index t = ![t.val / 4, t.val / 2 % 2] :=
  (by decide +kernel : ∀ t : Fin grid0.N, _)

/-- The reference's composed term over the arguments. -/
abbrev REF (X : FVec Ideal Cert.DN2GateRefIdeal.S8192x5632 .f32) (Y : FVec Ideal Cert.DN2GateRefIdeal.S2048x5632 .f32) :
    FVec Ideal Cert.DN2GateRefIdeal.S8192x2048 .f32 :=
  Cert.DN2GateRefIdeal.Read.val_main_v2 (F := Ideal) X Y

theorem ref_at (X Y j) : REF X Y j = ∑ k : Fin 5632, X (ix2 (j 0) k) * Y (ix2 (j 1) k) := by
  unfold REF Cert.DN2GateRefIdeal.Read.val_main_v2
  pointwise []

theorem zero_fill (j) : k0_pay1 (F := Ideal) j = 0 := by pointwise [k0_pay1]

/-- One step adds the product of its two blocks. -/
theorem step (acc : Vec Ideal S1024x1024 .f32) (a : Vec Ideal S1024x2816 .bf16) (b : Vec Ideal S1024x2816 .bf16) (j) :
    k0_pay2 (F := Ideal) acc a b j = acc j + ∑ k : Fin 2816, a (ix2 (j 0) k) * b (ix2 (j 1) k) := by
  pointwise [k0_pay2]

/-- A point that writes back stores what its scratch holds. -/
theorem result_of_scratch (c : Dev nD) (t : Fin cfg0.N) (h : t.val % 2 = 1) (y) :
    (outsAt0 m c t.val t.isLt).1 y = (outsAt0 m c t.val t.isLt).2 y := by
  rw [outsAt0_B m c t (by omega) h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 2 (fun _ => 0) _
    (fun t h j => by
      rw [outsAt0_A m c t h (by omega)]; frame_out; rw [step, zero_fill])
    (fun t h j => by
      rw [outsAt0_B m c t h (by omega)]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.DN2GateIdeal.Value

end
-- ==== Proof.DN2Up.lean ====
/- `d_n2_up`: the result array is the reference's, over the reals. The contraction goes in 2 steps of 2816; the scratch buffer holds
   the sum of the steps so far, and the last step of a run stores it on top of the residual. -/
module

public import proofs.«01_k».proof.Proof.Gen.DN2UpIdeal.Frame
public import proofs.«01_k».proof.Proof.Gen.DN2UpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DN2UpIdeal.Value

open Cert.DN2UpIdeal Cert.DN2UpIdeal.Gen

variable (m : (ℓ : Loc nD τ sig) → Buf (Elt Ideal) ℓ)

/-- The block each window is on at a grid point. -/
theorem idx : ∀ t : Fin cfg0.N,
    win0_0.index t = ![t.val / 4, t.val % 2] ∧
      win0_1.index t = ![t.val / 2 % 2, t.val % 2] ∧
      win0_2.index t = ![t.val / 4, t.val / 2 % 2] ∧
      win0_3.index t = ![t.val / 4, t.val / 2 % 2] :=
  (by decide +kernel : ∀ t : Fin grid0.N, _)

/-- The reference's composed term over the arguments. -/
abbrev REF (X : FVec Ideal Cert.DN2UpRefIdeal.S8192x5632 .f32) (Y : FVec Ideal Cert.DN2UpRefIdeal.S2048x5632 .f32) (Z : FVec Ideal Cert.DN2UpRefIdeal.S8192x2048 .f32) :
    FVec Ideal Cert.DN2UpRefIdeal.S8192x2048 .f32 :=
  Cert.DN2UpRefIdeal.Read.val_main_v3 (F := Ideal) X Y Z

theorem ref_at (X Y Z j) : REF X Y Z j = Z j + ∑ k : Fin 5632, X (ix2 (j 0) k) * Y (ix2 (j 1) k) := by
  unfold REF Cert.DN2UpRefIdeal.Read.val_main_v3 Cert.DN2UpRefIdeal.Read.val_main_v2
  pointwise []

theorem zero_fill (j) : k0_pay1 (F := Ideal) j = 0 := by pointwise [k0_pay1]

/-- One step adds the product of its two blocks. -/
theorem step (acc : Vec Ideal S1024x1024 .f32) (a : Vec Ideal S1024x2816 .bf16) (b : Vec Ideal S1024x2816 .bf16) (j) :
    k0_pay2 (F := Ideal) acc a b j = acc j + ∑ k : Fin 2816, a (ix2 (j 0) k) * b (ix2 (j 1) k) := by
  pointwise [k0_pay2]

/-- A point that writes back stores what its scratch holds, plus the residual. -/
theorem result_of_scratch (c : Dev nD) (t : Fin cfg0.N) (h : t.val % 2 = 1) (y) :
    (outsAt0 m c t.val t.isLt).1 y = (outsAt0 m c t.val t.isLt).2 y + (iblk m c 2 t : Vec Ideal S1024x1024 .f32) y := by
  rw [outsAt0_B m c t (by omega) h]
  frame_out
  pointwise [k0_pay3]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr := (flush0_3 t).mp hf
  blk_simp
  rw [after0_3, result_of_scratch m c t hr, Pipeline.eq_sum_fin_of_reset_step_apply_of_flush
    (fun n h => (outsAt0 m c n h).2) 2 (fun _ => 0) _
    (fun t h j => by
      rw [outsAt0_A m c t h (by omega)]; frame_out; rw [step, zero_fill])
    (fun t h j => by
      rw [outsAt0_B m c t h (by omega)]; frame_out; simp only [read_unread_whole]; rw [step])
    t hr _, zero_add, ref_at]
  rw [add_comm]
  refine congr_arg₂ (· + ·) (by blk_point [iblk, V, idx t]) ?_
  refine Fin.sum_mul_add_congr fun s k hl => ?_
  blk_point [iblk, V, idx t, idx ⟨_, Pipeline.run_point_lt_of_flush t hr s⟩]

end Cert.DN2UpIdeal.Value

end
-- ==== Proof.GWIn.lean ====
/- `g_w_in`: the result array is the reference's, over the reals. The contraction goes in 4 steps of 2048; the scratch buffer holds
   the sum of the steps so far, and the last step of a run stores it. -/
module

public import proofs.«01_k».proof.Proof.Gen.GWInIdeal.Frame
public import proofs.«01_k».proof.Proof.Gen.GWInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GWInIdeal.Value

open Cert.GWInIdeal Cert.GWInIdeal.Gen

variable (m : (ℓ : Loc nD τ sig) → Buf (Elt Ideal) ℓ)

/-- The block each window is on at a grid point. -/
theorem idx : ∀ t : Fin cfg0.N,
    win0_0.index t = ![t.val % 4, t.val / 20] ∧
      win0_1.index t = ![t.val % 4, t.val / 4 % 5] ∧
      win0_2.index t = ![t.val / 20, t.val / 4 % 5] :=
  (by decide +kernel : ∀ t : Fin grid0.N, _)

/-- The reference's composed term over the arguments. -/
abbrev REF (X : FVec Ideal Cert.GWInRefIdeal.S8192x2048 .f32) (Y : FVec Ideal Cert.GWInRefIdeal.S8192x6400 .f32) :
    FVec Ideal Cert.GWInRefIdeal.S2048x6400 .bf16 :=
  Cert.GWInRefIdeal.Read.val_main_v4 (F := Ideal) X Y

theorem ref_at (X Y j) : REF X Y j = ∑ k : Fin 8192, X (ix2 k (j 0)) * Y (ix2 k (j 1)) := by
  unfold REF Cert.GWInRefIdeal.Read.val_main_v4 Cert.GWInRefIdeal.Read.val_main_v3 Cert.GWInRefIdeal.Read.val_main_v2
  pointwise []
  exact Finset.sum_congr rfl fun k _ => mul_comm _ _

theorem zero_fill (j) : k0_pay1 (F := Ideal) j = 0 := by pointwise [k0_pay1]

/-- One step adds the product of its two blocks. -/
theorem step (acc : Vec Ideal S1024x1280 .f32) (a : Vec Ideal S2048x1024 .bf16) (b : Vec Ideal S2048x1280 .bf16) (j) :
    k0_pay2 (F := Ideal) acc a b j = acc j + ∑ k : Fin 2048, a (ix2 k (j 0)) * b (ix2 k (j 1)) := by
  pointwise [k0_pay2]

/-- A point that writes back stores what its scratch holds. -/
theorem result_of_scratch (c : Dev nD) (t : Fin cfg0.N) (h : t.val % 4 = 3) (y) :
    (outsAt0 m c t.val t.isLt).1 y = (outsAt0 m c t.val t.isLt).2 y := by
  rw [outsAt0_C m c t (by omega) h]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 4 (fun _ => 0) _
    (fun t h j => by
      rw [outsAt0_A m c t h (by omega)]; frame_out; rw [step, zero_fill])
    (fun t h j => by
      by_cases h2 : t.val % 4 = 3
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.GWInIdeal.Value

end
-- ==== Proof.DN1.lean ====
/- `d_n1`: the result array is the reference's, over the reals. The contraction goes in 5 steps of 1280; the scratch buffer holds
   the sum of the steps so far, and the last step of a run stores it. -/
module

public import proofs.«01_k».proof.Proof.Gen.DN1Ideal.Frame
public import proofs.«01_k».proof.Proof.Gen.DN1RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DN1Ideal.Value

open Cert.DN1Ideal Cert.DN1Ideal.Gen

variable (m : (ℓ : Loc nD τ sig) → Buf (Elt Ideal) ℓ)

/-- The block each window is on at a grid point. -/
theorem idx : ∀ t : Fin cfg0.N,
    win0_0.index t = ![t.val / 5, t.val % 5] ∧
      win0_1.index t = ![0, t.val % 5] ∧
      win0_2.index t = ![t.val / 5, 0] :=
  (by decide +kernel : ∀ t : Fin grid0.N, _)

/-- The reference's composed term over the arguments. -/
abbrev REF (X : FVec Ideal Cert.DN1RefIdeal.S8192x6400 .f32) (Y : FVec Ideal Cert.DN1RefIdeal.S2048x6400 .f32) :
    FVec Ideal Cert.DN1RefIdeal.S8192x2048 .f32 :=
  Cert.DN1RefIdeal.Read.val_main_v2 (F := Ideal) X Y

theorem ref_at (X Y j) : REF X Y j = ∑ k : Fin 6400, X (ix2 (j 0) k) * Y (ix2 (j 1) k) := by
  unfold REF Cert.DN1RefIdeal.Read.val_main_v2
  pointwise []

theorem zero_fill (j) : k0_pay1 (F := Ideal) j = 0 := by pointwise [k0_pay1]

/-- One step adds the product of its two blocks. -/
theorem step (acc : Vec Ideal S1024x2048 .f32) (a : Vec Ideal S1024x1280 .bf16) (b : Vec Ideal S2048x1280 .bf16) (j) :
    k0_pay2 (F := Ideal) acc a b j = acc j + ∑ k : Fin 1280, a (ix2 (j 0) k) * b (ix2 (j 1) k) := by
  pointwise [k0_pay2]

/-- A point that writes back stores what its scratch holds. -/
theorem result_of_scratch (c : Dev nD) (t : Fin cfg0.N) (h : t.val % 5 = 4) (y) :
    (outsAt0 m c t.val t.isLt).1 y = (outsAt0 m c t.val t.isLt).2 y := by
  rw [outsAt0_C m c t (by omega) h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 5 (fun _ => 0) _
    (fun t h j => by
      rw [outsAt0_A m c t h (by omega)]; frame_out; rw [step, zero_fill])
    (fun t h j => by
      by_cases h2 : t.val % 5 = 4
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.DN1Ideal.Value

end
-- ==== Proof.GWOut.lean ====
/- `g_w_out`: the result array is the reference's, over the reals. The contraction goes in 4 steps of 2048; the scratch buffer holds
   the sum of the steps so far, and the last step of a run stores it. -/
module

public import proofs.«01_k».proof.Proof.Gen.GWOutIdeal.Frame
public import proofs.«01_k».proof.Proof.Gen.GWOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GWOutIdeal.Value

open Cert.GWOutIdeal Cert.GWOutIdeal.Gen

variable (m : (ℓ : Loc nD τ sig) → Buf (Elt Ideal) ℓ)

/-- The block each window is on at a grid point. -/
theorem idx : ∀ t : Fin cfg0.N,
    win0_0.index t = ![t.val % 4, 0] ∧
      win0_1.index t = ![t.val % 4, t.val / 4] ∧
      win0_2.index t = ![0, t.val / 4] :=
  (by decide +kernel : ∀ t : Fin grid0.N, _)

/-- The reference's composed term over the arguments. -/
abbrev REF (X : FVec Ideal Cert.GWOutRefIdeal.S8192x2048 .f32) (Y : FVec Ideal Cert.GWOutRefIdeal.S8192x2048 .f32) :
    FVec Ideal Cert.GWOutRefIdeal.S2048x2048 .bf16 :=
  Cert.GWOutRefIdeal.Read.val_main_v4 (F := Ideal) X Y

theorem ref_at (X Y j) : REF X Y j = ∑ k : Fin 8192, X (ix2 k (j 0)) * Y (ix2 k (j 1)) := by
  unfold REF Cert.GWOutRefIdeal.Read.val_main_v4 Cert.GWOutRefIdeal.Read.val_main_v3 Cert.GWOutRefIdeal.Read.val_main_v2
  pointwise []
  exact Finset.sum_congr rfl fun k _ => mul_comm _ _

theorem zero_fill (j) : k0_pay1 (F := Ideal) j = 0 := by pointwise [k0_pay1]

/-- One step adds the product of its two blocks. -/
theorem step (acc : Vec Ideal S2048x1024 .f32) (a : Vec Ideal S2048x2048 .bf16) (b : Vec Ideal S2048x1024 .bf16) (j) :
    k0_pay2 (F := Ideal) acc a b j = acc j + ∑ k : Fin 2048, a (ix2 k (j 0)) * b (ix2 k (j 1)) := by
  pointwise [k0_pay2]

/-- A point that writes back stores what its scratch holds. -/
theorem result_of_scratch (c : Dev nD) (t : Fin cfg0.N) (h : t.val % 4 = 3) (y) :
    (outsAt0 m c t.val t.isLt).1 y = (outsAt0 m c t.val t.isLt).2 y := by
  rw [outsAt0_C m c t (by omega) h]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, result_of_scratch m c t hr, Pipeline.eq_sum_fin_of_reset_step_apply_of_flush
    (fun n h => (outsAt0 m c n h).2) 4 (fun _ => 0) _
    (fun t h j => by
      rw [outsAt0_A m c t h (by omega)]; frame_out; rw [step, zero_fill])
    (fun t h j => by
      by_cases h2 : t.val % 4 = 3
      · rw [outsAt0_C m c t h h2]; frame_out; simp only [read_unread_whole]; rw [step]
      · rw [outsAt0_B m c t h h2]; frame_out; simp only [read_unread_whole]; rw [step])
    t hr _, zero_add, ref_at]
  refine Fin.sum_mul_add_congr fun s k hl => ?_
  blk_point [iblk, V, idx t, idx ⟨_, Pipeline.run_point_lt_of_flush t hr s⟩]

end Cert.GWOutIdeal.Value

end
-- ==== Proof.DCat.lean ====
/- `d_cat`: the result array is the reference's, over the reals. Each point contracts the whole inner axis, so a block of the result is
   one product with the transpose. -/
module

public import proofs.«01_k».proof.Proof.Gen.DCatIdeal.Frame
public import proofs.«01_k».proof.Proof.Gen.DCatRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DCatIdeal.Value

open Cert.DCatIdeal Cert.DCatIdeal.Gen

variable (m : (ℓ : Loc nD τ sig) → Buf (Elt Ideal) ℓ)

/-- The block each window is on at a grid point. -/
theorem idx : ∀ t : Fin cfg0.N,
    win0_0.index t = ![t.val / 2, 0] ∧
      win0_1.index t = ![t.val % 2, 0] ∧
      win0_2.index t = ![t.val / 2, t.val % 2] :=
  (by decide +kernel : ∀ t : Fin grid0.N, _)

/-- The reference's composed term over the arguments. -/
abbrev REF (X : FVec Ideal Cert.DCatRefIdeal.S8192x2048 .f32) (Y : FVec Ideal Cert.DCatRefIdeal.S2048x2048 .f32) :
    FVec Ideal Cert.DCatRefIdeal.S8192x2048 .f32 :=
  Cert.DCatRefIdeal.Read.val_main_v2 (F := Ideal) X Y

theorem ref_at (X Y j) : REF X Y j = ∑ k : Fin 2048, X (ix2 (j 0) k) * Y (ix2 (j 1) k) := by
  unfold REF Cert.DCatRefIdeal.Read.val_main_v2
  pointwise []

/-- A point's block. -/
theorem block (a : Vec Ideal S1024x2048 .bf16) (b : Vec Ideal S1024x2048 .bf16) (j) :
    k0_pay1 (F := Ideal) a b j = ∑ k : Fin 2048, a (ix2 (j 0) k) * b (ix2 (j 1) k) := by
  pointwise [k0_pay1]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [block, ref_at]
  blk_point [iblk, V, idx t]

end Cert.DCatIdeal.Value

end
-- ==== Proof.InProj.lean ====
/- `in_proj`: the result array is the reference's, over the reals. Each point contracts the whole inner axis, so a block of the result is
   one product. -/
module

public import proofs.«01_k».proof.Proof.Gen.InProjIdeal.Frame
public import proofs.«01_k».proof.Proof.Gen.InProjRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The block each window is on at a grid point. -/
theorem idx : ∀ t : Fin cfg0.N,
    win0_0.index t = ![t.val / 5, 0] ∧
      win0_1.index t = ![0, t.val % 5] ∧
      win0_2.index t = ![t.val / 5, t.val % 5] :=
  (by decide +kernel : ∀ t : Fin grid0.N, _)

/-- The reference's composed term over the arguments. -/
abbrev REF (X : FVec Ideal Cert.InProjRefIdeal.S8192x2048 .f32) (Y : FVec Ideal Cert.InProjRefIdeal.S2048x6400 .f32) :
    FVec Ideal Cert.InProjRefIdeal.S8192x6400 .f32 :=
  Cert.InProjRefIdeal.Read.val_main_v0 (F := Ideal) X Y

theorem ref_at (X Y j) : REF X Y j = ∑ k : Fin 2048, X (ix2 (j 0) k) * Y (ix2 k (j 1)) := by
  unfold REF Cert.InProjRefIdeal.Read.val_main_v0
  pointwise []

/-- A point's block. -/
theorem block (a : Vec Ideal S1024x2048 .bf16) (b : Vec Ideal S2048x1280 .bf16) (j) :
    k0_pay1 (F := Ideal) a b j = ∑ k : Fin 2048, a (ix2 (j 0) k) * b (ix2 k (j 1)) := by
  pointwise [k0_pay1]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [block, ref_at]
  blk_point [iblk, V, idx t]

end Cert.InProjIdeal.Value

end
-- ==== Proof.OutProj.lean ====
/- `out_proj`: the result array is the reference's, over the reals. Each point contracts the whole inner axis, so a block of the result is
   one product on top of the residual. -/
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The block each window is on at a grid point. -/
theorem idx : ∀ t : Fin cfg0.N,
    win0_0.index t = ![t.val / 2, 0] ∧
      win0_1.index t = ![0, t.val % 2] ∧
      win0_2.index t = ![t.val / 2, t.val % 2] ∧
      win0_3.index t = ![t.val / 2, t.val % 2] :=
  (by decide +kernel : ∀ t : Fin grid0.N, _)

/-- The reference's composed term over the arguments. -/
abbrev REF (X : FVec Ideal Cert.OutProjRefIdeal.S8192x2048 .f32) (Y : FVec Ideal Cert.OutProjRefIdeal.S2048x2048 .f32) (Z : FVec Ideal Cert.OutProjRefIdeal.S8192x2048 .f32) :
    FVec Ideal Cert.OutProjRefIdeal.S8192x2048 .f32 :=
  Cert.OutProjRefIdeal.Read.val_main_v1 (F := Ideal) X Y Z

theorem ref_at (X Y Z j) : REF X Y Z j = Z j + ∑ k : Fin 2048, X (ix2 (j 0) k) * Y (ix2 k (j 1)) := by
  unfold REF Cert.OutProjRefIdeal.Read.val_main_v1 Cert.OutProjRefIdeal.Read.val_main_v0
  pointwise []

/-- A point's block. -/
theorem block (a : Vec Ideal S1024x2048 .bf16) (b : Vec Ideal S2048x1024 .bf16) (r : Vec Ideal S1024x1024 .f32) (j) :
    k0_pay1 (F := Ideal) a b r j = r j + ∑ k : Fin 2048, a (ix2 (j 0) k) * b (ix2 k (j 1)) := by
  pointwise [k0_pay1]
  exact add_comm _ _

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [block, ref_at]
  blk_point [iblk, V, idx t]

end Cert.OutProjIdeal.Value

end
-- ==== Proof.FfnDown.lean ====
/- `ffn_down`: the result array is the reference's, over the reals. The contraction goes in 2 steps of 2816; the scratch buffer holds
   the sum of the steps so far, and the last step of a run stores it on top of the residual. -/
module

public import proofs.«01_k».proof.Proof.Gen.FfnDownIdeal.Frame
public import proofs.«01_k».proof.Proof.Gen.FfnDownRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDownIdeal.Value

open Cert.FfnDownIdeal Cert.FfnDownIdeal.Gen

variable (m : (ℓ : Loc nD τ sig) → Buf (Elt Ideal) ℓ)

/-- The block each window is on at a grid point. -/
theorem idx : ∀ t : Fin cfg0.N,
    win0_0.index t = ![t.val / 4, t.val % 2] ∧
      win0_1.index t = ![t.val % 2, t.val / 2 % 2] ∧
      win0_2.index t = ![t.val / 4, t.val / 2 % 2] ∧
      win0_3.index t = ![t.val / 4, t.val / 2 % 2] :=
  (by decide +kernel : ∀ t : Fin grid0.N, _)

/-- The reference's composed term over the arguments. -/
abbrev REF (X : FVec Ideal Cert.FfnDownRefIdeal.S8192x5632 .f32) (Y : FVec Ideal Cert.FfnDownRefIdeal.S5632x2048 .f32) (Z : FVec Ideal Cert.FfnDownRefIdeal.S8192x2048 .f32) :
    FVec Ideal Cert.FfnDownRefIdeal.S8192x2048 .f32 :=
  Cert.FfnDownRefIdeal.Read.val_main_v1 (F := Ideal) X Y Z

theorem ref_at (X Y Z j) : REF X Y Z j = Z j + ∑ k : Fin 5632, X (ix2 (j 0) k) * Y (ix2 k (j 1)) := by
  unfold REF Cert.FfnDownRefIdeal.Read.val_main_v1 Cert.FfnDownRefIdeal.Read.val_main_v0
  pointwise []

theorem zero_fill (j) : k0_pay1 (F := Ideal) j = 0 := by pointwise [k0_pay1]

/-- One step adds the product of its two blocks. -/
theorem step (acc : Vec Ideal S1024x1024 .f32) (a : Vec Ideal S1024x2816 .bf16) (b : Vec Ideal S2816x1024 .bf16) (j) :
    k0_pay2 (F := Ideal) acc a b j = acc j + ∑ k : Fin 2816, a (ix2 (j 0) k) * b (ix2 k (j 1)) := by
  pointwise [k0_pay2]

/-- A point that writes back stores what its scratch holds, plus the residual. -/
theorem result_of_scratch (c : Dev nD) (t : Fin cfg0.N) (h : t.val % 2 = 1) (y) :
    (outsAt0 m c t.val t.isLt).1 y = (outsAt0 m c t.val t.isLt).2 y + (iblk m c 2 t : Vec Ideal S1024x1024 .f32) y := by
  rw [outsAt0_B m c t (by omega) h]
  frame_out
  pointwise [k0_pay3]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr := (flush0_3 t).mp hf
  blk_simp
  rw [after0_3, result_of_scratch m c t hr, Pipeline.eq_sum_fin_of_reset_step_apply_of_flush
    (fun n h => (outsAt0 m c n h).2) 2 (fun _ => 0) _
    (fun t h j => by
      rw [outsAt0_A m c t h (by omega)]; frame_out; rw [step, zero_fill])
    (fun t h j => by
      rw [outsAt0_B m c t h (by omega)]; frame_out; simp only [read_unread_whole]; rw [step])
    t hr _, zero_add, ref_at]
  rw [add_comm]
  refine congr_arg₂ (· + ·) (by blk_point [iblk, V, idx t]) ?_
  refine Fin.sum_mul_add_congr fun s k hl => ?_
  blk_point [iblk, V, idx t, idx ⟨_, Pipeline.run_point_lt_of_flush t hr s⟩]

end Cert.FfnDownIdeal.Value

end
-- ==== Proof.lean ====
/- `Cert.Claim`, put together: per program its frame, the frame of its idealization and of its reference, and the
   equality of the two over the reals. The equality of each is its own module (`Proof/<Program>.lean`); here the runs
   are read back and paired. -/
module

public import proofs.«01_k».proof.Defs
public import proofs.«01_k».proof.Proof.Gen.FfnMid
public import proofs.«01_k».proof.Proof.Gen.FfnMidIdeal
public import proofs.«01_k».proof.Proof.Gen.FfnMidRefIdeal.Run
public import proofs.«01_k».proof.Proof.Gen.FfnMidRefIdeal.Read
public import proofs.«01_k».proof.Proof.Gen.FfnIn.Frame
public import proofs.«01_k».proof.Proof.Gen.FfnInIdeal.Frame
public import proofs.«01_k».proof.Proof.Gen.FfnInRefIdeal.Run
public import proofs.«01_k».proof.Proof.Gen.FfnInRefIdeal.Read
public import proofs.«01_k».proof.Proof.Gen.RmsBwd.Frame
public import proofs.«01_k».proof.Proof.Gen.RmsBwdIdeal.Frame
public import proofs.«01_k».proof.Proof.Gen.RmsBwdRefIdeal.Run
public import proofs.«01_k».proof.Proof.Gen.RmsBwdRefIdeal.Read
public import proofs.«01_k».proof.Proof.Gen.AttnBwd.Frame
public import proofs.«01_k».proof.Proof.Gen.AttnBwdIdeal.Frame
public import proofs.«01_k».proof.Proof.Gen.AttnBwdRefIdeal.Run
public import proofs.«01_k».proof.Proof.Gen.AttnBwdRefIdeal.Read
public import proofs.«01_k».proof.Proof.Gen.AttnBwd4.Frame
public import proofs.«01_k».proof.Proof.Gen.AttnBwd4Ideal.Frame
public import proofs.«01_k».proof.Proof.Gen.AttnBwd4RefIdeal.Run
public import proofs.«01_k».proof.Proof.Gen.AttnBwd4RefIdeal.Read
public import proofs.«01_k».proof.Proof.Gen.AttnBwd1.Frame
public import proofs.«01_k».proof.Proof.Gen.AttnBwd1Ideal.Frame
public import proofs.«01_k».proof.Proof.Gen.AttnBwd1RefIdeal.Run
public import proofs.«01_k».proof.Proof.Gen.AttnBwd1RefIdeal.Read
public import proofs.«01_k».proof.Proof.Gen.Norm1.Frame
public import proofs.«01_k».proof.Proof.Gen.Norm1Ideal.Frame
public import proofs.«01_k».proof.Proof.Gen.Norm1RefIdeal.Run
public import proofs.«01_k».proof.Proof.Gen.Norm1RefIdeal.Read
public import proofs.«01_k».proof.Proof.Gen.Norm2.Frame
public import proofs.«01_k».proof.Proof.Gen.Norm2Ideal.Frame
public import proofs.«01_k».proof.Proof.Gen.Norm2RefIdeal.Run
public import proofs.«01_k».proof.Proof.Gen.Norm2RefIdeal.Read
public import proofs.«01_k».proof.Proof.Gen.Norm1Bwd.Frame
public import proofs.«01_k».proof.Proof.Gen.Norm1BwdIdeal.Frame
public import proofs.«01_k».proof.Proof.Gen.Norm1BwdRefIdeal.Run
public import proofs.«01_k».proof.Proof.Gen.Norm1BwdRefIdeal.Read
public import proofs.«01_k».proof.Proof.Gen.FinalLoss.Frame
public import proofs.«01_k».proof.Proof.Gen.FinalLossIdeal.Frame
public import proofs.«01_k».proof.Proof.Gen.FinalLossRefIdeal.Run
public import proofs.«01_k».proof.Proof.Gen.FinalLossRefIdeal.Read
public import proofs.«01_k».proof.Proof.Gen.GWGate.Frame
public import proofs.«01_k».proof.Proof.Gen.GWGateIdeal.Frame
public import proofs.«01_k».proof.Proof.Gen.GWGateRefIdeal.Run
public import proofs.«01_k».proof.Proof.Gen.GWGateRefIdeal.Read
public import proofs.«01_k».proof.Proof.Gen.GWUp.Frame
public import proofs.«01_k».proof.Proof.Gen.GWUpIdeal.Frame
public import proofs.«01_k».proof.Proof.Gen.GWUpRefIdeal.Run
public import proofs.«01_k».proof.Proof.Gen.GWUpRefIdeal.Read
public import proofs.«01_k».proof.Proof.Gen.GWDown.Frame
public import proofs.«01_k».proof.Proof.Gen.GWDownIdeal.Frame
public import proofs.«01_k».proof.Proof.Gen.GWDownRefIdeal.Run
public import proofs.«01_k».proof.Proof.Gen.GWDownRefIdeal.Read
public import proofs.«01_k».proof.Proof.Gen.DN2Gate.Frame
public import proofs.«01_k».proof.Proof.Gen.DN2GateIdeal.Frame
public import proofs.«01_k».proof.Proof.Gen.DN2GateRefIdeal.Run
public import proofs.«01_k».proof.Proof.Gen.DN2GateRefIdeal.Read
public import proofs.«01_k».proof.Proof.Gen.DN2Up.Frame
public import proofs.«01_k».proof.Proof.Gen.DN2UpIdeal.Frame
public import proofs.«01_k».proof.Proof.Gen.DN2UpRefIdeal.Run
public import proofs.«01_k».proof.Proof.Gen.DN2UpRefIdeal.Read
public import proofs.«01_k».proof.Proof.Gen.GWIn.Frame
public import proofs.«01_k».proof.Proof.Gen.GWInIdeal.Frame
public import proofs.«01_k».proof.Proof.Gen.GWInRefIdeal.Run
public import proofs.«01_k».proof.Proof.Gen.GWInRefIdeal.Read
public import proofs.«01_k».proof.Proof.Gen.DN1.Frame
public import proofs.«01_k».proof.Proof.Gen.DN1Ideal.Frame
public import proofs.«01_k».proof.Proof.Gen.DN1RefIdeal.Run
public import proofs.«01_k».proof.Proof.Gen.DN1RefIdeal.Read
public import proofs.«01_k».proof.Proof.Gen.GWOut.Frame
public import proofs.«01_k».proof.Proof.Gen.GWOutIdeal.Frame
public import proofs.«01_k».proof.Proof.Gen.GWOutRefIdeal.Run
public import proofs.«01_k».proof.Proof.Gen.GWOutRefIdeal.Read
public import proofs.«01_k».proof.Proof.Gen.DCat.Frame
public import proofs.«01_k».proof.Proof.Gen.DCatIdeal.Frame
public import proofs.«01_k».proof.Proof.Gen.DCatRefIdeal.Run
public import proofs.«01_k».proof.Proof.Gen.DCatRefIdeal.Read
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.OutProjRefIdeal.Read
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnDownRefIdeal.Read
public import proofs.«01_k».proof.Proof.FfnMidClaim
public import proofs.«01_k».proof.Proof.FfnMidFinite
public import proofs.«01_k».proof.Proof.FfnIn
public import proofs.«01_k».proof.Proof.RmsBwd
public import proofs.«01_k».proof.Proof.AttnBwd
public import proofs.«01_k».proof.Proof.AttnBwd4
public import proofs.«01_k».proof.Proof.AttnBwd1
public import proofs.«01_k».proof.Proof.Norm1
public import proofs.«01_k».proof.Proof.Norm2
public import proofs.«01_k».proof.Proof.Norm1Bwd
public import proofs.«01_k».proof.Proof.FinalLoss
public import proofs.«01_k».proof.Proof.GWGate
public import proofs.«01_k».proof.Proof.GWUp
public import proofs.«01_k».proof.Proof.GWDown
public import proofs.«01_k».proof.Proof.DN2Gate
public import proofs.«01_k».proof.Proof.DN2Up
public import proofs.«01_k».proof.Proof.GWIn
public import proofs.«01_k».proof.Proof.DN1
public import proofs.«01_k».proof.Proof.GWOut
public import proofs.«01_k».proof.Proof.DCat
public import proofs.«01_k».proof.Proof.InProj
public import proofs.«01_k».proof.Proof.OutProj
public import proofs.«01_k».proof.Proof.FfnDown
public import Idealize.ShloMosaic.Lib.Claim
public import Idealize.ShloMosaic.Adequacy
public import Idealize.ShloMosaic.Init

@[expose] public section

noncomputable section

namespace Cert.Proof

open Idealize.ShloMosaic Idealize.SL.Sem

theorem frame_ref_FfnMid : Cert.quiescent_FfnMidRefIdeal (hFfnMidRefIdeal := Cert.FfnMidRefIdeal.Gen.facts) := fun m ρ _ =>
  (θ_run Cert.FfnMidRefIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.FfnMidRefIdeal.Value.run (F := Ideal) m ρ)

/-- The two programs of the call have the same text, so that what is proved of one at any number type is said of the other. -/
theorem frame_FfnMid : Cert.quiescent_FfnMid (hFfnMid := Cert.FfnMid.Gen.facts) := by
  have e : (∀ (m : (ℓ : Loc Cert.FfnMidIdeal.nD Cert.FfnMidIdeal.τ Cert.FfnMidIdeal.sig) → Buf (Elt Bits) ℓ) (ρ : Dev Cert.FfnMidIdeal.nD → PrngReg), True →
    θ_run (Cert.FfnMidIdeal.defs (F := Bits)) (onTc (τ := Cert.FfnMidIdeal.τ) (Cert.FfnMidIdeal.main (F := Bits))) ⟨m, fun _ => 0, ρ⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)) = Cert.quiescent_FfnMid (hFfnMid := Cert.FfnMid.Gen.facts) := by sl_kernel_rfl
  exact e.mp fun m ρ _ => Cert.FfnMidIdeal.Run.frame (F := Bits) m ρ

theorem algebraic_FfnMid : Cert.algebraic_FfnMidIdeal_FfnMidRefIdeal_pre_finite_inputs (hFfnMidIdeal := Cert.FfnMidIdeal.Gen.facts)
    (hFfnMidRefIdeal := Cert.FfnMidRefIdeal.Gen.facts) (hPre_finite_inputs := Cert.Pre_finite_inputs.facts) := fun m g m' g' hpre hagree =>
  have := Cert.Pre_finite_inputs.facts
  ⟨_, _, _, _, Cert.FfnMidIdeal.Value.run m g (fun c => Cert.Pre_finite_inputs.up_real _ _ _ _ _ _ (hpre c).1)
      (fun c => Cert.Pre_finite_inputs.down_real _ _ _ _ _ _ (hpre c).2.1) (fun c => Cert.Pre_finite_inputs.ct_real _ _ _ _ _ _ (hpre c).2.2),
    (θ_run _ _ _).mono (fun r h c => by
      obtain ⟨h0, h1, h2, h3, ha⟩ := h c
      obtain ⟨e0, e1, e2, e3, e4, e5⟩ := hagree c
      refine ⟨h0.trans ((Cert.FfnMidRefIdeal.Read.val_main_v70_eq m' c).trans ?_), h1.trans ((Cert.FfnMidRefIdeal.Read.val_main_v71_eq _ _ _ _ _).trans ?_),
        h2.trans ((Cert.FfnMidRefIdeal.Read.val_main_v61_eq m' c).trans ?_), h3.trans ((Cert.FfnMidRefIdeal.Read.val_main_v35_eq m' c).trans ?_), ha⟩
      · rw [e0, e1, e2, e3, e4, e5]
      · rw [e0, e2, e3, e4, e5]
      · rw [e0, e1, e2, e3, e4, e5]
      · rw [e0, e1, e2, e3, e4, e5]) (Cert.FfnMidRefIdeal.Value.run (F := Ideal) m' g')⟩

theorem frame_ref_FfnIn : Cert.quiescent_FfnInRefIdeal (hFfnInRefIdeal := Cert.FfnInRefIdeal.Gen.facts) := fun m ρ _ =>
  (θ_run Cert.FfnInRefIdeal.defs _ _).mono (fun r h => ⟨fun c => ⟨(h c).2.2.2.2.1, (h c).2.2.2.2.2.1, (h c).2.2.2.2.2.2.1, (h c).2.2.2.2.2.2.2.1, (h c).2.2.2.2.2.2.2.2⟩, sem_eq_zero_of_no_sems (by decide) r.2⟩)
    (Cert.FfnInRefIdeal.Value.run (F := Ideal) m ρ)

theorem algebraic_FfnIn : Cert.algebraic_FfnInIdeal_FfnInRefIdeal (hFfnInIdeal := Cert.FfnInIdeal.Gen.facts)
    (hFfnInRefIdeal := Cert.FfnInRefIdeal.Gen.facts) := by
  exact fun m g m' g' _ hagree => ⟨_, _, _, _, Cert.FfnInIdeal.Value.run m g,
    (θ_run _ _ _).mono (fun r h c => by
      obtain ⟨h0, h1, h2, h3, ha⟩ := h c
      obtain ⟨e0, e1, e2, e3, e4⟩ := hagree c
      refine ⟨h0.trans ((Cert.FfnInRefIdeal.Read.val_main_v0_eq _ _).trans ?_), h1.trans ((Cert.FfnInRefIdeal.Read.val_main_v31_eq m' c).trans ?_),
        h2.trans ((Cert.FfnInRefIdeal.Read.val_main_v32_eq m' c).trans ?_), h3.trans ((Cert.FfnInRefIdeal.Read.val_main_v34_eq m' c).trans ?_), ha⟩
      · rw [e0, e1]
      · rw [e0, e1, e3, e4]
      · rw [e0, e1, e2, e3, e4]
      · rw [e0, e1, e2, e3, e4]) (Cert.FfnInRefIdeal.Value.run (F := Ideal) m' g')⟩

theorem frame_ref_RmsBwd : Cert.quiescent_RmsBwdRefIdeal (hRmsBwdRefIdeal := Cert.RmsBwdRefIdeal.Gen.facts) := fun m ρ _ =>
  (θ_run Cert.RmsBwdRefIdeal.defs _ _).mono (fun r h => ⟨fun c => ⟨(h c).2.2.2.1, (h c).2.2.2.2.1, (h c).2.2.2.2.2.1, (h c).2.2.2.2.2.2⟩, sem_eq_zero_of_no_sems (by decide) r.2⟩)
    (Cert.RmsBwdRefIdeal.Value.run (F := Ideal) m ρ)

theorem algebraic_RmsBwd : Cert.algebraic_RmsBwdIdeal_RmsBwdRefIdeal (hRmsBwdIdeal := Cert.RmsBwdIdeal.Gen.facts)
    (hRmsBwdRefIdeal := Cert.RmsBwdRefIdeal.Gen.facts) := by
  exact fun m g m' g' _ hagree => ⟨_, _, _, Cert.RmsBwdIdeal.Value.run m g,
    (θ_run _ _ _).mono (fun r h c => by
      obtain ⟨h0, h1, h2, ha⟩ := h c
      obtain ⟨e0, e1, e2, e3⟩ := hagree c
      refine ⟨h0.trans ((Cert.RmsBwdRefIdeal.Read.val_main_v37_eq m' c).trans ?_), h1.trans ((Cert.RmsBwdRefIdeal.Read.val_main_v39_eq m' c).trans ?_),
        h2.trans ((Cert.RmsBwdRefIdeal.Read.val_main_v38_eq _ _).trans ?_), ha⟩
      · rw [e0, e1, e2, e3]
      · rw [e0, e1, e2, e3]
      · rw [e0, e1]) (Cert.RmsBwdRefIdeal.Value.run (F := Ideal) m' g')⟩

theorem frame_ref_AttnBwd : Cert.quiescent_AttnBwdRefIdeal (hAttnBwdRefIdeal := Cert.AttnBwdRefIdeal.Gen.facts) := fun m ρ _ =>
  (θ_run Cert.AttnBwdRefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.AttnBwdRefIdeal.Value.run (F := Ideal) m ρ)

theorem algebraic_AttnBwd : Cert.algebraic_AttnBwdIdeal_AttnBwdRefIdeal (hAttnBwdIdeal := Cert.AttnBwdIdeal.Gen.facts)
    (hAttnBwdRefIdeal := Cert.AttnBwdRefIdeal.Gen.facts) := by
  exact fun m g m' g' _ hagree => ⟨_, _, _, Cert.AttnBwdIdeal.Value.run m g,
    (θ_run _ _ _).mono (fun r h c => by
      obtain ⟨h0, h1, h2, ha⟩ := h c
      obtain ⟨e0, e1, e2, e3, e4, e5⟩ := hagree c
      refine ⟨h0.trans ((Cert.AttnBwdRefIdeal.Read.val_main_v56_eq _ _ _ _ _ _).trans ?_), h1.trans ((Cert.AttnBwdRefIdeal.Read.val_main_v58_eq _ _ _ _ _ _).trans ?_),
        h2.trans ((Cert.AttnBwdRefIdeal.Read.val_main_v60_eq _ _ _ _).trans ?_), ha⟩
      · rw [e0, e1, e2, e3, e4, e5]
      · rw [e0, e1, e2, e3, e4, e5]
      · rw [e0, e1, e3, e4]) (Cert.AttnBwdRefIdeal.Value.run (F := Ideal) m' g')⟩

theorem frame_ref_AttnBwd4 : Cert.quiescent_AttnBwd4RefIdeal (hAttnBwd4RefIdeal := Cert.AttnBwd4RefIdeal.Gen.facts) := fun m ρ _ =>
  (θ_run Cert.AttnBwd4RefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.AttnBwd4RefIdeal.Value.run (F := Ideal) m ρ)

theorem algebraic_AttnBwd4 : Cert.algebraic_AttnBwd4Ideal_AttnBwd4RefIdeal (hAttnBwd4Ideal := Cert.AttnBwd4Ideal.Gen.facts)
    (hAttnBwd4RefIdeal := Cert.AttnBwd4RefIdeal.Gen.facts) := by
  exact fun m g m' g' _ hagree => ⟨_, _, _, Cert.AttnBwd4Ideal.Value.run m g,
    (θ_run _ _ _).mono (fun r h c => by
      obtain ⟨h0, h1, h2, ha⟩ := h c
      obtain ⟨e0, e1, e2, e3, e4, e5⟩ := hagree c
      refine ⟨h0.trans ((Cert.AttnBwd4RefIdeal.Read.val_main_v56_eq _ _ _ _ _ _).trans ?_), h1.trans ((Cert.AttnBwd4RefIdeal.Read.val_main_v58_eq _ _ _ _ _ _).trans ?_),
        h2.trans ((Cert.AttnBwd4RefIdeal.Read.val_main_v60_eq _ _ _ _).trans ?_), ha⟩
      · rw [e0, e1, e2, e3, e4, e5]
      · rw [e0, e1, e2, e3, e4, e5]
      · rw [e0, e1, e3, e4]) (Cert.AttnBwd4RefIdeal.Value.run (F := Ideal) m' g')⟩

theorem frame_ref_AttnBwd1 : Cert.quiescent_AttnBwd1RefIdeal (hAttnBwd1RefIdeal := Cert.AttnBwd1RefIdeal.Gen.facts) := fun m ρ _ =>
  (θ_run Cert.AttnBwd1RefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.AttnBwd1RefIdeal.Value.run (F := Ideal) m ρ)

theorem algebraic_AttnBwd1 : Cert.algebraic_AttnBwd1Ideal_AttnBwd1RefIdeal (hAttnBwd1Ideal := Cert.AttnBwd1Ideal.Gen.facts)
    (hAttnBwd1RefIdeal := Cert.AttnBwd1RefIdeal.Gen.facts) := by
  exact fun m g m' g' _ hagree => ⟨_, _, _, Cert.AttnBwd1Ideal.Value.run m g,
    (θ_run _ _ _).mono (fun r h c => by
      obtain ⟨h0, h1, h2, ha⟩ := h c
      obtain ⟨e0, e1, e2, e3, e4, e5⟩ := hagree c
      refine ⟨h0.trans ((Cert.AttnBwd1RefIdeal.Read.val_main_v56_eq _ _ _ _ _ _).trans ?_), h1.trans ((Cert.AttnBwd1RefIdeal.Read.val_main_v58_eq _ _ _ _ _ _).trans ?_),
        h2.trans ((Cert.AttnBwd1RefIdeal.Read.val_main_v60_eq _ _ _ _).trans ?_), ha⟩
      · rw [e0, e1, e2, e3, e4, e5]
      · rw [e0, e1, e2, e3, e4, e5]
      · rw [e0, e1, e3, e4]) (Cert.AttnBwd1RefIdeal.Value.run (F := Ideal) m' g')⟩

theorem frame_ref_Norm1 : Cert.quiescent_Norm1RefIdeal (hNorm1RefIdeal := Cert.Norm1RefIdeal.Gen.facts) := fun m ρ _ =>
  (θ_run Cert.Norm1RefIdeal.defs _ _).mono (fun r h => ⟨fun c => ⟨(h c).2.1, (h c).2.2⟩, sem_eq_zero_of_no_sems (by decide) r.2⟩)
    (Cert.Norm1RefIdeal.Value.run (F := Ideal) m ρ)

theorem algebraic_Norm1 : Cert.algebraic_Norm1Ideal_Norm1RefIdeal (hNorm1Ideal := Cert.Norm1Ideal.Gen.facts)
    (hNorm1RefIdeal := Cert.Norm1RefIdeal.Gen.facts) := by
  pair_intro
  · run_from Cert.Norm1Ideal.Gen.run_main m g
  · hlo_run
    exact (Cert.Norm1Ideal.Value.final m c).symm

theorem frame_ref_Norm2 : Cert.quiescent_Norm2RefIdeal (hNorm2RefIdeal := Cert.Norm2RefIdeal.Gen.facts) := fun m ρ _ =>
  (θ_run Cert.Norm2RefIdeal.defs _ _).mono (fun r h => ⟨fun c => ⟨(h c).2.1, (h c).2.2⟩, sem_eq_zero_of_no_sems (by decide) r.2⟩)
    (Cert.Norm2RefIdeal.Value.run (F := Ideal) m ρ)

theorem algebraic_Norm2 : Cert.algebraic_Norm2Ideal_Norm2RefIdeal (hNorm2Ideal := Cert.Norm2Ideal.Gen.facts)
    (hNorm2RefIdeal := Cert.Norm2RefIdeal.Gen.facts) := by
  pair_intro
  · run_from Cert.Norm2Ideal.Gen.run_main m g
  · hlo_run
    exact (Cert.Norm2Ideal.Value.final m c).symm

theorem frame_ref_Norm1Bwd : Cert.quiescent_Norm1BwdRefIdeal (hNorm1BwdRefIdeal := Cert.Norm1BwdRefIdeal.Gen.facts) := fun m ρ _ =>
  (θ_run Cert.Norm1BwdRefIdeal.defs _ _).mono (fun r h => ⟨fun c => ⟨(h c).2.2.1, (h c).2.2.2.1, (h c).2.2.2.2.1, (h c).2.2.2.2.2⟩, sem_eq_zero_of_no_sems (by decide) r.2⟩)
    (Cert.Norm1BwdRefIdeal.Value.run (F := Ideal) m ρ)

theorem algebraic_Norm1Bwd : Cert.algebraic_Norm1BwdIdeal_Norm1BwdRefIdeal (hNorm1BwdIdeal := Cert.Norm1BwdIdeal.Gen.facts)
    (hNorm1BwdRefIdeal := Cert.Norm1BwdRefIdeal.Gen.facts) := by
  exact fun m g m' g' _ hagree => ⟨_, _, Cert.Norm1BwdIdeal.Value.run m g,
    (θ_run _ _ _).mono (fun r h c => by
      obtain ⟨h0, h1, ha⟩ := h c
      obtain ⟨e0, e1, e2, e3⟩ := hagree c
      refine ⟨h0.trans ((Cert.Norm1BwdRefIdeal.Read.val_main_v37_eq m' c).trans ?_),
        h1.trans ((Cert.Norm1BwdRefIdeal.Read.val_main_v38_eq _ _).trans ?_), ha⟩
      · rw [e0, e1, e2, e3]
      · rw [e0, e1]) (Cert.Norm1BwdRefIdeal.Value.run (F := Ideal) m' g')⟩

theorem frame_ref_FinalLoss : Cert.quiescent_FinalLossRefIdeal (hFinalLossRefIdeal := Cert.FinalLossRefIdeal.Gen.facts) := fun m ρ _ =>
  (θ_run Cert.FinalLossRefIdeal.defs _ _).mono (fun r h => ⟨fun c => ⟨(h c).2.2.2.2.1, (h c).2.2.2.2.2.1, (h c).2.2.2.2.2.2⟩, sem_eq_zero_of_no_sems (by decide) r.2⟩)
    (Cert.FinalLossRefIdeal.Value.run (F := Ideal) m ρ)

theorem algebraic_FinalLoss : Cert.algebraic_FinalLossIdeal_FinalLossRefIdeal (hFinalLossIdeal := Cert.FinalLossIdeal.Gen.facts)
    (hFinalLossRefIdeal := Cert.FinalLossRefIdeal.Gen.facts) := by
  exact fun m g m' g' _ hagree => ⟨_, _, _, _, Cert.FinalLossIdeal.Value.run m g,
    (θ_run _ _ _).mono (fun r h c => by
      obtain ⟨h0, h1, h2, h3, ha⟩ := h c
      obtain ⟨e0, e1, e2⟩ := hagree c
      refine ⟨h0.trans ((Cert.FinalLossRefIdeal.Read.val_main_v51_eq m' c).trans ?_),
        h1.trans ((Cert.FinalLossRefIdeal.Read.val_main_v53_eq m' c).trans ?_),
        h2.trans ((Cert.FinalLossRefIdeal.Read.val_main_v54_eq _ _ _).trans ?_),
        h3.trans ((Cert.FinalLossRefIdeal.Read.val_main_v52_eq _ _ _).trans ?_), ha⟩ <;> rw [e0, e1, e2])
      (Cert.FinalLossRefIdeal.Value.run (F := Ideal) m' g')⟩

theorem frame_ref_GWGate : Cert.quiescent_GWGateRefIdeal (hGWGateRefIdeal := Cert.GWGateRefIdeal.Gen.facts) := fun m ρ _ =>
  (θ_run Cert.GWGateRefIdeal.defs _ _).mono (fun r h => ⟨fun c => ⟨(h c).2.1, (h c).2.2⟩, sem_eq_zero_of_no_sems (by decide) r.2⟩)
    (Cert.GWGateRefIdeal.Value.run (F := Ideal) m ρ)

theorem algebraic_GWGate : Cert.algebraic_GWGateIdeal_GWGateRefIdeal (hGWGateIdeal := Cert.GWGateIdeal.Gen.facts)
    (hGWGateRefIdeal := Cert.GWGateRefIdeal.Gen.facts) := by
  pair_intro
  · run_from Cert.GWGateIdeal.Gen.run_main m g
  · hlo_run
    exact (Cert.GWGateIdeal.Value.final m c).symm

theorem frame_ref_GWUp : Cert.quiescent_GWUpRefIdeal (hGWUpRefIdeal := Cert.GWUpRefIdeal.Gen.facts) := fun m ρ _ =>
  (θ_run Cert.GWUpRefIdeal.defs _ _).mono (fun r h => ⟨fun c => ⟨(h c).2.1, (h c).2.2⟩, sem_eq_zero_of_no_sems (by decide) r.2⟩)
    (Cert.GWUpRefIdeal.Value.run (F := Ideal) m ρ)

theorem algebraic_GWUp : Cert.algebraic_GWUpIdeal_GWUpRefIdeal (hGWUpIdeal := Cert.GWUpIdeal.Gen.facts)
    (hGWUpRefIdeal := Cert.GWUpRefIdeal.Gen.facts) := by
  pair_intro
  · run_from Cert.GWUpIdeal.Gen.run_main m g
  · hlo_run
    exact (Cert.GWUpIdeal.Value.final m c).symm

theorem frame_ref_GWDown : Cert.quiescent_GWDownRefIdeal (hGWDownRefIdeal := Cert.GWDownRefIdeal.Gen.facts) := fun m ρ _ =>
  (θ_run Cert.GWDownRefIdeal.defs _ _).mono (fun r h => ⟨fun c => ⟨(h c).2.1, (h c).2.2⟩, sem_eq_zero_of_no_sems (by decide) r.2⟩)
    (Cert.GWDownRefIdeal.Value.run (F := Ideal) m ρ)

theorem algebraic_GWDown : Cert.algebraic_GWDownIdeal_GWDownRefIdeal (hGWDownIdeal := Cert.GWDownIdeal.Gen.facts)
    (hGWDownRefIdeal := Cert.GWDownRefIdeal.Gen.facts) := by
  pair_intro
  · run_from Cert.GWDownIdeal.Gen.run_main m g
  · hlo_run
    exact (Cert.GWDownIdeal.Value.final m c).symm

theorem frame_ref_DN2Gate : Cert.quiescent_DN2GateRefIdeal (hDN2GateRefIdeal := Cert.DN2GateRefIdeal.Gen.facts) := fun m ρ _ =>
  (θ_run Cert.DN2GateRefIdeal.defs _ _).mono (fun r h => ⟨fun c => ⟨(h c).2.1, (h c).2.2⟩, sem_eq_zero_of_no_sems (by decide) r.2⟩)
    (Cert.DN2GateRefIdeal.Value.run (F := Ideal) m ρ)

theorem algebraic_DN2Gate : Cert.algebraic_DN2GateIdeal_DN2GateRefIdeal (hDN2GateIdeal := Cert.DN2GateIdeal.Gen.facts)
    (hDN2GateRefIdeal := Cert.DN2GateRefIdeal.Gen.facts) := by
  pair_intro
  · run_from Cert.DN2GateIdeal.Gen.run_main m g
  · hlo_run
    exact (Cert.DN2GateIdeal.Value.final m c).symm

theorem frame_ref_DN2Up : Cert.quiescent_DN2UpRefIdeal (hDN2UpRefIdeal := Cert.DN2UpRefIdeal.Gen.facts) := fun m ρ _ =>
  (θ_run Cert.DN2UpRefIdeal.defs _ _).mono (fun r h => ⟨fun c => ⟨(h c).2.1, (h c).2.2.1, (h c).2.2.2⟩, sem_eq_zero_of_no_sems (by decide) r.2⟩)
    (Cert.DN2UpRefIdeal.Value.run (F := Ideal) m ρ)

theorem algebraic_DN2Up : Cert.algebraic_DN2UpIdeal_DN2UpRefIdeal (hDN2UpIdeal := Cert.DN2UpIdeal.Gen.facts)
    (hDN2UpRefIdeal := Cert.DN2UpRefIdeal.Gen.facts) := by
  pair_intro
  · run_from Cert.DN2UpIdeal.Gen.run_main m g
  · hlo_run
    exact (Cert.DN2UpIdeal.Value.final m c).symm

theorem frame_ref_GWIn : Cert.quiescent_GWInRefIdeal (hGWInRefIdeal := Cert.GWInRefIdeal.Gen.facts) := fun m ρ _ =>
  (θ_run Cert.GWInRefIdeal.defs _ _).mono (fun r h => ⟨fun c => ⟨(h c).2.1, (h c).2.2⟩, sem_eq_zero_of_no_sems (by decide) r.2⟩)
    (Cert.GWInRefIdeal.Value.run (F := Ideal) m ρ)

theorem algebraic_GWIn : Cert.algebraic_GWInIdeal_GWInRefIdeal (hGWInIdeal := Cert.GWInIdeal.Gen.facts)
    (hGWInRefIdeal := Cert.GWInRefIdeal.Gen.facts) := by
  pair_intro
  · run_from Cert.GWInIdeal.Gen.run_main m g
  · hlo_run
    exact (Cert.GWInIdeal.Value.final m c).symm

theorem frame_ref_DN1 : Cert.quiescent_DN1RefIdeal (hDN1RefIdeal := Cert.DN1RefIdeal.Gen.facts) := fun m ρ _ =>
  (θ_run Cert.DN1RefIdeal.defs _ _).mono (fun r h => ⟨fun c => ⟨(h c).2.1, (h c).2.2⟩, sem_eq_zero_of_no_sems (by decide) r.2⟩)
    (Cert.DN1RefIdeal.Value.run (F := Ideal) m ρ)

theorem algebraic_DN1 : Cert.algebraic_DN1Ideal_DN1RefIdeal (hDN1Ideal := Cert.DN1Ideal.Gen.facts)
    (hDN1RefIdeal := Cert.DN1RefIdeal.Gen.facts) := by
  pair_intro
  · run_from Cert.DN1Ideal.Gen.run_main m g
  · hlo_run
    exact (Cert.DN1Ideal.Value.final m c).symm

theorem frame_ref_GWOut : Cert.quiescent_GWOutRefIdeal (hGWOutRefIdeal := Cert.GWOutRefIdeal.Gen.facts) := fun m ρ _ =>
  (θ_run Cert.GWOutRefIdeal.defs _ _).mono (fun r h => ⟨fun c => ⟨(h c).2.1, (h c).2.2⟩, sem_eq_zero_of_no_sems (by decide) r.2⟩)
    (Cert.GWOutRefIdeal.Value.run (F := Ideal) m ρ)

theorem algebraic_GWOut : Cert.algebraic_GWOutIdeal_GWOutRefIdeal (hGWOutIdeal := Cert.GWOutIdeal.Gen.facts)
    (hGWOutRefIdeal := Cert.GWOutRefIdeal.Gen.facts) := by
  pair_intro
  · run_from Cert.GWOutIdeal.Gen.run_main m g
  · hlo_run
    exact (Cert.GWOutIdeal.Value.final m c).symm

theorem frame_ref_DCat : Cert.quiescent_DCatRefIdeal (hDCatRefIdeal := Cert.DCatRefIdeal.Gen.facts) := fun m ρ _ =>
  (θ_run Cert.DCatRefIdeal.defs _ _).mono (fun r h => ⟨fun c => ⟨(h c).2.1, (h c).2.2⟩, sem_eq_zero_of_no_sems (by decide) r.2⟩)
    (Cert.DCatRefIdeal.Value.run (F := Ideal) m ρ)

theorem algebraic_DCat : Cert.algebraic_DCatIdeal_DCatRefIdeal (hDCatIdeal := Cert.DCatIdeal.Gen.facts)
    (hDCatRefIdeal := Cert.DCatRefIdeal.Gen.facts) := by
  pair_intro
  · run_from Cert.DCatIdeal.Gen.run_main m g
  · hlo_run
    exact (Cert.DCatIdeal.Value.final m c).symm

theorem frame_ref_InProj : Cert.quiescent_InProjRefIdeal (hInProjRefIdeal := Cert.InProjRefIdeal.Gen.facts) := fun m ρ _ =>
  (θ_run Cert.InProjRefIdeal.defs _ _).mono (fun r h => ⟨fun c => ⟨(h c).2.1, (h c).2.2⟩, sem_eq_zero_of_no_sems (by decide) r.2⟩)
    (Cert.InProjRefIdeal.Value.run (F := Ideal) m ρ)

theorem algebraic_InProj : Cert.algebraic_InProjIdeal_InProjRefIdeal (hInProjIdeal := Cert.InProjIdeal.Gen.facts)
    (hInProjRefIdeal := Cert.InProjRefIdeal.Gen.facts) := by
  pair_intro
  · run_from Cert.InProjIdeal.Gen.run_main m g
  · hlo_run
    exact (Cert.InProjIdeal.Value.final m c).symm

theorem frame_ref_OutProj : Cert.quiescent_OutProjRefIdeal (hOutProjRefIdeal := Cert.OutProjRefIdeal.Gen.facts) := fun m ρ _ =>
  (θ_run Cert.OutProjRefIdeal.defs _ _).mono (fun r h => ⟨fun c => ⟨(h c).2.1, (h c).2.2.1, (h c).2.2.2⟩, sem_eq_zero_of_no_sems (by decide) r.2⟩)
    (Cert.OutProjRefIdeal.Value.run (F := Ideal) m ρ)

theorem algebraic_OutProj : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Gen.run_main m g
  · hlo_run
    exact (Cert.OutProjIdeal.Value.final m c).symm

theorem frame_ref_FfnDown : Cert.quiescent_FfnDownRefIdeal (hFfnDownRefIdeal := Cert.FfnDownRefIdeal.Gen.facts) := fun m ρ _ =>
  (θ_run Cert.FfnDownRefIdeal.defs _ _).mono (fun r h => ⟨fun c => ⟨(h c).2.1, (h c).2.2.1, (h c).2.2.2⟩, sem_eq_zero_of_no_sems (by decide) r.2⟩)
    (Cert.FfnDownRefIdeal.Value.run (F := Ideal) m ρ)

theorem algebraic_FfnDown : Cert.algebraic_FfnDownIdeal_FfnDownRefIdeal (hFfnDownIdeal := Cert.FfnDownIdeal.Gen.facts)
    (hFfnDownRefIdeal := Cert.FfnDownRefIdeal.Gen.facts) := by
  pair_intro
  · run_from Cert.FfnDownIdeal.Gen.run_main m g
  · hlo_run
    exact (Cert.FfnDownIdeal.Value.final m c).symm

theorem claim : Cert.Claim := ⟨Cert.FfnMid.Gen.facts, Cert.FfnMidIdeal.Gen.facts, Cert.FfnMidRefIdeal.Gen.facts, Cert.FfnIn.Gen.facts, Cert.FfnInIdeal.Gen.facts, Cert.FfnInRefIdeal.Gen.facts, Cert.RmsBwd.Gen.facts, Cert.RmsBwdIdeal.Gen.facts, Cert.RmsBwdRefIdeal.Gen.facts, Cert.AttnBwd.Gen.facts, Cert.AttnBwdIdeal.Gen.facts, Cert.AttnBwdRefIdeal.Gen.facts, Cert.AttnBwd4.Gen.facts, Cert.AttnBwd4Ideal.Gen.facts, Cert.AttnBwd4RefIdeal.Gen.facts, Cert.AttnBwd1.Gen.facts, Cert.AttnBwd1Ideal.Gen.facts, Cert.AttnBwd1RefIdeal.Gen.facts, Cert.Norm1.Gen.facts, Cert.Norm1Ideal.Gen.facts, Cert.Norm1RefIdeal.Gen.facts, Cert.Norm2.Gen.facts, Cert.Norm2Ideal.Gen.facts, Cert.Norm2RefIdeal.Gen.facts, Cert.Norm1Bwd.Gen.facts, Cert.Norm1BwdIdeal.Gen.facts, Cert.Norm1BwdRefIdeal.Gen.facts, Cert.FinalLoss.Gen.facts, Cert.FinalLossIdeal.Gen.facts, Cert.FinalLossRefIdeal.Gen.facts, Cert.GWGate.Gen.facts, Cert.GWGateIdeal.Gen.facts, Cert.GWGateRefIdeal.Gen.facts, Cert.GWUp.Gen.facts, Cert.GWUpIdeal.Gen.facts, Cert.GWUpRefIdeal.Gen.facts, Cert.GWDown.Gen.facts, Cert.GWDownIdeal.Gen.facts, Cert.GWDownRefIdeal.Gen.facts, Cert.DN2Gate.Gen.facts, Cert.DN2GateIdeal.Gen.facts, Cert.DN2GateRefIdeal.Gen.facts, Cert.DN2Up.Gen.facts, Cert.DN2UpIdeal.Gen.facts, Cert.DN2UpRefIdeal.Gen.facts, Cert.GWIn.Gen.facts, Cert.GWInIdeal.Gen.facts, Cert.GWInRefIdeal.Gen.facts, Cert.DN1.Gen.facts, Cert.DN1Ideal.Gen.facts, Cert.DN1RefIdeal.Gen.facts, Cert.GWOut.Gen.facts, Cert.GWOutIdeal.Gen.facts, Cert.GWOutRefIdeal.Gen.facts, Cert.DCat.Gen.facts, Cert.DCatIdeal.Gen.facts, Cert.DCatRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.FfnDown.Gen.facts, Cert.FfnDownIdeal.Gen.facts, Cert.FfnDownRefIdeal.Gen.facts, Cert.Pre_finite_inputs.facts,
  frame_FfnMid,
  fun m ρ _ => Cert.FfnMidIdeal.Run.frame (F := Ideal) m ρ,
  fun m ρ _ => Cert.FfnMidIdeal.Run.frame (F := Ideal) m ρ,
  frame_ref_FfnMid,
  fun m ρ _ => frame_ref_FfnMid m ρ trivial,
  fun m ρ _ => Cert.FfnIn.Gen.frame m ρ,
  fun m ρ _ => Cert.FfnInIdeal.Gen.frame m ρ,
  frame_ref_FfnIn,
  fun m ρ _ => Cert.RmsBwd.Gen.frame m ρ,
  fun m ρ _ => Cert.RmsBwdIdeal.Gen.frame m ρ,
  frame_ref_RmsBwd,
  fun m ρ _ => Cert.AttnBwd.Gen.frame m ρ,
  fun m ρ _ => Cert.AttnBwdIdeal.Gen.frame m ρ,
  frame_ref_AttnBwd,
  fun m ρ _ => Cert.AttnBwd4.Gen.frame m ρ,
  fun m ρ _ => Cert.AttnBwd4Ideal.Gen.frame m ρ,
  frame_ref_AttnBwd4,
  fun m ρ _ => Cert.AttnBwd1.Gen.frame m ρ,
  fun m ρ _ => Cert.AttnBwd1Ideal.Gen.frame m ρ,
  frame_ref_AttnBwd1,
  fun m ρ _ => Cert.Norm1.Gen.frame m ρ,
  fun m ρ _ => Cert.Norm1Ideal.Gen.frame m ρ,
  frame_ref_Norm1,
  fun m ρ _ => Cert.Norm2.Gen.frame m ρ,
  fun m ρ _ => Cert.Norm2Ideal.Gen.frame m ρ,
  frame_ref_Norm2,
  fun m ρ _ => Cert.Norm1Bwd.Gen.frame m ρ,
  fun m ρ _ => Cert.Norm1BwdIdeal.Gen.frame m ρ,
  frame_ref_Norm1Bwd,
  fun m ρ _ => Cert.FinalLoss.Gen.frame m ρ,
  fun m ρ _ => Cert.FinalLossIdeal.Gen.frame m ρ,
  frame_ref_FinalLoss,
  fun m ρ _ => Cert.GWGate.Gen.frame m ρ,
  fun m ρ _ => Cert.GWGateIdeal.Gen.frame m ρ,
  frame_ref_GWGate,
  fun m ρ _ => Cert.GWUp.Gen.frame m ρ,
  fun m ρ _ => Cert.GWUpIdeal.Gen.frame m ρ,
  frame_ref_GWUp,
  fun m ρ _ => Cert.GWDown.Gen.frame m ρ,
  fun m ρ _ => Cert.GWDownIdeal.Gen.frame m ρ,
  frame_ref_GWDown,
  fun m ρ _ => Cert.DN2Gate.Gen.frame m ρ,
  fun m ρ _ => Cert.DN2GateIdeal.Gen.frame m ρ,
  frame_ref_DN2Gate,
  fun m ρ _ => Cert.DN2Up.Gen.frame m ρ,
  fun m ρ _ => Cert.DN2UpIdeal.Gen.frame m ρ,
  frame_ref_DN2Up,
  fun m ρ _ => Cert.GWIn.Gen.frame m ρ,
  fun m ρ _ => Cert.GWInIdeal.Gen.frame m ρ,
  frame_ref_GWIn,
  fun m ρ _ => Cert.DN1.Gen.frame m ρ,
  fun m ρ _ => Cert.DN1Ideal.Gen.frame m ρ,
  frame_ref_DN1,
  fun m ρ _ => Cert.GWOut.Gen.frame m ρ,
  fun m ρ _ => Cert.GWOutIdeal.Gen.frame m ρ,
  frame_ref_GWOut,
  fun m ρ _ => Cert.DCat.Gen.frame m ρ,
  fun m ρ _ => Cert.DCatIdeal.Gen.frame m ρ,
  frame_ref_DCat,
  fun m ρ _ => Cert.InProj.Gen.frame m ρ,
  fun m ρ _ => Cert.InProjIdeal.Gen.frame m ρ,
  frame_ref_InProj,
  fun m ρ _ => Cert.OutProj.Gen.frame m ρ,
  fun m ρ _ => Cert.OutProjIdeal.Gen.frame m ρ,
  frame_ref_OutProj,
  fun m ρ _ => Cert.FfnDown.Gen.frame m ρ,
  fun m ρ _ => Cert.FfnDownIdeal.Gen.frame m ρ,
  frame_ref_FfnDown,
  trivial,
  algebraic_FfnMid,
  trivial,
  algebraic_FfnIn,
  trivial,
  algebraic_RmsBwd,
  trivial,
  algebraic_AttnBwd,
  trivial,
  algebraic_AttnBwd4,
  trivial,
  algebraic_AttnBwd1,
  trivial,
  algebraic_Norm1,
  trivial,
  algebraic_Norm2,
  trivial,
  algebraic_Norm1Bwd,
  trivial,
  algebraic_FinalLoss,
  trivial,
  algebraic_GWGate,
  trivial,
  algebraic_GWUp,
  trivial,
  algebraic_GWDown,
  trivial,
  algebraic_DN2Gate,
  trivial,
  algebraic_DN2Up,
  trivial,
  algebraic_GWIn,
  trivial,
  algebraic_DN1,
  trivial,
  algebraic_GWOut,
  trivial,
  algebraic_DCat,
  trivial,
  algebraic_InProj,
  trivial,
  algebraic_OutProj,
  trivial,
  algebraic_FfnDown⟩

end Cert.Proof

end
